-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_HyenaInKernel (m : (ℓ : Loc Cert.HyenaInKernel.nD Cert.HyenaInKernel.τ Cert.HyenaInKernel.sig) → Buf (Elt Bits) ℓ) : Prop :=
  True

def Pre_HyenaInKernelIdeal (m : (ℓ : Loc Cert.HyenaInKernelIdeal.nD Cert.HyenaInKernelIdeal.τ Cert.HyenaInKernelIdeal.sig) → Buf (Elt Ideal) ℓ) : Prop :=
  True

def Pre_HyenaInReferenceIdeal (m : (ℓ : Loc Cert.HyenaInReferenceIdeal.nD Cert.HyenaInReferenceIdeal.τ Cert.HyenaInReferenceIdeal.sig) → Buf (Elt Ideal) ℓ) : Prop :=
  True

def Pre_MlstmInKernel (m : (ℓ : Loc Cert.MlstmInKernel.nD Cert.MlstmInKernel.τ Cert.MlstmInKernel.sig) → Buf (Elt Bits) ℓ) : Prop :=
  True

def Pre_MlstmInKernelIdeal (m : (ℓ : Loc Cert.MlstmInKernelIdeal.nD Cert.MlstmInKernelIdeal.τ Cert.MlstmInKernelIdeal.sig) → Buf (Elt Ideal) ℓ) : Prop :=
  True

def Pre_MlstmInReferenceIdeal (m : (ℓ : Loc Cert.MlstmInReferenceIdeal.nD Cert.MlstmInReferenceIdeal.τ Cert.MlstmInReferenceIdeal.sig) → Buf (Elt Ideal) ℓ) : Prop :=
  True

def Pre_HyenaOutKernel (m : (ℓ : Loc Cert.HyenaOutKernel.nD Cert.HyenaOutKernel.τ Cert.HyenaOutKernel.sig) → Buf (Elt Bits) ℓ) : Prop :=
  True

def Pre_HyenaOutKernelIdeal (m : (ℓ : Loc Cert.HyenaOutKernelIdeal.nD Cert.HyenaOutKernelIdeal.τ Cert.HyenaOutKernelIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_MlstmOutKernel (m : (ℓ : Loc Cert.MlstmOutKernel.nD Cert.MlstmOutKernel.τ Cert.MlstmOutKernel.sig) → Buf (Elt Bits) ℓ) : Prop :=
  True

def Pre_MlstmOutKernelIdeal (m : (ℓ : Loc Cert.MlstmOutKernelIdeal.nD Cert.MlstmOutKernelIdeal.τ Cert.MlstmOutKernelIdeal.sig) → Buf (Elt Ideal) ℓ) : Prop :=
  True

def Pre_MlstmOutReferenceIdeal (m : (ℓ : Loc Cert.MlstmOutReferenceIdeal.nD Cert.MlstmOutReferenceIdeal.τ Cert.MlstmOutReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_HyenaConvKernel (m : (ℓ : Loc Cert.HyenaConvKernel.nD Cert.HyenaConvKernel.τ Cert.HyenaConvKernel.sig) → Buf (Elt Bits) ℓ) : Prop :=
  True

def Pre_HyenaConvKernelIdeal (m : (ℓ : Loc Cert.HyenaConvKernelIdeal.nD Cert.HyenaConvKernelIdeal.τ Cert.HyenaConvKernelIdeal.sig) → Buf (Elt Ideal) ℓ) : Prop :=
  True

def Pre_HyenaConvReferenceIdeal (m : (ℓ : Loc Cert.HyenaConvReferenceIdeal.nD Cert.HyenaConvReferenceIdeal.τ Cert.HyenaConvReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_AdalnKernel (m : (ℓ : Loc Cert.AdalnKernel.nD Cert.AdalnKernel.τ Cert.AdalnKernel.sig) → Buf (Elt Bits) ℓ) : Prop :=
  True

def Pre_AdalnKernelIdeal (m : (ℓ : Loc Cert.AdalnKernelIdeal.nD Cert.AdalnKernelIdeal.τ Cert.AdalnKernelIdeal.sig) → Buf (Elt Ideal) ℓ) : Prop :=
  True

def Pre_AdalnReferenceIdeal (m : (ℓ : Loc Cert.AdalnReferenceIdeal.nD Cert.AdalnReferenceIdeal.τ Cert.AdalnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_HyenaInKernel [hHyenaInKernel : Cert.HyenaInKernel.Facts] : Prop :=
  ∀ (m : (ℓ : Loc Cert.HyenaInKernel.nD Cert.HyenaInKernel.τ Cert.HyenaInKernel.sig) → Buf (Elt Bits) ℓ) (g : Dev Cert.HyenaInKernel.nD → PrngReg), Pre_HyenaInKernel m →
    θ_run (Cert.HyenaInKernel.defs (F := Bits)) (onTc (τ := Cert.HyenaInKernel.τ) (Cert.HyenaInKernel.main (F := Bits))) ⟨m, fun _ => 0, g⟩ (fun r => (∀ c : Dev Cert.HyenaInKernel.nD,
      r.2.mem ((c.tc : Thread Cert.HyenaInKernel.nD Cert.HyenaInKernel.τ).loc Cert.HyenaInKernel.main_arg0) = m ((c.tc : Thread Cert.HyenaInKernel.nD Cert.HyenaInKernel.τ).loc Cert.HyenaInKernel.main_arg0)
      ∧ r.2.mem ((c.tc : Thread Cert.HyenaInKernel.nD Cert.HyenaInKernel.τ).loc Cert.HyenaInKernel.main_arg1) = m ((c.tc : Thread Cert.HyenaInKernel.nD Cert.HyenaInKernel.τ).loc Cert.HyenaInKernel.main_arg1)
      ∧ r.2.mem ((c.tc : Thread Cert.HyenaInKernel.nD Cert.HyenaInKernel.τ).loc Cert.HyenaInKernel.main_arg2) = m ((c.tc : Thread Cert.HyenaInKernel.nD Cert.HyenaInKernel.τ).loc Cert.HyenaInKernel.main_arg2)
      ∧ r.2.mem ((c.tc : Thread Cert.HyenaInKernel.nD Cert.HyenaInKernel.τ).loc Cert.HyenaInKernel.main_arg3) = m ((c.tc : Thread Cert.HyenaInKernel.nD Cert.HyenaInKernel.τ).loc Cert.HyenaInKernel.main_arg3)
      ∧ r.2.mem ((c.tc : Thread Cert.HyenaInKernel.nD Cert.HyenaInKernel.τ).loc Cert.HyenaInKernel.main_arg4) = m ((c.tc : Thread Cert.HyenaInKernel.nD Cert.HyenaInKernel.τ).loc Cert.HyenaInKernel.main_arg4)
      ∧ r.2.mem ((c.tc : Thread Cert.HyenaInKernel.nD Cert.HyenaInKernel.τ).loc Cert.HyenaInKernel.main_arg5) = m ((c.tc : Thread Cert.HyenaInKernel.nD Cert.HyenaInKernel.τ).loc Cert.HyenaInKernel.main_arg5))
      ∧ r.2.sem = fun _ => 0)

def quiescent_HyenaInKernelIdeal [hHyenaInKernelIdeal : Cert.HyenaInKernelIdeal.Facts] : Prop :=
  ∀ (m : (ℓ : Loc Cert.HyenaInKernelIdeal.nD Cert.HyenaInKernelIdeal.τ Cert.HyenaInKernelIdeal.sig) → Buf (Elt Ideal) ℓ) (g : Dev Cert.HyenaInKernelIdeal.nD → PrngReg), Pre_HyenaInKernelIdeal m →
    θ_run (Cert.HyenaInKernelIdeal.defs (F := Ideal)) (onTc (τ := Cert.HyenaInKernelIdeal.τ) (Cert.HyenaInKernelIdeal.main (F := Ideal))) ⟨m, fun _ => 0, g⟩ (fun r => (∀ c : Dev Cert.HyenaInKernelIdeal.nD,
      r.2.mem ((c.tc : Thread Cert.HyenaInKernelIdeal.nD Cert.HyenaInKernelIdeal.τ).loc Cert.HyenaInKernelIdeal.main_arg0) = m ((c.tc : Thread Cert.HyenaInKernelIdeal.nD Cert.HyenaInKernelIdeal.τ).loc Cert.HyenaInKernelIdeal.main_arg0)
      ∧ r.2.mem ((c.tc : Thread Cert.HyenaInKernelIdeal.nD Cert.HyenaInKernelIdeal.τ).loc Cert.HyenaInKernelIdeal.main_arg1) = m ((c.tc : Thread Cert.HyenaInKernelIdeal.nD Cert.HyenaInKernelIdeal.τ).loc Cert.HyenaInKernelIdeal.main_arg1)
      ∧ r.2.mem ((c.tc : Thread Cert.HyenaInKernelIdeal.nD Cert.HyenaInKernelIdeal.τ).loc Cert.HyenaInKernelIdeal.main_arg2) = m ((c.tc : Thread Cert.HyenaInKernelIdeal.nD Cert.HyenaInKernelIdeal.τ).loc Cert.HyenaInKernelIdeal.main_arg2)
      ∧ r.2.mem ((c.tc : Thread Cert.HyenaInKernelIdeal.nD Cert.HyenaInKernelIdeal.τ).loc Cert.HyenaInKernelIdeal.main_arg3) = m ((c.tc : Thread Cert.HyenaInKernelIdeal.nD Cert.HyenaInKernelIdeal.τ).loc Cert.HyenaInKernelIdeal.main_arg3)
      ∧ r.2.mem ((c.tc : Thread Cert.HyenaInKernelIdeal.nD Cert.HyenaInKernelIdeal.τ).loc Cert.HyenaInKernelIdeal.main_arg4) = m ((c.tc : Thread Cert.HyenaInKernelIdeal.nD Cert.HyenaInKernelIdeal.τ).loc Cert.HyenaInKernelIdeal.main_arg4)
      ∧ r.2.mem ((c.tc : Thread Cert.HyenaInKernelIdeal.nD Cert.HyenaInKernelIdeal.τ).loc Cert.HyenaInKernelIdeal.main_arg5) = m ((c.tc : Thread Cert.HyenaInKernelIdeal.nD Cert.HyenaInKernelIdeal.τ).loc Cert.HyenaInKernelIdeal.main_arg5))
      ∧ r.2.sem = fun _ => 0)

def quiescent_HyenaInReferenceIdeal [hHyenaInReferenceIdeal : Cert.HyenaInReferenceIdeal.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1)
      ∧ r.2.mem ((c.tc : Thread Cert.HyenaInReferenceIdeal.nD Cert.HyenaInReferenceIdeal.τ).loc Cert.HyenaInReferenceIdeal.main_arg2) = m ((c.tc : Thread Cert.HyenaInReferenceIdeal.nD Cert.HyenaInReferenceIdeal.τ).loc Cert.HyenaInReferenceIdeal.main_arg2)
      ∧ r.2.mem ((c.tc : Thread Cert.HyenaInReferenceIdeal.nD Cert.HyenaInReferenceIdeal.τ).loc Cert.HyenaInReferenceIdeal.main_arg3) = m ((c.tc : Thread Cert.HyenaInReferenceIdeal.nD Cert.HyenaInReferenceIdeal.τ).loc Cert.HyenaInReferenceIdeal.main_arg3)
      ∧ r.2.mem ((c.tc : Thread Cert.HyenaInReferenceIdeal.nD Cert.HyenaInReferenceIdeal.τ).loc Cert.HyenaInReferenceIdeal.main_arg4) = m ((c.tc : Thread Cert.HyenaInReferenceIdeal.nD Cert.HyenaInReferenceIdeal.τ).loc Cert.HyenaInReferenceIdeal.main_arg4)
      ∧ r.2.mem ((c.tc : Thread Cert.HyenaInReferenceIdeal.nD Cert.HyenaInReferenceIdeal.τ).loc Cert.HyenaInReferenceIdeal.main_arg5) = m ((c.tc : Thread Cert.HyenaInReferenceIdeal.nD Cert.HyenaInReferenceIdeal.τ).loc Cert.HyenaInReferenceIdeal.main_arg5))
      ∧ r.2.sem = fun _ => 0)

def quiescent_MlstmInKernel [hMlstmInKernel : Cert.MlstmInKernel.Facts] : Prop :=
  ∀ (m : (ℓ : Loc Cert.MlstmInKernel.nD Cert.MlstmInKernel.τ Cert.MlstmInKernel.sig) → Buf (Elt Bits) ℓ) (g : Dev Cert.MlstmInKernel.nD → PrngReg), Pre_MlstmInKernel m →
    θ_run (Cert.MlstmInKernel.defs (F := Bits)) (onTc (τ := Cert.MlstmInKernel.τ) (Cert.MlstmInKernel.main (F := Bits))) ⟨m, fun _ => 0, g⟩ (fun r => (∀ c : Dev Cert.MlstmInKernel.nD,
      r.2.mem ((c.tc : Thread Cert.MlstmInKernel.nD Cert.MlstmInKernel.τ).loc Cert.MlstmInKernel.main_arg0) = m ((c.tc : Thread Cert.MlstmInKernel.nD Cert.MlstmInKernel.τ).loc Cert.MlstmInKernel.main_arg0)
      ∧ r.2.mem ((c.tc : Thread Cert.MlstmInKernel.nD Cert.MlstmInKernel.τ).loc Cert.MlstmInKernel.main_arg1) = m ((c.tc : Thread Cert.MlstmInKernel.nD Cert.MlstmInKernel.τ).loc Cert.MlstmInKernel.main_arg1)
      ∧ r.2.mem ((c.tc : Thread Cert.MlstmInKernel.nD Cert.MlstmInKernel.τ).loc Cert.MlstmInKernel.main_arg2) = m ((c.tc : Thread Cert.MlstmInKernel.nD Cert.MlstmInKernel.τ).loc Cert.MlstmInKernel.main_arg2)
      ∧ r.2.mem ((c.tc : Thread Cert.MlstmInKernel.nD Cert.MlstmInKernel.τ).loc Cert.MlstmInKernel.main_arg3) = m ((c.tc : Thread Cert.MlstmInKernel.nD Cert.MlstmInKernel.τ).loc Cert.MlstmInKernel.main_arg3)
      ∧ r.2.mem ((c.tc : Thread Cert.MlstmInKernel.nD Cert.MlstmInKernel.τ).loc Cert.MlstmInKernel.main_arg4) = m ((c.tc : Thread Cert.MlstmInKernel.nD Cert.MlstmInKernel.τ).loc Cert.MlstmInKernel.main_arg4))
      ∧ r.2.sem = fun _ => 0)

def quiescent_MlstmInKernelIdeal [hMlstmInKernelIdeal : Cert.MlstmInKernelIdeal.Facts] : Prop :=
  ∀ (m : (ℓ : Loc Cert.MlstmInKernelIdeal.nD Cert.MlstmInKernelIdeal.τ Cert.MlstmInKernelIdeal.sig) → Buf (Elt Ideal) ℓ) (g : Dev Cert.MlstmInKernelIdeal.nD → PrngReg), Pre_MlstmInKernelIdeal m →
    θ_run (Cert.MlstmInKernelIdeal.defs (F := Ideal)) (onTc (τ := Cert.MlstmInKernelIdeal.τ) (Cert.MlstmInKernelIdeal.main (F := Ideal))) ⟨m, fun _ => 0, g⟩ (fun r => (∀ c : Dev Cert.MlstmInKernelIdeal.nD,
      r.2.mem ((c.tc : Thread Cert.MlstmInKernelIdeal.nD Cert.MlstmInKernelIdeal.τ).loc Cert.MlstmInKernelIdeal.main_arg0) = m ((c.tc : Thread Cert.MlstmInKernelIdeal.nD Cert.MlstmInKernelIdeal.τ).loc Cert.MlstmInKernelIdeal.main_arg0)
      ∧ r.2.mem ((c.tc : Thread Cert.MlstmInKernelIdeal.nD Cert.MlstmInKernelIdeal.τ).loc Cert.MlstmInKernelIdeal.main_arg1) = m ((c.tc : Thread Cert.MlstmInKernelIdeal.nD Cert.MlstmInKernelIdeal.τ).loc Cert.MlstmInKernelIdeal.main_arg1)
      ∧ r.2.mem ((c.tc : Thread Cert.MlstmInKernelIdeal.nD Cert.MlstmInKernelIdeal.τ).loc Cert.MlstmInKernelIdeal.main_arg2) = m ((c.tc : Thread Cert.MlstmInKernelIdeal.nD Cert.MlstmInKernelIdeal.τ).loc Cert.MlstmInKernelIdeal.main_arg2)
      ∧ r.2.mem ((c.tc : Thread Cert.MlstmInKernelIdeal.nD Cert.MlstmInKernelIdeal.τ).loc Cert.MlstmInKernelIdeal.main_arg3) = m ((c.tc : Thread Cert.MlstmInKernelIdeal.nD Cert.MlstmInKernelIdeal.τ).loc Cert.MlstmInKernelIdeal.main_arg3)
      ∧ r.2.mem ((c.tc : Thread Cert.MlstmInKernelIdeal.nD Cert.MlstmInKernelIdeal.τ).loc Cert.MlstmInKernelIdeal.main_arg4) = m ((c.tc : Thread Cert.MlstmInKernelIdeal.nD Cert.MlstmInKernelIdeal.τ).loc Cert.MlstmInKernelIdeal.main_arg4))
      ∧ r.2.sem = fun _ => 0)

def quiescent_MlstmInReferenceIdeal [hMlstmInReferenceIdeal : Cert.MlstmInReferenceIdeal.Facts] : Prop :=
  ∀ (m : (ℓ : Loc Cert.MlstmInReferenceIdeal.nD Cert.MlstmInReferenceIdeal.τ Cert.MlstmInReferenceIdeal.sig) → Buf (Elt Ideal) ℓ) (g : Dev Cert.MlstmInReferenceIdeal.nD → PrngReg), Pre_MlstmInReferenceIdeal m →
    θ_run (Cert.MlstmInReferenceIdeal.defs (F := Ideal)) (onTc (τ := Cert.MlstmInReferenceIdeal.τ) (Cert.MlstmInReferenceIdeal.main (F := Ideal))) ⟨m, fun _ => 0, g⟩ (fun r => (∀ c : Dev Cert.MlstmInReferenceIdeal.nD,
      r.2.mem ((c.tc : Thread Cert.MlstmInReferenceIdeal.nD Cert.MlstmInReferenceIdeal.τ).loc Cert.MlstmInReferenceIdeal.main_arg0) = m ((c.tc : Thread Cert.MlstmInReferenceIdeal.nD Cert.MlstmInReferenceIdeal.τ).loc Cert.MlstmInReferenceIdeal.main_arg0)
      ∧ r.2.mem ((c.tc : Thread Cert.MlstmInReferenceIdeal.nD Cert.MlstmInReferenceIdeal.τ).loc Cert.MlstmInReferenceIdeal.main_arg1) = m ((c.tc : Thread Cert.MlstmInReferenceIdeal.nD Cert.MlstmInReferenceIdeal.τ).loc Cert.MlstmInReferenceIdeal.main_arg1)
      ∧ r.2.mem ((c.tc : Thread Cert.MlstmInReferenceIdeal.nD Cert.MlstmInReferenceIdeal.τ).loc Cert.MlstmInReferenceIdeal.main_arg2) = m ((c.tc : Thread Cert.MlstmInReferenceIdeal.nD Cert.MlstmInReferenceIdeal.τ).loc Cert.MlstmInReferenceIdeal.main_arg2)
      ∧ r.2.mem ((c.tc : Thread Cert.MlstmInReferenceIdeal.nD Cert.MlstmInReferenceIdeal.τ).loc Cert.MlstmInReferenceIdeal.main_arg3) = m ((c.tc : Thread Cert.MlstmInReferenceIdeal.nD Cert.MlstmInReferenceIdeal.τ).loc Cert.MlstmInReferenceIdeal.main_arg3)
      ∧ r.2.mem ((c.tc : Thread Cert.MlstmInReferenceIdeal.nD Cert.MlstmInReferenceIdeal.τ).loc Cert.MlstmInReferenceIdeal.main_arg4) = m ((c.tc : Thread Cert.MlstmInReferenceIdeal.nD Cert.MlstmInReferenceIdeal.τ).loc Cert.MlstmInReferenceIdeal.main_arg4))
      ∧ r.2.sem = fun _ => 0)

def quiescent_HyenaOutKernel [hHyenaOutKernel : Cert.HyenaOutKernel.Facts] : Prop :=
  ∀ (m : (ℓ : Loc Cert.HyenaOutKernel.nD Cert.HyenaOutKernel.τ Cert.HyenaOutKernel.sig) → Buf (Elt Bits) ℓ) (g : Dev Cert.HyenaOutKernel.nD → PrngReg), Pre_HyenaOutKernel m →
    θ_run (Cert.HyenaOutKernel.defs (F := Bits)) (onTc (τ := Cert.HyenaOutKernel.τ) (Cert.HyenaOutKernel.main (F := Bits))) ⟨m, fun _ => 0, g⟩ (fun r => (∀ c : Dev Cert.HyenaOutKernel.nD,
      r.2.mem ((c.tc : Thread Cert.HyenaOutKernel.nD Cert.HyenaOutKernel.τ).loc Cert.HyenaOutKernel.main_arg0) = m ((c.tc : Thread Cert.HyenaOutKernel.nD Cert.HyenaOutKernel.τ).loc Cert.HyenaOutKernel.main_arg0)
      ∧ r.2.mem ((c.tc : Thread Cert.HyenaOutKernel.nD Cert.HyenaOutKernel.τ).loc Cert.HyenaOutKernel.main_arg1) = m ((c.tc : Thread Cert.HyenaOutKernel.nD Cert.HyenaOutKernel.τ).loc Cert.HyenaOutKernel.main_arg1)
      ∧ r.2.mem ((c.tc : Thread Cert.HyenaOutKernel.nD Cert.HyenaOutKernel.τ).loc Cert.HyenaOutKernel.main_arg2) = m ((c.tc : Thread Cert.HyenaOutKernel.nD Cert.HyenaOutKernel.τ).loc Cert.HyenaOutKernel.main_arg2)
      ∧ r.2.mem ((c.tc : Thread Cert.HyenaOutKernel.nD Cert.HyenaOutKernel.τ).loc Cert.HyenaOutKernel.main_arg3) = m ((c.tc : Thread Cert.HyenaOutKernel.nD Cert.HyenaOutKernel.τ).loc Cert.HyenaOutKernel.main_arg3)
      ∧ r.2.mem ((c.tc : Thread Cert.HyenaOutKernel.nD Cert.HyenaOutKernel.τ).loc Cert.HyenaOutKernel.main_arg4) = m ((c.tc : Thread Cert.HyenaOutKernel.nD Cert.HyenaOutKernel.τ).loc Cert.HyenaOutKernel.main_arg4))
      ∧ r.2.sem = fun _ => 0)

def quiescent_HyenaOutKernelIdeal [hHyenaOutKernelIdeal : Cert.HyenaOutKernelIdeal.Facts] : Prop :=
  ∀ (m : (ℓ : Loc Cert.HyenaOutKernelIdeal.nD Cert.HyenaOutKernelIdeal.τ Cert.HyenaOutKernelIdeal.sig) → Buf (Elt Ideal) ℓ) (g : Dev Cert.HyenaOutKernelIdeal.nD → PrngReg), Pre_HyenaOutKernelIdeal m →
    θ_run (Cert.HyenaOutKernelIdeal.defs (F := Ideal)) (onTc (τ := Cert.HyenaOutKernelIdeal.τ) (Cert.HyenaOutKernelIdeal.main (F := Ideal))) ⟨m, fun _ => 0, g⟩ (fun r => (∀ c : Dev Cert.HyenaOutKernelIdeal.nD,
      r.2.mem ((c.tc : Thread Cert.HyenaOutKernelIdeal.nD Cert.HyenaOutKernelIdeal.τ).loc Cert.HyenaOutKernelIdeal.main_arg0) = m ((c.tc : Thread Cert.HyenaOutKernelIdeal.nD Cert.HyenaOutKernelIdeal.τ).loc Cert.HyenaOutKernelIdeal.main_arg0)
      ∧ r.2.mem ((c.tc : Thread Cert.HyenaOutKernelIdeal.nD Cert.HyenaOutKernelIdeal.τ).loc Cert.HyenaOutKernelIdeal.main_arg1) = m ((c.tc : Thread Cert.HyenaOutKernelIdeal.nD Cert.HyenaOutKernelIdeal.τ).loc Cert.HyenaOutKernelIdeal.main_arg1)
      ∧ r.2.mem ((c.tc : Thread Cert.HyenaOutKernelIdeal.nD Cert.HyenaOutKernelIdeal.τ).loc Cert.HyenaOutKernelIdeal.main_arg2) = m ((c.tc : Thread Cert.HyenaOutKernelIdeal.nD Cert.HyenaOutKernelIdeal.τ).loc Cert.HyenaOutKernelIdeal.main_arg2)
      ∧ r.2.mem ((c.tc : Thread Cert.HyenaOutKernelIdeal.nD Cert.HyenaOutKernelIdeal.τ).loc Cert.HyenaOutKernelIdeal.main_arg3) = m ((c.tc : Thread Cert.HyenaOutKernelIdeal.nD Cert.HyenaOutKernelIdeal.τ).loc Cert.HyenaOutKernelIdeal.main_arg3)
      ∧ r.2.mem ((c.tc : Thread Cert.HyenaOutKernelIdeal.nD Cert.HyenaOutKernelIdeal.τ).loc Cert.HyenaOutKernelIdeal.main_arg4) = m ((c.tc : Thread Cert.HyenaOutKernelIdeal.nD Cert.HyenaOutKernelIdeal.τ).loc Cert.HyenaOutKernelIdeal.main_arg4))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2)
      ∧ r.2.mem ((c.tc : Thread Cert.HyenaOutReferenceIdeal.nD Cert.HyenaOutReferenceIdeal.τ).loc Cert.HyenaOutReferenceIdeal.main_arg3) = m ((c.tc : Thread Cert.HyenaOutReferenceIdeal.nD Cert.HyenaOutReferenceIdeal.τ).loc Cert.HyenaOutReferenceIdeal.main_arg3)
      ∧ r.2.mem ((c.tc : Thread Cert.HyenaOutReferenceIdeal.nD Cert.HyenaOutReferenceIdeal.τ).loc Cert.HyenaOutReferenceIdeal.main_arg4) = m ((c.tc : Thread Cert.HyenaOutReferenceIdeal.nD Cert.HyenaOutReferenceIdeal.τ).loc Cert.HyenaOutReferenceIdeal.main_arg4))
      ∧ r.2.sem = fun _ => 0)

def quiescent_MlstmOutKernel [hMlstmOutKernel : Cert.MlstmOutKernel.Facts] : Prop :=
  ∀ (m : (ℓ : Loc Cert.MlstmOutKernel.nD Cert.MlstmOutKernel.τ Cert.MlstmOutKernel.sig) → Buf (Elt Bits) ℓ) (g : Dev Cert.MlstmOutKernel.nD → PrngReg), Pre_MlstmOutKernel m →
    θ_run (Cert.MlstmOutKernel.defs (F := Bits)) (onTc (τ := Cert.MlstmOutKernel.τ) (Cert.MlstmOutKernel.main (F := Bits))) ⟨m, fun _ => 0, g⟩ (fun r => (∀ c : Dev Cert.MlstmOutKernel.nD,
      r.2.mem ((c.tc : Thread Cert.MlstmOutKernel.nD Cert.MlstmOutKernel.τ).loc Cert.MlstmOutKernel.main_arg0) = m ((c.tc : Thread Cert.MlstmOutKernel.nD Cert.MlstmOutKernel.τ).loc Cert.MlstmOutKernel.main_arg0)
      ∧ r.2.mem ((c.tc : Thread Cert.MlstmOutKernel.nD Cert.MlstmOutKernel.τ).loc Cert.MlstmOutKernel.main_arg1) = m ((c.tc : Thread Cert.MlstmOutKernel.nD Cert.MlstmOutKernel.τ).loc Cert.MlstmOutKernel.main_arg1)
      ∧ r.2.mem ((c.tc : Thread Cert.MlstmOutKernel.nD Cert.MlstmOutKernel.τ).loc Cert.MlstmOutKernel.main_arg2) = m ((c.tc : Thread Cert.MlstmOutKernel.nD Cert.MlstmOutKernel.τ).loc Cert.MlstmOutKernel.main_arg2)
      ∧ r.2.mem ((c.tc : Thread Cert.MlstmOutKernel.nD Cert.MlstmOutKernel.τ).loc Cert.MlstmOutKernel.main_arg3) = m ((c.tc : Thread Cert.MlstmOutKernel.nD Cert.MlstmOutKernel.τ).loc Cert.MlstmOutKernel.main_arg3)
      ∧ r.2.mem ((c.tc : Thread Cert.MlstmOutKernel.nD Cert.MlstmOutKernel.τ).loc Cert.MlstmOutKernel.main_arg4) = m ((c.tc : Thread Cert.MlstmOutKernel.nD Cert.MlstmOutKernel.τ).loc Cert.MlstmOutKernel.main_arg4)
      ∧ r.2.mem ((c.tc : Thread Cert.MlstmOutKernel.nD Cert.MlstmOutKernel.τ).loc Cert.MlstmOutKernel.main_arg5) = m ((c.tc : Thread Cert.MlstmOutKernel.nD Cert.MlstmOutKernel.τ).loc Cert.MlstmOutKernel.main_arg5)
      ∧ r.2.mem ((c.tc : Thread Cert.MlstmOutKernel.nD Cert.MlstmOutKernel.τ).loc Cert.MlstmOutKernel.main_arg6) = m ((c.tc : Thread Cert.MlstmOutKernel.nD Cert.MlstmOutKernel.τ).loc Cert.MlstmOutKernel.main_arg6)
      ∧ r.2.mem ((c.tc : Thread Cert.MlstmOutKernel.nD Cert.MlstmOutKernel.τ).loc Cert.MlstmOutKernel.main_arg7) = m ((c.tc : Thread Cert.MlstmOutKernel.nD Cert.MlstmOutKernel.τ).loc Cert.MlstmOutKernel.main_arg7))
      ∧ r.2.sem = fun _ => 0)

def quiescent_MlstmOutKernelIdeal [hMlstmOutKernelIdeal : Cert.MlstmOutKernelIdeal.Facts] : Prop :=
  ∀ (m : (ℓ : Loc Cert.MlstmOutKernelIdeal.nD Cert.MlstmOutKernelIdeal.τ Cert.MlstmOutKernelIdeal.sig) → Buf (Elt Ideal) ℓ) (g : Dev Cert.MlstmOutKernelIdeal.nD → PrngReg), Pre_MlstmOutKernelIdeal m →
    θ_run (Cert.MlstmOutKernelIdeal.defs (F := Ideal)) (onTc (τ := Cert.MlstmOutKernelIdeal.τ) (Cert.MlstmOutKernelIdeal.main (F := Ideal))) ⟨m, fun _ => 0, g⟩ (fun r => (∀ c : Dev Cert.MlstmOutKernelIdeal.nD,
      r.2.mem ((c.tc : Thread Cert.MlstmOutKernelIdeal.nD Cert.MlstmOutKernelIdeal.τ).loc Cert.MlstmOutKernelIdeal.main_arg0) = m ((c.tc : Thread Cert.MlstmOutKernelIdeal.nD Cert.MlstmOutKernelIdeal.τ).loc Cert.MlstmOutKernelIdeal.main_arg0)
      ∧ r.2.mem ((c.tc : Thread Cert.MlstmOutKernelIdeal.nD Cert.MlstmOutKernelIdeal.τ).loc Cert.MlstmOutKernelIdeal.main_arg1) = m ((c.tc : Thread Cert.MlstmOutKernelIdeal.nD Cert.MlstmOutKernelIdeal.τ).loc Cert.MlstmOutKernelIdeal.main_arg1)
      ∧ r.2.mem ((c.tc : Thread Cert.MlstmOutKernelIdeal.nD Cert.MlstmOutKernelIdeal.τ).loc Cert.MlstmOutKernelIdeal.main_arg2) = m ((c.tc : Thread Cert.MlstmOutKernelIdeal.nD Cert.MlstmOutKernelIdeal.τ).loc Cert.MlstmOutKernelIdeal.main_arg2)
      ∧ r.2.mem ((c.tc : Thread Cert.MlstmOutKernelIdeal.nD Cert.MlstmOutKernelIdeal.τ).loc Cert.MlstmOutKernelIdeal.main_arg3) = m ((c.tc : Thread Cert.MlstmOutKernelIdeal.nD Cert.MlstmOutKernelIdeal.τ).loc Cert.MlstmOutKernelIdeal.main_arg3)
      ∧ r.2.mem ((c.tc : Thread Cert.MlstmOutKernelIdeal.nD Cert.MlstmOutKernelIdeal.τ).loc Cert.MlstmOutKernelIdeal.main_arg4) = m ((c.tc : Thread Cert.MlstmOutKernelIdeal.nD Cert.MlstmOutKernelIdeal.τ).loc Cert.MlstmOutKernelIdeal.main_arg4)
      ∧ r.2.mem ((c.tc : Thread Cert.MlstmOutKernelIdeal.nD Cert.MlstmOutKernelIdeal.τ).loc Cert.MlstmOutKernelIdeal.main_arg5) = m ((c.tc : Thread Cert.MlstmOutKernelIdeal.nD Cert.MlstmOutKernelIdeal.τ).loc Cert.MlstmOutKernelIdeal.main_arg5)
      ∧ r.2.mem ((c.tc : Thread Cert.MlstmOutKernelIdeal.nD Cert.MlstmOutKernelIdeal.τ).loc Cert.MlstmOutKernelIdeal.main_arg6) = m ((c.tc : Thread Cert.MlstmOutKernelIdeal.nD Cert.MlstmOutKernelIdeal.τ).loc Cert.MlstmOutKernelIdeal.main_arg6)
      ∧ r.2.mem ((c.tc : Thread Cert.MlstmOutKernelIdeal.nD Cert.MlstmOutKernelIdeal.τ).loc Cert.MlstmOutKernelIdeal.main_arg7) = m ((c.tc : Thread Cert.MlstmOutKernelIdeal.nD Cert.MlstmOutKernelIdeal.τ).loc Cert.MlstmOutKernelIdeal.main_arg7))
      ∧ r.2.sem = fun _ => 0)

def quiescent_MlstmOutReferenceIdeal [hMlstmOutReferenceIdeal : Cert.MlstmOutReferenceIdeal.Facts] : Prop :=
  ∀ (m : (ℓ : Loc Cert.MlstmOutReferenceIdeal.nD Cert.MlstmOutReferenceIdeal.τ Cert.MlstmOutReferenceIdeal.sig) → Buf (Elt Ideal) ℓ) (g : Dev Cert.MlstmOutReferenceIdeal.nD → PrngReg), Pre_MlstmOutReferenceIdeal m →
    θ_run (Cert.MlstmOutReferenceIdeal.defs (F := Ideal)) (onTc (τ := Cert.MlstmOutReferenceIdeal.τ) (Cert.MlstmOutReferenceIdeal.main (F := Ideal))) ⟨m, fun _ => 0, g⟩ (fun r => (∀ c : Dev Cert.MlstmOutReferenceIdeal.nD,
      r.2.mem ((c.tc : Thread Cert.MlstmOutReferenceIdeal.nD Cert.MlstmOutReferenceIdeal.τ).loc Cert.MlstmOutReferenceIdeal.main_arg0) = m ((c.tc : Thread Cert.MlstmOutReferenceIdeal.nD Cert.MlstmOutReferenceIdeal.τ).loc Cert.MlstmOutReferenceIdeal.main_arg0)
      ∧ r.2.mem ((c.tc : Thread Cert.MlstmOutReferenceIdeal.nD Cert.MlstmOutReferenceIdeal.τ).loc Cert.MlstmOutReferenceIdeal.main_arg1) = m ((c.tc : Thread Cert.MlstmOutReferenceIdeal.nD Cert.MlstmOutReferenceIdeal.τ).loc Cert.MlstmOutReferenceIdeal.main_arg1)
      ∧ r.2.mem ((c.tc : Thread Cert.MlstmOutReferenceIdeal.nD Cert.MlstmOutReferenceIdeal.τ).loc Cert.MlstmOutReferenceIdeal.main_arg2) = m ((c.tc : Thread Cert.MlstmOutReferenceIdeal.nD Cert.MlstmOutReferenceIdeal.τ).loc Cert.MlstmOutReferenceIdeal.main_arg2)
      ∧ r.2.mem ((c.tc : Thread Cert.MlstmOutReferenceIdeal.nD Cert.MlstmOutReferenceIdeal.τ).loc Cert.MlstmOutReferenceIdeal.main_arg3) = m ((c.tc : Thread Cert.MlstmOutReferenceIdeal.nD Cert.MlstmOutReferenceIdeal.τ).loc Cert.MlstmOutReferenceIdeal.main_arg3)
      ∧ r.2.mem ((c.tc : Thread Cert.MlstmOutReferenceIdeal.nD Cert.MlstmOutReferenceIdeal.τ).loc Cert.MlstmOutReferenceIdeal.main_arg4) = m ((c.tc : Thread Cert.MlstmOutReferenceIdeal.nD Cert.MlstmOutReferenceIdeal.τ).loc Cert.MlstmOutReferenceIdeal.main_arg4)
      ∧ r.2.mem ((c.tc : Thread Cert.MlstmOutReferenceIdeal.nD Cert.MlstmOutReferenceIdeal.τ).loc Cert.MlstmOutReferenceIdeal.main_arg5) = m ((c.tc : Thread Cert.MlstmOutReferenceIdeal.nD Cert.MlstmOutReferenceIdeal.τ).loc Cert.MlstmOutReferenceIdeal.main_arg5)
      ∧ r.2.mem ((c.tc : Thread Cert.MlstmOutReferenceIdeal.nD Cert.MlstmOutReferenceIdeal.τ).loc Cert.MlstmOutReferenceIdeal.main_arg6) = m ((c.tc : Thread Cert.MlstmOutReferenceIdeal.nD Cert.MlstmOutReferenceIdeal.τ).loc Cert.MlstmOutReferenceIdeal.main_arg6)
      ∧ r.2.mem ((c.tc : Thread Cert.MlstmOutReferenceIdeal.nD Cert.MlstmOutReferenceIdeal.τ).loc Cert.MlstmOutReferenceIdeal.main_arg7) = m ((c.tc : Thread Cert.MlstmOutReferenceIdeal.nD Cert.MlstmOutReferenceIdeal.τ).loc Cert.MlstmOutReferenceIdeal.main_arg7))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_HyenaConvKernel [hHyenaConvKernel : Cert.HyenaConvKernel.Facts] : Prop :=
  ∀ (m : (ℓ : Loc Cert.HyenaConvKernel.nD Cert.HyenaConvKernel.τ Cert.HyenaConvKernel.sig) → Buf (Elt Bits) ℓ) (g : Dev Cert.HyenaConvKernel.nD → PrngReg), Pre_HyenaConvKernel m →
    θ_run (Cert.HyenaConvKernel.defs (F := Bits)) (onTc (τ := Cert.HyenaConvKernel.τ) (Cert.HyenaConvKernel.main (F := Bits))) ⟨m, fun _ => 0, g⟩ (fun r => (∀ c : Dev Cert.HyenaConvKernel.nD,
      r.2.mem ((c.tc : Thread Cert.HyenaConvKernel.nD Cert.HyenaConvKernel.τ).loc Cert.HyenaConvKernel.main_arg0) = m ((c.tc : Thread Cert.HyenaConvKernel.nD Cert.HyenaConvKernel.τ).loc Cert.HyenaConvKernel.main_arg0)
      ∧ r.2.mem ((c.tc : Thread Cert.HyenaConvKernel.nD Cert.HyenaConvKernel.τ).loc Cert.HyenaConvKernel.main_arg1) = m ((c.tc : Thread Cert.HyenaConvKernel.nD Cert.HyenaConvKernel.τ).loc Cert.HyenaConvKernel.main_arg1)
      ∧ r.2.mem ((c.tc : Thread Cert.HyenaConvKernel.nD Cert.HyenaConvKernel.τ).loc Cert.HyenaConvKernel.main_arg2) = m ((c.tc : Thread Cert.HyenaConvKernel.nD Cert.HyenaConvKernel.τ).loc Cert.HyenaConvKernel.main_arg2))
      ∧ r.2.sem = fun _ => 0)

def quiescent_HyenaConvKernelIdeal [hHyenaConvKernelIdeal : Cert.HyenaConvKernelIdeal.Facts] : Prop :=
  ∀ (m : (ℓ : Loc Cert.HyenaConvKernelIdeal.nD Cert.HyenaConvKernelIdeal.τ Cert.HyenaConvKernelIdeal.sig) → Buf (Elt Ideal) ℓ) (g : Dev Cert.HyenaConvKernelIdeal.nD → PrngReg), Pre_HyenaConvKernelIdeal m →
    θ_run (Cert.HyenaConvKernelIdeal.defs (F := Ideal)) (onTc (τ := Cert.HyenaConvKernelIdeal.τ) (Cert.HyenaConvKernelIdeal.main (F := Ideal))) ⟨m, fun _ => 0, g⟩ (fun r => (∀ c : Dev Cert.HyenaConvKernelIdeal.nD,
      r.2.mem ((c.tc : Thread Cert.HyenaConvKernelIdeal.nD Cert.HyenaConvKernelIdeal.τ).loc Cert.HyenaConvKernelIdeal.main_arg0) = m ((c.tc : Thread Cert.HyenaConvKernelIdeal.nD Cert.HyenaConvKernelIdeal.τ).loc Cert.HyenaConvKernelIdeal.main_arg0)
      ∧ r.2.mem ((c.tc : Thread Cert.HyenaConvKernelIdeal.nD Cert.HyenaConvKernelIdeal.τ).loc Cert.HyenaConvKernelIdeal.main_arg1) = m ((c.tc : Thread Cert.HyenaConvKernelIdeal.nD Cert.HyenaConvKernelIdeal.τ).loc Cert.HyenaConvKernelIdeal.main_arg1)
      ∧ r.2.mem ((c.tc : Thread Cert.HyenaConvKernelIdeal.nD Cert.HyenaConvKernelIdeal.τ).loc Cert.HyenaConvKernelIdeal.main_arg2) = m ((c.tc : Thread Cert.HyenaConvKernelIdeal.nD Cert.HyenaConvKernelIdeal.τ).loc Cert.HyenaConvKernelIdeal.main_arg2))
      ∧ r.2.sem = fun _ => 0)

def quiescent_HyenaConvReferenceIdeal [hHyenaConvReferenceIdeal : Cert.HyenaConvReferenceIdeal.Facts] : Prop :=
  ∀ (m : (ℓ : Loc Cert.HyenaConvReferenceIdeal.nD Cert.HyenaConvReferenceIdeal.τ Cert.HyenaConvReferenceIdeal.sig) → Buf (Elt Ideal) ℓ) (g : Dev Cert.HyenaConvReferenceIdeal.nD → PrngReg), Pre_HyenaConvReferenceIdeal m →
    θ_run (Cert.HyenaConvReferenceIdeal.defs (F := Ideal)) (onTc (τ := Cert.HyenaConvReferenceIdeal.τ) (Cert.HyenaConvReferenceIdeal.main (F := Ideal))) ⟨m, fun _ => 0, g⟩ (fun r => (∀ c : Dev Cert.HyenaConvReferenceIdeal.nD,
      r.2.mem ((c.tc : Thread Cert.HyenaConvReferenceIdeal.nD Cert.HyenaConvReferenceIdeal.τ).loc Cert.HyenaConvReferenceIdeal.main_arg0) = m ((c.tc : Thread Cert.HyenaConvReferenceIdeal.nD Cert.HyenaConvReferenceIdeal.τ).loc Cert.HyenaConvReferenceIdeal.main_arg0)
      ∧ r.2.mem ((c.tc : Thread Cert.HyenaConvReferenceIdeal.nD Cert.HyenaConvReferenceIdeal.τ).loc Cert.HyenaConvReferenceIdeal.main_arg1) = m ((c.tc : Thread Cert.HyenaConvReferenceIdeal.nD Cert.HyenaConvReferenceIdeal.τ).loc Cert.HyenaConvReferenceIdeal.main_arg1)
      ∧ r.2.mem ((c.tc : Thread Cert.HyenaConvReferenceIdeal.nD Cert.HyenaConvReferenceIdeal.τ).loc Cert.HyenaConvReferenceIdeal.main_arg2) = m ((c.tc : Thread Cert.HyenaConvReferenceIdeal.nD Cert.HyenaConvReferenceIdeal.τ).loc Cert.HyenaConvReferenceIdeal.main_arg2))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7))
      ∧ r.2.sem = fun _ => 0)

def quiescent_AdalnKernel [hAdalnKernel : Cert.AdalnKernel.Facts] : Prop :=
  ∀ (m : (ℓ : Loc Cert.AdalnKernel.nD Cert.AdalnKernel.τ Cert.AdalnKernel.sig) → Buf (Elt Bits) ℓ) (g : Dev Cert.AdalnKernel.nD → PrngReg), Pre_AdalnKernel m →
    θ_run (Cert.AdalnKernel.defs (F := Bits)) (onTc (τ := Cert.AdalnKernel.τ) (Cert.AdalnKernel.main (F := Bits))) ⟨m, fun _ => 0, g⟩ (fun r => (∀ c : Dev Cert.AdalnKernel.nD,
      r.2.mem ((c.tc : Thread Cert.AdalnKernel.nD Cert.AdalnKernel.τ).loc Cert.AdalnKernel.main_arg0) = m ((c.tc : Thread Cert.AdalnKernel.nD Cert.AdalnKernel.τ).loc Cert.AdalnKernel.main_arg0)
      ∧ r.2.mem ((c.tc : Thread Cert.AdalnKernel.nD Cert.AdalnKernel.τ).loc Cert.AdalnKernel.main_arg1) = m ((c.tc : Thread Cert.AdalnKernel.nD Cert.AdalnKernel.τ).loc Cert.AdalnKernel.main_arg1)
      ∧ r.2.mem ((c.tc : Thread Cert.AdalnKernel.nD Cert.AdalnKernel.τ).loc Cert.AdalnKernel.main_arg2) = m ((c.tc : Thread Cert.AdalnKernel.nD Cert.AdalnKernel.τ).loc Cert.AdalnKernel.main_arg2))
      ∧ r.2.sem = fun _ => 0)

def quiescent_AdalnKernelIdeal [hAdalnKernelIdeal : Cert.AdalnKernelIdeal.Facts] : Prop :=
  ∀ (m : (ℓ : Loc Cert.AdalnKernelIdeal.nD Cert.AdalnKernelIdeal.τ Cert.AdalnKernelIdeal.sig) → Buf (Elt Ideal) ℓ) (g : Dev Cert.AdalnKernelIdeal.nD → PrngReg), Pre_AdalnKernelIdeal m →
    θ_run (Cert.AdalnKernelIdeal.defs (F := Ideal)) (onTc (τ := Cert.AdalnKernelIdeal.τ) (Cert.AdalnKernelIdeal.main (F := Ideal))) ⟨m, fun _ => 0, g⟩ (fun r => (∀ c : Dev Cert.AdalnKernelIdeal.nD,
      r.2.mem ((c.tc : Thread Cert.AdalnKernelIdeal.nD Cert.AdalnKernelIdeal.τ).loc Cert.AdalnKernelIdeal.main_arg0) = m ((c.tc : Thread Cert.AdalnKernelIdeal.nD Cert.AdalnKernelIdeal.τ).loc Cert.AdalnKernelIdeal.main_arg0)
      ∧ r.2.mem ((c.tc : Thread Cert.AdalnKernelIdeal.nD Cert.AdalnKernelIdeal.τ).loc Cert.AdalnKernelIdeal.main_arg1) = m ((c.tc : Thread Cert.AdalnKernelIdeal.nD Cert.AdalnKernelIdeal.τ).loc Cert.AdalnKernelIdeal.main_arg1)
      ∧ r.2.mem ((c.tc : Thread Cert.AdalnKernelIdeal.nD Cert.AdalnKernelIdeal.τ).loc Cert.AdalnKernelIdeal.main_arg2) = m ((c.tc : Thread Cert.AdalnKernelIdeal.nD Cert.AdalnKernelIdeal.τ).loc Cert.AdalnKernelIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v6)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v24) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v6)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)) →
    ∃ (v0 : (c : Dev Cert.LastKernelIdeal.nD) → Buf (Elt Ideal) ((c.tc : Thread Cert.LastKernelIdeal.nD Cert.LastKernelIdeal.τ).loc Cert.LastKernelIdeal.main_v5)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v5) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v21) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_HyenaInKernel_HyenaInKernelIdeal : Prop :=
  True

def algebraic_HyenaInKernelIdeal_HyenaInReferenceIdeal [hHyenaInKernelIdeal : Cert.HyenaInKernelIdeal.Facts] [hHyenaInReferenceIdeal : Cert.HyenaInReferenceIdeal.Facts] : Prop :=
  ∀ (m : (ℓ : Loc Cert.HyenaInKernelIdeal.nD Cert.HyenaInKernelIdeal.τ Cert.HyenaInKernelIdeal.sig) → Buf (Elt Ideal) ℓ) (g : Dev Cert.HyenaInKernelIdeal.nD → PrngReg)
    (m' : (ℓ : Loc Cert.HyenaInReferenceIdeal.nD Cert.HyenaInReferenceIdeal.τ Cert.HyenaInReferenceIdeal.sig) → Buf (Elt Ideal) ℓ) (g' : Dev Cert.HyenaInReferenceIdeal.nD → PrngReg), Pre_HyenaInKernelIdeal m →
    (∀ c : Dev Cert.HyenaInKernelIdeal.nD,
      m' ((c.tc : Thread Cert.HyenaInReferenceIdeal.nD Cert.HyenaInReferenceIdeal.τ).loc Cert.HyenaInReferenceIdeal.main_arg0) = m ((c.tc : Thread Cert.HyenaInKernelIdeal.nD Cert.HyenaInKernelIdeal.τ).loc Cert.HyenaInKernelIdeal.main_arg0)
      ∧ m' ((c.tc : Thread Cert.HyenaInReferenceIdeal.nD Cert.HyenaInReferenceIdeal.τ).loc Cert.HyenaInReferenceIdeal.main_arg1) = m ((c.tc : Thread Cert.HyenaInKernelIdeal.nD Cert.HyenaInKernelIdeal.τ).loc Cert.HyenaInKernelIdeal.main_arg1)
      ∧ m' ((c.tc : Thread Cert.HyenaInReferenceIdeal.nD Cert.HyenaInReferenceIdeal.τ).loc Cert.HyenaInReferenceIdeal.main_arg2) = m ((c.tc : Thread Cert.HyenaInKernelIdeal.nD Cert.HyenaInKernelIdeal.τ).loc Cert.HyenaInKernelIdeal.main_arg2)
      ∧ m' ((c.tc : Thread Cert.HyenaInReferenceIdeal.nD Cert.HyenaInReferenceIdeal.τ).loc Cert.HyenaInReferenceIdeal.main_arg3) = m ((c.tc : Thread Cert.HyenaInKernelIdeal.nD Cert.HyenaInKernelIdeal.τ).loc Cert.HyenaInKernelIdeal.main_arg3)
      ∧ m' ((c.tc : Thread Cert.HyenaInReferenceIdeal.nD Cert.HyenaInReferenceIdeal.τ).loc Cert.HyenaInReferenceIdeal.main_arg4) = m ((c.tc : Thread Cert.HyenaInKernelIdeal.nD Cert.HyenaInKernelIdeal.τ).loc Cert.HyenaInKernelIdeal.main_arg4)
      ∧ m' ((c.tc : Thread Cert.HyenaInReferenceIdeal.nD Cert.HyenaInReferenceIdeal.τ).loc Cert.HyenaInReferenceIdeal.main_arg5) = m ((c.tc : Thread Cert.HyenaInKernelIdeal.nD Cert.HyenaInKernelIdeal.τ).loc Cert.HyenaInKernelIdeal.main_arg5)) →
    ∃ (v0 : (c : Dev Cert.HyenaInKernelIdeal.nD) → Buf (Elt Ideal) ((c.tc : Thread Cert.HyenaInKernelIdeal.nD Cert.HyenaInKernelIdeal.τ).loc Cert.HyenaInKernelIdeal.main_v5)),
      θ_run (Cert.HyenaInKernelIdeal.defs (F := Ideal)) (onTc (τ := Cert.HyenaInKernelIdeal.τ) (Cert.HyenaInKernelIdeal.main (F := Ideal))) ⟨m, fun _ => 0, g⟩ (fun r => ∀ c : Dev Cert.HyenaInKernelIdeal.nD,
          r.2.mem ((c.tc : Thread Cert.HyenaInKernelIdeal.nD Cert.HyenaInKernelIdeal.τ).loc Cert.HyenaInKernelIdeal.main_v5) = v0 c
          ∧ r.2.mem ((c.tc : Thread Cert.HyenaInKernelIdeal.nD Cert.HyenaInKernelIdeal.τ).loc Cert.HyenaInKernelIdeal.main_arg0) = m ((c.tc : Thread Cert.HyenaInKernelIdeal.nD Cert.HyenaInKernelIdeal.τ).loc Cert.HyenaInKernelIdeal.main_arg0)
          ∧ r.2.mem ((c.tc : Thread Cert.HyenaInKernelIdeal.nD Cert.HyenaInKernelIdeal.τ).loc Cert.HyenaInKernelIdeal.main_arg1) = m ((c.tc : Thread Cert.HyenaInKernelIdeal.nD Cert.HyenaInKernelIdeal.τ).loc Cert.HyenaInKernelIdeal.main_arg1)
          ∧ r.2.mem ((c.tc : Thread Cert.HyenaInKernelIdeal.nD Cert.HyenaInKernelIdeal.τ).loc Cert.HyenaInKernelIdeal.main_arg2) = m ((c.tc : Thread Cert.HyenaInKernelIdeal.nD Cert.HyenaInKernelIdeal.τ).loc Cert.HyenaInKernelIdeal.main_arg2)
          ∧ r.2.mem ((c.tc : Thread Cert.HyenaInKernelIdeal.nD Cert.HyenaInKernelIdeal.τ).loc Cert.HyenaInKernelIdeal.main_arg3) = m ((c.tc : Thread Cert.HyenaInKernelIdeal.nD Cert.HyenaInKernelIdeal.τ).loc Cert.HyenaInKernelIdeal.main_arg3)
          ∧ r.2.mem ((c.tc : Thread Cert.HyenaInKernelIdeal.nD Cert.HyenaInKernelIdeal.τ).loc Cert.HyenaInKernelIdeal.main_arg4) = m ((c.tc : Thread Cert.HyenaInKernelIdeal.nD Cert.HyenaInKernelIdeal.τ).loc Cert.HyenaInKernelIdeal.main_arg4)
          ∧ r.2.mem ((c.tc : Thread Cert.HyenaInKernelIdeal.nD Cert.HyenaInKernelIdeal.τ).loc Cert.HyenaInKernelIdeal.main_arg5) = m ((c.tc : Thread Cert.HyenaInKernelIdeal.nD Cert.HyenaInKernelIdeal.τ).loc Cert.HyenaInKernelIdeal.main_arg5))
      ∧ θ_run (Cert.HyenaInReferenceIdeal.defs (F := Ideal)) (onTc (τ := Cert.HyenaInReferenceIdeal.τ) (Cert.HyenaInReferenceIdeal.main (F := Ideal))) ⟨m', fun _ => 0, g'⟩ (fun r => ∀ c : Dev Cert.HyenaInReferenceIdeal.nD,
          r.2.mem ((c.tc : Thread Cert.HyenaInReferenceIdeal.nD Cert.HyenaInReferenceIdeal.τ).loc Cert.HyenaInReferenceIdeal.main_v27) = v0 c
          ∧ r.2.mem ((c.tc : Thread Cert.HyenaInReferenceIdeal.nD Cert.HyenaInReferenceIdeal.τ).loc Cert.HyenaInReferenceIdeal.main_arg0) = m' ((c.tc : Thread Cert.HyenaInReferenceIdeal.nD Cert.HyenaInReferenceIdeal.τ).loc Cert.HyenaInReferenceIdeal.main_arg0)
          ∧ r.2.mem ((c.tc : Thread Cert.HyenaInReferenceIdeal.nD Cert.HyenaInReferenceIdeal.τ).loc Cert.HyenaInReferenceIdeal.main_arg1) = m' ((c.tc : Thread Cert.HyenaInReferenceIdeal.nD Cert.HyenaInReferenceIdeal.τ).loc Cert.HyenaInReferenceIdeal.main_arg1)
          ∧ r.2.mem ((c.tc : Thread Cert.HyenaInReferenceIdeal.nD Cert.HyenaInReferenceIdeal.τ).loc Cert.HyenaInReferenceIdeal.main_arg2) = m' ((c.tc : Thread Cert.HyenaInReferenceIdeal.nD Cert.HyenaInReferenceIdeal.τ).loc Cert.HyenaInReferenceIdeal.main_arg2)
          ∧ r.2.mem ((c.tc : Thread Cert.HyenaInReferenceIdeal.nD Cert.HyenaInReferenceIdeal.τ).loc Cert.HyenaInReferenceIdeal.main_arg3) = m' ((c.tc : Thread Cert.HyenaInReferenceIdeal.nD Cert.HyenaInReferenceIdeal.τ).loc Cert.HyenaInReferenceIdeal.main_arg3)
          ∧ r.2.mem ((c.tc : Thread Cert.HyenaInReferenceIdeal.nD Cert.HyenaInReferenceIdeal.τ).loc Cert.HyenaInReferenceIdeal.main_arg4) = m' ((c.tc : Thread Cert.HyenaInReferenceIdeal.nD Cert.HyenaInReferenceIdeal.τ).loc Cert.HyenaInReferenceIdeal.main_arg4)
          ∧ r.2.mem ((c.tc : Thread Cert.HyenaInReferenceIdeal.nD Cert.HyenaInReferenceIdeal.τ).loc Cert.HyenaInReferenceIdeal.main_arg5) = m' ((c.tc : Thread Cert.HyenaInReferenceIdeal.nD Cert.HyenaInReferenceIdeal.τ).loc Cert.HyenaInReferenceIdeal.main_arg5))

def preserves_MlstmInKernel_MlstmInKernelIdeal : Prop :=
  True

def algebraic_MlstmInKernelIdeal_MlstmInReferenceIdeal [hMlstmInKernelIdeal : Cert.MlstmInKernelIdeal.Facts] [hMlstmInReferenceIdeal : Cert.MlstmInReferenceIdeal.Facts] : Prop :=
  ∀ (m : (ℓ : Loc Cert.MlstmInKernelIdeal.nD Cert.MlstmInKernelIdeal.τ Cert.MlstmInKernelIdeal.sig) → Buf (Elt Ideal) ℓ) (g : Dev Cert.MlstmInKernelIdeal.nD → PrngReg)
    (m' : (ℓ : Loc Cert.MlstmInReferenceIdeal.nD Cert.MlstmInReferenceIdeal.τ Cert.MlstmInReferenceIdeal.sig) → Buf (Elt Ideal) ℓ) (g' : Dev Cert.MlstmInReferenceIdeal.nD → PrngReg), Pre_MlstmInKernelIdeal m →
    (∀ c : Dev Cert.MlstmInKernelIdeal.nD,
      m' ((c.tc : Thread Cert.MlstmInReferenceIdeal.nD Cert.MlstmInReferenceIdeal.τ).loc Cert.MlstmInReferenceIdeal.main_arg0) = m ((c.tc : Thread Cert.MlstmInKernelIdeal.nD Cert.MlstmInKernelIdeal.τ).loc Cert.MlstmInKernelIdeal.main_arg0)
      ∧ m' ((c.tc : Thread Cert.MlstmInReferenceIdeal.nD Cert.MlstmInReferenceIdeal.τ).loc Cert.MlstmInReferenceIdeal.main_arg1) = m ((c.tc : Thread Cert.MlstmInKernelIdeal.nD Cert.MlstmInKernelIdeal.τ).loc Cert.MlstmInKernelIdeal.main_arg1)
      ∧ m' ((c.tc : Thread Cert.MlstmInReferenceIdeal.nD Cert.MlstmInReferenceIdeal.τ).loc Cert.MlstmInReferenceIdeal.main_arg2) = m ((c.tc : Thread Cert.MlstmInKernelIdeal.nD Cert.MlstmInKernelIdeal.τ).loc Cert.MlstmInKernelIdeal.main_arg2)
      ∧ m' ((c.tc : Thread Cert.MlstmInReferenceIdeal.nD Cert.MlstmInReferenceIdeal.τ).loc Cert.MlstmInReferenceIdeal.main_arg3) = m ((c.tc : Thread Cert.MlstmInKernelIdeal.nD Cert.MlstmInKernelIdeal.τ).loc Cert.MlstmInKernelIdeal.main_arg3)
      ∧ m' ((c.tc : Thread Cert.MlstmInReferenceIdeal.nD Cert.MlstmInReferenceIdeal.τ).loc Cert.MlstmInReferenceIdeal.main_arg4) = m ((c.tc : Thread Cert.MlstmInKernelIdeal.nD Cert.MlstmInKernelIdeal.τ).loc Cert.MlstmInKernelIdeal.main_arg4)) →
    ∃ (v0 : (c : Dev Cert.MlstmInKernelIdeal.nD) → Buf (Elt Ideal) ((c.tc : Thread Cert.MlstmInKernelIdeal.nD Cert.MlstmInKernelIdeal.τ).loc Cert.MlstmInKernelIdeal.main_v6)),
      θ_run (Cert.MlstmInKernelIdeal.defs (F := Ideal)) (onTc (τ := Cert.MlstmInKernelIdeal.τ) (Cert.MlstmInKernelIdeal.main (F := Ideal))) ⟨m, fun _ => 0, g⟩ (fun r => ∀ c : Dev Cert.MlstmInKernelIdeal.nD,
          r.2.mem ((c.tc : Thread Cert.MlstmInKernelIdeal.nD Cert.MlstmInKernelIdeal.τ).loc Cert.MlstmInKernelIdeal.main_v6) = v0 c
          ∧ r.2.mem ((c.tc : Thread Cert.MlstmInKernelIdeal.nD Cert.MlstmInKernelIdeal.τ).loc Cert.MlstmInKernelIdeal.main_arg0) = m ((c.tc : Thread Cert.MlstmInKernelIdeal.nD Cert.MlstmInKernelIdeal.τ).loc Cert.MlstmInKernelIdeal.main_arg0)
          ∧ r.2.mem ((c.tc : Thread Cert.MlstmInKernelIdeal.nD Cert.MlstmInKernelIdeal.τ).loc Cert.MlstmInKernelIdeal.main_arg1) = m ((c.tc : Thread Cert.MlstmInKernelIdeal.nD Cert.MlstmInKernelIdeal.τ).loc Cert.MlstmInKernelIdeal.main_arg1)
          ∧ r.2.mem ((c.tc : Thread Cert.MlstmInKernelIdeal.nD Cert.MlstmInKernelIdeal.τ).loc Cert.MlstmInKernelIdeal.main_arg2) = m ((c.tc : Thread Cert.MlstmInKernelIdeal.nD Cert.MlstmInKernelIdeal.τ).loc Cert.MlstmInKernelIdeal.main_arg2)
          ∧ r.2.mem ((c.tc : Thread Cert.MlstmInKernelIdeal.nD Cert.MlstmInKernelIdeal.τ).loc Cert.MlstmInKernelIdeal.main_arg3) = m ((c.tc : Thread Cert.MlstmInKernelIdeal.nD Cert.MlstmInKernelIdeal.τ).loc Cert.MlstmInKernelIdeal.main_arg3)
          ∧ r.2.mem ((c.tc : Thread Cert.MlstmInKernelIdeal.nD Cert.MlstmInKernelIdeal.τ).loc Cert.MlstmInKernelIdeal.main_arg4) = m ((c.tc : Thread Cert.MlstmInKernelIdeal.nD Cert.MlstmInKernelIdeal.τ).loc Cert.MlstmInKernelIdeal.main_arg4))
      ∧ θ_run (Cert.MlstmInReferenceIdeal.defs (F := Ideal)) (onTc (τ := Cert.MlstmInReferenceIdeal.τ) (Cert.MlstmInReferenceIdeal.main (F := Ideal))) ⟨m', fun _ => 0, g'⟩ (fun r => ∀ c : Dev Cert.MlstmInReferenceIdeal.nD,
          r.2.mem ((c.tc : Thread Cert.MlstmInReferenceIdeal.nD Cert.MlstmInReferenceIdeal.τ).loc Cert.MlstmInReferenceIdeal.main_v24) = v0 c
          ∧ r.2.mem ((c.tc : Thread Cert.MlstmInReferenceIdeal.nD Cert.MlstmInReferenceIdeal.τ).loc Cert.MlstmInReferenceIdeal.main_arg0) = m' ((c.tc : Thread Cert.MlstmInReferenceIdeal.nD Cert.MlstmInReferenceIdeal.τ).loc Cert.MlstmInReferenceIdeal.main_arg0)
          ∧ r.2.mem ((c.tc : Thread Cert.MlstmInReferenceIdeal.nD Cert.MlstmInReferenceIdeal.τ).loc Cert.MlstmInReferenceIdeal.main_arg1) = m' ((c.tc : Thread Cert.MlstmInReferenceIdeal.nD Cert.MlstmInReferenceIdeal.τ).loc Cert.MlstmInReferenceIdeal.main_arg1)
          ∧ r.2.mem ((c.tc : Thread Cert.MlstmInReferenceIdeal.nD Cert.MlstmInReferenceIdeal.τ).loc Cert.MlstmInReferenceIdeal.main_arg2) = m' ((c.tc : Thread Cert.MlstmInReferenceIdeal.nD Cert.MlstmInReferenceIdeal.τ).loc Cert.MlstmInReferenceIdeal.main_arg2)
          ∧ r.2.mem ((c.tc : Thread Cert.MlstmInReferenceIdeal.nD Cert.MlstmInReferenceIdeal.τ).loc Cert.MlstmInReferenceIdeal.main_arg3) = m' ((c.tc : Thread Cert.MlstmInReferenceIdeal.nD Cert.MlstmInReferenceIdeal.τ).loc Cert.MlstmInReferenceIdeal.main_arg3)
          ∧ r.2.mem ((c.tc : Thread Cert.MlstmInReferenceIdeal.nD Cert.MlstmInReferenceIdeal.τ).loc Cert.MlstmInReferenceIdeal.main_arg4) = m' ((c.tc : Thread Cert.MlstmInReferenceIdeal.nD Cert.MlstmInReferenceIdeal.τ).loc Cert.MlstmInReferenceIdeal.main_arg4))

def preserves_HyenaOutKernel_HyenaOutKernelIdeal : Prop :=
  True

def algebraic_HyenaOutKernelIdeal_HyenaOutReferenceIdeal [hHyenaOutKernelIdeal : Cert.HyenaOutKernelIdeal.Facts] [hHyenaOutReferenceIdeal : Cert.HyenaOutReferenceIdeal.Facts] : Prop :=
  ∀ (m : (ℓ : Loc Cert.HyenaOutKernelIdeal.nD Cert.HyenaOutKernelIdeal.τ Cert.HyenaOutKernelIdeal.sig) → Buf (Elt Ideal) ℓ) (g : Dev Cert.HyenaOutKernelIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutKernelIdeal m →
    (∀ c : Dev Cert.HyenaOutKernelIdeal.nD,
      m' ((c.tc : Thread Cert.HyenaOutReferenceIdeal.nD Cert.HyenaOutReferenceIdeal.τ).loc Cert.HyenaOutReferenceIdeal.main_arg0) = m ((c.tc : Thread Cert.HyenaOutKernelIdeal.nD Cert.HyenaOutKernelIdeal.τ).loc Cert.HyenaOutKernelIdeal.main_arg0)
      ∧ m' ((c.tc : Thread Cert.HyenaOutReferenceIdeal.nD Cert.HyenaOutReferenceIdeal.τ).loc Cert.HyenaOutReferenceIdeal.main_arg1) = m ((c.tc : Thread Cert.HyenaOutKernelIdeal.nD Cert.HyenaOutKernelIdeal.τ).loc Cert.HyenaOutKernelIdeal.main_arg1)
      ∧ m' ((c.tc : Thread Cert.HyenaOutReferenceIdeal.nD Cert.HyenaOutReferenceIdeal.τ).loc Cert.HyenaOutReferenceIdeal.main_arg2) = m ((c.tc : Thread Cert.HyenaOutKernelIdeal.nD Cert.HyenaOutKernelIdeal.τ).loc Cert.HyenaOutKernelIdeal.main_arg2)
      ∧ m' ((c.tc : Thread Cert.HyenaOutReferenceIdeal.nD Cert.HyenaOutReferenceIdeal.τ).loc Cert.HyenaOutReferenceIdeal.main_arg3) = m ((c.tc : Thread Cert.HyenaOutKernelIdeal.nD Cert.HyenaOutKernelIdeal.τ).loc Cert.HyenaOutKernelIdeal.main_arg3)
      ∧ m' ((c.tc : Thread Cert.HyenaOutReferenceIdeal.nD Cert.HyenaOutReferenceIdeal.τ).loc Cert.HyenaOutReferenceIdeal.main_arg4) = m ((c.tc : Thread Cert.HyenaOutKernelIdeal.nD Cert.HyenaOutKernelIdeal.τ).loc Cert.HyenaOutKernelIdeal.main_arg4)) →
    ∃ (v0 : (c : Dev Cert.HyenaOutKernelIdeal.nD) → Buf (Elt Ideal) ((c.tc : Thread Cert.HyenaOutKernelIdeal.nD Cert.HyenaOutKernelIdeal.τ).loc Cert.HyenaOutKernelIdeal.main_v5)),
      θ_run (Cert.HyenaOutKernelIdeal.defs (F := Ideal)) (onTc (τ := Cert.HyenaOutKernelIdeal.τ) (Cert.HyenaOutKernelIdeal.main (F := Ideal))) ⟨m, fun _ => 0, g⟩ (fun r => ∀ c : Dev Cert.HyenaOutKernelIdeal.nD,
          r.2.mem ((c.tc : Thread Cert.HyenaOutKernelIdeal.nD Cert.HyenaOutKernelIdeal.τ).loc Cert.HyenaOutKernelIdeal.main_v5) = v0 c
          ∧ r.2.mem ((c.tc : Thread Cert.HyenaOutKernelIdeal.nD Cert.HyenaOutKernelIdeal.τ).loc Cert.HyenaOutKernelIdeal.main_arg0) = m ((c.tc : Thread Cert.HyenaOutKernelIdeal.nD Cert.HyenaOutKernelIdeal.τ).loc Cert.HyenaOutKernelIdeal.main_arg0)
          ∧ r.2.mem ((c.tc : Thread Cert.HyenaOutKernelIdeal.nD Cert.HyenaOutKernelIdeal.τ).loc Cert.HyenaOutKernelIdeal.main_arg1) = m ((c.tc : Thread Cert.HyenaOutKernelIdeal.nD Cert.HyenaOutKernelIdeal.τ).loc Cert.HyenaOutKernelIdeal.main_arg1)
          ∧ r.2.mem ((c.tc : Thread Cert.HyenaOutKernelIdeal.nD Cert.HyenaOutKernelIdeal.τ).loc Cert.HyenaOutKernelIdeal.main_arg2) = m ((c.tc : Thread Cert.HyenaOutKernelIdeal.nD Cert.HyenaOutKernelIdeal.τ).loc Cert.HyenaOutKernelIdeal.main_arg2)
          ∧ r.2.mem ((c.tc : Thread Cert.HyenaOutKernelIdeal.nD Cert.HyenaOutKernelIdeal.τ).loc Cert.HyenaOutKernelIdeal.main_arg3) = m ((c.tc : Thread Cert.HyenaOutKernelIdeal.nD Cert.HyenaOutKernelIdeal.τ).loc Cert.HyenaOutKernelIdeal.main_arg3)
          ∧ r.2.mem ((c.tc : Thread Cert.HyenaOutKernelIdeal.nD Cert.HyenaOutKernelIdeal.τ).loc Cert.HyenaOutKernelIdeal.main_arg4) = m ((c.tc : Thread Cert.HyenaOutKernelIdeal.nD Cert.HyenaOutKernelIdeal.τ).loc Cert.HyenaOutKernelIdeal.main_arg4))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v11) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2)
          ∧ r.2.mem ((c.tc : Thread Cert.HyenaOutReferenceIdeal.nD Cert.HyenaOutReferenceIdeal.τ).loc Cert.HyenaOutReferenceIdeal.main_arg3) = m' ((c.tc : Thread Cert.HyenaOutReferenceIdeal.nD Cert.HyenaOutReferenceIdeal.τ).loc Cert.HyenaOutReferenceIdeal.main_arg3)
          ∧ r.2.mem ((c.tc : Thread Cert.HyenaOutReferenceIdeal.nD Cert.HyenaOutReferenceIdeal.τ).loc Cert.HyenaOutReferenceIdeal.main_arg4) = m' ((c.tc : Thread Cert.HyenaOutReferenceIdeal.nD Cert.HyenaOutReferenceIdeal.τ).loc Cert.HyenaOutReferenceIdeal.main_arg4))

def preserves_MlstmOutKernel_MlstmOutKernelIdeal : Prop :=
  True

def algebraic_MlstmOutKernelIdeal_MlstmOutReferenceIdeal [hMlstmOutKernelIdeal : Cert.MlstmOutKernelIdeal.Facts] [hMlstmOutReferenceIdeal : Cert.MlstmOutReferenceIdeal.Facts] : Prop :=
  ∀ (m : (ℓ : Loc Cert.MlstmOutKernelIdeal.nD Cert.MlstmOutKernelIdeal.τ Cert.MlstmOutKernelIdeal.sig) → Buf (Elt Ideal) ℓ) (g : Dev Cert.MlstmOutKernelIdeal.nD → PrngReg)
    (m' : (ℓ : Loc Cert.MlstmOutReferenceIdeal.nD Cert.MlstmOutReferenceIdeal.τ Cert.MlstmOutReferenceIdeal.sig) → Buf (Elt Ideal) ℓ) (g' : Dev Cert.MlstmOutReferenceIdeal.nD → PrngReg), Pre_MlstmOutKernelIdeal m →
    (∀ c : Dev Cert.MlstmOutKernelIdeal.nD,
      m' ((c.tc : Thread Cert.MlstmOutReferenceIdeal.nD Cert.MlstmOutReferenceIdeal.τ).loc Cert.MlstmOutReferenceIdeal.main_arg0) = m ((c.tc : Thread Cert.MlstmOutKernelIdeal.nD Cert.MlstmOutKernelIdeal.τ).loc Cert.MlstmOutKernelIdeal.main_arg0)
      ∧ m' ((c.tc : Thread Cert.MlstmOutReferenceIdeal.nD Cert.MlstmOutReferenceIdeal.τ).loc Cert.MlstmOutReferenceIdeal.main_arg1) = m ((c.tc : Thread Cert.MlstmOutKernelIdeal.nD Cert.MlstmOutKernelIdeal.τ).loc Cert.MlstmOutKernelIdeal.main_arg1)
      ∧ m' ((c.tc : Thread Cert.MlstmOutReferenceIdeal.nD Cert.MlstmOutReferenceIdeal.τ).loc Cert.MlstmOutReferenceIdeal.main_arg2) = m ((c.tc : Thread Cert.MlstmOutKernelIdeal.nD Cert.MlstmOutKernelIdeal.τ).loc Cert.MlstmOutKernelIdeal.main_arg2)
      ∧ m' ((c.tc : Thread Cert.MlstmOutReferenceIdeal.nD Cert.MlstmOutReferenceIdeal.τ).loc Cert.MlstmOutReferenceIdeal.main_arg3) = m ((c.tc : Thread Cert.MlstmOutKernelIdeal.nD Cert.MlstmOutKernelIdeal.τ).loc Cert.MlstmOutKernelIdeal.main_arg3)
      ∧ m' ((c.tc : Thread Cert.MlstmOutReferenceIdeal.nD Cert.MlstmOutReferenceIdeal.τ).loc Cert.MlstmOutReferenceIdeal.main_arg4) = m ((c.tc : Thread Cert.MlstmOutKernelIdeal.nD Cert.MlstmOutKernelIdeal.τ).loc Cert.MlstmOutKernelIdeal.main_arg4)
      ∧ m' ((c.tc : Thread Cert.MlstmOutReferenceIdeal.nD Cert.MlstmOutReferenceIdeal.τ).loc Cert.MlstmOutReferenceIdeal.main_arg5) = m ((c.tc : Thread Cert.MlstmOutKernelIdeal.nD Cert.MlstmOutKernelIdeal.τ).loc Cert.MlstmOutKernelIdeal.main_arg5)
      ∧ m' ((c.tc : Thread Cert.MlstmOutReferenceIdeal.nD Cert.MlstmOutReferenceIdeal.τ).loc Cert.MlstmOutReferenceIdeal.main_arg6) = m ((c.tc : Thread Cert.MlstmOutKernelIdeal.nD Cert.MlstmOutKernelIdeal.τ).loc Cert.MlstmOutKernelIdeal.main_arg6)
      ∧ m' ((c.tc : Thread Cert.MlstmOutReferenceIdeal.nD Cert.MlstmOutReferenceIdeal.τ).loc Cert.MlstmOutReferenceIdeal.main_arg7) = m ((c.tc : Thread Cert.MlstmOutKernelIdeal.nD Cert.MlstmOutKernelIdeal.τ).loc Cert.MlstmOutKernelIdeal.main_arg7)) →
    ∃ (v0 : (c : Dev Cert.MlstmOutKernelIdeal.nD) → Buf (Elt Ideal) ((c.tc : Thread Cert.MlstmOutKernelIdeal.nD Cert.MlstmOutKernelIdeal.τ).loc Cert.MlstmOutKernelIdeal.main_v7)),
      θ_run (Cert.MlstmOutKernelIdeal.defs (F := Ideal)) (onTc (τ := Cert.MlstmOutKernelIdeal.τ) (Cert.MlstmOutKernelIdeal.main (F := Ideal))) ⟨m, fun _ => 0, g⟩ (fun r => ∀ c : Dev Cert.MlstmOutKernelIdeal.nD,
          r.2.mem ((c.tc : Thread Cert.MlstmOutKernelIdeal.nD Cert.MlstmOutKernelIdeal.τ).loc Cert.MlstmOutKernelIdeal.main_v7) = v0 c
          ∧ r.2.mem ((c.tc : Thread Cert.MlstmOutKernelIdeal.nD Cert.MlstmOutKernelIdeal.τ).loc Cert.MlstmOutKernelIdeal.main_arg0) = m ((c.tc : Thread Cert.MlstmOutKernelIdeal.nD Cert.MlstmOutKernelIdeal.τ).loc Cert.MlstmOutKernelIdeal.main_arg0)
          ∧ r.2.mem ((c.tc : Thread Cert.MlstmOutKernelIdeal.nD Cert.MlstmOutKernelIdeal.τ).loc Cert.MlstmOutKernelIdeal.main_arg1) = m ((c.tc : Thread Cert.MlstmOutKernelIdeal.nD Cert.MlstmOutKernelIdeal.τ).loc Cert.MlstmOutKernelIdeal.main_arg1)
          ∧ r.2.mem ((c.tc : Thread Cert.MlstmOutKernelIdeal.nD Cert.MlstmOutKernelIdeal.τ).loc Cert.MlstmOutKernelIdeal.main_arg2) = m ((c.tc : Thread Cert.MlstmOutKernelIdeal.nD Cert.MlstmOutKernelIdeal.τ).loc Cert.MlstmOutKernelIdeal.main_arg2)
          ∧ r.2.mem ((c.tc : Thread Cert.MlstmOutKernelIdeal.nD Cert.MlstmOutKernelIdeal.τ).loc Cert.MlstmOutKernelIdeal.main_arg3) = m ((c.tc : Thread Cert.MlstmOutKernelIdeal.nD Cert.MlstmOutKernelIdeal.τ).loc Cert.MlstmOutKernelIdeal.main_arg3)
          ∧ r.2.mem ((c.tc : Thread Cert.MlstmOutKernelIdeal.nD Cert.MlstmOutKernelIdeal.τ).loc Cert.MlstmOutKernelIdeal.main_arg4) = m ((c.tc : Thread Cert.MlstmOutKernelIdeal.nD Cert.MlstmOutKernelIdeal.τ).loc Cert.MlstmOutKernelIdeal.main_arg4)
          ∧ r.2.mem ((c.tc : Thread Cert.MlstmOutKernelIdeal.nD Cert.MlstmOutKernelIdeal.τ).loc Cert.MlstmOutKernelIdeal.main_arg5) = m ((c.tc : Thread Cert.MlstmOutKernelIdeal.nD Cert.MlstmOutKernelIdeal.τ).loc Cert.MlstmOutKernelIdeal.main_arg5)
          ∧ r.2.mem ((c.tc : Thread Cert.MlstmOutKernelIdeal.nD Cert.MlstmOutKernelIdeal.τ).loc Cert.MlstmOutKernelIdeal.main_arg6) = m ((c.tc : Thread Cert.MlstmOutKernelIdeal.nD Cert.MlstmOutKernelIdeal.τ).loc Cert.MlstmOutKernelIdeal.main_arg6)
          ∧ r.2.mem ((c.tc : Thread Cert.MlstmOutKernelIdeal.nD Cert.MlstmOutKernelIdeal.τ).loc Cert.MlstmOutKernelIdeal.main_arg7) = m ((c.tc : Thread Cert.MlstmOutKernelIdeal.nD Cert.MlstmOutKernelIdeal.τ).loc Cert.MlstmOutKernelIdeal.main_arg7))
      ∧ θ_run (Cert.MlstmOutReferenceIdeal.defs (F := Ideal)) (onTc (τ := Cert.MlstmOutReferenceIdeal.τ) (Cert.MlstmOutReferenceIdeal.main (F := Ideal))) ⟨m', fun _ => 0, g'⟩ (fun r => ∀ c : Dev Cert.MlstmOutReferenceIdeal.nD,
          r.2.mem ((c.tc : Thread Cert.MlstmOutReferenceIdeal.nD Cert.MlstmOutReferenceIdeal.τ).loc Cert.MlstmOutReferenceIdeal.main_v45) = v0 c
          ∧ r.2.mem ((c.tc : Thread Cert.MlstmOutReferenceIdeal.nD Cert.MlstmOutReferenceIdeal.τ).loc Cert.MlstmOutReferenceIdeal.main_arg0) = m' ((c.tc : Thread Cert.MlstmOutReferenceIdeal.nD Cert.MlstmOutReferenceIdeal.τ).loc Cert.MlstmOutReferenceIdeal.main_arg0)
          ∧ r.2.mem ((c.tc : Thread Cert.MlstmOutReferenceIdeal.nD Cert.MlstmOutReferenceIdeal.τ).loc Cert.MlstmOutReferenceIdeal.main_arg1) = m' ((c.tc : Thread Cert.MlstmOutReferenceIdeal.nD Cert.MlstmOutReferenceIdeal.τ).loc Cert.MlstmOutReferenceIdeal.main_arg1)
          ∧ r.2.mem ((c.tc : Thread Cert.MlstmOutReferenceIdeal.nD Cert.MlstmOutReferenceIdeal.τ).loc Cert.MlstmOutReferenceIdeal.main_arg2) = m' ((c.tc : Thread Cert.MlstmOutReferenceIdeal.nD Cert.MlstmOutReferenceIdeal.τ).loc Cert.MlstmOutReferenceIdeal.main_arg2)
          ∧ r.2.mem ((c.tc : Thread Cert.MlstmOutReferenceIdeal.nD Cert.MlstmOutReferenceIdeal.τ).loc Cert.MlstmOutReferenceIdeal.main_arg3) = m' ((c.tc : Thread Cert.MlstmOutReferenceIdeal.nD Cert.MlstmOutReferenceIdeal.τ).loc Cert.MlstmOutReferenceIdeal.main_arg3)
          ∧ r.2.mem ((c.tc : Thread Cert.MlstmOutReferenceIdeal.nD Cert.MlstmOutReferenceIdeal.τ).loc Cert.MlstmOutReferenceIdeal.main_arg4) = m' ((c.tc : Thread Cert.MlstmOutReferenceIdeal.nD Cert.MlstmOutReferenceIdeal.τ).loc Cert.MlstmOutReferenceIdeal.main_arg4)
          ∧ r.2.mem ((c.tc : Thread Cert.MlstmOutReferenceIdeal.nD Cert.MlstmOutReferenceIdeal.τ).loc Cert.MlstmOutReferenceIdeal.main_arg5) = m' ((c.tc : Thread Cert.MlstmOutReferenceIdeal.nD Cert.MlstmOutReferenceIdeal.τ).loc Cert.MlstmOutReferenceIdeal.main_arg5)
          ∧ r.2.mem ((c.tc : Thread Cert.MlstmOutReferenceIdeal.nD Cert.MlstmOutReferenceIdeal.τ).loc Cert.MlstmOutReferenceIdeal.main_arg6) = m' ((c.tc : Thread Cert.MlstmOutReferenceIdeal.nD Cert.MlstmOutReferenceIdeal.τ).loc Cert.MlstmOutReferenceIdeal.main_arg6)
          ∧ r.2.mem ((c.tc : Thread Cert.MlstmOutReferenceIdeal.nD Cert.MlstmOutReferenceIdeal.τ).loc Cert.MlstmOutReferenceIdeal.main_arg7) = m' ((c.tc : Thread Cert.MlstmOutReferenceIdeal.nD Cert.MlstmOutReferenceIdeal.τ).loc Cert.MlstmOutReferenceIdeal.main_arg7))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v2) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v75) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_HyenaConvKernel_HyenaConvKernelIdeal : Prop :=
  True

def algebraic_HyenaConvKernelIdeal_HyenaConvReferenceIdeal [hHyenaConvKernelIdeal : Cert.HyenaConvKernelIdeal.Facts] [hHyenaConvReferenceIdeal : Cert.HyenaConvReferenceIdeal.Facts] : Prop :=
  ∀ (m : (ℓ : Loc Cert.HyenaConvKernelIdeal.nD Cert.HyenaConvKernelIdeal.τ Cert.HyenaConvKernelIdeal.sig) → Buf (Elt Ideal) ℓ) (g : Dev Cert.HyenaConvKernelIdeal.nD → PrngReg)
    (m' : (ℓ : Loc Cert.HyenaConvReferenceIdeal.nD Cert.HyenaConvReferenceIdeal.τ Cert.HyenaConvReferenceIdeal.sig) → Buf (Elt Ideal) ℓ) (g' : Dev Cert.HyenaConvReferenceIdeal.nD → PrngReg), Pre_HyenaConvKernelIdeal m →
    (∀ c : Dev Cert.HyenaConvKernelIdeal.nD,
      m' ((c.tc : Thread Cert.HyenaConvReferenceIdeal.nD Cert.HyenaConvReferenceIdeal.τ).loc Cert.HyenaConvReferenceIdeal.main_arg0) = m ((c.tc : Thread Cert.HyenaConvKernelIdeal.nD Cert.HyenaConvKernelIdeal.τ).loc Cert.HyenaConvKernelIdeal.main_arg0)
      ∧ m' ((c.tc : Thread Cert.HyenaConvReferenceIdeal.nD Cert.HyenaConvReferenceIdeal.τ).loc Cert.HyenaConvReferenceIdeal.main_arg1) = m ((c.tc : Thread Cert.HyenaConvKernelIdeal.nD Cert.HyenaConvKernelIdeal.τ).loc Cert.HyenaConvKernelIdeal.main_arg1)
      ∧ m' ((c.tc : Thread Cert.HyenaConvReferenceIdeal.nD Cert.HyenaConvReferenceIdeal.τ).loc Cert.HyenaConvReferenceIdeal.main_arg2) = m ((c.tc : Thread Cert.HyenaConvKernelIdeal.nD Cert.HyenaConvKernelIdeal.τ).loc Cert.HyenaConvKernelIdeal.main_arg2)) →
    ∃ (v0 : (c : Dev Cert.HyenaConvKernelIdeal.nD) → Buf (Elt Ideal) ((c.tc : Thread Cert.HyenaConvKernelIdeal.nD Cert.HyenaConvKernelIdeal.τ).loc Cert.HyenaConvKernelIdeal.main_v1_0)) (v1 : (c : Dev Cert.HyenaConvKernelIdeal.nD) → Buf (Elt Ideal) ((c.tc : Thread Cert.HyenaConvKernelIdeal.nD Cert.HyenaConvKernelIdeal.τ).loc Cert.HyenaConvKernelIdeal.main_v1_1)),
      θ_run (Cert.HyenaConvKernelIdeal.defs (F := Ideal)) (onTc (τ := Cert.HyenaConvKernelIdeal.τ) (Cert.HyenaConvKernelIdeal.main (F := Ideal))) ⟨m, fun _ => 0, g⟩ (fun r => ∀ c : Dev Cert.HyenaConvKernelIdeal.nD,
          r.2.mem ((c.tc : Thread Cert.HyenaConvKernelIdeal.nD Cert.HyenaConvKernelIdeal.τ).loc Cert.HyenaConvKernelIdeal.main_v1_0) = v0 c
          ∧ r.2.mem ((c.tc : Thread Cert.HyenaConvKernelIdeal.nD Cert.HyenaConvKernelIdeal.τ).loc Cert.HyenaConvKernelIdeal.main_v1_1) = v1 c
          ∧ r.2.mem ((c.tc : Thread Cert.HyenaConvKernelIdeal.nD Cert.HyenaConvKernelIdeal.τ).loc Cert.HyenaConvKernelIdeal.main_arg0) = m ((c.tc : Thread Cert.HyenaConvKernelIdeal.nD Cert.HyenaConvKernelIdeal.τ).loc Cert.HyenaConvKernelIdeal.main_arg0)
          ∧ r.2.mem ((c.tc : Thread Cert.HyenaConvKernelIdeal.nD Cert.HyenaConvKernelIdeal.τ).loc Cert.HyenaConvKernelIdeal.main_arg1) = m ((c.tc : Thread Cert.HyenaConvKernelIdeal.nD Cert.HyenaConvKernelIdeal.τ).loc Cert.HyenaConvKernelIdeal.main_arg1)
          ∧ r.2.mem ((c.tc : Thread Cert.HyenaConvKernelIdeal.nD Cert.HyenaConvKernelIdeal.τ).loc Cert.HyenaConvKernelIdeal.main_arg2) = m ((c.tc : Thread Cert.HyenaConvKernelIdeal.nD Cert.HyenaConvKernelIdeal.τ).loc Cert.HyenaConvKernelIdeal.main_arg2))
      ∧ θ_run (Cert.HyenaConvReferenceIdeal.defs (F := Ideal)) (onTc (τ := Cert.HyenaConvReferenceIdeal.τ) (Cert.HyenaConvReferenceIdeal.main (F := Ideal))) ⟨m', fun _ => 0, g'⟩ (fun r => ∀ c : Dev Cert.HyenaConvReferenceIdeal.nD,
          r.2.mem ((c.tc : Thread Cert.HyenaConvReferenceIdeal.nD Cert.HyenaConvReferenceIdeal.τ).loc Cert.HyenaConvReferenceIdeal.main_v28) = v0 c
          ∧ r.2.mem ((c.tc : Thread Cert.HyenaConvReferenceIdeal.nD Cert.HyenaConvReferenceIdeal.τ).loc Cert.HyenaConvReferenceIdeal.main_v30) = v1 c
          ∧ r.2.mem ((c.tc : Thread Cert.HyenaConvReferenceIdeal.nD Cert.HyenaConvReferenceIdeal.τ).loc Cert.HyenaConvReferenceIdeal.main_arg0) = m' ((c.tc : Thread Cert.HyenaConvReferenceIdeal.nD Cert.HyenaConvReferenceIdeal.τ).loc Cert.HyenaConvReferenceIdeal.main_arg0)
          ∧ r.2.mem ((c.tc : Thread Cert.HyenaConvReferenceIdeal.nD Cert.HyenaConvReferenceIdeal.τ).loc Cert.HyenaConvReferenceIdeal.main_arg1) = m' ((c.tc : Thread Cert.HyenaConvReferenceIdeal.nD Cert.HyenaConvReferenceIdeal.τ).loc Cert.HyenaConvReferenceIdeal.main_arg1)
          ∧ r.2.mem ((c.tc : Thread Cert.HyenaConvReferenceIdeal.nD Cert.HyenaConvReferenceIdeal.τ).loc Cert.HyenaConvReferenceIdeal.main_arg2) = m' ((c.tc : Thread Cert.HyenaConvReferenceIdeal.nD Cert.HyenaConvReferenceIdeal.τ).loc Cert.HyenaConvReferenceIdeal.main_arg2))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)) →
    ∃ (v0 : (c : Dev Cert.PrepKernelIdeal.nD) → Buf (Elt Ideal) ((c.tc : Thread Cert.PrepKernelIdeal.nD Cert.PrepKernelIdeal.τ).loc Cert.PrepKernelIdeal.main_v51_0)) (v1 : (c : Dev Cert.PrepKernelIdeal.nD) → Buf (Elt Ideal) ((c.tc : Thread Cert.PrepKernelIdeal.nD Cert.PrepKernelIdeal.τ).loc Cert.PrepKernelIdeal.main_v51_1)) (v2 : (c : Dev Cert.PrepKernelIdeal.nD) → Buf (Elt Ideal) ((c.tc : Thread Cert.PrepKernelIdeal.nD Cert.PrepKernelIdeal.τ).loc Cert.PrepKernelIdeal.main_v51_2)) (v3 : (c : Dev Cert.PrepKernelIdeal.nD) → Buf (Elt Ideal) ((c.tc : Thread Cert.PrepKernelIdeal.nD Cert.PrepKernelIdeal.τ).loc Cert.PrepKernelIdeal.main_v51_3)) (v4 : (c : Dev Cert.PrepKernelIdeal.nD) → Buf (Elt Ideal) ((c.tc : Thread Cert.PrepKernelIdeal.nD Cert.PrepKernelIdeal.τ).loc Cert.PrepKernelIdeal.main_v51_4)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v51_0) = v0 c
          ∧ r.2.mem ((c.tc : Thread Cert.PrepKernelIdeal.nD Cert.PrepKernelIdeal.τ).loc Cert.PrepKernelIdeal.main_v51_1) = v1 c
          ∧ r.2.mem ((c.tc : Thread Cert.PrepKernelIdeal.nD Cert.PrepKernelIdeal.τ).loc Cert.PrepKernelIdeal.main_v51_2) = v2 c
          ∧ r.2.mem ((c.tc : Thread Cert.PrepKernelIdeal.nD Cert.PrepKernelIdeal.τ).loc Cert.PrepKernelIdeal.main_v51_3) = v3 c
          ∧ r.2.mem ((c.tc : Thread Cert.PrepKernelIdeal.nD Cert.PrepKernelIdeal.τ).loc Cert.PrepKernelIdeal.main_v51_4) = v4 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v64) = v0 c
          ∧ r.2.mem ((c.tc : Thread Cert.PrepReferenceIdeal.nD Cert.PrepReferenceIdeal.τ).loc Cert.PrepReferenceIdeal.main_v67) = v1 c
          ∧ r.2.mem ((c.tc : Thread Cert.PrepReferenceIdeal.nD Cert.PrepReferenceIdeal.τ).loc Cert.PrepReferenceIdeal.main_v68) = v2 c
          ∧ r.2.mem ((c.tc : Thread Cert.PrepReferenceIdeal.nD Cert.PrepReferenceIdeal.τ).loc Cert.PrepReferenceIdeal.main_v69) = v3 c
          ∧ r.2.mem ((c.tc : Thread Cert.PrepReferenceIdeal.nD Cert.PrepReferenceIdeal.τ).loc Cert.PrepReferenceIdeal.main_v63) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7))

def preserves_AdalnKernel_AdalnKernelIdeal : Prop :=
  True

def algebraic_AdalnKernelIdeal_AdalnReferenceIdeal [hAdalnKernelIdeal : Cert.AdalnKernelIdeal.Facts] [hAdalnReferenceIdeal : Cert.AdalnReferenceIdeal.Facts] : Prop :=
  ∀ (m : (ℓ : Loc Cert.AdalnKernelIdeal.nD Cert.AdalnKernelIdeal.τ Cert.AdalnKernelIdeal.sig) → Buf (Elt Ideal) ℓ) (g : Dev Cert.AdalnKernelIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnKernelIdeal m →
    (∀ c : Dev Cert.AdalnKernelIdeal.nD,
      m' ((c.tc : Thread Cert.AdalnReferenceIdeal.nD Cert.AdalnReferenceIdeal.τ).loc Cert.AdalnReferenceIdeal.main_arg0) = m ((c.tc : Thread Cert.AdalnKernelIdeal.nD Cert.AdalnKernelIdeal.τ).loc Cert.AdalnKernelIdeal.main_arg0)
      ∧ m' ((c.tc : Thread Cert.AdalnReferenceIdeal.nD Cert.AdalnReferenceIdeal.τ).loc Cert.AdalnReferenceIdeal.main_arg1) = m ((c.tc : Thread Cert.AdalnKernelIdeal.nD Cert.AdalnKernelIdeal.τ).loc Cert.AdalnKernelIdeal.main_arg1)
      ∧ m' ((c.tc : Thread Cert.AdalnReferenceIdeal.nD Cert.AdalnReferenceIdeal.τ).loc Cert.AdalnReferenceIdeal.main_arg2) = m ((c.tc : Thread Cert.AdalnKernelIdeal.nD Cert.AdalnKernelIdeal.τ).loc Cert.AdalnKernelIdeal.main_arg2)) →
    ∃ (v0 : (c : Dev Cert.AdalnKernelIdeal.nD) → Buf (Elt Ideal) ((c.tc : Thread Cert.AdalnKernelIdeal.nD Cert.AdalnKernelIdeal.τ).loc Cert.AdalnKernelIdeal.main_v8)),
      θ_run (Cert.AdalnKernelIdeal.defs (F := Ideal)) (onTc (τ := Cert.AdalnKernelIdeal.τ) (Cert.AdalnKernelIdeal.main (F := Ideal))) ⟨m, fun _ => 0, g⟩ (fun r => ∀ c : Dev Cert.AdalnKernelIdeal.nD,
          r.2.mem ((c.tc : Thread Cert.AdalnKernelIdeal.nD Cert.AdalnKernelIdeal.τ).loc Cert.AdalnKernelIdeal.main_v8) = v0 c
          ∧ r.2.mem ((c.tc : Thread Cert.AdalnKernelIdeal.nD Cert.AdalnKernelIdeal.τ).loc Cert.AdalnKernelIdeal.main_arg0) = m ((c.tc : Thread Cert.AdalnKernelIdeal.nD Cert.AdalnKernelIdeal.τ).loc Cert.AdalnKernelIdeal.main_arg0)
          ∧ r.2.mem ((c.tc : Thread Cert.AdalnKernelIdeal.nD Cert.AdalnKernelIdeal.τ).loc Cert.AdalnKernelIdeal.main_arg1) = m ((c.tc : Thread Cert.AdalnKernelIdeal.nD Cert.AdalnKernelIdeal.τ).loc Cert.AdalnKernelIdeal.main_arg1)
          ∧ r.2.mem ((c.tc : Thread Cert.AdalnKernelIdeal.nD Cert.AdalnKernelIdeal.τ).loc Cert.AdalnKernelIdeal.main_arg2) = m ((c.tc : Thread Cert.AdalnKernelIdeal.nD Cert.AdalnKernelIdeal.τ).loc Cert.AdalnKernelIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v5) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hLastKernel : Cert.LastKernel.Facts) (hLastKernelIdeal : Cert.LastKernelIdeal.Facts) (hLastReferenceIdeal : Cert.LastReferenceIdeal.Facts) (hHyenaInKernel : Cert.HyenaInKernel.Facts) (hHyenaInKernelIdeal : Cert.HyenaInKernelIdeal.Facts) (hHyenaInReferenceIdeal : Cert.HyenaInReferenceIdeal.Facts) (hMlstmInKernel : Cert.MlstmInKernel.Facts) (hMlstmInKernelIdeal : Cert.MlstmInKernelIdeal.Facts) (hMlstmInReferenceIdeal : Cert.MlstmInReferenceIdeal.Facts) (hHyenaOutKernel : Cert.HyenaOutKernel.Facts) (hHyenaOutKernelIdeal : Cert.HyenaOutKernelIdeal.Facts) (hHyenaOutReferenceIdeal : Cert.HyenaOutReferenceIdeal.Facts) (hMlstmOutKernel : Cert.MlstmOutKernel.Facts) (hMlstmOutKernelIdeal : Cert.MlstmOutKernelIdeal.Facts) (hMlstmOutReferenceIdeal : Cert.MlstmOutReferenceIdeal.Facts) (hConvKernel : Cert.ConvKernel.Facts) (hConvKernelIdeal : Cert.ConvKernelIdeal.Facts) (hConvReferenceIdeal : Cert.ConvReferenceIdeal.Facts) (hHyenaConvKernel : Cert.HyenaConvKernel.Facts) (hHyenaConvKernelIdeal : Cert.HyenaConvKernelIdeal.Facts) (hHyenaConvReferenceIdeal : Cert.HyenaConvReferenceIdeal.Facts) (hPrepKernel : Cert.PrepKernel.Facts) (hPrepKernelIdeal : Cert.PrepKernelIdeal.Facts) (hPrepReferenceIdeal : Cert.PrepReferenceIdeal.Facts) (hAdalnKernel : Cert.AdalnKernel.Facts) (hAdalnKernelIdeal : Cert.AdalnKernelIdeal.Facts) (hAdalnReferenceIdeal : Cert.AdalnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_HyenaInKernel (hHyenaInKernel := hHyenaInKernel)
    ∧ quiescent_HyenaInKernelIdeal (hHyenaInKernelIdeal := hHyenaInKernelIdeal)
    ∧ quiescent_HyenaInReferenceIdeal (hHyenaInReferenceIdeal := hHyenaInReferenceIdeal)
    ∧ quiescent_MlstmInKernel (hMlstmInKernel := hMlstmInKernel)
    ∧ quiescent_MlstmInKernelIdeal (hMlstmInKernelIdeal := hMlstmInKernelIdeal)
    ∧ quiescent_MlstmInReferenceIdeal (hMlstmInReferenceIdeal := hMlstmInReferenceIdeal)
    ∧ quiescent_HyenaOutKernel (hHyenaOutKernel := hHyenaOutKernel)
    ∧ quiescent_HyenaOutKernelIdeal (hHyenaOutKernelIdeal := hHyenaOutKernelIdeal)
    ∧ quiescent_HyenaOutReferenceIdeal (hHyenaOutReferenceIdeal := hHyenaOutReferenceIdeal)
    ∧ quiescent_MlstmOutKernel (hMlstmOutKernel := hMlstmOutKernel)
    ∧ quiescent_MlstmOutKernelIdeal (hMlstmOutKernelIdeal := hMlstmOutKernelIdeal)
    ∧ quiescent_MlstmOutReferenceIdeal (hMlstmOutReferenceIdeal := hMlstmOutReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_HyenaConvKernel (hHyenaConvKernel := hHyenaConvKernel)
    ∧ quiescent_HyenaConvKernelIdeal (hHyenaConvKernelIdeal := hHyenaConvKernelIdeal)
    ∧ quiescent_HyenaConvReferenceIdeal (hHyenaConvReferenceIdeal := hHyenaConvReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_AdalnKernel (hAdalnKernel := hAdalnKernel)
    ∧ quiescent_AdalnKernelIdeal (hAdalnKernelIdeal := hAdalnKernelIdeal)
    ∧ quiescent_AdalnReferenceIdeal (hAdalnReferenceIdeal := hAdalnReferenceIdeal)
    ∧ preserves_Kernel_KernelIdeal
    ∧ algebraic_KernelIdeal_ReferenceIdeal (hKernelIdeal := hKernelIdeal) (hReferenceIdeal := hReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_LastKernel_LastKernelIdeal
    ∧ algebraic_LastKernelIdeal_LastReferenceIdeal (hLastKernelIdeal := hLastKernelIdeal) (hLastReferenceIdeal := hLastReferenceIdeal)
    ∧ preserves_HyenaInKernel_HyenaInKernelIdeal
    ∧ algebraic_HyenaInKernelIdeal_HyenaInReferenceIdeal (hHyenaInKernelIdeal := hHyenaInKernelIdeal) (hHyenaInReferenceIdeal := hHyenaInReferenceIdeal)
    ∧ preserves_MlstmInKernel_MlstmInKernelIdeal
    ∧ algebraic_MlstmInKernelIdeal_MlstmInReferenceIdeal (hMlstmInKernelIdeal := hMlstmInKernelIdeal) (hMlstmInReferenceIdeal := hMlstmInReferenceIdeal)
    ∧ preserves_HyenaOutKernel_HyenaOutKernelIdeal
    ∧ algebraic_HyenaOutKernelIdeal_HyenaOutReferenceIdeal (hHyenaOutKernelIdeal := hHyenaOutKernelIdeal) (hHyenaOutReferenceIdeal := hHyenaOutReferenceIdeal)
    ∧ preserves_MlstmOutKernel_MlstmOutKernelIdeal
    ∧ algebraic_MlstmOutKernelIdeal_MlstmOutReferenceIdeal (hMlstmOutKernelIdeal := hMlstmOutKernelIdeal) (hMlstmOutReferenceIdeal := hMlstmOutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_HyenaConvKernel_HyenaConvKernelIdeal
    ∧ algebraic_HyenaConvKernelIdeal_HyenaConvReferenceIdeal (hHyenaConvKernelIdeal := hHyenaConvKernelIdeal) (hHyenaConvReferenceIdeal := hHyenaConvReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_AdalnKernel_AdalnKernelIdeal
    ∧ algebraic_AdalnKernelIdeal_AdalnReferenceIdeal (hAdalnKernelIdeal := hAdalnKernelIdeal) (hAdalnReferenceIdeal := hAdalnReferenceIdeal)
-- ==== Kernel.lean ====
abbrev S4x8192x2048 : Shape := ⟨3, ![4, 8192, 2048]⟩
abbrev S4x8192x16 : Shape := ⟨3, ![4, 8192, 16]⟩
abbrev S2x4x4x512x512 : Shape := ⟨5, ![2, 4, 4, 512, 512]⟩
abbrev S2x4x4x1x512 : Shape := ⟨5, ![2, 4, 4, 1, 512]⟩
abbrev S2x4x4x1x128 : Shape := ⟨5, ![2, 4, 4, 1, 128]⟩
abbrev S4x8192x2x2x4 : Shape := ⟨5, ![4, 8192, 2, 2, 4]⟩
abbrev S4x2x4x8192x2 : Shape := ⟨5, ![4, 2, 4, 8192, 2]⟩
abbrev S4x8x8192x2 : Shape := ⟨4, ![4, 8, 8192, 2]⟩
abbrev S4x64x128x2x2x4 : Shape := ⟨6, ![4, 64, 128, 2, 2, 4]⟩
abbrev S4x2x4x64x2x128 : Shape := ⟨6, ![4, 2, 4, 64, 2, 128]⟩
abbrev S4x8x64x2x128 : Shape := ⟨5, ![4, 8, 64, 2, 128]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S2x4x8192x2048 : Shape := ⟨4, ![2, 4, 8192, 2048]⟩
abbrev S1x1024x512 : Shape := ⟨3, ![1, 1024, 512]⟩
abbrev S1x1x1024x2 : Shape := ⟨4, ![1, 1, 1024, 2]⟩
abbrev S1x1x8x2x128 : Shape := ⟨5, ![1, 1, 8, 2, 128]⟩
abbrev S1x1x1x512x512 : Shape := ⟨5, ![1, 1, 1, 512, 512]⟩
abbrev S1x1x1x1x512 : Shape := ⟨5, ![1, 1, 1, 1, 512]⟩
abbrev S1x1x1x1x128 : Shape := ⟨5, ![1, 1, 1, 1, 128]⟩
abbrev S1x1x1024x512 : Shape := ⟨4, ![1, 1, 1024, 512]⟩
abbrev S512x512 : Shape := ⟨2, ![512, 512]⟩
abbrev S1x512 : Shape := ⟨2, ![1, 512]⟩
abbrev S1x128 : Shape := ⟨2, ![1, 128]⟩
abbrev S1x128x512 : Shape := ⟨3, ![1, 128, 512]⟩
abbrev S128x512 : Shape := ⟨2, ![128, 512]⟩
abbrev S1x1x128x2 : Shape := ⟨4, ![1, 1, 128, 2]⟩
abbrev S128x2 : Shape := ⟨2, ![128, 2]⟩
abbrev S1x1x1x2x128 : Shape := ⟨5, ![1, 1, 1, 2, 128]⟩
abbrev S2x128 : Shape := ⟨2, ![2, 128]⟩
abbrev S128x1 : Shape := ⟨2, ![128, 1]⟩
abbrev S128 : Shape := ⟨1, ![128]⟩
abbrev S1x1 : Shape := ⟨2, ![1, 1]⟩
abbrev S1x1x128x512 : Shape := ⟨4, ![1, 1, 128, 512]⟩
abbrev S1 : Shape := ⟨1, ![1]⟩
abbrev S512 : Shape := ⟨1, ![512]⟩

abbrev nBuf : Space → Nat
  | .hbm => 32
  | .vmem => 31
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .bf16⟩
  | .hbm, ⟨3, _⟩ => ⟨S4x8192x16, .f32⟩
  | .hbm, ⟨4, _⟩ => ⟨S2x4x4x512x512, .f32⟩
  | .hbm, ⟨5, _⟩ => ⟨S2x4x4x1x512, .f32⟩
  | .hbm, ⟨6, _⟩ => ⟨S2x4x4x1x128, .f32⟩
  | .hbm, ⟨7, _⟩ => ⟨S4x8192x2x2x4, .f32⟩
  | .hbm, ⟨8, _⟩ => ⟨S4x2x4x8192x2, .f32⟩
  | .hbm, ⟨9, _⟩ => ⟨S4x8x8192x2, .f32⟩
  | .hbm, ⟨10, _⟩ => ⟨S4x64x128x2x2x4, .f32⟩
  | .hbm, ⟨11, _⟩ => ⟨S4x2x4x64x2x128, .f32⟩
  | .hbm, ⟨12, _⟩ => ⟨S4x8x64x2x128, .f32⟩
  | .hbm, ⟨13, _⟩ => ⟨S_, .f32⟩
  | .hbm, ⟨14, _⟩ => ⟨S128x128, .f32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S1x128x128, .f32⟩
  | .hbm, ⟨27, _⟩ => ⟨S2x128x128, .f32⟩
  | .hbm, ⟨28, _⟩ => ⟨S2x4x8192x2048, .f32⟩
  | .hbm, ⟨29, _⟩ => ⟨S2x4x4x512x512, .f32⟩
  | .hbm, ⟨30, _⟩ => ⟨S2x4x4x1x512, .f32⟩
  | .hbm, ⟨31, _⟩ => ⟨S2x4x4x1x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x1024x2, .f32⟩
  | .local _ .vmem, ⟨7, _⟩ => ⟨S1x1x1024x2, .f32⟩
  | .local _ .vmem, ⟨8, _⟩ => ⟨S1x1x8x2x128, .f32⟩
  | .local _ .vmem, ⟨9, _⟩ => ⟨S1x1x8x2x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x1x512x512, .f32⟩
  | .local _ .vmem, ⟨15, _⟩ => ⟨S1x1x1x512x512, .f32⟩
  | .local _ .vmem, ⟨16, _⟩ => ⟨S1x1x1x1x512, .f32⟩
  | .local _ .vmem, ⟨17, _⟩ => ⟨S1x1x1x1x512, .f32⟩
  | .local _ .vmem, ⟨18, _⟩ => ⟨S1x1x1x1x128, .f32⟩
  | .local _ .vmem, ⟨19, _⟩ => ⟨S1x1x1x1x128, .f32⟩
  | .local _ .vmem, ⟨20, _⟩ => ⟨S1x1x1024x512, .f32⟩
  | .local _ .vmem, ⟨21, _⟩ => ⟨S1x1x1024x512, .f32⟩
  | .local _ .vmem, ⟨22, _⟩ => ⟨S1x1x1x512x512, .f32⟩
  | .local _ .vmem, ⟨23, _⟩ => ⟨S1x1x1x512x512, .f32⟩
  | .local _ .vmem, ⟨24, _⟩ => ⟨S1x1x1x1x512, .f32⟩
  | .local _ .vmem, ⟨25, _⟩ => ⟨S1x1x1x1x512, .f32⟩
  | .local _ .vmem, ⟨26, _⟩ => ⟨S1x1x1x1x128, .f32⟩
  | .local _ .vmem, ⟨27, _⟩ => ⟨S1x1x1x1x128, .f32⟩
  | .local _ .vmem, ⟨28, _⟩ => ⟨S512x512, .f32⟩
  | .local _ .vmem, ⟨29, _⟩ => ⟨S1x512, .f32⟩
  | .local _ .vmem, ⟨30, _⟩ => ⟨S1x128, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨4, ![4, 4, 2, 8], ![false, false, false, false]⟩

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (i : grid0.Coords) (k0_t1 : Fin k0_t1_loop.trips) : BitVec 32 :=
  let c0_i32_6 : BitVec 32 := 0#32
  let c1_i32 : BitVec 32 := 1#32
  let arg21 : BitVec 32 := Scf.iv c0_i32_6 c1_i32 k0_t1
  let arg2 : BitVec 32 := BitVec.ofNat 32 (i 2).val
  let c7_i32_9 : BitVec 32 := 7#32
  let c2_i32 : BitVec 32 := 2#32
  let v13 : BitVec 32 := Scalar.muli c2_i32 arg21
  let v14 : BitVec 32 := Scalar.subi c7_i32_9 v13
  let v15 : BitVec 32 := Scalar.muli arg2 v14
  let v16 : BitVec 32 := Scalar.addi arg21 v15
  let c128_i32 : BitVec 32 := 128#32
  let v17 : BitVec 32 := Scalar.muli v16 c128_i32
  v17
def k0_off1 (i : grid0.Coords) (k0_t1 : Fin k0_t1_loop.trips) : Fin 3 → Nat :=
  let c0_10 : Index := 0#32
  let c0_i32_6 : BitVec 32 := 0#32
  let c1_i32 : BitVec 32 := 1#32
  let arg21 : BitVec 32 := Scf.iv c0_i32_6 c1_i32 k0_t1
  let arg2 : BitVec 32 := BitVec.ofNat 32 (i 2).val
  let c7_i32_9 : BitVec 32 := 7#32
  let c2_i32 : BitVec 32 := 2#32
  let v13 : BitVec 32 := Scalar.muli c2_i32 arg21
  let v14 : BitVec 32 := Scalar.subi c7_i32_9 v13
  let v15 : BitVec 32 := Scalar.muli arg2 v14
  let v16 : BitVec 32 := Scalar.addi arg21 v15
  let c128_i32 : BitVec 32 := 128#32
  let v17 : BitVec 32 := Scalar.muli v16 c128_i32
  let v18 : BitVec 32 := v17
  let v19 : Index := Scalar.indexCast v18
  let c0_11 : Index := 0#32
  ![0, v19.toNat, 0]
def k0_off2 (i : grid0.Coords) (k0_t1 : Fin k0_t1_loop.trips) : Fin 4 → Nat :=
  let c0_16 : Index := 0#32
  let c0_17 : Index := 0#32
  let c0_i32_6 : BitVec 32 := 0#32
  let c1_i32 : BitVec 32 := 1#32
  let arg21 : BitVec 32 := Scf.iv c0_i32_6 c1_i32 k0_t1
  let arg2 : BitVec 32 := BitVec.ofNat 32 (i 2).val
  let c7_i32_9 : BitVec 32 := 7#32
  let c2_i32 : BitVec 32 := 2#32
  let v13 : BitVec 32 := Scalar.muli c2_i32 arg21
  let v14 : BitVec 32 := Scalar.subi c7_i32_9 v13
  let v15 : BitVec 32 := Scalar.muli arg2 v14
  let v16 : BitVec 32 := Scalar.addi arg21 v15
  let c128_i32 : BitVec 32 := 128#32
  let v17 : BitVec 32 := Scalar.muli v16 c128_i32
  let v18 : BitVec 32 := v17
  let v28 : Index := Scalar.indexCast v18
  let c0_18 : Index := 0#32
  ![0, 0, v28.toNat, 0]
def k0_off3 (i : grid0.Coords) (k0_t1 : Fin k0_t1_loop.trips) : Fin 5 → Nat :=
  let c0_19 : Index := 0#32
  let c0_20 : Index := 0#32
  let c0_i32_6 : BitVec 32 := 0#32
  let c1_i32 : BitVec 32 := 1#32
  let arg21 : BitVec 32 := Scf.iv c0_i32_6 c1_i32 k0_t1
  let arg2 : BitVec 32 := BitVec.ofNat 32 (i 2).val
  let c7_i32_9 : BitVec 32 := 7#32
  let c2_i32 : BitVec 32 := 2#32
  let v13 : BitVec 32 := Scalar.muli c2_i32 arg21
  let v14 : BitVec 32 := Scalar.subi c7_i32_9 v13
  let v15 : BitVec 32 := Scalar.muli arg2 v14
  let v16 : BitVec 32 := Scalar.addi arg21 v15
  let v31 : Index := Scalar.indexCast v16
  let c0_21 : Index := 0#32
  let c0_22 : Index := 0#32
  ![0, 0, v31.toNat, 0, 0]
def k0_off4 (i : grid0.Coords) (k0_t1 : Fin k0_t1_loop.trips) : Fin 4 → Nat :=
  let c0_39 : Index := 0#32
  let c0_40 : Index := 0#32
  let c0_i32_6 : BitVec 32 := 0#32
  let c1_i32 : BitVec 32 := 1#32
  let arg21 : BitVec 32 := Scf.iv c0_i32_6 c1_i32 k0_t1
  let arg2 : BitVec 32 := BitVec.ofNat 32 (i 2).val
  let c7_i32_9 : BitVec 32 := 7#32
  let c2_i32 : BitVec 32 := 2#32
  let v13 : BitVec 32 := Scalar.muli c2_i32 arg21
  let v14 : BitVec 32 := Scalar.subi c7_i32_9 v13
  let v15 : BitVec 32 := Scalar.muli arg2 v14
  let v16 : BitVec 32 := Scalar.addi arg21 v15
  let c128_i32 : BitVec 32 := 128#32
  let v17 : BitVec 32 := Scalar.muli v16 c128_i32
  let v18 : BitVec 32 := v17
  let v91 : Index := Scalar.indexCast v18
  let c0_41 : Index := 0#32
  ![0, 0, v91.toNat, 0]
def k0_cond2 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg2 v1
  let v3 : BitVec 32 := Scalar.addi arg3 v2
  let c0_i32 : BitVec 32 := 0#32
  ![arg0.toNat, v3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg2 v1
  let v3 : BitVec 32 := Scalar.addi arg3 v2
  let c0_i32 : BitVec 32 := 0#32
  ![arg0.toNat, v3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg2 v1
  let v3 : BitVec 32 := Scalar.addi arg3 v2
  let c0_i32 : BitVec 32 := 0#32
  ![arg0.toNat, v3.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg2 c4_i32
  let v1 : BitVec 32 := Scalar.addi v0 arg1
  let c2_i32 : BitVec 32 := 2#32
  let v2 : BitVec 32 := Scalar.muli c2_i32 arg3
  let c7_i32 : BitVec 32 := 7#32
  let v3 : BitVec 32 := Scalar.subi c7_i32 v2
  let v4 : BitVec 32 := Scalar.muli arg2 v3
  let v5 : BitVec 32 := Scalar.addi arg3 v4
  let c0_i32 : BitVec 32 := 0#32
  let c0_i32_0 : BitVec 32 := 0#32
  ![arg0.toNat, v1.toNat, v5.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg2 c4_i32
  let v1 : BitVec 32 := Scalar.addi v0 arg1
  let c2_i32 : BitVec 32 := 2#32
  let v2 : BitVec 32 := Scalar.muli c2_i32 arg3
  let c7_i32 : BitVec 32 := 7#32
  let v3 : BitVec 32 := Scalar.subi c7_i32 v2
  let v4 : BitVec 32 := Scalar.muli arg2 v3
  let v5 : BitVec 32 := Scalar.addi arg3 v4
  let c0_i32 : BitVec 32 := 0#32
  let c0_i32_0 : BitVec 32 := 0#32
  let c0_i32_1 : BitVec 32 := 0#32
  ![arg0.toNat, v1.toNat, v5.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi c1_i32 arg2
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg2 v1
  let v3 : BitVec 32 := Scalar.addi arg3 v2
  let c0_i32 : BitVec 32 := 0#32
  ![arg2.toNat, arg0.toNat, v3.toNat, arg1.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg0.toNat, arg1.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x8x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, false]

abbrev stage0_7 : Fin 2 → Memref sig .tc .vmem S1x1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]

abbrev stage0_9 : Fin 2 → Memref sig .tc .vmem S1x1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S1x1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, true]

abbrev stage0_11 : Fin 2 → Memref sig .tc .vmem S1x1x1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true, false]

abbrev stage0_12 : Fin 2 → Memref sig .tc .vmem S1x1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true, false]

abbrev stage0_13 : Fin 2 → Memref sig .tc .vmem S1x1x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true, false]
-- ==== ReferenceIdeal.lean ====
abbrev S4x8192x2048 : Shape := ⟨3, ![4, 8192, 2048]⟩
abbrev S4x8192x16 : Shape := ⟨3, ![4, 8192, 16]⟩
abbrev S2x4x4x512x512 : Shape := ⟨5, ![2, 4, 4, 512, 512]⟩
abbrev S2x4x4x1x512 : Shape := ⟨5, ![2, 4, 4, 1, 512]⟩
abbrev S2x4x4x1x128 : Shape := ⟨5, ![2, 4, 4, 1, 128]⟩
abbrev S4x8192x4x512 : Shape := ⟨4, ![4, 8192, 4, 512]⟩
abbrev S4x4x8192x512 : Shape := ⟨4, ![4, 4, 8192, 512]⟩
abbrev S4x8192x2x2x4 : Shape := ⟨5, ![4, 8192, 2, 2, 4]⟩
abbrev S2x2x4x4x8192 : Shape := ⟨5, ![2, 2, 4, 4, 8192]⟩
abbrev S8x4x512x512 : Shape := ⟨4, ![8, 4, 512, 512]⟩
abbrev S8x4x512 : Shape := ⟨3, ![8, 4, 512]⟩
abbrev S2x4x4x1x1 : Shape := ⟨5, ![2, 4, 4, 1, 1]⟩
abbrev S2x4x4 : Shape := ⟨3, ![2, 4, 4]⟩
abbrev S8x4 : Shape := ⟨2, ![8, 4]⟩
abbrev S8x4x8192x512 : Shape := ⟨4, ![8, 4, 8192, 512]⟩
abbrev S1x1x4x4x8192 : Shape := ⟨5, ![1, 1, 4, 4, 8192]⟩
abbrev S4x4x8192 : Shape := ⟨3, ![4, 4, 8192]⟩
abbrev S8x4x8192 : Shape := ⟨3, ![8, 4, 8192]⟩
abbrev S_ : Shape := ⟨0, ![]⟩
abbrev S128x128 : Shape := ⟨2, ![128, 128]⟩
abbrev S8x4x64x128x512 : Shape := ⟨5, ![8, 4, 64, 128, 512]⟩
abbrev S64x8x4x128x512 : Shape := ⟨5, ![64, 8, 4, 128, 512]⟩
abbrev S8x4x64x128 : Shape := ⟨4, ![8, 4, 64, 128]⟩
abbrev S64x8x4x128 : Shape := ⟨4, ![64, 8, 4, 128]⟩
abbrev S1x8x4x128x512 : Shape := ⟨5, ![1, 8, 4, 128, 512]⟩
abbrev S8x4x128x512 : Shape := ⟨4, ![8, 4, 128, 512]⟩
abbrev S1x8x4x128 : Shape := ⟨4, ![1, 8, 4, 128]⟩
abbrev S8x4x128 : Shape := ⟨3, ![8, 4, 128]⟩
abbrev S8x4x1 : Shape := ⟨3, ![8, 4, 1]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1x1 : Shape := ⟨4, ![8, 4, 1, 1]⟩
abbrev S1x4x4x8192x512 : Shape := ⟨5, ![1, 4, 4, 8192, 512]⟩
abbrev S2x4x4x8192x512 : Shape := ⟨5, ![2, 4, 4, 8192, 512]⟩
abbrev S2x4x8192x4x512 : Shape := ⟨5, ![2, 4, 8192, 4, 512]⟩
abbrev S2x4x8192x2048 : Shape := ⟨4, ![2, 4, 8192, 2048]⟩

abbrev nBuf : Space → Nat
  | .hbm => 208
  | .vmem => 0
  | .smem => 0
  | _ => 0

abbrev hbmTy0_0 (i : Nat) : BufTy := match i % 128 with
  | 0 => ⟨S4x8192x2048, .bf16⟩
  | 1 => ⟨S4x8192x2048, .bf16⟩
  | 2 => ⟨S4x8192x2048, .bf16⟩
  | 3 => ⟨S4x8192x16, .f32⟩
  | 4 => ⟨S2x4x4x512x512, .f32⟩
  | 5 => ⟨S2x4x4x1x512, .f32⟩
  | 6 => ⟨S2x4x4x1x128, .f32⟩
  | 7 => ⟨S4x8192x2048, .f32⟩
  | 8 => ⟨S4x8192x4x512, .f32⟩
  | 9 => ⟨S4x4x8192x512, .f32⟩
  | 10 => ⟨S4x8192x2048, .f32⟩
  | 11 => ⟨S4x8192x4x512, .f32⟩
  | 12 => ⟨S4x4x8192x512, .f32⟩
  | 13 => ⟨S4x8192x2048, .f32⟩
  | 14 => ⟨S4x8192x4x512, .f32⟩
  | 15 => ⟨S4x4x8192x512, .f32⟩
  | 16 => ⟨S4x8192x2x2x4, .f32⟩
  | 17 => ⟨S2x2x4x4x8192, .f32⟩
  | 18 => ⟨S2x4x4x512x512, .f32⟩
  | 19 => ⟨S8x4x512x512, .f32⟩
  | 20 => ⟨S8x4x512, .f32⟩
  | 21 => ⟨S2x4x4x1x1, .f32⟩
  | 22 => ⟨S2x4x4, .f32⟩
  | 23 => ⟨S8x4, .f32⟩
  | 24 => ⟨S4x4x8192x512, .f32⟩
  | 25 => ⟨S8x4x8192x512, .f32⟩
  | 26 => ⟨S4x4x8192x512, .f32⟩
  | 27 => ⟨S8x4x8192x512, .f32⟩
  | 28 => ⟨S4x4x8192x512, .f32⟩
  | 29 => ⟨S8x4x8192x512, .f32⟩
  | 30 => ⟨S1x1x4x4x8192, .f32⟩
  | 31 => ⟨S4x4x8192, .f32⟩
  | 32 => ⟨S1x1x4x4x8192, .f32⟩
  | 33 => ⟨S4x4x8192, .f32⟩
  | 34 => ⟨S4x4x8192, .f32⟩
  | 35 => ⟨S8x4x8192, .f32⟩
  | 36 => ⟨S1x1x4x4x8192, .f32⟩
  | 37 => ⟨S4x4x8192, .f32⟩
  | 38 => ⟨S1x1x4x4x8192, .f32⟩
  | 39 => ⟨S4x4x8192, .f32⟩
  | 40 => ⟨S4x4x8192, .f32⟩
  | 41 => ⟨S8x4x8192, .f32⟩
  | 42 => ⟨S_, .i1⟩
  | 43 => ⟨S128x128, .i1⟩
  | 44 => ⟨S128x128, .i32⟩
  | 45 => ⟨S_, .i32⟩
  | 46 => ⟨S128x128, .i32⟩
  | 47 => ⟨S128x128, .i32⟩
  | 48 => ⟨S128x128, .i32⟩
  | 49 => ⟨S128x128, .i1⟩
  | 50 => ⟨S_, .i1⟩
  | 51 => ⟨S128x128, .i1⟩
  | 52 => ⟨S128x128, .i1⟩
  | 53 => ⟨S8x4x64x128x512, .f32⟩
  | 54 => ⟨S64x8x4x128x512, .f32⟩
  | 55 => ⟨S8x4x64x128x512, .f32⟩
  | 56 => ⟨S64x8x4x128x512, .f32⟩
  | 57 => ⟨S8x4x64x128x512, .f32⟩
  | 58 => ⟨S64x8x4x128x512, .f32⟩
  | 59 => ⟨S8x4x64x128, .f32⟩
  | 60 => ⟨S64x8x4x128, .f32⟩
  | 61 => ⟨S8x4x64x128, .f32⟩
  | 62 => ⟨S64x8x4x128, .f32⟩
  | 63 => ⟨S_, .f32⟩
  | 64 => ⟨S64x8x4x128x512, .f32⟩
  | 65 => ⟨S_, .i32⟩
  | 66 => ⟨S64x8x4x128x512, .f32⟩
  | 67 => ⟨S64x8x4x128x512, .f32⟩
  | 68 => ⟨S64x8x4x128x512, .f32⟩
  | 69 => ⟨S64x8x4x128, .f32⟩
  | 70 => ⟨S64x8x4x128, .f32⟩
  | 71 => ⟨S128x128, .i1⟩
  | 72 => ⟨S_, .i32⟩
  | 73 => ⟨S8x4x512x512, .f32⟩
  | 74 => ⟨S8x4x512, .f32⟩
  | 75 => ⟨S8x4, .f32⟩
  | 76 => ⟨S64x8x4x128x512, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x8x4x128x512, .f32⟩
  | 84 => ⟨S8x4x128x512, .f32⟩
  | 85 => ⟨S_, .i32⟩
  | 86 => ⟨S_, .i32⟩
  | 87 => ⟨S_, .i32⟩
  | 88 => ⟨S_, .i32⟩
  | 89 => ⟨S1x8x4x128x512, .f32⟩
  | 90 => ⟨S8x4x128x512, .f32⟩
  | 91 => ⟨S_, .i32⟩
  | 92 => ⟨S_, .i32⟩
  | 93 => ⟨S_, .i32⟩
  | 94 => ⟨S_, .i32⟩
  | 95 => ⟨S1x8x4x128x512, .f32⟩
  | 96 => ⟨S8x4x128x512, .f32⟩
  | 97 => ⟨S_, .i32⟩
  | 98 => ⟨S_, .i32⟩
  | 99 => ⟨S_, .i32⟩
  | 100 => ⟨S1x8x4x128, .f32⟩
  | 101 => ⟨S8x4x128, .f32⟩
  | 102 => ⟨S_, .i32⟩
  | 103 => ⟨S_, .i32⟩
  | 104 => ⟨S_, .i32⟩
  | 105 => ⟨S1x8x4x128, .f32⟩
  | 106 => ⟨S8x4x128, .f32⟩
  | 107 => ⟨S_, .f32⟩
  | 108 => ⟨S_, .f32⟩
  | 109 => ⟨S8x4x128, .f32⟩
  | 110 => ⟨S8x4x1, .f32⟩
  | 111 => ⟨S8x4x128, .f32⟩
  | 112 => ⟨S8x4x128, .f32⟩
  | 113 => ⟨S8x4x128x1, .f32⟩
  | 114 => ⟨S8x4x1x128, .f32⟩
  | 115 => ⟨S8x4x128x128, .f32⟩
  | 116 => ⟨S8x4x128x128, .f32⟩
  | 117 => ⟨S8x4x128x128, .f32⟩
  | 118 => ⟨S8x4x1x128, .f32⟩
  | 119 => ⟨S8x4x128x128, .f32⟩
  | 120 => ⟨S8x4x128x128, .f32⟩
  | 121 => ⟨S_, .f32⟩
  | 122 => ⟨S_, .f32⟩
  | 123 => ⟨S8x4x128x128, .i1⟩
  | 124 => ⟨S8x4x128x128, .f32⟩
  | 125 => ⟨S8x4x128x128, .f32⟩
  | 126 => ⟨S_, .f32⟩
  | 127 => ⟨S8x4x128, .f32⟩
  | _ => ⟨S4x8192x2048, .bf16⟩

abbrev hbmTy0_1 (i : Nat) : BufTy := match i % 128 with
  | 0 => ⟨S8x4x128, .f32⟩
  | 1 => ⟨S8x4x128, .f32⟩
  | 2 => ⟨S8x4x128, .f32⟩
  | 3 => ⟨S8x4x128x128, .f32⟩
  | 4 => ⟨S8x4x128x1, .f32⟩
  | 5 => ⟨S8x4x128x128, .f32⟩
  | 6 => ⟨S8x4x128x128, .f32⟩
  | 7 => ⟨S8x4x128x128, .f32⟩
  | 8 => ⟨S8x4x128x128, .f32⟩
  | 9 => ⟨S8x4x128x1, .f32⟩
  | 10 => ⟨S8x4x128x512, .f32⟩
  | 11 => ⟨S8x4x128x512, .f32⟩
  | 12 => ⟨S8x4x128x512, .f32⟩
  | 13 => ⟨S8x4x128x512, .f32⟩
  | 14 => ⟨S8x4x128x512, .f32⟩
  | 15 => ⟨S8x4x128, .f32⟩
  | 16 => ⟨S8x4x128, .f32⟩
  | 17 => ⟨S_, .f32⟩
  | 18 => ⟨S8x4x128, .f32⟩
  | 19 => ⟨S8x4x128, .f32⟩
  | 20 => ⟨S8x4x128, .f32⟩
  | 21 => ⟨S8x4x128, .f32⟩
  | 22 => ⟨S8x4x128, .f32⟩
  | 23 => ⟨S8x4x128, .f32⟩
  | 24 => ⟨S8x4x128x1, .f32⟩
  | 25 => ⟨S8x4x128x512, .f32⟩
  | 26 => ⟨S8x4x128x512, .f32⟩
  | 27 => ⟨S8x4x1, .f32⟩
  | 28 => ⟨S8x4, .f32⟩
  | 29 => ⟨S8x4x1, .f32⟩
  | 30 => ⟨S8x4x128, .f32⟩
  | 31 => ⟨S8x4x128, .f32⟩
  | 32 => ⟨S8x4x128, .f32⟩
  | 33 => ⟨S8x4, .f32⟩
  | 34 => ⟨S_, .f32⟩
  | 35 => ⟨S8x4, .f32⟩
  | 36 => ⟨S8x4, .f32⟩
  | 37 => ⟨S8x4, .f32⟩
  | 38 => ⟨S8x4, .f32⟩
  | 39 => ⟨S8x4, .f32⟩
  | 40 => ⟨S8x4x1, .f32⟩
  | 41 => ⟨S8x4x128, .f32⟩
  | 42 => ⟨S8x4x128, .f32⟩
  | 43 => ⟨S8x4x128, .f32⟩
  | 44 => ⟨S8x4x1x1, .f32⟩
  | 45 => ⟨S8x4x512x512, .f32⟩
  | 46 => ⟨S8x4x512x512, .f32⟩
  | 47 => ⟨S8x4x128x1, .f32⟩
  | 48 => ⟨S8x4x128x512, .f32⟩
  | 49 => ⟨S8x4x128x512, .f32⟩
  | 50 => ⟨S8x4x512x512, .f32⟩
  | 51 => ⟨S8x4x512x512, .f32⟩
  | 52 => ⟨S8x4x1, .f32⟩
  | 53 => ⟨S8x4x512, .f32⟩
  | 54 => ⟨S8x4x512, .f32⟩
  | 55 => ⟨S8x4x512, .f32⟩
  | 56 => ⟨S8x4x512, .f32⟩
  | 57 => ⟨S1x8x4x128x512, .f32⟩
  | 58 => ⟨S_, .i32⟩
  | 59 => ⟨S_, .i32⟩
  | 60 => ⟨S_, .i32⟩
  | 61 => ⟨S_, .i32⟩
  | 62 => ⟨S64x8x4x128x512, .f32⟩
  | 63 => ⟨S_, .i32⟩
  | 64 => ⟨S_, .i32⟩
  | 65 => ⟨S8x4x64x128x512, .f32⟩
  | 66 => ⟨S8x4x8192x512, .f32⟩
  | 67 => ⟨S4x4x8192x512, .f32⟩
  | 68 => ⟨S4x4x8192x512, .f32⟩
  | 69 => ⟨S4x4x8192x512, .f32⟩
  | 70 => ⟨S1x4x4x8192x512, .f32⟩
  | 71 => ⟨S1x4x4x8192x512, .f32⟩
  | 72 => ⟨S2x4x4x8192x512, .f32⟩
  | 73 => ⟨S2x4x8192x4x512, .f32⟩
  | 74 => ⟨S2x4x8192x2048, .f32⟩
  | 75 => ⟨S2x4x4x512x512, .f32⟩
  | 76 => ⟨S2x4x4x512x512, .f32⟩
  | 77 => ⟨S2x4x4x1x512, .f32⟩
  | 78 => ⟨S2x4x4x1x1, .f32⟩
  | 79 => ⟨S2x4x4x1x128, .f32⟩
  | _ => ⟨S4x8192x2048, .bf16⟩

abbrev hbmTy (i : Nat) : BufTy := match i / 128 with
  | 0 => hbmTy0_0 i
  | 1 => hbmTy0_1 i
  | _ => ⟨S4x8192x2048, .bf16⟩

abbrev bufTy : (tb : Table) → Fin (tcTables nBuf tb) → BufTy
  | .hbm, ⟨i, _⟩ => hbmTy i
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_call5_v0 : Ref sig .tc := ⟨.hbm, 44, rfl⟩
abbrev main_call5_c : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_call5_c_0 : Ref sig .tc := ⟨.hbm, 50, rfl⟩
abbrev main_call5_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst : Ref sig .tc := ⟨.hbm, 63, rfl⟩
abbrev main_v47 : Ref sig .tc := ⟨.hbm, 64, rfl⟩
abbrev main_c_0 : Ref sig .tc := ⟨.hbm, 65, rfl⟩
abbrev main_v48_0 : Ref sig .tc := ⟨.hbm, 66, rfl⟩
abbrev main_v48_1 : Ref sig .tc := ⟨.hbm, 67, rfl⟩
abbrev main_v48_2 : Ref sig .tc := ⟨.hbm, 68, rfl⟩
abbrev main_v48_3 : Ref sig .tc := ⟨.hbm, 69, rfl⟩
abbrev main_v48_4 : Ref sig .tc := ⟨.hbm, 70, rfl⟩
abbrev main_v48_5 : Ref sig .tc := ⟨.hbm, 71, rfl⟩
abbrev main_v48_6 : Ref sig .tc := ⟨.hbm, 72, rfl⟩
abbrev main_v48_7 : Ref sig .tc := ⟨.hbm, 73, rfl⟩
abbrev main_v48_8 : Ref sig .tc := ⟨.hbm, 74, rfl⟩
abbrev main_v48_9 : Ref sig .tc := ⟨.hbm, 75, rfl⟩
abbrev main_v48_10 : Ref sig .tc := ⟨.hbm, 76, rfl⟩
abbrev main_while0c_c_11 : Ref sig .tc := ⟨.hbm, 77, rfl⟩
abbrev main_while0c_v64 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_call6_c_2 : Ref sig .tc := ⟨.hbm, 82, rfl⟩
abbrev main_while0b_call6_v0 : Ref sig .tc := ⟨.hbm, 83, rfl⟩
abbrev main_while0b_v64 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_call7_c_2 : Ref sig .tc := ⟨.hbm, 88, rfl⟩
abbrev main_while0b_call7_v0 : Ref sig .tc := ⟨.hbm, 89, rfl⟩
abbrev main_while0b_v65 : Ref sig .tc := ⟨.hbm, 90, rfl⟩
abbrev main_while0b_call8_c : Ref sig .tc := ⟨.hbm, 91, rfl⟩
abbrev main_while0b_call8_c_0 : Ref sig .tc := ⟨.hbm, 92, rfl⟩
abbrev main_while0b_call8_c_1 : Ref sig .tc := ⟨.hbm, 93, rfl⟩
abbrev main_while0b_call8_c_2 : Ref sig .tc := ⟨.hbm, 94, rfl⟩
abbrev main_while0b_call8_v0 : Ref sig .tc := ⟨.hbm, 95, rfl⟩
abbrev main_while0b_v66 : Ref sig .tc := ⟨.hbm, 96, rfl⟩
abbrev main_while0b_call9_c : Ref sig .tc := ⟨.hbm, 97, rfl⟩
abbrev main_while0b_call9_c_0 : Ref sig .tc := ⟨.hbm, 98, rfl⟩
abbrev main_while0b_call9_c_1 : Ref sig .tc := ⟨.hbm, 99, rfl⟩
abbrev main_while0b_call9_v0 : Ref sig .tc := ⟨.hbm, 100, rfl⟩
abbrev main_while0b_v67 : Ref sig .tc := ⟨.hbm, 101, rfl⟩
abbrev main_while0b_call10_c : Ref sig .tc := ⟨.hbm, 102, rfl⟩
abbrev main_while0b_call10_c_0 : Ref sig .tc := ⟨.hbm, 103, rfl⟩
abbrev main_while0b_call10_c_1 : Ref sig .tc := ⟨.hbm, 104, rfl⟩
abbrev main_while0b_call10_v0 : Ref sig .tc := ⟨.hbm, 105, rfl⟩
abbrev main_while0b_v68 : Ref sig .tc := ⟨.hbm, 106, rfl⟩
abbrev main_while0b_call11_call0_cst : Ref sig .tc := ⟨.hbm, 107, rfl⟩
abbrev main_while0b_call11_call0_v0 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_cst_11 : Ref sig .tc := ⟨.hbm, 121, rfl⟩
abbrev main_while0b_call12_v0 : Ref sig .tc := ⟨.hbm, 122, rfl⟩
abbrev main_while0b_call12_v1 : Ref sig .tc := ⟨.hbm, 123, rfl⟩
abbrev main_while0b_call12_v2 : Ref sig .tc := ⟨.hbm, 124, rfl⟩
abbrev main_while0b_v81 : Ref sig .tc := ⟨.hbm, 125, rfl⟩
abbrev main_while0b_cst_12 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_cst_13 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_cst_14 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_call13_v0 : Ref sig .tc := ⟨.hbm, 185, rfl⟩
abbrev main_while0b_call13_c : Ref sig .tc := ⟨.hbm, 186, rfl⟩
abbrev main_while0b_call13_c_0 : Ref sig .tc := ⟨.hbm, 187, rfl⟩
abbrev main_while0b_call13_c_1 : Ref sig .tc := ⟨.hbm, 188, rfl⟩
abbrev main_while0b_call13_c_2 : Ref sig .tc := ⟨.hbm, 189, rfl⟩
abbrev main_while0b_v138 : Ref sig .tc := ⟨.hbm, 190, rfl⟩
abbrev main_while0b_c_15 : Ref sig .tc := ⟨.hbm, 191, rfl⟩
abbrev main_while0b_v139 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩

abbrev nD : Nat := 1
abbrev τ : Topo := Topo.v7x

variable {F : FTy → Type} [FloatOps F]

abbrev main_while0_count : Scf.Loop 32 := ⟨0#32, 64#32, 1#32⟩
-- ==== UpKernel.lean ====
abbrev S32768x1024 : Shape := ⟨2, ![32768, 1024]⟩
abbrev S1024 : Shape := ⟨1, ![1024]⟩
abbrev S4x1024 : Shape := ⟨2, ![4, 1024]⟩
abbrev S1024x5632 : Shape := ⟨2, ![1024, 5632]⟩
abbrev S_ : Shape := ⟨0, ![]⟩
abbrev S5632 : Shape := ⟨1, ![5632]⟩
abbrev S1x1024 : Shape := ⟨2, ![1, 1024]⟩
abbrev S4x1x1024 : Shape := ⟨3, ![4, 1, 1024]⟩
abbrev S1x5632 : Shape := ⟨2, ![1, 5632]⟩
abbrev S32768x5632 : Shape := ⟨2, ![32768, 5632]⟩
abbrev S1024x1024 : Shape := ⟨2, ![1024, 1024]⟩
abbrev S1x1x1024 : Shape := ⟨3, ![1, 1, 1024]⟩
abbrev S1024x512 : Shape := ⟨2, ![1024, 512]⟩
abbrev S1x512 : Shape := ⟨2, ![1, 512]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x5632, .f32⟩
  | .hbm, ⟨5, _⟩ => ⟨S_, .f32⟩
  | .hbm, ⟨6, _⟩ => ⟨S5632, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S1024x5632, .bf16⟩
  | .hbm, ⟨11, _⟩ => ⟨S1x5632, .f32⟩
  | .hbm, ⟨12, _⟩ => ⟨S32768x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpReferenceIdeal.lean ====
abbrev S32768x1024 : Shape := ⟨2, ![32768, 1024]⟩
abbrev S1024 : Shape := ⟨1, ![1024]⟩
abbrev S4x1024 : Shape := ⟨2, ![4, 1024]⟩
abbrev S1024x5632 : Shape := ⟨2, ![1024, 5632]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x5632 : Shape := ⟨3, ![4, 8192, 5632]⟩
abbrev S32768x5632 : Shape := ⟨2, ![32768, 5632]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x5632, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x5632, .f32⟩
  | .hbm, ⟨32, _⟩ => ⟨S32768x5632, .f32⟩
  | .hbm, ⟨33, _⟩ => ⟨S32768x5632, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== DownKernel.lean ====
abbrev S32768x2816 : Shape := ⟨2, ![32768, 2816]⟩
abbrev S2816x1024 : Shape := ⟨2, ![2816, 1024]⟩
abbrev S32768x1024 : Shape := ⟨2, ![32768, 1024]⟩
abbrev S4x1024 : Shape := ⟨2, ![4, 1024]⟩
abbrev S_ : Shape := ⟨0, ![]⟩
abbrev S1024 : Shape := ⟨1, ![1024]⟩
abbrev S1x1024 : Shape := ⟨2, ![1, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .f32⟩
  | .hbm, ⟨2, _⟩ => ⟨S32768x1024, .f32⟩
  | .hbm, ⟨3, _⟩ => ⟨S4x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S2816x1024, .bf16⟩
  | .hbm, ⟨9, _⟩ => ⟨S1x1024, .f32⟩
  | .hbm, ⟨10, _⟩ => ⟨S4x1x1024, .f32⟩
  | .hbm, ⟨11, _⟩ => ⟨S1x1024, .f32⟩
  | .hbm, ⟨12, _⟩ => ⟨S32768x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownReferenceIdeal.lean ====
abbrev S32768x2816 : Shape := ⟨2, ![32768, 2816]⟩
abbrev S2816x1024 : Shape := ⟨2, ![2816, 1024]⟩
abbrev S32768x1024 : Shape := ⟨2, ![32768, 1024]⟩
abbrev S4x1024 : Shape := ⟨2, ![4, 1024]⟩
abbrev S4x8192x1024 : Shape := ⟨3, ![4, 8192, 1024]⟩
abbrev S4x1x1024 : Shape := ⟨3, ![4, 1, 1024]⟩
abbrev S4x8192x2816 : Shape := ⟨3, ![4, 8192, 2816]⟩

abbrev nBuf : Space → Nat
  | .hbm => 13
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .f32⟩
  | .hbm, ⟨2, _⟩ => ⟨S32768x1024, .f32⟩
  | .hbm, ⟨3, _⟩ => ⟨S4x1024, .f32⟩
  | .hbm, ⟨4, _⟩ => ⟨S4x8192x1024, .f32⟩
  | .hbm, ⟨5, _⟩ => ⟨S4x1x1024, .f32⟩
  | .hbm, ⟨6, _⟩ => ⟨S4x8192x2816, .bf16⟩
  | .hbm, ⟨7, _⟩ => ⟨S4x8192x2816, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x1024, .f32⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== LastKernel.lean ====
abbrev S32768x2816 : Shape := ⟨2, ![32768, 2816]⟩
abbrev S2816x1024 : Shape := ⟨2, ![2816, 1024]⟩
abbrev S32768x1024 : Shape := ⟨2, ![32768, 1024]⟩
abbrev S4x1024 : Shape := ⟨2, ![4, 1024]⟩
abbrev S1024 : Shape := ⟨1, ![1024]⟩
abbrev S_ : Shape := ⟨0, ![]⟩
abbrev S1x1024 : Shape := ⟨2, ![1, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .f32⟩
  | .hbm, ⟨2, _⟩ => ⟨S32768x1024, .f32⟩
  | .hbm, ⟨3, _⟩ => ⟨S4x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S2816x1024, .bf16⟩
  | .hbm, ⟨8, _⟩ => ⟨S1x1024, .f32⟩
  | .hbm, ⟨9, _⟩ => ⟨S4x1x1024, .f32⟩
  | .hbm, ⟨10, _⟩ => ⟨S1x1024, .f32⟩
  | .hbm, ⟨11, _⟩ => ⟨S32768x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastReferenceIdeal.lean ====
abbrev S32768x2816 : Shape := ⟨2, ![32768, 2816]⟩
abbrev S2816x1024 : Shape := ⟨2, ![2816, 1024]⟩
abbrev S32768x1024 : Shape := ⟨2, ![32768, 1024]⟩
abbrev S4x1024 : Shape := ⟨2, ![4, 1024]⟩
abbrev S1024 : Shape := ⟨1, ![1024]⟩
abbrev S4x8192x1024 : Shape := ⟨3, ![4, 8192, 1024]⟩
abbrev S4x1x1024 : Shape := ⟨3, ![4, 1, 1024]⟩
abbrev S4x8192x2816 : Shape := ⟨3, ![4, 8192, 2816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .f32⟩
  | .hbm, ⟨2, _⟩ => ⟨S32768x1024, .f32⟩
  | .hbm, ⟨3, _⟩ => ⟨S4x1024, .f32⟩
  | .hbm, ⟨4, _⟩ => ⟨S1024, .f32⟩
  | .hbm, ⟨5, _⟩ => ⟨S4x8192x1024, .f32⟩
  | .hbm, ⟨6, _⟩ => ⟨S4x1x1024, .f32⟩
  | .hbm, ⟨7, _⟩ => ⟨S4x8192x2816, .bf16⟩
  | .hbm, ⟨8, _⟩ => ⟨S4x8192x2816, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S32768x1024, .f32⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== HyenaInKernel.lean ====
abbrev S32768x1024 : Shape := ⟨2, ![32768, 1024]⟩
abbrev S1024 : Shape := ⟨1, ![1024]⟩
abbrev S4x1024 : Shape := ⟨2, ![4, 1024]⟩
abbrev S1024x3072 : Shape := ⟨2, ![1024, 3072]⟩
abbrev S3072 : Shape := ⟨1, ![3072]⟩
abbrev S1x1024 : Shape := ⟨2, ![1, 1024]⟩
abbrev S4x1x1024 : Shape := ⟨3, ![4, 1, 1024]⟩
abbrev S1x3072 : Shape := ⟨2, ![1, 3072]⟩
abbrev S32768x3072 : Shape := ⟨2, ![32768, 3072]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S3072, .f32⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S1024x3072, .bf16⟩
  | .hbm, ⟨10, _⟩ => ⟨S1x3072, .f32⟩
  | .hbm, ⟨11, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HyenaInReferenceIdeal.lean ====
abbrev S32768x1024 : Shape := ⟨2, ![32768, 1024]⟩
abbrev S1024 : Shape := ⟨1, ![1024]⟩
abbrev S4x1024 : Shape := ⟨2, ![4, 1024]⟩
abbrev S1024x3072 : Shape := ⟨2, ![1024, 3072]⟩
abbrev S3072 : Shape := ⟨1, ![3072]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3072 : Shape := ⟨3, ![4, 8192, 3072]⟩
abbrev S1x1x3072 : Shape := ⟨3, ![1, 1, 3072]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S3072, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x1x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x3072, .f32⟩
  | .hbm, ⟨33, _⟩ => ⟨S1x1x3072, .f32⟩
  | .hbm, ⟨34, _⟩ => ⟨S4x8192x3072, .f32⟩
  | .hbm, ⟨35, _⟩ => ⟨S4x8192x3072, .f32⟩
  | .hbm, ⟨36, _⟩ => ⟨S32768x3072, .f32⟩
  | .hbm, ⟨37, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== MlstmInKernel.lean ====
abbrev S32768x1024 : Shape := ⟨2, ![32768, 1024]⟩
abbrev S1024 : Shape := ⟨1, ![1024]⟩
abbrev S4x1024 : Shape := ⟨2, ![4, 1024]⟩
abbrev S1024x4096 : Shape := ⟨2, ![1024, 4096]⟩
abbrev S_ : Shape := ⟨0, ![]⟩
abbrev S4096 : Shape := ⟨1, ![4096]⟩
abbrev S1x1024 : Shape := ⟨2, ![1, 1024]⟩
abbrev S4x1x1024 : Shape := ⟨3, ![4, 1, 1024]⟩
abbrev S1x4096 : Shape := ⟨2, ![1, 4096]⟩
abbrev S32768x4096 : Shape := ⟨2, ![32768, 4096]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S_, .f32⟩
  | .hbm, ⟨6, _⟩ => ⟨S4096, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S1024x4096, .bf16⟩
  | .hbm, ⟨11, _⟩ => ⟨S1x4096, .f32⟩
  | .hbm, ⟨12, _⟩ => ⟨S32768x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlstmInReferenceIdeal.lean ====
abbrev S32768x1024 : Shape := ⟨2, ![32768, 1024]⟩
abbrev S1024 : Shape := ⟨1, ![1024]⟩
abbrev S4x1024 : Shape := ⟨2, ![4, 1024]⟩
abbrev S1024x4096 : Shape := ⟨2, ![1024, 4096]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩
abbrev S32768x4096 : Shape := ⟨2, ![32768, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x4096, .f32⟩
  | .hbm, ⟨32, _⟩ => ⟨S32768x4096, .f32⟩
  | .hbm, ⟨33, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== HyenaOutKernel.lean ====
abbrev S32768x1024 : Shape := ⟨2, ![32768, 1024]⟩
abbrev S1024x1024 : Shape := ⟨2, ![1024, 1024]⟩
abbrev S1024 : Shape := ⟨1, ![1024]⟩
abbrev S4x1024 : Shape := ⟨2, ![4, 1024]⟩
abbrev S_ : Shape := ⟨0, ![]⟩
abbrev S1x1024 : Shape := ⟨2, ![1, 1024]⟩
abbrev S4x1x1024 : Shape := ⟨3, ![4, 1, 1024]⟩
abbrev S512x1024 : Shape := ⟨2, ![512, 1024]⟩
abbrev S1x1x1024 : Shape := ⟨3, ![1, 1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S4x1024, .f32⟩
  | .hbm, ⟨5, _⟩ => ⟨S_, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S4x1x1024, .f32⟩
  | .hbm, ⟨10, _⟩ => ⟨S1x1024, .f32⟩
  | .hbm, ⟨11, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HyenaOutReferenceIdeal.lean ====
abbrev S32768x1024 : Shape := ⟨2, ![32768, 1024]⟩
abbrev S1024x1024 : Shape := ⟨2, ![1024, 1024]⟩
abbrev S1024 : Shape := ⟨1, ![1024]⟩
abbrev S4x1024 : Shape := ⟨2, ![4, 1024]⟩
abbrev S4x8192x1024 : Shape := ⟨3, ![4, 8192, 1024]⟩
abbrev S4x1x1024 : Shape := ⟨3, ![4, 1, 1024]⟩
abbrev S1x1x1024 : Shape := ⟨3, ![1, 1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S4x1024, .f32⟩
  | .hbm, ⟨5, _⟩ => ⟨S4x8192x1024, .f32⟩
  | .hbm, ⟨6, _⟩ => ⟨S4x1x1024, .f32⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S1x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MlstmOutKernel.lean ====
abbrev S2x4x8192x2048 : Shape := ⟨4, ![2, 4, 8192, 2048]⟩
abbrev S4x8192x2048 : Shape := ⟨3, ![4, 8192, 2048]⟩
abbrev S4x8192x4096 : Shape := ⟨3, ![4, 8192, 4096]⟩
abbrev S2048 : Shape := ⟨1, ![2048]⟩
abbrev S2048x1024 : Shape := ⟨2, ![2048, 1024]⟩
abbrev S32768x1024 : Shape := ⟨2, ![32768, 1024]⟩
abbrev S4x1024 : Shape := ⟨2, ![4, 1024]⟩
abbrev S2x32768x2048 : Shape := ⟨3, ![2, 32768, 2048]⟩
abbrev S32768x2048 : Shape := ⟨2, ![32768, 2048]⟩
abbrev S32768x4096 : Shape := ⟨2, ![32768, 4096]⟩
abbrev S1x2048 : Shape := ⟨2, ![1, 2048]⟩
abbrev S4x1x1024 : Shape := ⟨3, ![4, 1, 1024]⟩
abbrev S1x256x2048 : Shape := ⟨3, ![1, 256, 2048]⟩
abbrev S256x2048 : Shape := ⟨2, ![256, 2048]⟩
abbrev S256x1024 : Shape := ⟨2, ![256, 1024]⟩
abbrev S1x1x1024 : Shape := ⟨3, ![1, 1, 1024]⟩
abbrev S256x512 : Shape := ⟨2, ![256, 512]⟩
abbrev S256 : Shape := ⟨1, ![256]⟩
abbrev S256x1 : Shape := ⟨2, ![256, 1]⟩
abbrev S1x1024 : Shape := ⟨2, ![1, 1024]⟩

abbrev nBuf : Space → Nat
  | .hbm => 16
  | .vmem => 17
  | .smem => 0
  | _ => 0

abbrev bufTy : (tb : Table) → Fin (tcTables nBuf tb) → BufTy
  | .hbm, ⟨0, _⟩ => ⟨S2x4x8192x2048, .f32⟩
  | .hbm, ⟨1, _⟩ => ⟨S4x8192x2048, .bf16⟩
  | .hbm, ⟨2, _⟩ => ⟨S4x8192x4096, .bf16⟩
  | .hbm, ⟨3, _⟩ => ⟨S2048, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S4x1024, .f32⟩
  | .hbm, ⟨8, _⟩ => ⟨S2x32768x2048, .f32⟩
  | .hbm, ⟨9, _⟩ => ⟨S32768x2048, .bf16⟩
  | .hbm, ⟨10, _⟩ => ⟨S32768x4096, .bf16⟩
  | .hbm, ⟨11, _⟩ => ⟨S1x2048, .f32⟩
  | .hbm, ⟨12, _⟩ => ⟨S1x2048, .f32⟩
  | .hbm, ⟨13, _⟩ => ⟨S2048x1024, .bf16⟩
  | .hbm, ⟨14, _⟩ => ⟨S4x1x1024, .f32⟩
  | .hbm, ⟨15, _⟩ => ⟨S32768x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S256x1024, .f32⟩
  | .local _ .vmem, ⟨12, _⟩ => ⟨S256x1024, .f32⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | .local _ .vmem, ⟨16, _⟩ => ⟨S256x1024, .f32⟩
  | _, _ => ⟨S2x4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlstmOutReferenceIdeal.lean ====
abbrev S2x4x8192x2048 : Shape := ⟨4, ![2, 4, 8192, 2048]⟩
abbrev S4x8192x2048 : Shape := ⟨3, ![4, 8192, 2048]⟩
abbrev S4x8192x4096 : Shape := ⟨3, ![4, 8192, 4096]⟩
abbrev S2048 : Shape := ⟨1, ![2048]⟩
abbrev S2048x1024 : Shape := ⟨2, ![2048, 1024]⟩
abbrev S32768x1024 : Shape := ⟨2, ![32768, 1024]⟩
abbrev S4x1024 : Shape := ⟨2, ![4, 1024]⟩
abbrev S1x4x8192x2048 : Shape := ⟨4, ![1, 4, 8192, 2048]⟩
abbrev S4x8192x4x512 : Shape := ⟨4, ![4, 8192, 4, 512]⟩
abbrev S4x4x8192x512 : Shape := ⟨4, ![4, 4, 8192, 512]⟩
abbrev S_ : Shape := ⟨0, ![]⟩
abbrev S4x4x8192 : Shape := ⟨3, ![4, 4, 8192]⟩
abbrev S4x4x8192x1 : Shape := ⟨4, ![4, 4, 8192, 1]⟩
abbrev S1x1x2048 : Shape := ⟨3, ![1, 1, 2048]⟩
abbrev S4x8192x1024 : Shape := ⟨3, ![4, 8192, 1024]⟩
abbrev S4x1x1024 : Shape := ⟨3, ![4, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x4x8192x2048, .f32⟩
  | .hbm, ⟨1, _⟩ => ⟨S4x8192x2048, .bf16⟩
  | .hbm, ⟨2, _⟩ => ⟨S4x8192x4096, .bf16⟩
  | .hbm, ⟨3, _⟩ => ⟨S2048, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S4x1024, .f32⟩
  | .hbm, ⟨8, _⟩ => ⟨S1x4x8192x2048, .f32⟩
  | .hbm, ⟨9, _⟩ => ⟨S4x8192x2048, .f32⟩
  | .hbm, ⟨10, _⟩ => ⟨S1x4x8192x2048, .f32⟩
  | .hbm, ⟨11, _⟩ => ⟨S4x8192x2048, .f32⟩
  | .hbm, ⟨12, _⟩ => ⟨S4x8192x2048, .f32⟩
  | .hbm, ⟨13, _⟩ => ⟨S4x8192x4x512, .f32⟩
  | .hbm, ⟨14, _⟩ => ⟨S4x4x8192x512, .f32⟩
  | .hbm, ⟨15, _⟩ => ⟨S4x8192x2048, .f32⟩
  | .hbm, ⟨16, _⟩ => ⟨S4x8192x2048, .bf16⟩
  | .hbm, ⟨17, _⟩ => ⟨S4x8192x2048, .f32⟩
  | .hbm, ⟨18, _⟩ => ⟨S_, .f32⟩
  | .hbm, ⟨19, _⟩ => ⟨S4x4x8192, .f32⟩
  | .hbm, ⟨20, _⟩ => ⟨S4x4x8192x1, .f32⟩
  | .hbm, ⟨21, _⟩ => ⟨S_, .f32⟩
  | .hbm, ⟨22, _⟩ => ⟨S4x4x8192x1, .f32⟩
  | .hbm, ⟨23, _⟩ => ⟨S4x4x8192x1, .f32⟩
  | .hbm, ⟨24, _⟩ => ⟨S4x4x8192x512, .f32⟩
  | .hbm, ⟨25, _⟩ => ⟨S4x4x8192x512, .f32⟩
  | .hbm, ⟨26, _⟩ => ⟨S4x4x8192x512, .f32⟩
  | .hbm, ⟨27, _⟩ => ⟨S_, .f32⟩
  | .hbm, ⟨28, _⟩ => ⟨S4x4x8192, .f32⟩
  | .hbm, ⟨29, _⟩ => ⟨S4x4x8192x1, .f32⟩
  | .hbm, ⟨30, _⟩ => ⟨S_, .f32⟩
  | .hbm, ⟨31, _⟩ => ⟨S4x4x8192x1, .f32⟩
  | .hbm, ⟨32, _⟩ => ⟨S4x4x8192x1, .f32⟩
  | .hbm, ⟨33, _⟩ => ⟨S4x4x8192x512, .f32⟩
  | .hbm, ⟨34, _⟩ => ⟨S4x4x8192x512, .f32⟩
  | .hbm, ⟨35, _⟩ => ⟨S_, .f32⟩
  | .hbm, ⟨36, _⟩ => ⟨S4x4x8192x1, .f32⟩
  | .hbm, ⟨37, _⟩ => ⟨S4x4x8192x1, .f32⟩
  | .hbm, ⟨38, _⟩ => ⟨S4x4x8192x1, .f32⟩
  | .hbm, ⟨39, _⟩ => ⟨S4x4x8192x512, .f32⟩
  | .hbm, ⟨40, _⟩ => ⟨S4x4x8192x512, .f32⟩
  | .hbm, ⟨41, _⟩ => ⟨S4x8192x4x512, .f32⟩
  | .hbm, ⟨42, _⟩ => ⟨S4x8192x2048, .f32⟩
  | .hbm, ⟨43, _⟩ => ⟨S1x1x2048, .f32⟩
  | .hbm, ⟨44, _⟩ => ⟨S4x8192x2048, .f32⟩
  | .hbm, ⟨45, _⟩ => ⟨S4x8192x2048, .f32⟩
  | .hbm, ⟨46, _⟩ => ⟨S1x1x2048, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S4x8192x2048, .f32⟩
  | .hbm, ⟨51, _⟩ => ⟨S4x8192x2048, .f32⟩
  | .hbm, ⟨52, _⟩ => ⟨S_, .f32⟩
  | .hbm, ⟨53, _⟩ => ⟨S4x8192x2048, .f32⟩
  | .hbm, ⟨54, _⟩ => ⟨S4x8192x2048, .f32⟩
  | .hbm, ⟨55, _⟩ => ⟨S_, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S4x8192x2048, .f32⟩
  | .hbm, ⟨60, _⟩ => ⟨S4x8192x1024, .f32⟩
  | .hbm, ⟨61, _⟩ => ⟨S4x8192x1024, .f32⟩
  | .hbm, ⟨62, _⟩ => ⟨S4x1x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S32768x1024, .f32⟩
  | _, _ => ⟨S2x4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== ConvKernel.lean ====
abbrev S4x8192x5632 : Shape := ⟨3, ![4, 8192, 5632]⟩
abbrev S3x3x2816 : Shape := ⟨3, ![3, 3, 2816]⟩
abbrev S2816 : Shape := ⟨1, ![2816]⟩
abbrev S9x2816 : Shape := ⟨2, ![9, 2816]⟩
abbrev S1x2816 : Shape := ⟨2, ![1, 2816]⟩
abbrev S4x8192x2816 : Shape := ⟨3, ![4, 8192, 2816]⟩
abbrev S1x512x256 : Shape := ⟨3, ![1, 512, 256]⟩
abbrev S1x64x256 : Shape := ⟨3, ![1, 64, 256]⟩
abbrev S9x256 : Shape := ⟨2, ![9, 256]⟩
abbrev S1x256 : Shape := ⟨2, ![1, 256]⟩
abbrev S512x256 : Shape := ⟨2, ![512, 256]⟩
abbrev S64x256 : Shape := ⟨2, ![64, 256]⟩
abbrev S640x256 : Shape := ⟨2, ![640, 256]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S4x8192x5632, .bf16⟩
  | .hbm, ⟨1, _⟩ => ⟨S3x3x2816, .f32⟩
  | .hbm, ⟨2, _⟩ => ⟨S2816, .f32⟩
  | .hbm, ⟨3, _⟩ => ⟨S9x2816, .f32⟩
  | .hbm, ⟨4, _⟩ => ⟨S1x2816, .f32⟩
  | .hbm, ⟨5, _⟩ => ⟨S4x8192x2816, .bf16⟩
  | .local _ .vmem, ⟨0, _⟩ => ⟨S1x512x256, .bf16⟩
  | .local _ .vmem, ⟨1, _⟩ => ⟨S1x512x256, .bf16⟩
  | .local _ .vmem, ⟨2, _⟩ => ⟨S1x64x256, .bf16⟩
  | .local _ .vmem, ⟨3, _⟩ => ⟨S1x64x256, .bf16⟩
  | .local _ .vmem, ⟨4, _⟩ => ⟨S1x64x256, .bf16⟩
  | .local _ .vmem, ⟨5, _⟩ => ⟨S1x64x256, .bf16⟩
  | .local _ .vmem, ⟨6, _⟩ => ⟨S1x512x256, .bf16⟩
  | .local _ .vmem, ⟨7, _⟩ => ⟨S1x512x256, .bf16⟩
  | .local _ .vmem, ⟨8, _⟩ => ⟨S9x256, .f32⟩
  | .local _ .vmem, ⟨9, _⟩ => ⟨S9x256, .f32⟩
  | .local _ .vmem, ⟨10, _⟩ => ⟨S1x256, .f32⟩
  | .local _ .vmem, ⟨11, _⟩ => ⟨S1x256, .f32⟩
  | .local _ .vmem, ⟨12, _⟩ => ⟨S1x512x256, .bf16⟩
  | .local _ .vmem, ⟨13, _⟩ => ⟨S1x512x256, .bf16⟩
  | _, _ => ⟨S4x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c11_i32 : BitVec 32 := 11#32
  let v3 : BitVec 32 := Scalar.addi c11_i32 arg2
  let c0_i32 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ConvReferenceIdeal.lean ====
abbrev S4x8192x5632 : Shape := ⟨3, ![4, 8192, 5632]⟩
abbrev S3x3x2816 : Shape := ⟨3, ![3, 3, 2816]⟩
abbrev S2816 : Shape := ⟨1, ![2816]⟩
abbrev S4x8192x2816 : Shape := ⟨3, ![4, 8192, 2816]⟩
abbrev S4x128x64x2816 : Shape := ⟨4, ![4, 128, 64, 2816]⟩
abbrev S_ : Shape := ⟨0, ![]⟩
abbrev S4x130x66x2816 : Shape := ⟨4, ![4, 130, 66, 2816]⟩
abbrev S1x1x2816 : Shape := ⟨3, ![1, 1, 2816]⟩
abbrev S1x1x1x2816 : Shape := ⟨4, ![1, 1, 1, 2816]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x5632, .bf16⟩
  | .hbm, ⟨1, _⟩ => ⟨S3x3x2816, .f32⟩
  | .hbm, ⟨2, _⟩ => ⟨S2816, .f32⟩
  | .hbm, ⟨3, _⟩ => ⟨S4x8192x5632, .f32⟩
  | .hbm, ⟨4, _⟩ => ⟨S4x8192x2816, .f32⟩
  | .hbm, ⟨5, _⟩ => ⟨S4x8192x2816, .f32⟩
  | .hbm, ⟨6, _⟩ => ⟨S4x128x64x2816, .f32⟩
  | .hbm, ⟨7, _⟩ => ⟨S_, .i32⟩
  | .hbm, ⟨8, _⟩ => ⟨S_, .f32⟩
  | .hbm, ⟨9, _⟩ => ⟨S4x130x66x2816, .f32⟩
  | .hbm, ⟨10, _⟩ => ⟨S1x1x2816, .f32⟩
  | .hbm, ⟨11, _⟩ => ⟨S2816, .f32⟩
  | .hbm, ⟨12, _⟩ => ⟨S4x128x64x2816, .f32⟩
  | .hbm, ⟨13, _⟩ => ⟨S1x1x1x2816, .f32⟩
  | .hbm, ⟨14, _⟩ => ⟨S4x128x64x2816, .f32⟩
  | .hbm, ⟨15, _⟩ => ⟨S4x128x64x2816, .f32⟩
  | .hbm, ⟨16, _⟩ => ⟨S_, .f32⟩
  | .hbm, ⟨17, _⟩ => ⟨S4x128x64x2816, .f32⟩
  | .hbm, ⟨18, _⟩ => ⟨S4x128x64x2816, .f32⟩
  | .hbm, ⟨19, _⟩ => ⟨S1x1x2816, .f32⟩
  | .hbm, ⟨20, _⟩ => ⟨S2816, .f32⟩
  | .hbm, ⟨21, _⟩ => ⟨S4x128x64x2816, .f32⟩
  | .hbm, ⟨22, _⟩ => ⟨S1x1x1x2816, .f32⟩
  | .hbm, ⟨23, _⟩ => ⟨S4x128x64x2816, .f32⟩
  | .hbm, ⟨24, _⟩ => ⟨S4x128x64x2816, .f32⟩
  | .hbm, ⟨25, _⟩ => ⟨S4x128x64x2816, .f32⟩
  | .hbm, ⟨26, _⟩ => ⟨S1x1x2816, .f32⟩
  | .hbm, ⟨27, _⟩ => ⟨S2816, .f32⟩
  | .hbm, ⟨28, _⟩ => ⟨S4x128x64x2816, .f32⟩
  | .hbm, ⟨29, _⟩ => ⟨S1x1x1x2816, .f32⟩
  | .hbm, ⟨30, _⟩ => ⟨S4x128x64x2816, .f32⟩
  | .hbm, ⟨31, _⟩ => ⟨S4x128x64x2816, .f32⟩
  | .hbm, ⟨32, _⟩ => ⟨S4x128x64x2816, .f32⟩
  | .hbm, ⟨33, _⟩ => ⟨S1x1x2816, .f32⟩
  | .hbm, ⟨34, _⟩ => ⟨S2816, .f32⟩
  | .hbm, ⟨35, _⟩ => ⟨S4x128x64x2816, .f32⟩
  | .hbm, ⟨36, _⟩ => ⟨S1x1x1x2816, .f32⟩
  | .hbm, ⟨37, _⟩ => ⟨S4x128x64x2816, .f32⟩
  | .hbm, ⟨38, _⟩ => ⟨S4x128x64x2816, .f32⟩
  | .hbm, ⟨39, _⟩ => ⟨S4x128x64x2816, .f32⟩
  | .hbm, ⟨40, _⟩ => ⟨S1x1x2816, .f32⟩
  | .hbm, ⟨41, _⟩ => ⟨S2816, .f32⟩
  | .hbm, ⟨42, _⟩ => ⟨S4x128x64x2816, .f32⟩
  | .hbm, ⟨43, _⟩ => ⟨S1x1x1x2816, .f32⟩
  | .hbm, ⟨44, _⟩ => ⟨S4x128x64x2816, .f32⟩
  | .hbm, ⟨45, _⟩ => ⟨S4x128x64x2816, .f32⟩
  | .hbm, ⟨46, _⟩ => ⟨S4x128x64x2816, .f32⟩
  | .hbm, ⟨47, _⟩ => ⟨S1x1x2816, .f32⟩
  | .hbm, ⟨48, _⟩ => ⟨S2816, .f32⟩
  | .hbm, ⟨49, _⟩ => ⟨S4x128x64x2816, .f32⟩
  | .hbm, ⟨50, _⟩ => ⟨S1x1x1x2816, .f32⟩
  | .hbm, ⟨51, _⟩ => ⟨S4x128x64x2816, .f32⟩
  | .hbm, ⟨52, _⟩ => ⟨S4x128x64x2816, .f32⟩
  | .hbm, ⟨53, _⟩ => ⟨S4x128x64x2816, .f32⟩
  | .hbm, ⟨54, _⟩ => ⟨S1x1x2816, .f32⟩
  | .hbm, ⟨55, _⟩ => ⟨S2816, .f32⟩
  | .hbm, ⟨56, _⟩ => ⟨S4x128x64x2816, .f32⟩
  | .hbm, ⟨57, _⟩ => ⟨S1x1x1x2816, .f32⟩
  | .hbm, ⟨58, _⟩ => ⟨S4x128x64x2816, .f32⟩
  | .hbm, ⟨59, _⟩ => ⟨S4x128x64x2816, .f32⟩
  | .hbm, ⟨60, _⟩ => ⟨S4x128x64x2816, .f32⟩
  | .hbm, ⟨61, _⟩ => ⟨S1x1x2816, .f32⟩
  | .hbm, ⟨62, _⟩ => ⟨S2816, .f32⟩
  | .hbm, ⟨63, _⟩ => ⟨S4x128x64x2816, .f32⟩
  | .hbm, ⟨64, _⟩ => ⟨S1x1x1x2816, .f32⟩
  | .hbm, ⟨65, _⟩ => ⟨S4x128x64x2816, .f32⟩
  | .hbm, ⟨66, _⟩ => ⟨S4x128x64x2816, .f32⟩
  | .hbm, ⟨67, _⟩ => ⟨S4x128x64x2816, .f32⟩
  | .hbm, ⟨68, _⟩ => ⟨S1x1x2816, .f32⟩
  | .hbm, ⟨69, _⟩ => ⟨S2816, .f32⟩
  | .hbm, ⟨70, _⟩ => ⟨S4x128x64x2816, .f32⟩
  | .hbm, ⟨71, _⟩ => ⟨S1x1x1x2816, .f32⟩
  | .hbm, ⟨72, _⟩ => ⟨S4x128x64x2816, .f32⟩
  | .hbm, ⟨73, _⟩ => ⟨S4x128x64x2816, .f32⟩
  | .hbm, ⟨74, _⟩ => ⟨S4x128x64x2816, .f32⟩
  | .hbm, ⟨75, _⟩ => ⟨S4x8192x2816, .f32⟩
  | .hbm, ⟨76, _⟩ => ⟨S1x1x2816, .f32⟩
  | .hbm, ⟨77, _⟩ => ⟨S4x8192x2816, .f32⟩
  | .hbm, ⟨78, _⟩ => ⟨S4x8192x2816, .f32⟩
  | .hbm, ⟨79, _⟩ => ⟨S4x8192x2816, .f32⟩
  | .hbm, ⟨80, _⟩ => ⟨S4x8192x2816, .f32⟩
  | .hbm, ⟨81, _⟩ => ⟨S_, .f32⟩
  | .hbm, ⟨82, _⟩ => ⟨S4x8192x2816, .f32⟩
  | .hbm, ⟨83, _⟩ => ⟨S4x8192x2816, .f32⟩
  | .hbm, ⟨84, _⟩ => ⟨S_, .f32⟩
  | .hbm, ⟨85, _⟩ => ⟨S4x8192x2816, .f32⟩
  | .hbm, ⟨86, _⟩ => ⟨S4x8192x2816, .f32⟩
  | .hbm, ⟨87, _⟩ => ⟨S4x8192x2816, .f32⟩
  | .hbm, ⟨88, _⟩ => ⟨S4x8192x2816, .f32⟩
  | .hbm, ⟨89, _⟩ => ⟨S4x8192x2816, .bf16⟩
  | _, _ => ⟨S4x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== HyenaConvKernel.lean ====
abbrev S4x8192x3072 : Shape := ⟨3, ![4, 8192, 3072]⟩
abbrev S3x3072 : Shape := ⟨2, ![3, 3072]⟩
abbrev S3072 : Shape := ⟨1, ![3072]⟩
abbrev S1x3072 : Shape := ⟨2, ![1, 3072]⟩
abbrev S4x8192x1024 : Shape := ⟨3, ![4, 8192, 1024]⟩
abbrev S1x512x512 : Shape := ⟨3, ![1, 512, 512]⟩
abbrev S1x16x512 : Shape := ⟨3, ![1, 16, 512]⟩
abbrev S3x512 : Shape := ⟨2, ![3, 512]⟩
abbrev S1x512 : Shape := ⟨2, ![1, 512]⟩
abbrev S1x1x512 : Shape := ⟨3, ![1, 1, 512]⟩
abbrev S512x512 : Shape := ⟨2, ![512, 512]⟩
abbrev S512x1 : Shape := ⟨2, ![512, 1]⟩

abbrev nBuf : Space → Nat
  | .hbm => 6
  | .vmem => 34
  | .smem => 0
  | _ => 0

abbrev bufTy : (tb : Table) → Fin (tcTables nBuf tb) → BufTy
  | .hbm, ⟨0, _⟩ => ⟨S4x8192x3072, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x8192x1024, .bf16⟩
  | .hbm, ⟨5, _⟩ => ⟨S4x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg2
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let v3 : BitVec 32 := Scalar.addi c0_i32 arg2
  let c0_i32_0 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let v3 : BitVec 32 := Scalar.addi c2_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.addi c4_i32 arg2
  let c0_i32 : BitVec 32 := 0#32
  ![arg0.toNat, v2.toNat, v3.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== HyenaConvReferenceIdeal.lean ====
abbrev S4x8192x3072 : Shape := ⟨3, ![4, 8192, 3072]⟩
abbrev S3x3072 : Shape := ⟨2, ![3, 3072]⟩
abbrev S3072 : Shape := ⟨1, ![3072]⟩
abbrev S_ : Shape := ⟨0, ![]⟩
abbrev S4x8194x3072 : Shape := ⟨3, ![4, 8194, 3072]⟩
abbrev S1x3072 : Shape := ⟨2, ![1, 3072]⟩
abbrev S1x1x3072 : Shape := ⟨3, ![1, 1, 3072]⟩
abbrev S4x8192x1024 : Shape := ⟨3, ![4, 8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S3x3072, .f32⟩
  | .hbm, ⟨2, _⟩ => ⟨S3072, .f32⟩
  | .hbm, ⟨3, _⟩ => ⟨S4x8192x3072, .f32⟩
  | .hbm, ⟨4, _⟩ => ⟨S_, .i32⟩
  | .hbm, ⟨5, _⟩ => ⟨S_, .f32⟩
  | .hbm, ⟨6, _⟩ => ⟨S4x8194x3072, .f32⟩
  | .hbm, ⟨7, _⟩ => ⟨S1x3072, .f32⟩
  | .hbm, ⟨8, _⟩ => ⟨S3072, .f32⟩
  | .hbm, ⟨9, _⟩ => ⟨S4x8192x3072, .f32⟩
  | .hbm, ⟨10, _⟩ => ⟨S1x1x3072, .f32⟩
  | .hbm, ⟨11, _⟩ => ⟨S4x8192x3072, .f32⟩
  | .hbm, ⟨12, _⟩ => ⟨S4x8192x3072, .f32⟩
  | .hbm, ⟨13, _⟩ => ⟨S1x3072, .f32⟩
  | .hbm, ⟨14, _⟩ => ⟨S3072, .f32⟩
  | .hbm, ⟨15, _⟩ => ⟨S4x8192x3072, .f32⟩
  | .hbm, ⟨16, _⟩ => ⟨S1x1x3072, .f32⟩
  | .hbm, ⟨17, _⟩ => ⟨S4x8192x3072, .f32⟩
  | .hbm, ⟨18, _⟩ => ⟨S4x8192x3072, .f32⟩
  | .hbm, ⟨19, _⟩ => ⟨S4x8192x3072, .f32⟩
  | .hbm, ⟨20, _⟩ => ⟨S1x3072, .f32⟩
  | .hbm, ⟨21, _⟩ => ⟨S3072, .f32⟩
  | .hbm, ⟨22, _⟩ => ⟨S4x8192x3072, .f32⟩
  | .hbm, ⟨23, _⟩ => ⟨S1x1x3072, .f32⟩
  | .hbm, ⟨24, _⟩ => ⟨S4x8192x3072, .f32⟩
  | .hbm, ⟨25, _⟩ => ⟨S4x8192x3072, .f32⟩
  | .hbm, ⟨26, _⟩ => ⟨S4x8192x3072, .f32⟩
  | .hbm, ⟨27, _⟩ => ⟨S1x1x3072, .f32⟩
  | .hbm, ⟨28, _⟩ => ⟨S4x8192x3072, .f32⟩
  | .hbm, ⟨29, _⟩ => ⟨S4x8192x3072, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .bf16⟩
  | .hbm, ⟨34, _⟩ => ⟨S4x8192x1024, .f32⟩
  | .hbm, ⟨35, _⟩ => ⟨S4x8192x1024, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== PrepKernel.lean ====
abbrev S4x8192x4096 : Shape := ⟨3, ![4, 8192, 4096]⟩
abbrev S3x2048 : Shape := ⟨2, ![3, 2048]⟩
abbrev S2048 : Shape := ⟨1, ![2048]⟩
abbrev S512x4x4 : Shape := ⟨3, ![512, 4, 4]⟩
abbrev S6144x16 : Shape := ⟨2, ![6144, 16]⟩
abbrev S16 : Shape := ⟨1, ![16]⟩
abbrev S1x2048 : Shape := ⟨2, ![1, 2048]⟩
abbrev S8x64x4x4 : Shape := ⟨4, ![8, 64, 4, 4]⟩
abbrev S64x64 : Shape := ⟨2, ![64, 64]⟩
abbrev S_ : Shape := ⟨0, ![]⟩
abbrev S8x64x4x1x4 : Shape := ⟨5, ![8, 64, 4, 1, 4]⟩
abbrev S64x1x64x1 : Shape := ⟨4, ![64, 1, 64, 1]⟩
abbrev S1x64x1x64x1 : Shape := ⟨5, ![1, 64, 1, 64, 1]⟩
abbrev S8x64x4x64x4 : Shape := ⟨5, ![8, 64, 4, 64, 4]⟩
abbrev S8x256x256 : Shape := ⟨3, ![8, 256, 256]⟩
abbrev S2048x16 : Shape := ⟨2, ![2048, 16]⟩
abbrev S1x16 : Shape := ⟨2, ![1, 16]⟩
abbrev S4x8192x2048 : Shape := ⟨3, ![4, 8192, 2048]⟩
abbrev S4x8192x16 : Shape := ⟨3, ![4, 8192, 16]⟩
abbrev S1x256x2048 : Shape := ⟨3, ![1, 256, 2048]⟩
abbrev S1x16x2048 : Shape := ⟨3, ![1, 16, 2048]⟩
abbrev S1x256x16 : Shape := ⟨3, ![1, 256, 16]⟩
abbrev S1x1x2048 : Shape := ⟨3, ![1, 1, 2048]⟩
abbrev S256x2048 : Shape := ⟨2, ![256, 2048]⟩
abbrev S256x1 : Shape := ⟨2, ![256, 1]⟩
abbrev S256x256 : Shape := ⟨2, ![256, 256]⟩
abbrev S1x256x256 : Shape := ⟨3, ![1, 256, 256]⟩
abbrev S256x16 : Shape := ⟨2, ![256, 16]⟩

abbrev nBuf : Space → Nat
  | .hbm => 67
  | .vmem => 25
  | .smem => 0
  | _ => 0

abbrev bufTy : (tb : Table) → Fin (tcTables nBuf tb) → BufTy
  | .hbm, ⟨0, _⟩ => ⟨S4x8192x4096, .bf16⟩
  | .hbm, ⟨1, _⟩ => ⟨S3x2048, .f32⟩
  | .hbm, ⟨2, _⟩ => ⟨S2048, .f32⟩
  | .hbm, ⟨3, _⟩ => ⟨S512x4x4, .f32⟩
  | .hbm, ⟨4, _⟩ => ⟨S512x4x4, .f32⟩
  | .hbm, ⟨5, _⟩ => ⟨S512x4x4, .f32⟩
  | .hbm, ⟨6, _⟩ => ⟨S6144x16, .f32⟩
  | .hbm, ⟨7, _⟩ => ⟨S16, .f32⟩
  | .hbm, ⟨8, _⟩ => ⟨S6144x16, .bf16⟩
  | .hbm, ⟨9, _⟩ => ⟨S1x2048, .f32⟩
  | .hbm, ⟨10, _⟩ => ⟨S8x64x4x4, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S8x64x4x1x4, .f32⟩
  | .hbm, ⟨19, _⟩ => ⟨S64x1x64x1, .f32⟩
  | .hbm, ⟨20, _⟩ => ⟨S1x64x1x64x1, .f32⟩
  | .hbm, ⟨21, _⟩ => ⟨S8x64x4x64x4, .f32⟩
  | .hbm, ⟨22, _⟩ => ⟨S8x64x4x64x4, .f32⟩
  | .hbm, ⟨23, _⟩ => ⟨S8x64x4x64x4, .f32⟩
  | .hbm, ⟨24, _⟩ => ⟨S8x256x256, .f32⟩
  | .hbm, ⟨25, _⟩ => ⟨S8x256x256, .bf16⟩
  | .hbm, ⟨26, _⟩ => ⟨S8x64x4x4, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .f32⟩
  | .hbm, ⟨34, _⟩ => ⟨S8x64x4x1x4, .f32⟩
  | .hbm, ⟨35, _⟩ => ⟨S64x1x64x1, .f32⟩
  | .hbm, ⟨36, _⟩ => ⟨S1x64x1x64x1, .f32⟩
  | .hbm, ⟨37, _⟩ => ⟨S8x64x4x64x4, .f32⟩
  | .hbm, ⟨38, _⟩ => ⟨S8x64x4x64x4, .f32⟩
  | .hbm, ⟨39, _⟩ => ⟨S8x64x4x64x4, .f32⟩
  | .hbm, ⟨40, _⟩ => ⟨S8x256x256, .f32⟩
  | .hbm, ⟨41, _⟩ => ⟨S8x256x256, .bf16⟩
  | .hbm, ⟨42, _⟩ => ⟨S8x64x4x4, .f32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S64x64, .f32⟩
  | .hbm, ⟨50, _⟩ => ⟨S8x64x4x1x4, .f32⟩
  | .hbm, ⟨51, _⟩ => ⟨S64x1x64x1, .f32⟩
  | .hbm, ⟨52, _⟩ => ⟨S1x64x1x64x1, .f32⟩
  | .hbm, ⟨53, _⟩ => ⟨S8x64x4x64x4, .f32⟩
  | .hbm, ⟨54, _⟩ => ⟨S8x64x4x64x4, .f32⟩
  | .hbm, ⟨55, _⟩ => ⟨S8x64x4x64x4, .f32⟩
  | .hbm, ⟨56, _⟩ => ⟨S8x256x256, .f32⟩
  | .hbm, ⟨57, _⟩ => ⟨S8x256x256, .bf16⟩
  | .hbm, ⟨58, _⟩ => ⟨S2048x16, .bf16⟩
  | .hbm, ⟨59, _⟩ => ⟨S2048x16, .bf16⟩
  | .hbm, ⟨60, _⟩ => ⟨S2048x16, .bf16⟩
  | .hbm, ⟨61, _⟩ => ⟨S1x16, .f32⟩
  | .hbm, ⟨62, _⟩ => ⟨S4x8192x2048, .bf16⟩
  | .hbm, ⟨63, _⟩ => ⟨S4x8192x2048, .bf16⟩
  | .hbm, ⟨64, _⟩ => ⟨S4x8192x2048, .bf16⟩
  | .hbm, ⟨65, _⟩ => ⟨S4x8192x2048, .bf16⟩
  | .hbm, ⟨66, _⟩ => ⟨S4x8192x16, .f32⟩
  | .local _ .vmem, ⟨0, _⟩ => ⟨S1x256x2048, .bf16⟩
  | .local _ .vmem, ⟨1, _⟩ => ⟨S1x256x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S3x2048, .f32⟩
  | .local _ .vmem, ⟨7, _⟩ => ⟨S1x2048, .f32⟩
  | .local _ .vmem, ⟨8, _⟩ => ⟨S8x256x256, .bf16⟩
  | .local _ .vmem, ⟨9, _⟩ => ⟨S8x256x256, .bf16⟩
  | .local _ .vmem, ⟨10, _⟩ => ⟨S8x256x256, .bf16⟩
  | .local _ .vmem, ⟨11, _⟩ => ⟨S2048x16, .bf16⟩
  | .local _ .vmem, ⟨12, _⟩ => ⟨S2048x16, .bf16⟩
  | .local _ .vmem, ⟨13, _⟩ => ⟨S2048x16, .bf16⟩
  | .local _ .vmem, ⟨14, _⟩ => ⟨S1x16, .f32⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x256x16, .f32⟩
  | .local _ .vmem, ⟨24, _⟩ => ⟨S1x256x16, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51_0 : Ref sig .tc := ⟨.hbm, 62, rfl⟩
abbrev main_v51_1 : Ref sig .tc := ⟨.hbm, 63, rfl⟩
abbrev main_v51_2 : Ref sig .tc := ⟨.hbm, 64, rfl⟩
abbrev main_v51_3 : Ref sig .tc := ⟨.hbm, 65, rfl⟩
abbrev main_v51_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2048x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S2048x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x256x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== PrepReferenceIdeal.lean ====
abbrev S4x8192x4096 : Shape := ⟨3, ![4, 8192, 4096]⟩
abbrev S3x2048 : Shape := ⟨2, ![3, 2048]⟩
abbrev S2048 : Shape := ⟨1, ![2048]⟩
abbrev S512x4x4 : Shape := ⟨3, ![512, 4, 4]⟩
abbrev S6144x16 : Shape := ⟨2, ![6144, 16]⟩
abbrev S16 : Shape := ⟨1, ![16]⟩
abbrev S4x8192x2048 : Shape := ⟨3, ![4, 8192, 2048]⟩
abbrev S_ : Shape := ⟨0, ![]⟩
abbrev S4x8194x2048 : Shape := ⟨3, ![4, 8194, 2048]⟩
abbrev S1x2048 : Shape := ⟨2, ![1, 2048]⟩
abbrev S1x1x2048 : Shape := ⟨3, ![1, 1, 2048]⟩
abbrev S4x8192x512x4 : Shape := ⟨4, ![4, 8192, 512, 4]⟩
abbrev S512x4x4x8192 : Shape := ⟨4, ![512, 4, 4, 8192]⟩
abbrev S2048x16 : Shape := ⟨2, ![2048, 16]⟩
abbrev S4x8192x16 : Shape := ⟨3, ![4, 8192, 16]⟩
abbrev S1x1x16 : Shape := ⟨3, ![1, 1, 16]⟩
abbrev S4x8192x2x2x4 : Shape := ⟨5, ![4, 8192, 2, 2, 4]⟩
abbrev S4x8192x2x1x4 : Shape := ⟨5, ![4, 8192, 2, 1, 4]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x4096, .bf16⟩
  | .hbm, ⟨1, _⟩ => ⟨S3x2048, .f32⟩
  | .hbm, ⟨2, _⟩ => ⟨S2048, .f32⟩
  | .hbm, ⟨3, _⟩ => ⟨S512x4x4, .f32⟩
  | .hbm, ⟨4, _⟩ => ⟨S512x4x4, .f32⟩
  | .hbm, ⟨5, _⟩ => ⟨S512x4x4, .f32⟩
  | .hbm, ⟨6, _⟩ => ⟨S6144x16, .f32⟩
  | .hbm, ⟨7, _⟩ => ⟨S16, .f32⟩
  | .hbm, ⟨8, _⟩ => ⟨S4x8192x2048, .bf16⟩
  | .hbm, ⟨9, _⟩ => ⟨S4x8192x2048, .f32⟩
  | .hbm, ⟨10, _⟩ => ⟨S_, .i32⟩
  | .hbm, ⟨11, _⟩ => ⟨S_, .f32⟩
  | .hbm, ⟨12, _⟩ => ⟨S4x8194x2048, .f32⟩
  | .hbm, ⟨13, _⟩ => ⟨S1x2048, .f32⟩
  | .hbm, ⟨14, _⟩ => ⟨S2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S1x2048, .f32⟩
  | .hbm, ⟨20, _⟩ => ⟨S2048, .f32⟩
  | .hbm, ⟨21, _⟩ => ⟨S4x8192x2048, .f32⟩
  | .hbm, ⟨22, _⟩ => ⟨S1x1x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S1x2048, .f32⟩
  | .hbm, ⟨27, _⟩ => ⟨S2048, .f32⟩
  | .hbm, ⟨28, _⟩ => ⟨S4x8192x2048, .f32⟩
  | .hbm, ⟨29, _⟩ => ⟨S1x1x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S1x1x2048, .f32⟩
  | .hbm, ⟨34, _⟩ => ⟨S4x8192x2048, .f32⟩
  | .hbm, ⟨35, _⟩ => ⟨S4x8192x2048, .f32⟩
  | .hbm, ⟨36, _⟩ => ⟨S4x8192x2048, .f32⟩
  | .hbm, ⟨37, _⟩ => ⟨S4x8192x2048, .f32⟩
  | .hbm, ⟨38, _⟩ => ⟨S_, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x512x4, .f32⟩
  | .hbm, ⟨46, _⟩ => ⟨S512x4x4x8192, .f32⟩
  | .hbm, ⟨47, _⟩ => ⟨S4x8192x512x4, .f32⟩
  | .hbm, ⟨48, _⟩ => ⟨S4x8192x2048, .f32⟩
  | .hbm, ⟨49, _⟩ => ⟨S4x8192x512x4, .f32⟩
  | .hbm, ⟨50, _⟩ => ⟨S512x4x4x8192, .f32⟩
  | .hbm, ⟨51, _⟩ => ⟨S4x8192x512x4, .f32⟩
  | .hbm, ⟨52, _⟩ => ⟨S4x8192x2048, .f32⟩
  | .hbm, ⟨53, _⟩ => ⟨S4x8192x512x4, .f32⟩
  | .hbm, ⟨54, _⟩ => ⟨S512x4x4x8192, .f32⟩
  | .hbm, ⟨55, _⟩ => ⟨S4x8192x512x4, .f32⟩
  | .hbm, ⟨56, _⟩ => ⟨S4x8192x2048, .f32⟩
  | .hbm, ⟨57, _⟩ => ⟨S2048x16, .f32⟩
  | .hbm, ⟨58, _⟩ => ⟨S4x8192x16, .f32⟩
  | .hbm, ⟨59, _⟩ => ⟨S2048x16, .f32⟩
  | .hbm, ⟨60, _⟩ => ⟨S4x8192x16, .f32⟩
  | .hbm, ⟨61, _⟩ => ⟨S4x8192x16, .f32⟩
  | .hbm, ⟨62, _⟩ => ⟨S2048x16, .f32⟩
  | .hbm, ⟨63, _⟩ => ⟨S4x8192x16, .f32⟩
  | .hbm, ⟨64, _⟩ => ⟨S4x8192x16, .f32⟩
  | .hbm, ⟨65, _⟩ => ⟨S1x1x16, .f32⟩
  | .hbm, ⟨66, _⟩ => ⟨S4x8192x16, .f32⟩
  | .hbm, ⟨67, _⟩ => ⟨S4x8192x16, .f32⟩
  | .hbm, ⟨68, _⟩ => ⟨S4x8192x2x2x4, .f32⟩
  | .hbm, ⟨69, _⟩ => ⟨S4x8192x2x1x4, .f32⟩
  | .hbm, ⟨70, _⟩ => ⟨S4x8192x2x1x4, .f32⟩
  | .hbm, ⟨71, _⟩ => ⟨S_, .f32⟩
  | .hbm, ⟨72, _⟩ => ⟨S4x8192x2x1x4, .f32⟩
  | .hbm, ⟨73, _⟩ => ⟨S4x8192x2x1x4, .f32⟩
  | .hbm, ⟨74, _⟩ => ⟨S4x8192x2x1x4, .f32⟩
  | .hbm, ⟨75, _⟩ => ⟨S4x8192x2x1x4, .f32⟩
  | .hbm, ⟨76, _⟩ => ⟨S4x8192x2x1x4, .f32⟩
  | .hbm, ⟨77, _⟩ => ⟨S_, .f32⟩
  | .hbm, ⟨78, _⟩ => ⟨S4x8192x2x1x4, .f32⟩
  | .hbm, ⟨79, _⟩ => ⟨S4x8192x2x1x4, .f32⟩
  | .hbm, ⟨80, _⟩ => ⟨S4x8192x2x1x4, .f32⟩
  | .hbm, ⟨81, _⟩ => ⟨S4x8192x2x1x4, .f32⟩
  | .hbm, ⟨82, _⟩ => ⟨S4x8192x2x2x4, .f32⟩
  | .hbm, ⟨83, _⟩ => ⟨S4x8192x16, .f32⟩
  | .hbm, ⟨84, _⟩ => ⟨S4x8192x2048, .bf16⟩
  | .hbm, ⟨85, _⟩ => ⟨S_, .f32⟩
  | .hbm, ⟨86, _⟩ => ⟨S4x8192x2048, .f32⟩
  | .hbm, ⟨87, _⟩ => ⟨S4x8192x2048, .f32⟩
  | .hbm, ⟨88, _⟩ => ⟨S4x8192x2048, .bf16⟩
  | .hbm, ⟨89, _⟩ => ⟨S4x8192x2048, .bf16⟩
  | .hbm, ⟨90, _⟩ => ⟨S4x8192x2048, .bf16⟩
  | _, _ => ⟨S4x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_1 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== AdalnKernel.lean ====
abbrev S5x1024 : Shape := ⟨2, ![5, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 15
  | .vmem => 7
  | .smem => 0
  | _ => 0

abbrev bufTy : (tb : Table) → Fin (tcTables nBuf tb) → BufTy
  | .hbm, ⟨0, _⟩ => ⟨S5x1024, .f32⟩
  | .hbm, ⟨1, _⟩ => ⟨S1024x6144, .f32⟩
  | .hbm, ⟨2, _⟩ => ⟨S6144, .f32⟩
  | .hbm, ⟨3, _⟩ => ⟨S5x1024, .f32⟩
  | .hbm, ⟨4, _⟩ => ⟨S5x1024, .f32⟩
  | .hbm, ⟨5, _⟩ => ⟨S_, .f32⟩
  | .hbm, ⟨6, _⟩ => ⟨S5x1024, .f32⟩
  | .hbm, ⟨7, _⟩ => ⟨S5x1024, .f32⟩
  | .hbm, ⟨8, _⟩ => ⟨S5x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S1024x6144, .bf16⟩
  | .hbm, ⟨13, _⟩ => ⟨S1x6144, .f32⟩
  | .hbm, ⟨14, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S5x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnReferenceIdeal.lean ====
abbrev S5x1024 : Shape := ⟨2, ![5, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S5x1024, .f32⟩
  | .hbm, ⟨1, _⟩ => ⟨S1024x6144, .f32⟩
  | .hbm, ⟨2, _⟩ => ⟨S6144, .f32⟩
  | .hbm, ⟨3, _⟩ => ⟨S5x1024, .f32⟩
  | .hbm, ⟨4, _⟩ => ⟨S5x1024, .f32⟩
  | .hbm, ⟨5, _⟩ => ⟨S_, .f32⟩
  | .hbm, ⟨6, _⟩ => ⟨S5x1024, .f32⟩
  | .hbm, ⟨7, _⟩ => ⟨S5x1024, .f32⟩
  | .hbm, ⟨8, _⟩ => ⟨S_, .f32⟩
  | .hbm, ⟨9, _⟩ => ⟨S5x1024, .f32⟩
  | .hbm, ⟨10, _⟩ => ⟨S5x1024, .f32⟩
  | .hbm, ⟨11, _⟩ => ⟨S5x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S8x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S5x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_c : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Proof.Step.lean ====
/- One chunk of the scan as functions of the blocks the kernel loads: the state (matrix, vector, stabiliser)
   after a chunk, and the chunk's rows of the output. The second half reads the pieces the counted loop's
   trips store as these functions, and folds them over the eight chunks of a block. -/
module

public import proofs.«01_k».proof.Proof.Gen.KernelIdeal.Loops
public import Idealize.ShloMosaic.Lib.Pipeline.ValueKit

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI

variable {F : FTy → Type} [FloatOps F]

/-- What one grid point reads: the blocks of queries, keys, values, the gates by column and by row, and the two
    triangles. -/
structure In (F : FTy → Type) where
  q : Vec F S1x1024x512 .bf16
  k : Vec F S1x1024x512 .bf16
  v : Vec F S1x1024x512 .bf16
  gc : Vec F S1x1x1024x2 .f32
  gr : Vec F S1x1x8x2x128 .f32
  tri : Vec F S1x128x128 .f32
  trit : Vec F S1x128x128 .f32

/-- What the scan carries: the matrix, the vector and the stabiliser (in every lane). -/
structure St (F : FTy → Type) where
  C : Vec F S512x512 .f32
  n : Vec F S1x512 .f32
  m : Vec F S1x128 .f32

/-- The record of blocks, as a function (its arguments in the kernel's order). -/
abbrev blocks (q k v : Vec F S1x1024x512 .bf16) (gc : Vec F S1x1x1024x2 .f32) (gr : Vec F S1x1x8x2x128 .f32)
    (tri trit : Vec F S1x128x128 .f32) : In F := ⟨q, k, v, gc, gr, tri, trit⟩

/-- The 128 rows chunk `k` takes of a block of queries, keys or values. -/
def rowsAt (X : Vec F S1x1024x512 .bf16) (i : grid0.Coords) (k : Fin k0_t1_loop.trips) : Vec F S1x128x512 .bf16 :=
  View.ld X (Rect.unit (s := S1x1024x512) (k0_off1 i k) S1x128x512.size (k0_off1_inb i k))

/-- The chunk's gates by column. -/
def colsAt (X : Vec F S1x1x1024x2 .f32) (i : grid0.Coords) (k : Fin k0_t1_loop.trips) : Vec F S1x1x128x2 .f32 :=
  View.ld X (Rect.unit (s := S1x1x1024x2) (k0_off2 i k) S1x1x128x2.size (k0_off2_inb i k))

/-- The chunk's gates by row. -/
def lanesAt (X : Vec F S1x1x8x2x128 .f32) (i : grid0.Coords) (k : Fin k0_t1_loop.trips) : Vec F S1x1x1x2x128 .f32 :=
  View.ld X (Rect.unit (s := S1x1x8x2x128) (k0_off3 i k) S1x1x1x2x128.size (k0_off3_inb i k))

/-- The first lane of the stabiliser. -/
def lane0 (m : Vec F S1x128 .f32) : Vec F S1x1 .f32 :=
  View.ld m (Rect.unit (s := S1x128) ![0, 0] S1x1.size inb_S1x128_S1x1_0_0)

/-- The state after chunk `k` from the state before it. -/
def step (B : In F) (i : grid0.Coords) (k : Fin k0_t1_loop.trips) (s : St F) : St F :=
  ⟨k0_pay12 (k0_pay19 (rowsAt B.k i k)) (k0_pay20 (rowsAt B.v i k)) (k0_pay23 (colsAt B.gc i k)) (k0_pay24 (colsAt B.gc i k))
      (k0_pay26 (k0_pay4 B.tri) (lanesAt B.gr i k)) (lane0 s.m) s.C,
    k0_pay13 (k0_pay19 (rowsAt B.k i k)) (k0_pay23 (colsAt B.gc i k)) (k0_pay24 (colsAt B.gc i k))
      (k0_pay26 (k0_pay4 B.tri) (lanesAt B.gr i k)) (lane0 s.m) s.n,
    k0_pay14 (k0_pay23 (colsAt B.gc i k)) (k0_pay24 (colsAt B.gc i k))
      (k0_pay26 (k0_pay4 B.tri) (lanesAt B.gr i k)) (lane0 s.m)⟩

/-- The chunk's 128 rows of the output from the state before it. -/
def hout (B : In F) (i : grid0.Coords) (k : Fin k0_t1_loop.trips) (s : St F) : Vec F S1x1x128x512 .f32 :=
  k0_pay29 (k0_pay6 B.tri) (k0_pay18 (rowsAt B.q i k)) (k0_pay19 (rowsAt B.k i k)) (k0_pay20 (rowsAt B.v i k))
    (k0_pay25 (lanesAt B.gr i k)) (k0_pay26 (k0_pay4 B.tri) (lanesAt B.gr i k)) (k0_pay27 (k0_pay5 B.trit) (colsAt B.gc i k)) s.n
    (k0_pay28 (k0_pay4 B.tri) (lanesAt B.gr i k) (lane0 s.m)) s.C

/-- The state before chunk `k` of a block, from the state the block begins with. -/
def st (B : In F) (i : grid0.Coords) (s0 : St F) : ℕ → St F
  | 0 => s0
  | k + 1 => if h : k < k0_t1_loop.trips then step B i ⟨k, h⟩ (st B i s0 k) else st B i s0 k

/-- One more chunk is one more step of the state. -/
theorem st_succ (B : In F) (i : grid0.Coords) (s0 : St F) (k : Fin k0_t1_loop.trips) :
    st B i s0 (k.val + 1) = step B i k (st B i s0 k.val) := by
  rw [st]; exact dif_pos k.isLt

/-- The loop runs eight chunks. -/
theorem trips_eq : k0_t1_loop.trips = 8 := by decide

/-- The chunk that stores row `y 2` of the block: chunks run upwards in the forward direction, downwards in the
    backward one. -/
def tripOf (i : grid0.Coords) (r : ℕ) : ℕ := if (i 2).val = 0 then r / 128 else 7 - r / 128

/-- The chunk that stores a row is one of the eight of the block. -/
theorem tripOf_lt (i : grid0.Coords) (y : S1x1x1024x512.Idx) : tripOf i (y 2).val < k0_t1_loop.trips := by
  have h : (y 2).val < 1024 := (y 2).isLt
  rw [trips_eq]; unfold tripOf; split <;> omega

/-- The block of outputs: row by row what the chunk owning the row computes from the state before it. -/
def hblk (B : In F) (i : grid0.Coords) (s0 : St F) : Vec F S1x1x1024x512 .f32 := fun y =>
  hout B i ⟨tripOf i (y 2).val, tripOf_lt i y⟩ (st B i s0 (tripOf i (y 2).val))
    (ix4 0 0 ⟨(y 2).val % 128, Nat.mod_lt _ (by decide)⟩ (y 3))

/-! ## The offsets in closed form -/

/-- A chunk's first row in the blocks of queries, keys and values. -/
theorem off1_eq (i : grid0.Coords) (k : Fin k0_t1_loop.trips) :
    k0_off1 i k = ![0, 128 * (if (i 2).val = 0 then k.val else 7 - k.val), 0] := by
  have key : ∀ (d : Fin 2) (k : Fin 8), (Scalar.indexCast (Scalar.muli (Scalar.addi (Scf.iv 0#32 1#32 k.val) (Scalar.muli (BitVec.ofNat 32 d.val) (Scalar.subi 7#32 (Scalar.muli 2#32 (Scf.iv 0#32 1#32 k.val))))) 128#32)).toNat
      = 128 * (if d.val = 0 then k.val else 7 - k.val) := by decide
  have := key (i 2) ⟨k.val, lt_of_lt_of_eq k.isLt trips_eq⟩
  unfold k0_off1
  exact congrArg (fun x => ![0, x, 0]) this

/-- A chunk's first row in the block of gates by rows. -/
theorem off2_eq (i : grid0.Coords) (k : Fin k0_t1_loop.trips) :
    k0_off2 i k = ![0, 0, 128 * (if (i 2).val = 0 then k.val else 7 - k.val), 0] := by
  have h := congrFun (off1_eq i k) 1
  exact congrArg (fun x => ![0, 0, x, 0]) h

/-- A chunk's first row in the block of outputs. -/
theorem off4_eq (i : grid0.Coords) (k : Fin k0_t1_loop.trips) :
    k0_off4 i k = ![0, 0, 128 * (if (i 2).val = 0 then k.val else 7 - k.val), 0] := off2_eq i k

/-- A chunk's number in the block of gates by lanes. -/
theorem off3_eq (i : grid0.Coords) (k : Fin k0_t1_loop.trips) :
    k0_off3 i k = ![0, 0, (if (i 2).val = 0 then k.val else 7 - k.val), 0, 0] := by
  have key : ∀ (d : Fin 2) (k : Fin 8), (Scalar.indexCast (Scalar.addi (Scf.iv 0#32 1#32 k.val) (Scalar.muli (BitVec.ofNat 32 d.val) (Scalar.subi 7#32 (Scalar.muli 2#32 (Scf.iv 0#32 1#32 k.val)))))).toNat
      = (if d.val = 0 then k.val else 7 - k.val) := by decide
  have := key (i 2) ⟨k.val, lt_of_lt_of_eq k.isLt trips_eq⟩
  unfold k0_off3
  exact congrArg (fun x => ![0, 0, x, 0, 0]) this

/-! ## What the loop's trips store -/

section Trips

variable (𝒱 : Variants) (c : Dev nD) (bd : Option 𝒱.V) (i : grid0.Coords)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x1x1024x2 .f32) (harg7 : arg7.IsWhole)
  (arg8 : Memref sig .tc .vmem S1x1x8x2x128 .f32) (harg8 : arg8.IsWhole)
  (arg9 : Memref sig .tc .vmem S1x128x128 .f32) (harg9 : arg9.IsWhole)
  (arg10 : Memref sig .tc .vmem S1x128x128 .f32) (harg10 : arg10.IsWhole)
  (arg11 : Memref sig .tc .vmem S1x1x1x512x512 .f32) (harg11 : arg11.IsWhole)
  (arg12 : Memref sig .tc .vmem S1x1x1x1x512 .f32) (harg12 : arg12.IsWhole)
  (arg13 : Memref sig .tc .vmem S1x1x1x1x128 .f32) (harg13 : arg13.IsWhole)
  (arg14 : Memref sig .tc .vmem S1x1x1024x512 .f32) (harg14 : arg14.IsWhole)
  (arg15 : Memref sig .tc .vmem S1x1x1x512x512 .f32) (harg15 : arg15.IsWhole)
  (arg16 : Memref sig .tc .vmem S1x1x1x1x512 .f32) (harg16 : arg16.IsWhole)
  (arg17 : Memref sig .tc .vmem S1x1x1x1x128 .f32) (harg17 : arg17.IsWhole)
  (arg18 : Memref sig .tc .vmem S512x512 .f32) (harg18 : arg18.IsWhole)
  (arg19 : Memref sig .tc .vmem S1x512 .f32) (harg19 : arg19.IsWhole)
  (arg20 : Memref sig .tc .vmem S1x128 .f32) (harg20 : arg20.IsWhole)
  (arg2 : BitVec 32) (v3 v5 : Vec F S1x128x128 .f32)
  (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- A trip stores its 128 output rows, and the state whole. -/
theorem trip_pieces (k : Fin k0_t1_loop.trips) (f14 : BufTy.Contents (Elt F) arg14.view.ty) (f18 : BufTy.Contents (Elt F) arg18.view.ty) (f19 : BufTy.Contents (Elt F) arg19.view.ty) (f20 : BufTy.Contents (Elt F) arg20.view.ty) :
    (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 k).1 f14 f18 f19 f20
      = [⟨Rect.unit (s := S1x1x1024x512) (k0_off4 i k) S1x1x128x512.size (k0_off4_inb i k), hout (blocks (arg4.view.read (Elt F) X4) (arg5.view.read (Elt F) X5) (arg6.view.read (Elt F) X6) (arg7.view.read (Elt F) X7) (arg8.view.read (Elt F) X8) v3 v5) i k ⟨arg18.view.read (Elt F) f18, arg19.view.read (Elt F) f19, arg20.view.read (Elt F) f20⟩⟩] ∧
    (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 k).2.1 f14 f18 f19 f20
      = [⟨Rect.unit (s := S512x512) ![0, 0] S512x512.size inb_S512x512_S512x512_0_0, (step (blocks (arg4.view.read (Elt F) X4) (arg5.view.read (Elt F) X5) (arg6.view.read (Elt F) X6) (arg7.view.read (Elt F) X7) (arg8.view.read (Elt F) X8) v3 v5) i k ⟨arg18.view.read (Elt F) f18, arg19.view.read (Elt F) f19, arg20.view.read (Elt F) f20⟩).C⟩] ∧
    (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 k).2.2.1 f14 f18 f19 f20
      = [⟨Rect.unit (s := S1x512) ![0, 0] S1x512.size inb_S1x512_S1x512_0_0, (step (blocks (arg4.view.read (Elt F) X4) (arg5.view.read (Elt F) X5) (arg6.view.read (Elt F) X6) (arg7.view.read (Elt F) X7) (arg8.view.read (Elt F) X8) v3 v5) i k ⟨arg18.view.read (Elt F) f18, arg19.view.read (Elt F) f19, arg20.view.read (Elt F) f20⟩).n⟩] ∧
    (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 k).2.2.2.1 f14 f18 f19 f20
      = [⟨Rect.unit (s := S1x128) ![0, 0] S1x128.size inb_S1x128_S1x128_0_0, (step (blocks (arg4.view.read (Elt F) X4) (arg5.view.read (Elt F) X5) (arg6.view.read (Elt F) X6) (arg7.view.read (Elt F) X7) (arg8.view.read (Elt F) X8) v3 v5) i k ⟨arg18.view.read (Elt F) f18, arg19.view.read (Elt F) f19, arg20.view.read (Elt F) f20⟩).m⟩] := by
  unfold trip_k0_t1
  dsimp only
  have e0 : trip_k0_t1.sl.r i arg4 X4 k = k0_pay18 (rowsAt (arg4.view.read (Elt F) X4) i k) := rfl
  have e1 : trip_k0_t1.sl.r_1 i arg5 X5 k = k0_pay19 (rowsAt (arg5.view.read (Elt F) X5) i k) := rfl
  have e2 : trip_k0_t1.sl.r_2 i arg6 X6 k = k0_pay20 (rowsAt (arg6.view.read (Elt F) X6) i k) := rfl
  have e3 : trip_k0_t1.sl.r_3 i arg7 X7 k = k0_pay23 (colsAt (arg7.view.read (Elt F) X7) i k) := rfl
  have e4 : trip_k0_t1.sl.r_4 i arg7 X7 k = k0_pay24 (colsAt (arg7.view.read (Elt F) X7) i k) := rfl
  have e5 : trip_k0_t1.sl.r_5 i arg8 X8 k = k0_pay25 (lanesAt (arg8.view.read (Elt F) X8) i k) := rfl
  have e6 : trip_k0_t1.sl.r_6 i arg8 v3 X8 k = k0_pay26 (k0_pay4 v3) (lanesAt (arg8.view.read (Elt F) X8) i k) := rfl
  have e7 : trip_k0_t1.sl.r_7 i arg7 v5 X7 k = k0_pay27 (k0_pay5 v5) (colsAt (arg7.view.read (Elt F) X7) i k) := rfl
  have e8 : trip_k0_t1.sl.r_8 arg20 f20 = lane0 (arg20.view.read (Elt F) f20) := rfl
  have e9 : trip_k0_t1.sl.r_9 arg19 f19 = arg19.view.read (Elt F) f19 := View.ld_unit_zero (by funext a; fin_cases a <;> rfl) _ _
  have e10 : trip_k0_t1.sl.r_10 i arg8 arg20 v3 X8 k f20 = k0_pay28 (k0_pay4 v3) (lanesAt (arg8.view.read (Elt F) X8) i k) (lane0 (arg20.view.read (Elt F) f20)) := rfl
  have e11 : View.readAt (Elt F) arg18.view (Rect.unit ![0, 0] ![512, 512] inb_S512x512_S512x512_0_0).toLoadRect f18 = arg18.view.read (Elt F) f18 := View.ld_unit_zero (by funext a; fin_cases a <;> rfl) _ _
  refine ⟨?_, ?_, ?_, ?_⟩
  · rw [e0, e1, e2, e5, e6, e7, e9, e10, e11]; rfl
  · rw [e1, e2, e3, e4, e6, e8, e11]; rfl
  · rw [e1, e3, e4, e6, e8, e9]; rfl
  · rw [e3, e4, e6, e8]; rfl

/-- One store of the whole memref leaves its payload. -/
theorem read_writes_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

variable (G14 : BufTy.Contents (Elt F) arg14.view.ty) (G18 : BufTy.Contents (Elt F) arg18.view.ty) (G19 : BufTy.Contents (Elt F) arg19.view.ty) (G20 : BufTy.Contents (Elt F) arg20.view.ty)

/-- After the trips before `k` the scratch memrefs hold the state before chunk `k`. -/
theorem pb_state : ∀ k : ℕ, k ≤ k0_t1_loop.trips →
    (arg18.view.read (Elt F) (arg18.view.writes (Elt F) G18 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.1) = (st (blocks (arg4.view.read (Elt F) X4) (arg5.view.read (Elt F) X5) (arg6.view.read (Elt F) X6) (arg7.view.read (Elt F) X7) (arg8.view.read (Elt F) X8) v3 v5) i ⟨arg18.view.read (Elt F) G18, arg19.view.read (Elt F) G19, arg20.view.read (Elt F) G20⟩ k).C ∧
    arg19.view.read (Elt F) (arg19.view.writes (Elt F) G19 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.1) = (st (blocks (arg4.view.read (Elt F) X4) (arg5.view.read (Elt F) X5) (arg6.view.read (Elt F) X6) (arg7.view.read (Elt F) X7) (arg8.view.read (Elt F) X8) v3 v5) i ⟨arg18.view.read (Elt F) G18, arg19.view.read (Elt F) G19, arg20.view.read (Elt F) G20⟩ k).n ∧
    arg20.view.read (Elt F) (arg20.view.writes (Elt F) G20 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.2) = (st (blocks (arg4.view.read (Elt F) X4) (arg5.view.read (Elt F) X5) (arg6.view.read (Elt F) X6) (arg7.view.read (Elt F) X7) (arg8.view.read (Elt F) X8) v3 v5) i ⟨arg18.view.read (Elt F) G18, arg19.view.read (Elt F) G19, arg20.view.read (Elt F) G20⟩ k).m)
  | 0, _ => ⟨rfl, rfl, rfl⟩
  | k + 1, hk => by
    obtain ⟨h18, h19, h20⟩ := pb_state k (Nat.le_of_succ_le hk)
    have hp := trip_pieces (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 ⟨k, hk⟩
      (arg14.view.writes (Elt F) G14 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).1) (arg18.view.writes (Elt F) G18 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.1)
      (arg19.view.writes (Elt F) G19 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.1) (arg20.view.writes (Elt F) G20 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.2)
    rw [h18, h19, h20] at hp
    have hs := pb_k0_t1_succ (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 ⟨k, hk⟩
    have hst := st_succ (blocks (arg4.view.read (Elt F) X4) (arg5.view.read (Elt F) X5) (arg6.view.read (Elt F) X6) (arg7.view.read (Elt F) X7) (arg8.view.read (Elt F) X8) v3 v5) i ⟨arg18.view.read (Elt F) G18, arg19.view.read (Elt F) G19, arg20.view.read (Elt F) G20⟩ ⟨k, hk⟩
    dsimp only at hs hst
    rw [hs, hst]
    refine ⟨?_, ?_, ?_⟩
    · rw [View.writes_append, hp.2.1]
      exact read_writes_whole _ _ (by funext a; fin_cases a <;> rfl) _ _
    · rw [View.writes_append, hp.2.2.1]
      exact read_writes_whole _ _ (by funext a; fin_cases a <;> rfl) _ _
    · rw [View.writes_append, hp.2.2.2]
      exact read_writes_whole _ _ (by funext a; fin_cases a <;> rfl) _ _

/-- After the trips before `k` the rows of the output owned by those trips hold what `hblk` says. -/
theorem pb_rows : ∀ k : ℕ, k ≤ k0_t1_loop.trips → ∀ y : S1x1x1024x512.Idx, tripOf i (y 2).val < k →
    arg14.view.read (Elt F) (arg14.view.writes (Elt F) G14 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).1) y = hblk (blocks (arg4.view.read (Elt F) X4) (arg5.view.read (Elt F) X5) (arg6.view.read (Elt F) X6) (arg7.view.read (Elt F) X7) (arg8.view.read (Elt F) X8) v3 v5) i ⟨arg18.view.read (Elt F) G18, arg19.view.read (Elt F) G19, arg20.view.read (Elt F) G20⟩ y
  | 0, _, y, hy => absurd hy (Nat.not_lt_zero _)
  | k + 1, hk, y, hy => by
    obtain ⟨h18, h19, h20⟩ := pb_state (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k (Nat.le_of_succ_le hk)
    have hp := trip_pieces (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 ⟨k, hk⟩
      (arg14.view.writes (Elt F) G14 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).1) (arg18.view.writes (Elt F) G18 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.1)
      (arg19.view.writes (Elt F) G19 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.1) (arg20.view.writes (Elt F) G20 (pb_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 k).2.2.2)
    rw [h18, h19, h20] at hp
    have hs := pb_k0_t1_succ (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v3 v5 X4 X5 X6 X7 X8 G14 G18 G19 G20 ⟨k, hk⟩
    dsimp only at hs
    rw [hs, View.writes_append, hp.1]
    have hoff := off4_eq i ⟨k, hk⟩
    have hy2 : (y 2).val < 1024 := (y 2).isLt
    have hk8 : k < 8 := lt_of_lt_of_eq hk trips_eq
    rcases Nat.lt_or_ge (tripOf i (y 2).val) k with hlt | hge
    · have hnm : y ∉ (Rect.unit (s := S1x1x1024x512) (k0_off4 i ⟨k, hk⟩) S1x1x128x512.size (k0_off4_inb i ⟨k, hk⟩)).set := by
        rw [Rect.mem_set_unit]
        intro h
        have h2 := h 2
        rw [hoff] at h2
        have h2' : 128 * (if (i 2).val = 0 then k else 7 - k) ≤ (y 2).val ∧ (y 2).val < 128 * (if (i 2).val = 0 then k else 7 - k) + 128 := h2
        unfold tripOf at hlt
        split at hlt <;> simp_all <;> omega
      rw [View.read_writes_apply_of_forall_not_mem _ _ _ _ (by intro p hp; rw [List.mem_singleton.mp hp]; exact hnm)]
      exact pb_rows k (Nat.le_of_succ_le hk) y hlt
    · have hkk : tripOf i (y 2).val = k := by omega
      have hy : y = (Rect.unit (s := S1x1x1024x512) (k0_off4 i ⟨k, hk⟩) S1x1x128x512.size (k0_off4_inb i ⟨k, hk⟩)).emb
          (ix4 0 0 ⟨(y 2).val % 128, Nat.mod_lt _ (by decide)⟩ (y 3)) := by
        funext a
        apply Fin.ext
        refine Eq.trans ?_ (ValueKit.rect_emb_unit_val _ _ _ _ _).symm
        refine Eq.trans ?_ (congrArg (· + _) (congrFun hoff a).symm)
        fin_cases a
        · have : (y 0).val < 1 := (y 0).isLt
          show (y 0).val = 0 + 0
          omega
        · have : (y 1).val < 1 := (y 1).isLt
          show (y 1).val = 0 + 0
          omega
        · show (y 2).val = 128 * (if (i 2).val = 0 then k else 7 - k) + (y 2).val % 128
          unfold tripOf at hkk
          split at hkk <;> simp_all <;> omega
        · exact (Nat.zero_add _).symm
      have hk2 : (⟨tripOf i (y 2).val, tripOf_lt i y⟩ : Fin k0_t1_loop.trips) = ⟨k, hk⟩ := Fin.ext hkk
      unfold hblk
      rw [hk2, hkk]
      conv_lhs => rw [hy]
      exact View.read_writes_cons_emb _ _ _ _ _ _

end Trips

end Cert.KernelIdeal.Scan

end
-- ==== Proof.Body.lean ====
/- The kernel's body at a grid point, run: the three kinds of point (the first block of a sequence, an inner one, the
   last). -/
module

public import proofs.«01_k».proof.Proof.Step
public import proofs.«01_k».proof.Proof.Gen.KernelIdeal.Frame

@[expose] public section

set_option maxRecDepth 16384

noncomputable section

namespace Cert.KernelIdeal.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x1x1024x2 .f32) (harg7 : arg7.IsWhole)
  (arg8 : Memref sig .tc .vmem S1x1x8x2x128 .f32) (harg8 : arg8.IsWhole)
  (arg9 : Memref sig .tc .vmem S1x128x128 .f32) (harg9 : arg9.IsWhole)
  (arg10 : Memref sig .tc .vmem S1x128x128 .f32) (harg10 : arg10.IsWhole)
  (arg11 : Memref sig .tc .vmem S1x1x1x512x512 .f32) (harg11 : arg11.IsWhole)
  (arg12 : Memref sig .tc .vmem S1x1x1x1x512 .f32) (harg12 : arg12.IsWhole)
  (arg13 : Memref sig .tc .vmem S1x1x1x1x128 .f32) (harg13 : arg13.IsWhole)
  (arg14 : Memref sig .tc .vmem S1x1x1024x512 .f32) (harg14 : arg14.IsWhole)
  (arg15 : Memref sig .tc .vmem S1x1x1x512x512 .f32) (harg15 : arg15.IsWhole)
  (arg16 : Memref sig .tc .vmem S1x1x1x1x512 .f32) (harg16 : arg16.IsWhole)
  (arg17 : Memref sig .tc .vmem S1x1x1x1x128 .f32) (harg17 : arg17.IsWhole)
  (arg18 : Memref sig .tc .vmem S512x512 .f32) (harg18 : arg18.IsWhole)
  (arg19 : Memref sig .tc .vmem S1x512 .f32) (harg19 : arg19.IsWhole)
  (arg20 : Memref sig .tc .vmem S1x128 .f32) (harg20 : arg20.IsWhole)
  (q : Vec F S1x1024x512 .bf16) (k : Vec F S1x1024x512 .bf16) (v : Vec F S1x1024x512 .bf16) (gc : Vec F S1x1x1024x2 .f32) (gr : Vec F S1x1x8x2x128 .f32) (tri : Vec F S1x128x128 .f32) (trit : Vec F S1x128x128 .f32) (C0 : Vec F S1x1x1x512x512 .f32) (n0 : Vec F S1x1x1x1x512 .f32) (m0 : Vec F S1x1x1x1x128 .f32)

/-- After the eight trips of the loop the output block holds `hblk` and the three scratch buffers hold the state after
    eight chunks. -/
theorem after_loop (v3 v5 : Vec F S1x128x128 .f32) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G14 : BufTy.Contents (Elt F) arg14.view.ty) (G18 : BufTy.Contents (Elt F) arg18.view.ty) (G19 : BufTy.Contents (Elt F) arg19.view.ty) (G20 : BufTy.Contents (Elt F) arg20.view.ty) (s : St F)
    (hX4 : arg4.view.read (Elt F) X4 = q) (hX5 : arg5.view.read (Elt F) X5 = k) (hX6 : arg6.view.read (Elt F) X6 = v) (hX7 : arg7.view.read (Elt F) X7 = gc) (hX8 : arg8.view.read (Elt F) X8 = gr) (h3 : v3 = tri) (h5 : v5 = trit)
    (h18 : arg18.view.read (Elt F) G18 = s.C) (h19 : arg19.view.read (Elt F) G19 = s.n) (h20 : arg20.view.read (Elt F) G20 = s.m) :
    arg14.view.read (Elt F) (arg14.view.writes (Elt F) G14 (pb_k0_t1 (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips).1) = hblk (blocks q k v gc gr tri trit) i s ∧
    arg18.view.read (Elt F) (arg18.view.writes (Elt F) G18 (pb_k0_t1 (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips).2.1) = (st (blocks q k v gc gr tri trit) i s k0_t1_loop.trips).C ∧
    arg19.view.read (Elt F) (arg19.view.writes (Elt F) G19 (pb_k0_t1 (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips).2.2.1) = (st (blocks q k v gc gr tri trit) i s k0_t1_loop.trips).n ∧
    arg20.view.read (Elt F) (arg20.view.writes (Elt F) G20 (pb_k0_t1 (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips).2.2.2) = (st (blocks q k v gc gr tri trit) i s k0_t1_loop.trips).m := by
  subst hX4 hX5 hX6 hX7 hX8 h3 h5
  obtain ⟨sC, sn, sm⟩ := s
  dsimp only at h18 h19 h20
  subst h18 h19 h20
  have hr := pb_rows (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips le_rfl
  have hs := pb_state (F := F) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 2).val) v3 v5 X4 X5 X6 X7 X8 G14 G18 G19 G20 k0_t1_loop.trips le_rfl
  exact ⟨funext fun y => hr y (tripOf_lt i y), hs⟩

variable (Y14 : Vec F S1x1x1024x512 .f32) (Y15 : Vec F S1x1x1x512x512 .f32) (Y16 : Vec F S1x1x1x1x512 .f32) (Y17 : Vec F S1x1x1x1x128 .f32)

set_option maxHeartbeats 1000000 in
/-- The first block of a sequence: the state begins at what the call is given; the final states are not written. -/
theorem run_first (h0 : Scalar.cmpi .ne (Scalar.extui (Scalar.cmpi .eq (BitVec.ofNat 32 (i 3).val) 0#32) : BitVec 32) 0#32 = 1#1) (h7 : ¬ k0_cond2 i = 1#1) (s : St F) (Q : PUnit → sProp 𝕄) :
    iprop((owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare s.C ∗ owns (c : Thread nD τ) arg19 fullShare s.n ∗ owns (c : Thread nD τ) arg20 fullShare s.m)
      ∗ (iprop(owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare (hblk (blocks q k v gc gr tri trit) i ⟨k0_pay1 C0, k0_pay2 n0, k0_pay3 m0⟩) ∗ owns (c : Thread nD τ) arg15 fullShare Y15 ∗ owns (c : Thread nD τ) arg16 fullShare Y16 ∗ owns (c : Thread nD τ) arg17 fullShare Y17 ∗ owns (c : Thread nD τ) arg18 fullShare (st (blocks q k v gc gr tri trit) i ⟨k0_pay1 C0, k0_pay2 n0, k0_pay3 m0⟩ k0_t1_loop.trips).C ∗ owns (c : Thread nD τ) arg19 fullShare (st (blocks q k v gc gr tri trit) i ⟨k0_pay1 C0, k0_pay2 n0, k0_pay3 m0⟩ k0_t1_loop.trips).n ∗ owns (c : Thread nD τ) arg20 fullShare (st (blocks q k v gc gr tri trit) i ⟨k0_pay1 C0, k0_pay2 n0, k0_pay3 m0⟩ k0_t1_loop.trips).m) -∗ Q ⟨⟩))
    ⊢ (wp frame (wpE (defs₀ (F := F)) Variants.none (c : Thread nD τ) none) Set.univ
        (cc0_mlstm_scan (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q : sProp 𝕄) := by
  unfold owns
  iintro ⟨⟨⟨%X4, %hX4, H4⟩, ⟨%X5, %hX5, H5⟩, ⟨%X6, %hX6, H6⟩, ⟨%X7, %hX7, H7⟩, ⟨%X8, %hX8, H8⟩, ⟨%X9, %hX9, H9⟩, ⟨%X10, %hX10, H10⟩, ⟨%X11, %hX11, H11⟩, ⟨%X12, %hX12, H12⟩, ⟨%X13, %hX13, H13⟩, ⟨%X14, %hX14, H14⟩, ⟨%X15, %hX15, H15⟩, ⟨%X16, %hX16, H16⟩, ⟨%X17, %hX17, H17⟩, ⟨%X18, %hX18, H18⟩, ⟨%X19, %hX19, H19⟩, ⟨%X20, %hX20, H20⟩⟩, Hk⟩
  have hv3 : View.readAt (Elt F) arg9.view (Rect.unit ![0, 0, 0] S1x128x128.size inb_S1x128x128_S1x128x128_0_0_0).toLoadRect X9 = arg9.view.read (Elt F) X9 :=
    View.ld_unit_zero (by funext a; fin_cases a <;> rfl) _ _
  have hv5 : View.readAt (Elt F) arg10.view (Rect.unit ![0, 0, 0] S1x128x128.size inb_S1x128x128_S1x128x128_0_0_0).toLoadRect X10 = arg10.view.read (Elt F) X10 :=
    View.ld_unit_zero (by funext a; fin_cases a <;> rfl) _ _
  sl_exec
  sl_step
  iapply Hk
  isplitl [H4]; · iexists _; isplitr; swap; (· iexact H4); ipureintro; exact hX4
  isplitl [H5]; · iexists _; isplitr; swap; (· iexact H5); ipureintro; exact hX5
  isplitl [H6]; · iexists _; isplitr; swap; (· iexact H6); ipureintro; exact hX6
  isplitl [H7]; · iexists _; isplitr; swap; (· iexact H7); ipureintro; exact hX7
  isplitl [H8]; · iexists _; isplitr; swap; (· iexact H8); ipureintro; exact hX8
  isplitl [H9]; · iexists _; isplitr; swap; (· iexact H9); ipureintro; exact hX9
  isplitl [H10]; · iexists _; isplitr; swap; (· iexact H10); ipureintro; exact hX10
  isplitl [H11]; · iexists _; isplitr; swap; (· iexact H11); ipureintro; exact hX11
  isplitl [H12]; · iexists _; isplitr; swap; (· iexact H12); ipureintro; exact hX12
  isplitl [H13]; · iexists _; isplitr; swap; (· iexact H13); ipureintro; exact hX13
  isplitl [H14]; · iexists _; isplitr; swap; (· iexact H14); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ ⟨k0_pay1 C0, k0_pay2 n0, k0_pay3 m0⟩ hX4 hX5 hX6 hX7 hX8 hX9 hX10 ((read_writes_whole _ _ (by funext a; fin_cases a <;> rfl) _ _).trans (congrArg k0_pay1 ((View.ld_unit_zero (by funext a; fin_cases a <;> rfl) _ _).trans hX11))) ((read_writes_whole _ _ (by funext a; fin_cases a <;> rfl) _ _).trans (congrArg k0_pay2 ((View.ld_unit_zero (by funext a; fin_cases a <;> rfl) _ _).trans hX12))) ((read_writes_whole _ _ (by funext a; fin_cases a <;> rfl) _ _).trans (congrArg k0_pay3 ((View.ld_unit_zero (by funext a; fin_cases a <;> rfl) _ _).trans hX13)))).1
  isplitl [H15]; · iexists _; isplitr; swap; (· iexact H15); ipureintro; exact hX15
  isplitl [H16]; · iexists _; isplitr; swap; (· iexact H16); ipureintro; exact hX16
  isplitl [H17]; · iexists _; isplitr; swap; (· iexact H17); ipureintro; exact hX17
  isplitl [H18]; · iexists _; isplitr; swap; (· iexact H18); ipureintro; rw [View.writes_append]; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ ⟨k0_pay1 C0, k0_pay2 n0, k0_pay3 m0⟩ hX4 hX5 hX6 hX7 hX8 hX9 hX10 ((read_writes_whole _ _ (by funext a; fin_cases a <;> rfl) _ _).trans (congrArg k0_pay1 ((View.ld_unit_zero (by funext a; fin_cases a <;> rfl) _ _).trans hX11))) ((read_writes_whole _ _ (by funext a; fin_cases a <;> rfl) _ _).trans (congrArg k0_pay2 ((View.ld_unit_zero (by funext a; fin_cases a <;> rfl) _ _).trans hX12))) ((read_writes_whole _ _ (by funext a; fin_cases a <;> rfl) _ _).trans (congrArg k0_pay3 ((View.ld_unit_zero (by funext a; fin_cases a <;> rfl) _ _).trans hX13)))).2.1
  isplitl [H19]; · iexists _; isplitr; swap; (· iexact H19); ipureintro; rw [View.writes_append]; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ ⟨k0_pay1 C0, k0_pay2 n0, k0_pay3 m0⟩ hX4 hX5 hX6 hX7 hX8 hX9 hX10 ((read_writes_whole _ _ (by funext a; fin_cases a <;> rfl) _ _).trans (congrArg k0_pay1 ((View.ld_unit_zero (by funext a; fin_cases a <;> rfl) _ _).trans hX11))) ((read_writes_whole _ _ (by funext a; fin_cases a <;> rfl) _ _).trans (congrArg k0_pay2 ((View.ld_unit_zero (by funext a; fin_cases a <;> rfl) _ _).trans hX12))) ((read_writes_whole _ _ (by funext a; fin_cases a <;> rfl) _ _).trans (congrArg k0_pay3 ((View.ld_unit_zero (by funext a; fin_cases a <;> rfl) _ _).trans hX13)))).2.2.1
  iexists _; isplitr; swap; (· iexact H20); ipureintro; rw [View.writes_append]; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ ⟨k0_pay1 C0, k0_pay2 n0, k0_pay3 m0⟩ hX4 hX5 hX6 hX7 hX8 hX9 hX10 ((read_writes_whole _ _ (by funext a; fin_cases a <;> rfl) _ _).trans (congrArg k0_pay1 ((View.ld_unit_zero (by funext a; fin_cases a <;> rfl) _ _).trans hX11))) ((read_writes_whole _ _ (by funext a; fin_cases a <;> rfl) _ _).trans (congrArg k0_pay2 ((View.ld_unit_zero (by funext a; fin_cases a <;> rfl) _ _).trans hX12))) ((read_writes_whole _ _ (by funext a; fin_cases a <;> rfl) _ _).trans (congrArg k0_pay3 ((View.ld_unit_zero (by funext a; fin_cases a <;> rfl) _ _).trans hX13)))).2.2.2

set_option maxHeartbeats 1000000 in
/-- An inner block: the state goes on from what the block before left. -/
theorem run_mid (h0 : ¬ Scalar.cmpi .ne (Scalar.extui (Scalar.cmpi .eq (BitVec.ofNat 32 (i 3).val) 0#32) : BitVec 32) 0#32 = 1#1) (h7 : ¬ k0_cond2 i = 1#1) (s : St F) (Q : PUnit → sProp 𝕄) :
    iprop((owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare s.C ∗ owns (c : Thread nD τ) arg19 fullShare s.n ∗ owns (c : Thread nD τ) arg20 fullShare s.m)
      ∗ (iprop(owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare (hblk (blocks q k v gc gr tri trit) i s) ∗ owns (c : Thread nD τ) arg15 fullShare Y15 ∗ owns (c : Thread nD τ) arg16 fullShare Y16 ∗ owns (c : Thread nD τ) arg17 fullShare Y17 ∗ owns (c : Thread nD τ) arg18 fullShare (st (blocks q k v gc gr tri trit) i s k0_t1_loop.trips).C ∗ owns (c : Thread nD τ) arg19 fullShare (st (blocks q k v gc gr tri trit) i s k0_t1_loop.trips).n ∗ owns (c : Thread nD τ) arg20 fullShare (st (blocks q k v gc gr tri trit) i s k0_t1_loop.trips).m) -∗ Q ⟨⟩))
    ⊢ (wp frame (wpE (defs₀ (F := F)) Variants.none (c : Thread nD τ) none) Set.univ
        (cc0_mlstm_scan (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q : sProp 𝕄) := by
  unfold owns
  iintro ⟨⟨⟨%X4, %hX4, H4⟩, ⟨%X5, %hX5, H5⟩, ⟨%X6, %hX6, H6⟩, ⟨%X7, %hX7, H7⟩, ⟨%X8, %hX8, H8⟩, ⟨%X9, %hX9, H9⟩, ⟨%X10, %hX10, H10⟩, ⟨%X11, %hX11, H11⟩, ⟨%X12, %hX12, H12⟩, ⟨%X13, %hX13, H13⟩, ⟨%X14, %hX14, H14⟩, ⟨%X15, %hX15, H15⟩, ⟨%X16, %hX16, H16⟩, ⟨%X17, %hX17, H17⟩, ⟨%X18, %hX18, H18⟩, ⟨%X19, %hX19, H19⟩, ⟨%X20, %hX20, H20⟩⟩, Hk⟩
  have hv3 : View.readAt (Elt F) arg9.view (Rect.unit ![0, 0, 0] S1x128x128.size inb_S1x128x128_S1x128x128_0_0_0).toLoadRect X9 = arg9.view.read (Elt F) X9 :=
    View.ld_unit_zero (by funext a; fin_cases a <;> rfl) _ _
  have hv5 : View.readAt (Elt F) arg10.view (Rect.unit ![0, 0, 0] S1x128x128.size inb_S1x128x128_S1x128x128_0_0_0).toLoadRect X10 = arg10.view.read (Elt F) X10 :=
    View.ld_unit_zero (by funext a; fin_cases a <;> rfl) _ _
  sl_exec
  sl_step
  iapply Hk
  isplitl [H4]; · iexists _; isplitr; swap; (· iexact H4); ipureintro; exact hX4
  isplitl [H5]; · iexists _; isplitr; swap; (· iexact H5); ipureintro; exact hX5
  isplitl [H6]; · iexists _; isplitr; swap; (· iexact H6); ipureintro; exact hX6
  isplitl [H7]; · iexists _; isplitr; swap; (· iexact H7); ipureintro; exact hX7
  isplitl [H8]; · iexists _; isplitr; swap; (· iexact H8); ipureintro; exact hX8
  isplitl [H9]; · iexists _; isplitr; swap; (· iexact H9); ipureintro; exact hX9
  isplitl [H10]; · iexists _; isplitr; swap; (· iexact H10); ipureintro; exact hX10
  isplitl [H11]; · iexists _; isplitr; swap; (· iexact H11); ipureintro; exact hX11
  isplitl [H12]; · iexists _; isplitr; swap; (· iexact H12); ipureintro; exact hX12
  isplitl [H13]; · iexists _; isplitr; swap; (· iexact H13); ipureintro; exact hX13
  isplitl [H14]; · iexists _; isplitr; swap; (· iexact H14); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).1
  isplitl [H15]; · iexists _; isplitr; swap; (· iexact H15); ipureintro; exact hX15
  isplitl [H16]; · iexists _; isplitr; swap; (· iexact H16); ipureintro; exact hX16
  isplitl [H17]; · iexists _; isplitr; swap; (· iexact H17); ipureintro; exact hX17
  isplitl [H18]; · iexists _; isplitr; swap; (· iexact H18); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.1
  isplitl [H19]; · iexists _; isplitr; swap; (· iexact H19); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.1
  iexists _; isplitr; swap; (· iexact H20); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.2

set_option maxHeartbeats 1000000 in
/-- The last block: the final states are written too. -/
theorem run_last (h0 : ¬ Scalar.cmpi .ne (Scalar.extui (Scalar.cmpi .eq (BitVec.ofNat 32 (i 3).val) 0#32) : BitVec 32) 0#32 = 1#1) (h7 : k0_cond2 i = 1#1) (s : St F) (Q : PUnit → sProp 𝕄) :
    iprop((owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare s.C ∗ owns (c : Thread nD τ) arg19 fullShare s.n ∗ owns (c : Thread nD τ) arg20 fullShare s.m)
      ∗ (iprop(owns (c : Thread nD τ) arg4 fullShare q ∗ owns (c : Thread nD τ) arg5 fullShare k ∗ owns (c : Thread nD τ) arg6 fullShare v ∗ owns (c : Thread nD τ) arg7 fullShare gc ∗ owns (c : Thread nD τ) arg8 fullShare gr ∗ owns (c : Thread nD τ) arg9 fullShare tri ∗ owns (c : Thread nD τ) arg10 fullShare trit ∗ owns (c : Thread nD τ) arg11 fullShare C0 ∗ owns (c : Thread nD τ) arg12 fullShare n0 ∗ owns (c : Thread nD τ) arg13 fullShare m0 ∗ owns (c : Thread nD τ) arg14 fullShare (hblk (blocks q k v gc gr tri trit) i s) ∗ owns (c : Thread nD τ) arg15 fullShare (k0_pay15 (st (blocks q k v gc gr tri trit) i s k0_t1_loop.trips).C) ∗ owns (c : Thread nD τ) arg16 fullShare (k0_pay16 (st (blocks q k v gc gr tri trit) i s k0_t1_loop.trips).n) ∗ owns (c : Thread nD τ) arg17 fullShare (k0_pay17 (st (blocks q k v gc gr tri trit) i s k0_t1_loop.trips).m) ∗ owns (c : Thread nD τ) arg18 fullShare (st (blocks q k v gc gr tri trit) i s k0_t1_loop.trips).C ∗ owns (c : Thread nD τ) arg19 fullShare (st (blocks q k v gc gr tri trit) i s k0_t1_loop.trips).n ∗ owns (c : Thread nD τ) arg20 fullShare (st (blocks q k v gc gr tri trit) i s k0_t1_loop.trips).m) -∗ Q ⟨⟩))
    ⊢ (wp frame (wpE (defs₀ (F := F)) Variants.none (c : Thread nD τ) none) Set.univ
        (cc0_mlstm_scan (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q : sProp 𝕄) := by
  unfold owns
  iintro ⟨⟨⟨%X4, %hX4, H4⟩, ⟨%X5, %hX5, H5⟩, ⟨%X6, %hX6, H6⟩, ⟨%X7, %hX7, H7⟩, ⟨%X8, %hX8, H8⟩, ⟨%X9, %hX9, H9⟩, ⟨%X10, %hX10, H10⟩, ⟨%X11, %hX11, H11⟩, ⟨%X12, %hX12, H12⟩, ⟨%X13, %hX13, H13⟩, ⟨%X14, %hX14, H14⟩, ⟨%X15, %hX15, H15⟩, ⟨%X16, %hX16, H16⟩, ⟨%X17, %hX17, H17⟩, ⟨%X18, %hX18, H18⟩, ⟨%X19, %hX19, H19⟩, ⟨%X20, %hX20, H20⟩⟩, Hk⟩
  have hv3 : View.readAt (Elt F) arg9.view (Rect.unit ![0, 0, 0] S1x128x128.size inb_S1x128x128_S1x128x128_0_0_0).toLoadRect X9 = arg9.view.read (Elt F) X9 :=
    View.ld_unit_zero (by funext a; fin_cases a <;> rfl) _ _
  have hv5 : View.readAt (Elt F) arg10.view (Rect.unit ![0, 0, 0] S1x128x128.size inb_S1x128x128_S1x128x128_0_0_0).toLoadRect X10 = arg10.view.read (Elt F) X10 :=
    View.ld_unit_zero (by funext a; fin_cases a <;> rfl) _ _
  sl_exec
  sl_step
  iapply Hk
  isplitl [H4]; · iexists _; isplitr; swap; (· iexact H4); ipureintro; exact hX4
  isplitl [H5]; · iexists _; isplitr; swap; (· iexact H5); ipureintro; exact hX5
  isplitl [H6]; · iexists _; isplitr; swap; (· iexact H6); ipureintro; exact hX6
  isplitl [H7]; · iexists _; isplitr; swap; (· iexact H7); ipureintro; exact hX7
  isplitl [H8]; · iexists _; isplitr; swap; (· iexact H8); ipureintro; exact hX8
  isplitl [H9]; · iexists _; isplitr; swap; (· iexact H9); ipureintro; exact hX9
  isplitl [H10]; · iexists _; isplitr; swap; (· iexact H10); ipureintro; exact hX10
  isplitl [H11]; · iexists _; isplitr; swap; (· iexact H11); ipureintro; exact hX11
  isplitl [H12]; · iexists _; isplitr; swap; (· iexact H12); ipureintro; exact hX12
  isplitl [H13]; · iexists _; isplitr; swap; (· iexact H13); ipureintro; exact hX13
  isplitl [H14]; · iexists _; isplitr; swap; (· iexact H14); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).1
  isplitl [H15]; · iexists _; isplitr; swap; (· iexact H15); ipureintro; exact (read_writes_whole _ _ (by funext a; fin_cases a <;> rfl) _ _).trans (congrArg k0_pay15 ((View.ld_unit_zero (by funext a; fin_cases a <;> rfl) _ _).trans (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.1))
  isplitl [H16]; · iexists _; isplitr; swap; (· iexact H16); ipureintro; exact (read_writes_whole _ _ (by funext a; fin_cases a <;> rfl) _ _).trans (congrArg k0_pay16 ((View.ld_unit_zero (by funext a; fin_cases a <;> rfl) _ _).trans (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.1))
  isplitl [H17]; · iexists _; isplitr; swap; (· iexact H17); ipureintro; exact (read_writes_whole _ _ (by funext a; fin_cases a <;> rfl) _ _).trans (congrArg k0_pay17 ((View.ld_unit_zero (by funext a; fin_cases a <;> rfl) _ _).trans (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.2))
  isplitl [H18]; · iexists _; isplitr; swap; (· iexact H18); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.1
  isplitl [H19]; · iexists _; isplitr; swap; (· iexact H19); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.1
  iexists _; isplitr; swap; (· iexact H20); ipureintro; exact (after_loop (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q k v gc gr tri trit _ _ _ _ _ _ _ _ _ _ _ _ hX4 hX5 hX6 hX7 hX8 hX9 hX10 hX18 hX19 hX20).2.2.2

end Body

end Cert.KernelIdeal.Scan

end
-- ==== Proof.Run.lean ====
/- The kernel's run over the grid: the state carried from point to point, the pipeline's proof data, and the launch — the
   arguments unchanged, every counter at zero, and the four results' arrays as the points leave them. -/
module

public import proofs.«01_k».proof.Proof.Body

@[expose] public section

set_option maxRecDepth 16384

noncomputable section

namespace Cert.KernelIdeal.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state from point to point -/

/-- The blocks the body reads at point `t`. -/
def inAt (c : Dev nD) (t : Fin cfg0.N) : In F :=
  blocks (iblk m c 0 t) (iblk m c 1 t) (iblk m c 2 t) (iblk m c 3 t) (iblk m c 4 t) (iblk m c 5 t) (iblk m c 6 t)

/-- The state a sequence begins from, as the blocks of the initial state at point `t` give it. -/
def initAt (c : Dev nD) (t : Fin cfg0.N) : St F :=
  ⟨k0_pay1 (iblk m c 7 t), k0_pay2 (iblk m c 8 t), k0_pay3 (iblk m c 9 t)⟩

/-- The state after the first `r` points: at the first point of every sequence the scan begins anew. -/
def afterPts (c : Dev nD) : ℕ → St F
  | 0 => initAt m c ⟨0, by rw [show cfg0.N = 256 from N_0]; omega⟩
  | r + 1 => if h : r < cfg0.N then
      st (inAt m c ⟨r, h⟩) (grid0.coords ⟨r, h⟩) (if r % 8 = 0 then initAt m c ⟨r, h⟩ else afterPts c r) k0_t1_loop.trips
    else afterPts c r

/-- The state the body's loop begins from at point `t`. -/
def beginAt (c : Dev nD) (t : Fin cfg0.N) : St F := if t.val % 8 = 0 then initAt m c t else afterPts m c t.val

/-- The state a point leaves is its loop's, from the state it begins from. -/
theorem afterPts_succ (c : Dev nD) (t : Fin cfg0.N) :
    afterPts m c (t.val + 1) = st (inAt m c t) (grid0.coords t) (beginAt m c t) k0_t1_loop.trips := by
  rw [afterPts, dif_pos t.isLt]
  rfl

/-- The last grid coordinate is the block within a sequence. -/
theorem coords_last : ∀ t : Fin grid0.N, (grid0.coords t 3).val = t.val % 8 := by decide +kernel

/-- The body begins a sequence exactly at the points ≡ 0 (mod 8). -/
theorem begins_iff : ∀ t : Fin grid0.N, (Scalar.cmpi .ne (Scalar.extui (Scalar.cmpi .eq (BitVec.ofNat 32 (grid0.coords t 3).val) 0#32) : BitVec 32) 0#32 = 1#1) ↔ t.val % 8 = 0 := by
  decide +kernel

/-- The body stores the final state exactly at the points ≡ 7 (mod 8). -/
theorem ends_iff : ∀ t : Fin grid0.N, k0_cond2 (grid0.coords t) = 1#1 ↔ t.val % 8 = 7 := by
  decide +kernel

/-! ## The pipeline's proof data -/

/-- What the kernel keeps between points: the three scratch buffers at a state — the one the points before left, unless a
    sequence begins — and the random generator's register. -/
def inv (c : Dev nD) (r : ℕ) : sProp 𝕄 :=
  iprop(∃ s : St F, ⌜r % 8 ≠ 0 → s = afterPts m c r⌝ ∗ owns (c : Thread nD τ) (Memref.whole cc0_scratch0) fullShare s.C
    ∗ owns (c : Thread nD τ) (Memref.whole cc0_scratch1) fullShare s.n ∗ owns (c : Thread nD τ) (Memref.whole cc0_scratch2) fullShare s.m
    ∗ ∃ g : PrngReg, prngReg c g)

/-- The invariant, written out. -/
theorem inv_eq (c : Dev nD) (r : ℕ) : (inv m c r : sProp 𝕄) =
  iprop(∃ s : St F, ⌜r % 8 ≠ 0 → s = afterPts m c r⌝ ∗ owns (c : Thread nD τ) (Memref.whole cc0_scratch0) fullShare s.C
    ∗ owns (c : Thread nD τ) (Memref.whole cc0_scratch1) fullShare s.n ∗ owns (c : Thread nD τ) (Memref.whole cc0_scratch2) fullShare s.m
    ∗ ∃ g : PrngReg, prngReg c g) := rfl

/-- What the body leaves in each window's buffer at point `t`: an input's block, the block of outputs, and the final state. -/
def left (c : Dev nD) : (w : Fin cfg0.W) → (t : Fin cfg0.N) → ((cfg0.win w).block).Idx → Elt F (cfg0.win w).elt
  | ⟨0, _⟩, t => iblk m c 0 t
  | ⟨1, _⟩, t => iblk m c 1 t
  | ⟨2, _⟩, t => iblk m c 2 t
  | ⟨3, _⟩, t => iblk m c 3 t
  | ⟨4, _⟩, t => iblk m c 4 t
  | ⟨5, _⟩, t => iblk m c 5 t
  | ⟨6, _⟩, t => iblk m c 6 t
  | ⟨7, _⟩, t => iblk m c 7 t
  | ⟨8, _⟩, t => iblk m c 8 t
  | ⟨9, _⟩, t => iblk m c 9 t
  | ⟨10, _⟩, t => hblk (inAt m c t) (grid0.coords t) (beginAt m c t)
  | ⟨11, _⟩, t => k0_pay15 (afterPts m c (t.val + 1)).C
  | ⟨12, _⟩, t => k0_pay16 (afterPts m c (t.val + 1)).n
  | ⟨13, _⟩, t => k0_pay17 (afterPts m c (t.val + 1)).m

/-- The proof data of the launch on core `c`. -/
def dats (_ : Fin 1) (c : Dev nD) : Dat τ (Elt F) Unit ℕ (UR sig nD τ) ℕ cfg0 c where
  A w := V m c (Pipeline.arrRef spec0 w)
  after := left m c
  Φ t := inv m c t.val
  q w := Pipeline.shareOf spec0 w
  owed _ := 0

/-- The arrays' contents at the region's entry are the host's. -/
theorem dats_A (c : Dev nD) (w : Fin cfg0.W) : (dats m 0 c).A w = V m c (Pipeline.arrRef spec0 w) := by
  dsimp only [dats]

/-- Window 0's buffer holds its block when the body runs. -/
theorem before_0 (c : Dev nD) (t : Fin cfg0.N) (d) : (dats m 0 c).before 0 t d = iblk m c 0 t :=
  before0_0_of m (dats m 0 c) (dats_A m c 0) (fun _ => rfl) t d
/-- Window 1's buffer holds its block when the body runs. -/
theorem before_1 (c : Dev nD) (t : Fin cfg0.N) (d) : (dats m 0 c).before 1 t d = iblk m c 1 t :=
  before0_1_of m (dats m 0 c) (dats_A m c 1) (fun _ => rfl) t d
/-- Window 2's buffer holds its block when the body runs. -/
theorem before_2 (c : Dev nD) (t : Fin cfg0.N) (d) : (dats m 0 c).before 2 t d = iblk m c 2 t :=
  before0_2_of m (dats m 0 c) (dats_A m c 2) (fun _ => rfl) t d
/-- Window 3's buffer holds its block when the body runs. -/
theorem before_3 (c : Dev nD) (t : Fin cfg0.N) (d) : (dats m 0 c).before 3 t d = iblk m c 3 t :=
  before0_3_of m (dats m 0 c) (dats_A m c 3) (fun _ => rfl) t d
/-- Window 4's buffer holds its block when the body runs. -/
theorem before_4 (c : Dev nD) (t : Fin cfg0.N) (d) : (dats m 0 c).before 4 t d = iblk m c 4 t :=
  before0_4_of m (dats m 0 c) (dats_A m c 4) (fun _ => rfl) t d
/-- Window 5's buffer holds its block when the body runs. -/
theorem before_5 (c : Dev nD) (t : Fin cfg0.N) (d) : (dats m 0 c).before 5 t d = iblk m c 5 t :=
  before0_5_of m (dats m 0 c) (dats_A m c 5) (fun _ => rfl) t d
/-- Window 6's buffer holds its block when the body runs. -/
theorem before_6 (c : Dev nD) (t : Fin cfg0.N) (d) : (dats m 0 c).before 6 t d = iblk m c 6 t :=
  before0_6_of m (dats m 0 c) (dats_A m c 6) (fun _ => rfl) t d
/-- Window 7's buffer holds its block when the body runs. -/
theorem before_7 (c : Dev nD) (t : Fin cfg0.N) (d) : (dats m 0 c).before 7 t d = iblk m c 7 t :=
  before0_7_of m (dats m 0 c) (dats_A m c 7) (fun _ => rfl) t d
/-- Window 8's buffer holds its block when the body runs. -/
theorem before_8 (c : Dev nD) (t : Fin cfg0.N) (d) : (dats m 0 c).before 8 t d = iblk m c 8 t :=
  before0_8_of m (dats m 0 c) (dats_A m c 8) (fun _ => rfl) t d
/-- Window 9's buffer holds its block when the body runs. -/
theorem before_9 (c : Dev nD) (t : Fin cfg0.N) (d) : (dats m 0 c).before 9 t d = iblk m c 9 t :=
  before0_9_of m (dats m 0 c) (dats_A m c 9) (fun _ => rfl) t d

/-- The resources around the body at a point, put into the shape of the body's theorems. -/
theorem inv_succ (c : Dev nD) (t : Fin cfg0.N) :
    iprop(owns (c : Thread nD τ) (Memref.whole cc0_scratch0) fullShare (st (inAt m c t) (grid0.coords t) (beginAt m c t) k0_t1_loop.trips).C
      ∗ owns (c : Thread nD τ) (Memref.whole cc0_scratch1) fullShare (st (inAt m c t) (grid0.coords t) (beginAt m c t) k0_t1_loop.trips).n
      ∗ owns (c : Thread nD τ) (Memref.whole cc0_scratch2) fullShare (st (inAt m c t) (grid0.coords t) (beginAt m c t) k0_t1_loop.trips).m
      ∗ ∃ g : PrngReg, prngReg c g) ⊢ (inv m c (t.val + 1) : sProp 𝕄) := by
  unfold inv
  rw [← afterPts_succ]
  iintro ⟨H0, H1, H2, H3⟩
  iexists (afterPts m c (t.val + 1))
  isplitr; · ipureintro; exact fun _ => rfl
  isplitl [H0]; · iexact H0
  isplitl [H1]; · iexact H1
  isplitl [H2]; · iexact H2
  iexact H3

set_option maxHeartbeats 2000000 in
/-- The body's obligation at a point that begins a sequence. -/
theorem oblig_first (c : Dev nD) (t : Fin cfg0.N) (h : t.val % 8 = 0) :
    iprop(inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
    ⊢ (wp frame (wpE (defs₀ (F := F)) Variants.none (c : Thread nD τ) none) Set.univ (bodyAt0 t) fun _ => iprop(inv m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d))) : sProp 𝕄) := by
  simp only [before_0, before_1, before_2, before_3, before_4, before_5, before_6, before_7, before_8, before_9]
  rw [inv_eq m c t.val]
  iintro ⟨⟨%s, %hs, Hs0, Hs1, Hs2, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hb : beginAt m c t = initAt m c t := if_pos h
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) ((dats m 0 c).before 12 t d12) ((dats m 0 c).before 13 t d13) ((begins_iff t).mpr h) (fun e => by have := (ends_iff t).mp e; omega) s _)
  isplitl [H0 H1 H2 H3 H4 H5 H6 H7 H8 H9 H10 H11 H12 H13 Hs0 Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hs0]; · iexact Hs0
    isplitl [Hs1]; · iexact Hs1
    iexact Hs2
  iintro ⟨H0, H1, H2, H3, H4, H5, H6, H7, H8, H9, H10, H11, H12, H13, Hs0, Hs1, Hs2⟩
  isplitl [Hs0 Hs1 Hs2 Hg]
  · iapply (inv_succ m c t)
    rw [hb]
    isplitl [Hs0]; · iexact Hs0
    isplitl [Hs1]; · iexact Hs1
    isplitl [Hs2]; · iexact Hs2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [show (dats m 0 c).after 10 t = hblk (inAt m c t) (grid0.coords t) (beginAt m c t) from rfl, hb]
    iexact H10
  isplitl [H11]; · iexists d11; iexact H11
  isplitl [H12]; · iexists d12; iexact H12
  iexists d13; iexact H13

set_option maxHeartbeats 2000000 in
/-- The body's obligation at a point that is inside a sequence. -/
theorem oblig_mid (c : Dev nD) (t : Fin cfg0.N) (h : t.val % 8 ≠ 0) (h' : t.val % 8 ≠ 7) :
    iprop(inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
    ⊢ (wp frame (wpE (defs₀ (F := F)) Variants.none (c : Thread nD τ) none) Set.univ (bodyAt0 t) fun _ => iprop(inv m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d))) : sProp 𝕄) := by
  simp only [before_0, before_1, before_2, before_3, before_4, before_5, before_6, before_7, before_8, before_9]
  rw [inv_eq m c t.val]
  iintro ⟨⟨%s, %hs, Hs0, Hs1, Hs2, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hb : beginAt m c t = s := (if_neg h).trans (hs h).symm
  iapply (run_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) ((dats m 0 c).before 12 t d12) ((dats m 0 c).before 13 t d13) (fun e => by have := (begins_iff t).mp e; omega) (fun e => h' ((ends_iff t).mp e)) s _)
  isplitl [H0 H1 H2 H3 H4 H5 H6 H7 H8 H9 H10 H11 H12 H13 Hs0 Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hs0]; · iexact Hs0
    isplitl [Hs1]; · iexact Hs1
    iexact Hs2
  iintro ⟨H0, H1, H2, H3, H4, H5, H6, H7, H8, H9, H10, H11, H12, H13, Hs0, Hs1, Hs2⟩
  isplitl [Hs0 Hs1 Hs2 Hg]
  · iapply (inv_succ m c t)
    rw [hb]
    isplitl [Hs0]; · iexact Hs0
    isplitl [Hs1]; · iexact Hs1
    isplitl [Hs2]; · iexact Hs2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [show (dats m 0 c).after 10 t = hblk (inAt m c t) (grid0.coords t) (beginAt m c t) from rfl, hb]
    iexact H10
  isplitl [H11]; · iexists d11; iexact H11
  isplitl [H12]; · iexists d12; iexact H12
  iexists d13; iexact H13

set_option maxHeartbeats 2000000 in
/-- The body's obligation at a point that ends a sequence. -/
theorem oblig_last (c : Dev nD) (t : Fin cfg0.N) (h : t.val % 8 = 7) :
    iprop(inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
    ⊢ (wp frame (wpE (defs₀ (F := F)) Variants.none (c : Thread nD τ) none) Set.univ (bodyAt0 t) fun _ => iprop(inv m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t)) : sProp 𝕄) := by
  simp only [before_0, before_1, before_2, before_3, before_4, before_5, before_6, before_7, before_8, before_9]
  rw [inv_eq m c t.val]
  iintro ⟨⟨%s, %hs, Hs0, Hs1, Hs2, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hb : beginAt m c t = s := (if_neg (by omega)).trans (hs (by omega)).symm
  iapply (run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) ((dats m 0 c).before 12 t d12) ((dats m 0 c).before 13 t d13) (fun e => by have := (begins_iff t).mp e; omega) ((ends_iff t).mpr h) s _)
  isplitl [H0 H1 H2 H3 H4 H5 H6 H7 H8 H9 H10 H11 H12 H13 Hs0 Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hs0]; · iexact Hs0
    isplitl [Hs1]; · iexact Hs1
    iexact Hs2
  iintro ⟨H0, H1, H2, H3, H4, H5, H6, H7, H8, H9, H10, H11, H12, H13, Hs0, Hs1, Hs2⟩
  isplitl [Hs0 Hs1 Hs2 Hg]
  · iapply (inv_succ m c t)
    rw [hb]
    isplitl [Hs0]; · iexact Hs0
    isplitl [Hs1]; · iexact Hs1
    isplitl [Hs2]; · iexact Hs2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [show (dats m 0 c).after 10 t = hblk (inAt m c t) (grid0.coords t) (beginAt m c t) from rfl, hb]
    iexact H10
  isplitl [H11]
  · rw [show (dats m 0 c).after 11 t = k0_pay15 (afterPts m c (t.val + 1)).C from rfl, afterPts_succ, hb]
    iexact H11
  isplitl [H12]
  · rw [show (dats m 0 c).after 12 t = k0_pay16 (afterPts m c (t.val + 1)).n from rfl, afterPts_succ, hb]
    iexact H12
  rw [show (dats m 0 c).after 13 t = k0_pay17 (afterPts m c (t.val + 1)).m from rfl, afterPts_succ, hb]
  iexact H13

/-- Windows 11, 12 and 13 are idle, and not written back, at every point but a sequence's last. -/
theorem idle_of (t : Fin cfg0.N) (h : t.val % 8 ≠ 7) :
    (!(k0_cond2 (grid0.coords t) == 1#1)) = true ∧ (cfg0.win 11).flush t = false ∧ (cfg0.win 12).flush t = false ∧ (cfg0.win 13).flush t = false := by
  refine ⟨?_, ?_, ?_, ?_⟩
  · rw [Bool.not_eq_true', beq_eq_false_iff_ne]
    exact fun e => h ((ends_iff t).mp e)
  · exact Bool.eq_false_iff.mpr fun e => h ((flush0_11 t).mp e)
  · exact Bool.eq_false_iff.mpr fun e => h ((flush0_12 t).mp e)
  · exact Bool.eq_false_iff.mpr fun e => h ((flush0_13 t).mp e)

set_option maxHeartbeats 2000000 in
/-- The library's body obligation, at every point. -/
theorem body_obligation (c : Dev nD) : BodyObligation (dats m 0 c) (defs₀ (F := F)) Variants.none () Set.univ := fun t => by
  rw [bigSep_W0, bigSep_W0]
  by_cases h7 : t.val % 8 = 7
  · have hi : (!(k0_cond2 (grid0.coords t) == 1#1)) = false := by
      rw [(ends_iff t).mpr h7]; rfl
    simp only [hi]
    exact oblig_last m c t h7
  · obtain ⟨hi, h11, h12, h13⟩ := idle_of t h7
    simp only [hi, h11, h12, h13]
    by_cases h0 : t.val % 8 = 0
    · exact oblig_first m c t h0
    · exact oblig_mid m c t h0 h7

/-! ## The launch -/

/-- At launch the scratch buffers hold something: the first point begins a sequence. -/
theorem inv_in (c : Dev nD) : Pipeline.ΦA spec0 c ⊢ (inv m c 0 : sProp 𝕄) := by
  unfold Pipeline.ΦA inv
  rw [scopedRest0_eq]
  simp only [owns_whole_eq]
  iintro ⟨⟨⟨%f0, H0⟩, ⟨%f1, H1⟩, ⟨%f2, H2⟩⟩, Hg⟩
  iexists (⟨f0, f1, f2⟩ : St F)
  isplitr; · ipureintro; exact fun h => absurd rfl h
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexact Hg

/-- At the end the scratch buffers hold something. -/
theorem inv_out (c : Dev nD) (r : ℕ) : inv m c r ⊢ (Pipeline.ΦA spec0 c : sProp 𝕄) := by
  unfold Pipeline.ΦA inv
  rw [scopedRest0_eq]
  simp only [owns_whole_eq]
  iintro ⟨%s, %hs, ⟨%f0, %e0, H0⟩, ⟨%f1, %e1, H1⟩, ⟨%f2, %e2, H2⟩, Hg⟩
  isplitr [Hg]
  · isplitl [H0]; · iexists f0; iexact H0
    isplitl [H1]; · iexists f1; iexact H1
    iexists f2; iexact H2
  iexact Hg

/-- THE RUN: every array of the call ends as the points' blocks leave it, every other array as the host left it, and every
    counter reads zero. -/
theorem run : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main
    (fun c => (body_obligation m c).loose) (fun _ _ _ => rfl) (fun _ _ => rfl) (V m) (hmain m Variants.none) (dats_A m)
    (fun c => inv_in m c) (fun c => inv_out m c _) _ (fun _ h => h)

/-- What the run says of the call's arrays and the others, read at the arguments. -/
theorem argsKept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((dats_A m c 0).trans (V_main_arg0 m c))),
    ((h c).1 1).trans (((dats m 0 c).arrAt_in 1 rfl _).trans ((dats_A m c 1).trans (V_main_arg1 m c))),
    ((h c).1 2).trans (((dats m 0 c).arrAt_in 2 rfl _).trans ((dats_A m c 2).trans (V_main_arg2 m c))),
    ((h c).2 main_arg3 (Pipeline.mem_restRefs_of main_arg3 (by decide) (by decide))).trans (V_main_arg3 m c),
    ((h c).1 7).trans (((dats m 0 c).arrAt_in 7 rfl _).trans ((dats_A m c 7).trans (V_main_arg4 m c))),
    ((h c).1 8).trans (((dats m 0 c).arrAt_in 8 rfl _).trans ((dats_A m c 8).trans (V_main_arg5 m c))),
    ((h c).1 9).trans (((dats m 0 c).arrAt_in 9 rfl _).trans ((dats_A m c 9).trans (V_main_arg6 m c)))⟩

/-- THE FRAME: the arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨argsKept m h.1, h.2⟩) (run m ρ)

end Cert.KernelIdeal.Scan

end
-- ==== Proof.Chunk.lean ====
/- The mathematics both programs compute: one chunk of 128 positions of the stabilised matrix-memory recurrence, and the
   recurrence over the 64 chunks of a sequence, over the extended reals. -/
module

public import Idealize.ShloMosaic.PureOps.Ideal
public import Idealize.ShloMosaic.Lib.Pointwise

@[expose] public section

noncomputable section

namespace Cert.Chunk

open Idealize.ShloMosaic

/-- A chunk's queries, keys and values (position, feature), input gates and log forget gates (position). -/
structure Data where
  q : Fin 128 → Fin 512 → EReal
  k : Fin 128 → Fin 512 → EReal
  v : Fin 128 → Fin 512 → EReal
  ig : Fin 128 → EReal
  lf : Fin 128 → EReal

/-- What is carried: the matrix (key feature, value feature), the normaliser (key feature), the stabiliser. -/
structure Mem where
  C : Fin 512 → Fin 512 → EReal
  n : Fin 512 → EReal
  m : EReal

/-- The value both programs fill masked scores with and begin a maximum from. -/
def bot : EReal := Ideal.ofBits .f32 0xFF800000#32

variable (X : Data) (S : Mem)

/-- The log forget gates summed up to a position. -/
def b (i : Fin 128) : EReal := ∑ j : Fin 128, if j ≤ i then X.lf j else 0
/-- All of them summed. -/
def bl : EReal := ∑ j : Fin 128, X.lf j
/-- The scores' exponents, masked. -/
def d (i j : Fin 128) : EReal := if j ≤ i then b X i - b X j + X.ig j else bot
/-- A row's stabiliser. -/
def mrow (i : Fin 128) : EReal := max (b X i + S.m) (Finset.univ.fold max bot fun j => d X i j)
/-- The weight of the carried memory in a row. -/
def w (i : Fin 128) : EReal := Ideal.exp (b X i + S.m - mrow X S i)
/-- The weighted scores. -/
def s (i j : Fin 128) : EReal := (∑ a : Fin 512, X.q i a * X.k j a) * Ideal.exp (d X i j - mrow X S i)
/-- The output's numerator. -/
def num (i : Fin 128) (e : Fin 512) : EReal :=
  w X S i * (∑ a : Fin 512, X.q i a * S.C a e) + ∑ j : Fin 128, s X S i j * X.v j e
/-- The output's denominator before its bound. -/
def den (i : Fin 128) : EReal := w X S i * (∑ a : Fin 512, X.q i a * S.n a) + ∑ j : Fin 128, s X S i j
/-- A chunk's output. -/
def h (i : Fin 128) (e : Fin 512) : EReal :=
  Ideal.div (num X S i e) (max (max (den X S i) (-den X S i)) (Ideal.exp (-mrow X S i)))
/-- The exponents of the positions' weights in the new memory. -/
def e (j : Fin 128) : EReal := bl X - b X j + X.ig j
/-- The new stabiliser. -/
def mnew : EReal := max (bl X + S.m) (Finset.univ.fold max bot fun j => e X j)
/-- The old memory's weight in the new one. -/
def g : EReal := Ideal.exp (bl X + S.m - mnew X S)
/-- The positions' weights in the new memory. -/
def wnew (j : Fin 128) : EReal := Ideal.exp (e X j - mnew X S)
/-- The memory after the chunk. -/
def next : Mem where
  C a c := g X S * S.C a c + ∑ j : Fin 128, X.k j a * (X.v j c * wnew X S j)
  n a := g X S * S.n a + ∑ j : Fin 128, X.k j a * wnew X S j
  m := mnew X S

/-- The memory after `r` chunks of a sequence `Y`, from the memory `S0`. -/
def run (Y : ℕ → Data) (S0 : Mem) : ℕ → Mem
  | 0 => S0
  | r + 1 => next (Y r) (run Y S0 r)

/-! ## The layer's arguments as sequences of chunks -/

/-- The arguments: queries, keys, values (batch, position, head and feature), gates (batch, position, direction, gate and
    head), and per direction, batch and head the first matrix, normaliser and stabiliser. -/
structure Args where
  q : Vec Ideal ⟨3, ![4, 8192, 2048]⟩ .bf16
  k : Vec Ideal ⟨3, ![4, 8192, 2048]⟩ .bf16
  v : Vec Ideal ⟨3, ![4, 8192, 2048]⟩ .bf16
  g : Vec Ideal ⟨3, ![4, 8192, 16]⟩ .f32
  C : Vec Ideal ⟨5, ![2, 4, 4, 512, 512]⟩ .f32
  n : Vec Ideal ⟨5, ![2, 4, 4, 1, 512]⟩ .f32
  m : Vec Ideal ⟨5, ![2, 4, 4, 1, 128]⟩ .f32

/-- The position of the `l`-th step of a direction: backwards the sequence is read from its end. -/
def pos (dir : Fin 2) (l : Fin 8192) : Fin 8192 := if dir = 0 then l else l.rev

/-- Step `i` of chunk `c` among all the steps. -/
def stepAt (c : Fin 64) (i : Fin 128) : Fin 8192 := ⟨128 * c.val + i.val, by omega⟩

/-- Feature `a` of head `h` among the 2048. -/
def feat (h : Fin 4) (a : Fin 512) : Fin 2048 := ⟨512 * h.val + a.val, by omega⟩

/-- A chunk of a direction, batch row and head. -/
def chunkAt (A : Args) (dir : Fin 2) (b h : Fin 4) (c : Fin 64) : Data where
  q i a := A.q (ix3 b (pos dir (stepAt c i)) (feat h a))
  k i a := A.k (ix3 b (pos dir (stepAt c i)) (feat h a))
  v i a := A.v (ix3 b (pos dir (stepAt c i)) (feat h a))
  ig i := A.g (ix3 b (pos dir (stepAt c i)) ⟨8 * dir.val + h.val, by omega⟩)
  lf i := A.g (ix3 b (pos dir (stepAt c i)) ⟨8 * dir.val + 4 + h.val, by omega⟩)

/-- The chunks in their order. -/
def seq (A : Args) (dir : Fin 2) (b h : Fin 4) (r : ℕ) : Data := chunkAt A dir b h ⟨r % 64, Nat.mod_lt _ (by decide)⟩

/-- The first memory. -/
def start (A : Args) (dir : Fin 2) (b h : Fin 4) : Mem where
  C a c := A.C (ix5 dir b h a c)
  n a := A.n (ix5 dir b h 0 a)
  m := A.m (ix5 dir b h 0 0)

/-- The memory after `r` chunks. -/
def mem (A : Args) (dir : Fin 2) (b h : Fin 4) (r : ℕ) : Mem := run (seq A dir b h) (start A dir b h) r

/-- The memory after one more chunk is the next memory. -/
theorem mem_succ (A : Args) (dir : Fin 2) (b h : Fin 4) (r : ℕ) :
    mem A dir b h (r + 1) = next (seq A dir b h r) (mem A dir b h r) := rfl

/-- The output of step `l`, feature `e` of a head. -/
def out (A : Args) (dir : Fin 2) (b h : Fin 4) (l : Fin 8192) (e : Fin 512) : EReal :=
  Chunk.h (seq A dir b h (l.val / 128)) (mem A dir b h (l.val / 128)) ⟨l.val % 128, Nat.mod_lt _ (by decide)⟩ e

/-! ## The four results -/

/-- Going to a step's position and back is nothing. -/
theorem pos_pos (dir : Fin 2) (l : Fin 8192) : pos dir (pos dir l) = l := by
  unfold pos
  split
  · rfl
  · exact Fin.rev_rev l

/-- The outputs, at (direction, batch, position, head and feature). -/
def resH (A : Args) : Vec Ideal ⟨4, ![2, 4, 8192, 2048]⟩ .f32 := fun y =>
  out A (y 0) (y 1) ⟨(y 3).val / 512, Nat.div_lt_of_lt_mul (show (y 3).val < 512 * 4 from (y 3).isLt)⟩ (pos (y 0) (y 2))
    ⟨(y 3).val % 512, Nat.mod_lt _ (by decide)⟩
/-- The last matrices. -/
def resC (A : Args) : Vec Ideal ⟨5, ![2, 4, 4, 512, 512]⟩ .f32 := fun y => (mem A (y 0) (y 1) (y 2) 64).C (y 3) (y 4)
/-- The last normalisers. -/
def resN (A : Args) : Vec Ideal ⟨5, ![2, 4, 4, 1, 512]⟩ .f32 := fun y => (mem A (y 0) (y 1) (y 2) 64).n (y 4)
/-- The last stabilisers, in every lane. -/
def resM (A : Args) : Vec Ideal ⟨5, ![2, 4, 4, 1, 128]⟩ .f32 := fun y => (mem A (y 0) (y 1) (y 2) 64).m

/-- The outputs at a head's feature. -/
theorem resH_apply (A : Args) (dir : Fin 2) (b : Fin 4) (p : Fin 8192) (h : Fin 4) (e : Fin 512) :
    resH A (ix4 dir b p (feat h e)) = out A dir b h (pos dir p) e := by
  have h1 : (⟨(feat h e).val / 512, Nat.div_lt_of_lt_mul (show (feat h e).val < 512 * 4 from (feat h e).isLt)⟩ : Fin 4) = h :=
    Fin.ext (by unfold feat; dsimp only; omega)
  have h2 : (⟨(feat h e).val % 512, Nat.mod_lt _ (by decide)⟩ : Fin 512) = e := Fin.ext (by unfold feat; dsimp only; omega)
  show out A dir b ⟨(feat h e).val / 512, _⟩ (pos dir p) ⟨(feat h e).val % 512, _⟩ = _
  rw [h1, h2]

end Cert.Chunk

end
-- ==== Proof.KernelChunk.lean ====
/- One chunk of the kernel's loop, at the extended reals, is one chunk of the recurrence: the kernel holds a chunk's
   positions in the order `σ` of the recurrence's (the identity forwards, the reversal backwards). -/
module

public import proofs.«01_k».proof.Proof.Step
public import proofs.«01_k».proof.Proof.Chunk
public import Idealize.ShloMosaic.Lib.Pointwise

@[expose] public section

set_option maxRecDepth 16384

noncomputable section

namespace Cert.KernelIdeal.Scan

open Idealize.ShloMosaic Idealize.ShloMosaic.TcCoe Cert.KernelIdeal Cert.KernelIdeal.Gen Idealize.SL.Sem
open Cert

section Pure

variable (X : Chunk.Data) (S : Chunk.Mem) (σ : Equiv.Perm (Fin 128))
  (qv kv vv : FVec Ideal S1x128x512 .bf16) (gc : FVec Ideal S1x1x128x2 .f32) (gr : FVec Ideal S1x1x1x2x128 .f32)
  (tri trit : FVec Ideal S1x128x128 .f32) (m : FVec Ideal S1x1 .f32) (C : FVec Ideal S512x512 .f32) (n : FVec Ideal S1x512 .f32)
  (hq : ∀ (p : Fin 128) (a : Fin 512), qv (ix3 0 p a) = X.q (σ p) a)
  (hk : ∀ (p : Fin 128) (a : Fin 512), kv (ix3 0 p a) = X.k (σ p) a)
  (hv : ∀ (p : Fin 128) (a : Fin 512), vv (ix3 0 p a) = X.v (σ p) a)
  (hic : ∀ p : Fin 128, gc (ix4 0 0 p 0) = X.ig (σ p)) (hlc : ∀ p : Fin 128, gc (ix4 0 0 p 1) = X.lf (σ p))
  (hir : ∀ p : Fin 128, gr (ix5 0 0 0 0 p) = X.ig (σ p)) (hlr : ∀ p : Fin 128, gr (ix5 0 0 0 1 p) = X.lf (σ p))
  (htri : ∀ p r : Fin 128, tri (ix3 0 p r) = if σ r ≤ σ p then 1 else 0)
  (htrit : ∀ p r : Fin 128, trit (ix3 0 p r) = if σ p ≤ σ r then 1 else 0)
  (hm : m (ix2 0 0) = S.m) (hC : ∀ a c : Fin 512, C (ix2 a c) = S.C a c) (hn : ∀ a : Fin 512, n (ix2 0 a) = S.n a)

include hlr htri in
/-- The kernel's column of summed log gates. -/
theorem pay26_eq (p : Fin 128) : k0_pay26 (F := Ideal) (k0_pay4 tri) gr (ix2 p 0) = Chunk.b X (σ p) := by
  pointwise [k0_pay26, k0_pay4, k0_pay22]
  refine Eq.trans ?_ (Equiv.sum_comp σ fun j => if j ≤ σ p then X.lf j else 0)
  refine Finset.sum_congr rfl fun r _ => ?_
  rw [htri, hlr]
  split <;> simp

include hlc htrit in
/-- The kernel's row of summed log gates. -/
theorem pay27_eq (p : Fin 128) : k0_pay27 (F := Ideal) (k0_pay5 trit) gc (ix2 0 p) = Chunk.b X (σ p) := by
  pointwise [k0_pay27, k0_pay5, k0_pay24, k0_pay21]
  refine Eq.trans ?_ (Equiv.sum_comp σ fun j => if j ≤ σ p then X.lf j else 0)
  refine Finset.sum_congr rfl fun r _ => ?_
  rw [htrit, hlc]
  split <;> simp

include hlc in
/-- The kernel's total of the log gates. -/
theorem pay7_eq : k0_pay7 (F := Ideal) (k0_pay24 gc) (ix2 0 0) = Chunk.bl X := by
  pointwise [k0_pay7, k0_pay24, k0_pay21]
  refine Eq.trans ?_ (Equiv.sum_comp σ fun j => X.lf j)
  exact Finset.sum_congr rfl fun r _ => hlc r

include htri in
/-- The kernel's mask. -/
theorem pay6_eq (p r : Fin 128) : k0_pay6 (F := Ideal) tri (ix2 p r) = if σ r ≤ σ p then 1#1 else 0#1 := by
  pointwise [k0_pay6, k0_pay4]
  rw [htri]
  split <;> simp

include hlc hic in
/-- The exponents of the weights in the new memory. -/
theorem pay8_eq (p : Fin 128) (v41 : FVec Ideal S128x1 .f32) (h41 : ∀ p : Fin 128, v41 (ix2 p 0) = Chunk.b X (σ p)) :
    k0_pay8 (F := Ideal) (k0_pay23 gc) (k0_pay24 gc) v41 (ix2 p 0) = Chunk.e X (σ p) := by
  pointwise [k0_pay8, k0_pay23, k0_pay21]
  rw [pay7_eq X σ gc hlc, h41, hic]
  rfl

/-- A maximum over the positions does not depend on their order. -/
theorem fold_perm (z : EReal) (f : Fin 128 → EReal) :
    (Finset.univ.fold max z fun p => f (σ p)) = Finset.univ.fold max z f := by
  conv_rhs => rw [← Finset.map_univ_equiv σ, Finset.fold_map]
  rfl

include hlc hic hm in
/-- The new stabiliser. -/
theorem pay9_eq (v41 : FVec Ideal S128x1 .f32) (h41 : ∀ p : Fin 128, v41 (ix2 p 0) = Chunk.b X (σ p)) :
    k0_pay9 (F := Ideal) (k0_pay23 gc) (k0_pay24 gc) v41 m (ix2 0 0) = Chunk.mnew X S := by
  pointwise [k0_pay9]
  rw [pay7_eq X σ gc hlc, hm]
  simp only [pay8_eq X σ gc hic hlc _ v41 h41]
  rw [fold_perm σ _ fun p => Chunk.e X p]
  rfl

include hlc hic hm in
/-- The old memory's weight. -/
theorem pay10_eq (v41 : FVec Ideal S128x1 .f32) (h41 : ∀ p : Fin 128, v41 (ix2 p 0) = Chunk.b X (σ p)) :
    k0_pay10 (F := Ideal) (k0_pay23 gc) (k0_pay24 gc) v41 m (ix2 0 0) = Chunk.g X S := by
  pointwise [k0_pay10]
  rw [pay7_eq X σ gc hlc, hm, pay9_eq X S σ gc m hic hlc hm v41 h41]
  rfl

include hlc hic hm in
/-- The positions' weights. -/
theorem pay11_eq (p : Fin 128) (v41 : FVec Ideal S128x1 .f32) (h41 : ∀ p : Fin 128, v41 (ix2 p 0) = Chunk.b X (σ p)) :
    k0_pay11 (F := Ideal) (k0_pay23 gc) (k0_pay24 gc) v41 m (ix2 p 0) = Chunk.wnew X S (σ p) := by
  pointwise [k0_pay11]
  rw [pay8_eq X σ gc hic hlc _ v41 h41, pay9_eq X S σ gc m hic hlc hm v41 h41]
  rfl

include hk hv hlc hic hm hC in
/-- The new matrix. -/
theorem pay12_eq (a c : Fin 512) (v41 : FVec Ideal S128x1 .f32) (h41 : ∀ p : Fin 128, v41 (ix2 p 0) = Chunk.b X (σ p)) :
    k0_pay12 (F := Ideal) (k0_pay19 kv) (k0_pay20 vv) (k0_pay23 gc) (k0_pay24 gc) v41 m C (ix2 a c) = (Chunk.next X S).C a c := by
  pointwise [k0_pay12, k0_pay19, k0_pay20]
  simp only [pay11_eq X S σ gc m hic hlc hm _ v41 h41, pay10_eq X S σ gc m hic hlc hm v41 h41, hC, hk, hv]
  rw [Equiv.sum_comp σ fun p => X.k p a * (X.v p c * Chunk.wnew X S p)]
  rfl

include hk hlc hic hm hn in
/-- The new normaliser. -/
theorem pay13_eq (a : Fin 512) (v41 : FVec Ideal S128x1 .f32) (h41 : ∀ p : Fin 128, v41 (ix2 p 0) = Chunk.b X (σ p)) :
    k0_pay13 (F := Ideal) (k0_pay19 kv) (k0_pay23 gc) (k0_pay24 gc) v41 m n (ix2 0 a) = (Chunk.next X S).n a := by
  pointwise [k0_pay13, k0_pay19]
  simp only [pay11_eq X S σ gc m hic hlc hm _ v41 h41, pay10_eq X S σ gc m hic hlc hm v41 h41, hn, hk]
  rw [Equiv.sum_comp σ fun p => X.k p a * Chunk.wnew X S p]
  rfl

include hlc hic hm in
/-- The new stabiliser, in every lane. -/
theorem pay14_eq (l : Fin 128) (v41 : FVec Ideal S128x1 .f32) (h41 : ∀ p : Fin 128, v41 (ix2 p 0) = Chunk.b X (σ p)) :
    k0_pay14 (F := Ideal) (k0_pay23 gc) (k0_pay24 gc) v41 m (ix2 0 l) = (Chunk.next X S).m := by
  pointwise [k0_pay14]
  exact pay9_eq X S σ gc m hic hlc hm v41 h41

/-- A selection on a decided bit. -/
theorem sel_eq (P : Prop) [Decidable P] (x y : EReal) : Scalar.select (if P then 1#1 else 0#1) x y = if P then x else y := by
  split <;> rfl

include hq hk hv hir hm hC hn in
/-- The chunk's output. -/
theorem pay29_eq (p : Fin 128) (c : Fin 512) (v8 : IVec S128x128 1) (v41 : FVec Ideal S128x1 .f32) (v45 : FVec Ideal S1x128 .f32) (v49 : FVec Ideal S128x1 .f32)
    (h8 : ∀ p r : Fin 128, v8 (ix2 p r) = if σ r ≤ σ p then 1#1 else 0#1)
    (h41 : ∀ p : Fin 128, v41 (ix2 p 0) = Chunk.b X (σ p)) (h45 : ∀ p : Fin 128, v45 (ix2 0 p) = Chunk.b X (σ p))
    (h49 : ∀ p : Fin 128, v49 (ix2 p 0) = Chunk.b X (σ p) + S.m) :
    k0_pay29 (F := Ideal) v8 (k0_pay18 qv) (k0_pay19 kv) (k0_pay20 vv) (k0_pay25 gr) v41 v45 n v49 C (ix4 0 0 p c) = Chunk.h X S (σ p) c := by
  pointwise [k0_pay29, k0_pay18, k0_pay19, k0_pay20, k0_pay25, k0_pay22]
  simp only [h8, h41, h45, h49, hq, hk, hv, hir, hC, hn]
  have hd : ∀ x : Fin 128, Scalar.select (if σ x ≤ σ p then 1#1 else 0#1) (Chunk.b X (σ p) - Chunk.b X (σ x) + X.ig (σ x))
      (Ideal.ofBits FTy.f32 4286578688#32) = Chunk.d X (σ p) (σ x) := fun x => sel_eq _ _ _
  simp only [hd]
  rw [fold_perm σ _ fun x => Chunk.d X (σ p) x, zero_sub]
  unfold Chunk.h Chunk.num Chunk.den
  rw [← Equiv.sum_comp σ fun x => Chunk.s X S (σ p) x * X.v x c, ← Equiv.sum_comp σ fun x => Chunk.s X S (σ p) x]
  rfl

end Pure

/-! ## One chunk from the blocks -/

/-- The state holds a memory: its matrix, its normaliser, and its stabiliser in the first lane. -/
structure Holds (s : St Ideal) (S : Chunk.Mem) : Prop where
  C : ∀ a c : Fin 512, s.C (ix2 a c) = S.C a c
  n : ∀ a : Fin 512, s.n (ix2 0 a) = S.n a
  m : s.m (ix2 0 0) = S.m

/-- The blocks hold a chunk's positions in the order `σ`, at the trip's rows. -/
structure Reads (B : In Ideal) (i : grid0.Coords) (k : Fin k0_t1_loop.trips) (X : Chunk.Data) (σ : Equiv.Perm (Fin 128)) : Prop where
  rq : ∀ (p : Fin 128) (a : Fin 512), rowsAt B.q i k (ix3 0 p a) = X.q (σ p) a
  rk : ∀ (p : Fin 128) (a : Fin 512), rowsAt B.k i k (ix3 0 p a) = X.k (σ p) a
  rv : ∀ (p : Fin 128) (a : Fin 512), rowsAt B.v i k (ix3 0 p a) = X.v (σ p) a
  ic : ∀ p : Fin 128, colsAt B.gc i k (ix4 0 0 p 0) = X.ig (σ p)
  lc : ∀ p : Fin 128, colsAt B.gc i k (ix4 0 0 p 1) = X.lf (σ p)
  ir : ∀ p : Fin 128, lanesAt B.gr i k (ix5 0 0 0 0 p) = X.ig (σ p)
  lr : ∀ p : Fin 128, lanesAt B.gr i k (ix5 0 0 0 1 p) = X.lf (σ p)
  tri : ∀ p r : Fin 128, B.tri (ix3 0 p r) = if σ r ≤ σ p then 1 else 0
  trit : ∀ p r : Fin 128, B.trit (ix3 0 p r) = if σ p ≤ σ r then 1 else 0

/-- The first lane, read. -/
theorem lane0_eq (m : Vec Ideal S1x128 .f32) : lane0 m (ix2 0 0) = m (ix2 0 0) := by
  unfold lane0
  pointwise

section Chunk

variable {B : In Ideal} {i : grid0.Coords} {k : Fin k0_t1_loop.trips} {X : Chunk.Data} {σ : Equiv.Perm (Fin 128)}
  {s : St Ideal} {S : Chunk.Mem}

/-- The state after a chunk holds the memory after it, the stabiliser in every lane. -/
theorem step_holds (hr : Reads B i k X σ) (hs : Holds s S) :
    Holds (step B i k s) (Chunk.next X S) ∧ ∀ l : Fin 128, (step B i k s).m (ix2 0 l) = (Chunk.next X S).m := by
  have hm : lane0 s.m (ix2 0 0) = S.m := (lane0_eq s.m).trans hs.m
  have h41 := pay26_eq X σ (lanesAt B.gr i k) B.tri hr.lr hr.tri
  have h14 := fun l => pay14_eq X S σ (colsAt B.gc i k) (lane0 s.m) hr.ic hr.lc hm l _ h41
  exact ⟨⟨fun a c => pay12_eq X S σ _ _ _ _ _ hr.rk hr.rv hr.ic hr.lc hm hs.C a c _ h41,
    fun a => pay13_eq X S σ _ _ _ _ hr.rk hr.ic hr.lc hm hs.n a _ h41, h14 0⟩, h14⟩

/-- The rows stored in a chunk are its outputs. -/
theorem hout_eq (hr : Reads B i k X σ) (hs : Holds s S) (p : Fin 128) (c : Fin 512) :
    hout B i k s (ix4 0 0 p c) = Chunk.h X S (σ p) c := by
  have hm : lane0 s.m (ix2 0 0) = S.m := (lane0_eq s.m).trans hs.m
  have h41 := pay26_eq X σ (lanesAt B.gr i k) B.tri hr.lr hr.tri
  refine pay29_eq X S σ _ _ _ _ _ _ _ hr.rq hr.rk hr.rv hr.ir hm hs.C hs.n p c _ _ _ _ (pay6_eq σ B.tri hr.tri) h41
    (pay27_eq X σ _ _ hr.lc hr.trit) fun p => ?_
  pointwise [k0_pay28]
  rw [h41, hm]

end Chunk
end Cert.KernelIdeal.Scan
end
-- ==== Proof.KernelReads.lean ====
/- What the kernel's blocks hold: each input block at a grid point, read as an element of the launch's arguments, and with
   it the chunk of a direction, batch row and head that a trip of the kernel's loop takes. -/
module

public import proofs.«01_k».proof.Proof.Run
public import proofs.«01_k».proof.Proof.KernelChunk
public import Idealize.ShloMosaic.Lib.Pipeline.ValueKit

@[expose] public section

set_option maxRecDepth 16384

noncomputable section

namespace Cert.KernelIdeal.Scan

open Idealize.ShloMosaic Idealize.ShloMosaic.TcCoe Cert.KernelIdeal Cert.KernelIdeal.Gen Idealize.SL.Sem
open Cert

variable (m : (ℓ : Loc nD τ sig) → Buf (Elt Ideal) ℓ)

/-! ## A grid point's coordinates and block indices -/

/-- The batch row, head, direction and block of a point. -/
theorem coords_val : ∀ t : Fin cfg0.N, (grid0.coords t 0).val = t.val / 64 ∧ (grid0.coords t 1).val = t.val / 16 % 4 ∧
    (grid0.coords t 2).val = t.val / 8 % 2 ∧ (grid0.coords t 3).val = t.val % 8 := (by decide +kernel : ∀ t : Fin grid0.N, _)

/-- The block along the sequence a point reads. -/
def blkRow (t : ℕ) : ℕ := if t / 8 % 2 = 0 then t % 8 else 7 - t % 8

/-- Every window's block index at a point. -/
theorem idx : ∀ t : Fin cfg0.N,
    win0_0.index t = ![t.val / 64, blkRow t.val, t.val / 16 % 4] ∧ win0_1.index t = ![t.val / 64, blkRow t.val, t.val / 16 % 4] ∧
    win0_2.index t = ![t.val / 64, blkRow t.val, t.val / 16 % 4] ∧
    win0_3.index t = ![t.val / 64, 4 * (t.val / 8 % 2) + t.val / 16 % 4, blkRow t.val, 0] ∧
    win0_4.index t = ![t.val / 64, 4 * (t.val / 8 % 2) + t.val / 16 % 4, blkRow t.val, 0, 0] ∧
    win0_5.index t = ![t.val / 8 % 2, 0, 0] ∧ win0_6.index t = ![1 - t.val / 8 % 2, 0, 0] ∧
    win0_7.index t = ![t.val / 8 % 2, t.val / 64, t.val / 16 % 4, 0, 0] ∧ win0_8.index t = ![t.val / 8 % 2, t.val / 64, t.val / 16 % 4, 0, 0] ∧
    win0_9.index t = ![t.val / 8 % 2, t.val / 64, t.val / 16 % 4, 0, 0] := (by decide +kernel : ∀ t : Fin grid0.N, _)

/-- The output windows' block index at a point. -/
theorem idxOut : ∀ t : Fin cfg0.N,
    win0_10.index t = ![t.val / 8 % 2, t.val / 64, blkRow t.val, t.val / 16 % 4] ∧
    win0_11.index t = ![t.val / 8 % 2, t.val / 64, t.val / 16 % 4, 0, 0] ∧ win0_12.index t = ![t.val / 8 % 2, t.val / 64, t.val / 16 % 4, 0, 0] ∧
    win0_13.index t = ![t.val / 8 % 2, t.val / 64, t.val / 16 % 4, 0, 0] := (by decide +kernel : ∀ t : Fin grid0.N, _)

/-- The grid has 256 points. -/
theorem lt256 (t : Fin cfg0.N) : t.val < 256 := lt_of_lt_of_eq t.isLt (show cfg0.N = 256 from N_0)

/-- The batch row of a point. -/
def bOf (t : Fin cfg0.N) : Fin 4 := ⟨t.val / 64, by have := lt256 t; omega⟩
/-- Its head. -/
def hOf (t : Fin cfg0.N) : Fin 4 := ⟨t.val / 16 % 4, by omega⟩
/-- Its direction. -/
def dOf (t : Fin cfg0.N) : Fin 2 := ⟨t.val / 8 % 2, by omega⟩

/-- There are eight blocks of positions. -/
theorem blkRow_lt (t : ℕ) : blkRow t < 8 := by unfold blkRow; split <;> omega

/-- The arguments of a launch. -/
def argsOf (c : Dev nD) : Chunk.Args where
  q := m ((c : Thread nD τ).loc main_arg0)
  k := m ((c : Thread nD τ).loc main_arg1)
  v := m ((c : Thread nD τ).loc main_arg2)
  g := m ((c : Thread nD τ).loc main_arg3)
  C := m ((c : Thread nD τ).loc main_arg4)
  n := m ((c : Thread nD τ).loc main_arg5)
  m := m ((c : Thread nD τ).loc main_arg6)

/-! ## The blocks of the arguments -/

/-- Row `r` of a point's block, among the positions. -/
def rowOf (t : Fin cfg0.N) (r : Fin 1024) : Fin 8192 := ⟨blkRow t.val * 1024 + r.val, by have := blkRow_lt t.val; omega⟩

/-- A point's block of queries, entry by entry. -/
theorem iblk0_eq (c : Dev nD) (t : Fin cfg0.N) (r : Fin 1024) (a : Fin 512) :
    iblk m c 0 t (ix3 0 r a) = (argsOf m c).q (ix3 (bOf t) (rowOf t r) (Chunk.feat (hOf t) a)) := by
  have := lt256 t
  unfold argsOf bOf rowOf Chunk.feat hOf
  blk_ext [iblk, V_main_arg0, idx t]

/-- A point's block of keys, entry by entry. -/
theorem iblk1_eq (c : Dev nD) (t : Fin cfg0.N) (r : Fin 1024) (a : Fin 512) :
    iblk m c 1 t (ix3 0 r a) = (argsOf m c).k (ix3 (bOf t) (rowOf t r) (Chunk.feat (hOf t) a)) := by
  have := lt256 t
  unfold argsOf bOf rowOf Chunk.feat hOf
  blk_ext [iblk, V_main_arg1, idx t]

/-- A point's block of values, entry by entry. -/
theorem iblk2_eq (c : Dev nD) (t : Fin cfg0.N) (r : Fin 1024) (a : Fin 512) :
    iblk m c 2 t (ix3 0 r a) = (argsOf m c).v (ix3 (bOf t) (rowOf t r) (Chunk.feat (hOf t) a)) := by
  have := lt256 t
  unfold argsOf bOf rowOf Chunk.feat hOf
  blk_ext [iblk, V_main_arg2, idx t]

/-- A point's block of first matrix memories, entry by entry. -/
theorem iblk7_eq (c : Dev nD) (t : Fin cfg0.N) (a e : Fin 512) :
    iblk m c 7 t (ix5 0 0 0 a e) = (argsOf m c).C (ix5 (dOf t) (bOf t) (hOf t) a e) := by
  have := lt256 t
  unfold argsOf bOf dOf hOf
  blk_ext [iblk, V_main_arg4, idx t]

/-- A point's block of first normalisers, entry by entry. -/
theorem iblk8_eq (c : Dev nD) (t : Fin cfg0.N) (a : Fin 512) :
    iblk m c 8 t (ix5 0 0 0 0 a) = (argsOf m c).n (ix5 (dOf t) (bOf t) (hOf t) 0 a) := by
  have := lt256 t
  unfold argsOf bOf dOf hOf
  blk_ext [iblk, V_main_arg5, idx t]

/-- A point's block of first stabilisers, entry by entry. -/
theorem iblk9_eq (c : Dev nD) (t : Fin cfg0.N) (a : Fin 128) :
    iblk m c 9 t (ix5 0 0 0 0 a) = (argsOf m c).m (ix5 (dOf t) (bOf t) (hOf t) 0 a) := by
  have := lt256 t
  unfold argsOf bOf dOf hOf
  blk_ext [iblk, V_main_arg6, idx t]

/-! ## The gates and the triangles, arranged by the host -/

/-- The gates by column, as the host arranges them. -/
theorem V2_eq (c : Dev nD) (b : Fin 4) (d : Fin 2) (h : Fin 4) (p : Fin 8192) (e : Fin 2) :
    V m c main_v2 (ix4 b ⟨4 * d.val + h.val, by omega⟩ p e) = (argsOf m c).g (ix3 b p ⟨8 * d.val + 4 * e.val + h.val, by omega⟩) := by
  unfold V
  simp only [hostOps0, hostOps0_1, hostOps0_2, List.flatten_cons, List.flatten_nil, List.append_nil, List.cons_append, List.nil_append]
  after_results
  pointwise
  exact congrArg (argsOf m c).g (by congr 1 <;> exact Fin.ext (by dsimp only; omega))

/-- The gates by row, as the host arranges them. -/
theorem V5_eq (c : Dev nD) (b : Fin 4) (d : Fin 2) (h : Fin 4) (k : Fin 64) (e : Fin 2) (p : Fin 128) :
    V m c main_v5 (ix5 b ⟨4 * d.val + h.val, by omega⟩ k e p) = (argsOf m c).g (ix3 b (Chunk.stepAt k p) ⟨8 * d.val + 4 * e.val + h.val, by omega⟩) := by
  unfold V Chunk.stepAt
  simp only [hostOps0, hostOps0_1, hostOps0_2, List.flatten_cons, List.flatten_nil, List.append_nil, List.cons_append, List.nil_append]
  after_results
  pointwise
  exact congrArg (argsOf m c).g (by congr 1 <;> exact Fin.ext (by dsimp only; omega))

/-- The lower triangle of ones, as the host builds it. -/
def lower : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Ideal) S_ FTy.f32 1065353216#32 : FVec Ideal S_ .f32))
    (broadcastInDim S128x128 ![] bcast_S_S128x128 (constant (F := Ideal) S_ FTy.f32 0#32 : FVec Ideal S_ .f32))

/-- It is one on and below the diagonal. -/
theorem lower_eq (p r : Fin 128) : lower (ix2 p r) = if r ≤ p then (1 : EReal) else (0 : EReal) := by
  pointwise [lower]
  have key : ∀ p r : Fin 128, IntOp.cmpi CmpIPredicate.sge (IntOp.addi (BitVec.ofNat 32 p.val) 0#32) (BitVec.ofNat 32 r.val)
      = if r ≤ p then 1#1 else 0#1 := by decide +kernel
  rw [key]
  exact sel_eq _ _ _

set_option maxHeartbeats 1000000 in
/-- The two triangles: the lower one, then its transpose. -/
theorem V11_eq (c : Dev nD) :
    (V m c main_v11 : Vec Ideal S2x128x128 .f32) = concatenate S2x128x128 0 [⟨S1x128x128, broadcastInDim S1x128x128 ![1, 2] bcast_S128x128_S1x128x128_1_2 lower⟩,
      ⟨S1x128x128, broadcastInDim S1x128x128 ![1, 2] bcast_S128x128_S1x128x128_1_2 (transpose S128x128 [1, 0] lower transposes_S128x128_S128x128_1_0)⟩]
      concatenates_S1x128x128_S1x128x128_S2x128x128_d0 := by
  unfold V
  simp only [hostOps0, hostOps0_1, hostOps0_2, List.flatten_cons, List.flatten_nil, List.append_nil, List.cons_append, List.nil_append]
  after_results
  rfl

/-- The triangles at an index. -/
theorem V11_apply (c : Dev nD) (d : Fin 2) (p r : Fin 128) :
    V m c main_v11 (ix3 d p r) = if (if d = 0 then r ≤ p else p ≤ r) then (1 : EReal) else (0 : EReal) := by
  refine (congrFun (V11_eq m c) (ix3 d p r)).trans ?_
  fin_cases d
  · pointwise
    exact lower_eq p r
  · pointwise
    exact lower_eq r p

/-- A point's block of gates by column. -/
theorem iblk3_eq (c : Dev nD) (t : Fin cfg0.N) (r : Fin 1024) (e : Fin 2) :
    iblk m c 3 t (ix4 0 0 r e) = (argsOf m c).g (ix3 (bOf t) (rowOf t r) ⟨8 * (dOf t).val + 4 * e.val + (hOf t).val, by omega⟩) := by
  have := lt256 t
  refine Eq.trans ?_ (V2_eq m c (bOf t) (dOf t) (hOf t) (rowOf t r) e)
  unfold bOf rowOf dOf hOf
  blk_ext [iblk, idx t]

/-- A point's block of gates by row: chunk `k` of the block. -/
theorem iblk4_eq (c : Dev nD) (t : Fin cfg0.N) (k : Fin 8) (e : Fin 2) (p : Fin 128) :
    iblk m c 4 t (ix5 0 0 k e p) = (argsOf m c).g (ix3 (bOf t) (Chunk.stepAt ⟨blkRow t.val * 8 + k.val, by have := blkRow_lt t.val; omega⟩ p)
      ⟨8 * (dOf t).val + 4 * e.val + (hOf t).val, by omega⟩) := by
  have := lt256 t
  refine Eq.trans ?_ (V5_eq m c (bOf t) (dOf t) (hOf t) _ e p)
  unfold bOf dOf hOf
  blk_ext [iblk, idx t]

/-- A point's mask: lower forwards, upper backwards. -/
theorem iblk5_eq (c : Dev nD) (t : Fin cfg0.N) (p r : Fin 128) :
    iblk m c 5 t (ix3 0 p r) = if (if dOf t = 0 then r ≤ p else p ≤ r) then (1 : EReal) else (0 : EReal) := by
  have := lt256 t
  refine Eq.trans ?_ (V11_apply m c (dOf t) p r)
  unfold dOf
  blk_ext [iblk, idx t]

/-- A point's transposed mask. -/
theorem iblk6_eq (c : Dev nD) (t : Fin cfg0.N) (p r : Fin 128) :
    iblk m c 6 t (ix3 0 p r) = if (if dOf t = 0 then p ≤ r else r ≤ p) then (1 : EReal) else (0 : EReal) := by
  have := lt256 t
  refine Eq.trans (b := V m c main_v11 (ix3 (dOf t).rev p r)) ?_ ?_
  · unfold dOf
    blk_ext [iblk, idx t]
    rw [Fin.val_rev]
    dsimp only
    omega
  · rw [V11_apply m c (dOf t).rev p r]
    generalize dOf t = d
    fin_cases d <;> rfl

/-! ## The chunk a trip takes -/

/-- The order in which a direction's chunk lies in memory. -/
def order (d : Fin 2) : Equiv.Perm (Fin 128) := if d = 0 then Equiv.refl _ else Fin.revPerm

/-- A trip's rows of a block. -/
theorem rowsAt_eq (X : Vec Ideal S1x1024x512 .bf16) (i : grid0.Coords) (k : Fin k0_t1_loop.trips) (p : Fin 128) (a : Fin 512)
    (h : 128 * (if (i 2).val = 0 then k.val else 7 - k.val) + p.val < 1024) :
    rowsAt X i k (ix3 0 p a) = X (ix3 0 ⟨128 * (if (i 2).val = 0 then k.val else 7 - k.val) + p.val, h⟩ a) := by
  unfold rowsAt
  pointwise [off1_eq i k]

/-- A trip's gates by column. -/
theorem colsAt_eq (X : Vec Ideal S1x1x1024x2 .f32) (i : grid0.Coords) (k : Fin k0_t1_loop.trips) (p : Fin 128) (e : Fin 2)
    (h : 128 * (if (i 2).val = 0 then k.val else 7 - k.val) + p.val < 1024) :
    colsAt X i k (ix4 0 0 p e) = X (ix4 0 0 ⟨128 * (if (i 2).val = 0 then k.val else 7 - k.val) + p.val, h⟩ e) := by
  unfold colsAt
  pointwise [off2_eq i k]

/-- A trip's gates by row. -/
theorem lanesAt_eq (X : Vec Ideal S1x1x8x2x128 .f32) (i : grid0.Coords) (k : Fin k0_t1_loop.trips) (p : Fin 128) (e : Fin 2)
    (h : (if (i 2).val = 0 then k.val else 7 - k.val) < 8) :
    lanesAt X i k (ix5 0 0 0 e p) = X (ix5 0 0 ⟨if (i 2).val = 0 then k.val else 7 - k.val, h⟩ e p) := by
  unfold lanesAt
  pointwise [off3_eq i k]

/-- The chunk of its direction a trip at a point takes. -/
def chunkNo (t : Fin cfg0.N) (k : Fin k0_t1_loop.trips) : Fin 64 :=
  ⟨8 * (t.val % 8) + k.val, by have : k.val < 8 := lt_of_lt_of_eq k.isLt trips_eq; omega⟩

/-- The order of the positions within a chunk: upwards forward, downwards backward. -/
theorem order_val (d : Fin 2) (p : Fin 128) : (order d p).val = if d.val = 0 then p.val else 127 - p.val := by
  fin_cases d
  · rfl
  · show (Fin.rev p).val = _
    rw [Fin.val_rev]
    simp

/-- The position of a step: counted from the front forward, from the back backward. -/
theorem pos_val (d : Fin 2) (l : Fin 8192) : (Chunk.pos d l).val = if d.val = 0 then l.val else 8191 - l.val := by
  fin_cases d
  · rfl
  · show (Fin.rev l).val = _
    rw [Fin.val_rev]
    simp

/-- Row `p` of a trip's rows of a block is the position of the chunk's step in order. -/
theorem row_eq (t : Fin cfg0.N) (k : Fin k0_t1_loop.trips) (p : Fin 128)
    (h : 128 * (if (grid0.coords t 2).val = 0 then k.val else 7 - k.val) + p.val < 1024) :
    rowOf t ⟨128 * (if (grid0.coords t 2).val = 0 then k.val else 7 - k.val) + p.val, h⟩
      = Chunk.pos (dOf t) (Chunk.stepAt (chunkNo t k) (order (dOf t) p)) := by
  have hk : k.val < 8 := lt_of_lt_of_eq k.isLt trips_eq
  apply Fin.ext
  rw [pos_val]
  unfold rowOf Chunk.stepAt chunkNo
  dsimp only
  rw [order_val, (coords_val t).2.2.1]
  unfold dOf blkRow
  dsimp only
  split <;> omega

/-- The same for the gates by row. -/
theorem lane_eq (t : Fin cfg0.N) (k : Fin k0_t1_loop.trips) (p : Fin 128)
    (h : blkRow t.val * 8 + (if (grid0.coords t 2).val = 0 then k.val else 7 - k.val) < 64) :
    Chunk.stepAt ⟨blkRow t.val * 8 + (if (grid0.coords t 2).val = 0 then k.val else 7 - k.val), h⟩ p
      = Chunk.pos (dOf t) (Chunk.stepAt (chunkNo t k) (order (dOf t) p)) := by
  have hk : k.val < 8 := lt_of_lt_of_eq k.isLt trips_eq
  apply Fin.ext
  rw [pos_val]
  unfold Chunk.stepAt chunkNo
  dsimp only
  rw [order_val, (coords_val t).2.2.1]
  unfold dOf blkRow
  dsimp only
  split <;> omega

/-- The order is its own inverse up to the direction: comparisons of steps are comparisons of rows. -/
theorem order_le (d : Fin 2) (p r : Fin 128) : order d r ≤ order d p ↔ if d = 0 then r ≤ p else p ≤ r := by
  fin_cases d
  · rfl
  · exact Fin.rev_le_rev

/-- A trip reads its chunk, in the direction's order. -/
theorem reads (c : Dev nD) (t : Fin cfg0.N) (k : Fin k0_t1_loop.trips) :
    Reads (inAt m c t) (grid0.coords t) k (Chunk.chunkAt (argsOf m c) (dOf t) (bOf t) (hOf t) (chunkNo t k)) (order (dOf t)) := by
  have hk : k.val < 8 := lt_of_lt_of_eq k.isLt trips_eq
  have h8 : (if (grid0.coords t 2).val = 0 then k.val else 7 - k.val) < 8 := by split <;> omega
  have hrow : ∀ p : Fin 128, 128 * (if (grid0.coords t 2).val = 0 then k.val else 7 - k.val) + p.val < 1024 := fun p => by omega
  have hbl := blkRow_lt t.val
  constructor
  · intro p a
    refine (rowsAt_eq _ _ k p a (hrow p)).trans ((iblk0_eq m c t _ a).trans ?_)
    rw [row_eq]; rfl
  · intro p a
    refine (rowsAt_eq _ _ k p a (hrow p)).trans ((iblk1_eq m c t _ a).trans ?_)
    rw [row_eq]; rfl
  · intro p a
    refine (rowsAt_eq _ _ k p a (hrow p)).trans ((iblk2_eq m c t _ a).trans ?_)
    rw [row_eq]; rfl
  · intro p
    refine (colsAt_eq _ _ k p 0 (hrow p)).trans ((iblk3_eq m c t _ 0).trans ?_)
    rw [row_eq]; rfl
  · intro p
    refine (colsAt_eq _ _ k p 1 (hrow p)).trans ((iblk3_eq m c t _ 1).trans ?_)
    rw [row_eq]; rfl
  · intro p
    refine (lanesAt_eq _ _ k p 0 h8).trans ((iblk4_eq m c t _ 0 p).trans ?_)
    rw [lane_eq]; rfl
  · intro p
    refine (lanesAt_eq _ _ k p 1 h8).trans ((iblk4_eq m c t _ 1 p).trans ?_)
    rw [lane_eq]; rfl
  · intro p r
    refine (iblk5_eq m c t p r).trans ?_
    simp only [order_le]
  · intro p r
    refine (iblk6_eq m c t p r).trans ?_
    simp only [order_le]

end Cert.KernelIdeal.Scan
end
-- ==== Proof.KernelValue.lean ====
/- The kernel's four results, element by element: the state before every trip holds the recurrence's memory, so the blocks
   written back are the recurrence's outputs, and the last points of the sequences write the last memories. -/
module

public import proofs.«01_k».proof.Proof.KernelReads

@[expose] public section

set_option maxRecDepth 16384

noncomputable section

namespace Cert.KernelIdeal.Scan

open Idealize.ShloMosaic Idealize.ShloMosaic.TcCoe Cert.KernelIdeal Cert.KernelIdeal.Gen Idealize.SL.Sem
open Idealize.ShloMosaic.Pipeline (Dat Cfg Window)
open Cert

variable (m : (ℓ : Loc nD τ sig) → Buf (Elt Ideal) ℓ)

/-- The memory of a point's sequence after `r` chunks. -/
abbrev memOf (c : Dev nD) (t : Fin cfg0.N) (r : ℕ) : Chunk.Mem := Chunk.mem (argsOf m c) (dOf t) (bOf t) (hOf t) r

/-- The chunk of a trip is the sequence's, at its number. -/
theorem seq_eq (c : Dev nD) (t : Fin cfg0.N) (k : Fin k0_t1_loop.trips) :
    Chunk.seq (argsOf m c) (dOf t) (bOf t) (hOf t) (8 * (t.val % 8) + k.val)
      = Chunk.chunkAt (argsOf m c) (dOf t) (bOf t) (hOf t) (chunkNo t k) := by
  have hk : k.val < 8 := lt_of_lt_of_eq k.isLt trips_eq
  unfold Chunk.seq
  congr 1
  exact Fin.ext (show (8 * (t.val % 8) + k.val) % 64 = 8 * (t.val % 8) + k.val by omega)

/-- The state before trip `k` of a point, from one that holds the memory. -/
theorem st_holds (c : Dev nD) (t : Fin cfg0.N) (s0 : St Ideal) (h0 : Holds s0 (memOf m c t (8 * (t.val % 8)))) (k : ℕ)
    (hk : k ≤ k0_t1_loop.trips) : Holds (st (inAt m c t) (grid0.coords t) s0 k) (memOf m c t (8 * (t.val % 8) + k)) := by
  induction k with
  | zero => exact h0
  | succ k ih =>
    have := (step_holds (reads m c t ⟨k, hk⟩) (ih (Nat.le_of_lt hk))).1
    rw [← seq_eq m c t ⟨k, hk⟩] at this
    rw [st_succ (inAt m c t) (grid0.coords t) s0 ⟨k, hk⟩]
    exact this

/-- After a trip the stabiliser is in every lane. -/
theorem st_lanes (c : Dev nD) (t : Fin cfg0.N) (s0 : St Ideal) (h0 : Holds s0 (memOf m c t (8 * (t.val % 8)))) (k : ℕ)
    (hk : k < k0_t1_loop.trips) (l : Fin 128) :
    (st (inAt m c t) (grid0.coords t) s0 (k + 1)).m (ix2 0 l) = (memOf m c t (8 * (t.val % 8) + (k + 1))).m := by
  have := (step_holds (reads m c t ⟨k, hk⟩) (st_holds m c t s0 h0 k (Nat.le_of_lt hk))).2 l
  rw [← seq_eq m c t ⟨k, hk⟩] at this
  rw [st_succ (inAt m c t) (grid0.coords t) s0 ⟨k, hk⟩]
  exact this

/-- A sequence begins from the argument's memory. -/
theorem initAt_holds (c : Dev nD) (t : Fin cfg0.N) : Holds (initAt m c t) (memOf m c t 0) := by
  constructor
  · intro a e
    refine Eq.trans ?_ (iblk7_eq m c t a e)
    show k0_pay1 (iblk m c 7 t) (ix2 a e) = _
    generalize iblk m c 7 t = x
    pointwise [k0_pay1]
  · intro a
    refine Eq.trans ?_ (iblk8_eq m c t a)
    show k0_pay2 (iblk m c 8 t) (ix2 0 a) = _
    generalize iblk m c 8 t = x
    pointwise [k0_pay2]
  · refine Eq.trans ?_ (iblk9_eq m c t 0)
    show k0_pay3 (iblk m c 9 t) (ix2 0 0) = _
    generalize iblk m c 9 t = x
    pointwise [k0_pay3]

/-- The state a point begins from holds the memory after the earlier blocks' chunks. -/
theorem beginAt_holds (c : Dev nD) : ∀ (n : ℕ) (hn : n < cfg0.N), Holds (beginAt m c ⟨n, hn⟩) (memOf m c ⟨n, hn⟩ (8 * (n % 8)))
  | 0, hn => by
    unfold beginAt
    exact initAt_holds m c ⟨0, hn⟩
  | n + 1, hn => by
    unfold beginAt
    by_cases h : (n + 1) % 8 = 0
    · rw [if_pos (show (⟨n + 1, hn⟩ : Fin cfg0.N).val % 8 = 0 from h), h]
      exact initAt_holds m c ⟨n + 1, hn⟩
    · rw [if_neg (show ¬(⟨n + 1, hn⟩ : Fin cfg0.N).val % 8 = 0 from h)]
      have hn' : n < cfg0.N := Nat.lt_of_succ_lt hn
      have := st_holds m c ⟨n, hn'⟩ _ (beginAt_holds c n hn') k0_t1_loop.trips le_rfl
      rw [← afterPts_succ m c ⟨n, hn'⟩] at this
      have hd : dOf ⟨n + 1, hn⟩ = dOf ⟨n, hn'⟩ := Fin.ext (show (n + 1) / 8 % 2 = n / 8 % 2 by omega)
      have hb : bOf ⟨n + 1, hn⟩ = bOf ⟨n, hn'⟩ := Fin.ext (show (n + 1) / 64 = n / 64 by omega)
      have hh : hOf ⟨n + 1, hn⟩ = hOf ⟨n, hn'⟩ := Fin.ext (show (n + 1) / 16 % 4 = n / 16 % 4 by omega)
      unfold memOf at this ⊢
      rw [hd, hb, hh, show 8 * ((n + 1) % 8) = 8 * (n % 8) + k0_t1_loop.trips from by rw [trips_eq]; omega]
      exact this

/-- The state after a point. -/
theorem afterPts_holds (c : Dev nD) (t : Fin cfg0.N) : Holds (afterPts m c (t.val + 1)) (memOf m c t (8 * (t.val % 8) + 8)) := by
  have := st_holds m c t _ (beginAt_holds m c t.val t.isLt) k0_t1_loop.trips le_rfl
  rw [← afterPts_succ m c t] at this
  exact this

/-- Its stabiliser, in every lane. -/
theorem afterPts_lanes (c : Dev nD) (t : Fin cfg0.N) (l : Fin 128) :
    (afterPts m c (t.val + 1)).m (ix2 0 l) = (memOf m c t (8 * (t.val % 8) + 8)).m := by
  have := st_lanes m c t _ (beginAt_holds m c t.val t.isLt) 7 (by rw [trips_eq]; decide) l
  rw [show 7 + 1 = k0_t1_loop.trips from trips_eq.symm, ← afterPts_succ m c t] at this
  exact this

/-- A point's rows of the output are the recurrence's outputs at their positions. -/
theorem hblk_eq (c : Dev nD) (t : Fin cfg0.N) (r : Fin 1024) (e : Fin 512) :
    hblk (inAt m c t) (grid0.coords t) (beginAt m c t) (ix4 0 0 r e)
      = Chunk.out (argsOf m c) (dOf t) (bOf t) (hOf t) (Chunk.pos (dOf t) (rowOf t r)) e := by
  have hlt : tripOf (grid0.coords t) r.val < k0_t1_loop.trips := tripOf_lt (grid0.coords t) (ix4 0 0 r e)
  have h8 : tripOf (grid0.coords t) r.val < 8 := lt_of_lt_of_eq hlt trips_eq
  have key := hout_eq (reads m c t ⟨tripOf (grid0.coords t) r.val, hlt⟩)
    (st_holds m c t _ (beginAt_holds m c t.val t.isLt) (tripOf (grid0.coords t) r.val) (Nat.le_of_lt hlt)) ⟨r.val % 128, Nat.mod_lt _ (by decide)⟩ e
  rw [← seq_eq m c t ⟨tripOf (grid0.coords t) r.val, hlt⟩] at key
  refine Eq.trans key ?_
  have hv : (Chunk.pos (dOf t) (rowOf t r)).val = 128 * (8 * (t.val % 8) + tripOf (grid0.coords t) r.val)
      + (order (dOf t) ⟨r.val % 128, Nat.mod_lt _ (by decide)⟩).val := by
    rw [pos_val, order_val]
    unfold tripOf rowOf blkRow dOf
    rw [(coords_val t).2.2.1]
    dsimp only
    split <;> omega
  have hp := (order (dOf t) ⟨r.val % 128, Nat.mod_lt _ (by decide)⟩).isLt
  unfold Chunk.out memOf
  rw [show (Chunk.pos (dOf t) (rowOf t r)).val / 128 = 8 * (t.val % 8) + tripOf (grid0.coords t) r.val by omega]
  congr 1
  exact Fin.ext (show _ = (Chunk.pos (dOf t) (rowOf t r)).val % 128 by omega)

/-! ## The result arrays -/

/-- The array of outputs. -/
theorem final10 (c : Dev nD) : (dats m 0 c).arrAt 10 cfg0.N = Chunk.resH (argsOf m c) :=
  (dats m 0 c).arrAt_eq_of_covers 10 _ (by decide +kernel) fun t hf y => by
    have := lt256 t
    idx_vars y
    have e : (win0_10.blk t).view.emb (ix4 y0 y1 y2 y3) = ix4 (dOf t) (bOf t) (rowOf t y2) (Chunk.feat (hOf t) y3) := by
      unfold dOf bOf rowOf Chunk.feat hOf
      blk_ext [idxOut t]
    blk_simp
    rw [e, Chunk.resH_apply, Fin.fin_one_eq_zero y0, Fin.fin_one_eq_zero y1]
    exact hblk_eq m c t y2 y3

/-- The last point of a sequence has taken all its chunks. -/
theorem last_eq (t : Fin cfg0.N) (h : t.val % 8 = 7) : 8 * (t.val % 8) + 8 = 64 := by omega

/-- The array of matrices. -/
theorem final11 (c : Dev nD) : (dats m 0 c).arrAt 11 cfg0.N = Chunk.resC (argsOf m c) :=
  (dats m 0 c).arrAt_eq_of_covers 11 _ (by decide +kernel) fun t hf y => by
    have := lt256 t
    idx_vars y
    have e : (win0_11.blk t).view.emb (ix5 y0 y1 y2 y3 y4) = ix5 (dOf t) (bOf t) (hOf t) y3 y4 := by
      unfold dOf bOf hOf
      blk_ext [idxOut t]
    have hh := (afterPts_holds m c t).C y3 y4
    rw [last_eq t ((flush0_11 t).mp hf)] at hh
    blk_simp
    rw [e]
    refine Eq.trans ?_ hh
    show k0_pay15 (afterPts m c (t.val + 1)).C (ix5 y0 y1 y2 y3 y4) = _
    generalize (afterPts m c (t.val + 1)).C = x
    pointwise [k0_pay15]

/-- The array of normalisers. -/
theorem final12 (c : Dev nD) : (dats m 0 c).arrAt 12 cfg0.N = Chunk.resN (argsOf m c) :=
  (dats m 0 c).arrAt_eq_of_covers 12 _ (by decide +kernel) fun t hf y => by
    have := lt256 t
    idx_vars y
    have e : (win0_12.blk t).view.emb (ix5 y0 y1 y2 y3 y4) = ix5 (dOf t) (bOf t) (hOf t) 0 y4 := by
      unfold dOf bOf hOf
      blk_ext [idxOut t]
    have hh := (afterPts_holds m c t).n y4
    rw [last_eq t ((flush0_12 t).mp hf)] at hh
    blk_simp
    rw [e]
    refine Eq.trans ?_ hh
    show k0_pay16 (afterPts m c (t.val + 1)).n (ix5 y0 y1 y2 y3 y4) = _
    generalize (afterPts m c (t.val + 1)).n = x
    pointwise [k0_pay16]

/-- The array of stabilisers. -/
theorem final13 (c : Dev nD) : (dats m 0 c).arrAt 13 cfg0.N = Chunk.resM (argsOf m c) :=
  (dats m 0 c).arrAt_eq_of_covers 13 _ (by decide +kernel) fun t hf y => by
    have := lt256 t
    idx_vars y
    have e : (win0_13.blk t).view.emb (ix5 y0 y1 y2 y3 y4) = ix5 (dOf t) (bOf t) (hOf t) 0 y4 := by
      unfold dOf bOf hOf
      blk_ext [idxOut t]
    have hh := afterPts_lanes m c t y4
    rw [last_eq t ((flush0_13 t).mp hf)] at hh
    blk_simp
    rw [e]
    refine Eq.trans ?_ hh
    show k0_pay17 (afterPts m c (t.val + 1)).m (ix5 y0 y1 y2 y3 y4) = _
    generalize (afterPts m c (t.val + 1)).m = x
    pointwise [k0_pay17]

end Cert.KernelIdeal.Scan
end
-- ==== Proof.Dense.lean ====
/- The sums of products of the dense layers, entry by entry over the extended reals: a row normalised by the root of
   its mean square, the modulation of a row, a row times a column. -/
module

public import Idealize.ShloMosaic.PureOps.Ideal
public import Idealize.ShloMosaic.Lib.Pointwise

@[expose] public section

noncomputable section

namespace Cert.Dense

open Idealize.ShloMosaic

/-- The width of a row, 1024, as the programs write it. -/
def width : EReal := Ideal.ofBits .f32 0x44800000#32

/-- The small number added to a mean square. -/
def eps : EReal := Ideal.ofBits .f32 0x358637BD#32

/-- The number one, as the programs write it. -/
def one : EReal := Ideal.ofBits .f32 0x3F800000#32

/-- A row times a column. -/
def dot {K : ℕ} (a w : Fin K → EReal) : EReal := ∑ k, a k * w k

/-- A row over the root of its mean square, times the gains. -/
def norm (y g : Fin 1024 → EReal) (j : Fin 1024) : EReal :=
  y j * Ideal.rsqrt (Ideal.div (∑ k, y k * y k) width + eps) * g j

/-- A row normalised, scaled and shifted. -/
def modulated (x g shift scale : Fin 1024 → EReal) (j : Fin 1024) : EReal :=
  norm x g j * (one + scale j) + shift j

/-- The batch row a row belongs to. -/
def batch (r : Fin 32768) : Fin 4 := ⟨r.val / 8192, by omega⟩

/-- The position of a row in its sequence. -/
def pos (r : Fin 32768) : Fin 8192 := ⟨r.val % 8192, by omega⟩

/-- Rows of sequences laid one after another, entry by entry. -/
theorem flat_1024 {α : Type} (x : (⟨3, ![4, 8192, 1024]⟩ : Shape).Idx → α) (h : (⟨3, ![4, 8192, 1024]⟩ : Shape).ShapeCasts ⟨2, ![32768, 1024]⟩)
    (r : Fin 32768) (j : Fin 1024) : shapeCast _ x h (ix2 r j) = x (ix3 (batch r) (pos r) j) := by
  unfold batch pos
  pointwise

/-- Rows cut into sequences, entry by entry. -/
theorem seqs_1024 {α : Type} (x : (⟨2, ![32768, 1024]⟩ : Shape).Idx → α) (h : (⟨2, ![32768, 1024]⟩ : Shape).ShapeCasts ⟨3, ![4, 8192, 1024]⟩)
    (r : Fin 32768) (j : Fin 1024) : shapeCast _ x h (ix3 (batch r) (pos r) j) = x (ix2 r j) := by
  unfold batch pos
  pointwise

/-- Rows of hidden features cut into sequences, entry by entry. -/
theorem seqs_2816 {α : Type} (x : (⟨2, ![32768, 2816]⟩ : Shape).Idx → α) (h : (⟨2, ![32768, 2816]⟩ : Shape).ShapeCasts ⟨3, ![4, 8192, 2816]⟩)
    (r : Fin 32768) (j : Fin 2816) : shapeCast _ x h (ix3 (batch r) (pos r) j) = x (ix2 r j) := by
  unfold batch pos
  pointwise

/-- Equal residuals and equal rows give equal results. -/
theorem gated_congr {K : ℕ} {x x' g : EReal} {a a' w : Fin K → EReal} (hx : x = x') (ha : ∀ k, a k = a' k) :
    x + g * ∑ k, a k * w k = x' + g * ∑ k, a' k * w k := by
  rw [hx, funext ha]

/-- The same with an offset added to the product. -/
theorem gated_offset_congr {K : ℕ} {x x' g b : EReal} {a a' w : Fin K → EReal} (hx : x = x') (ha : ∀ k, a k = a' k) :
    x + g * (∑ k, a k * w k + b) = x' + g * (∑ k, a' k * w k + b) := by
  rw [hx, funext ha]

/-- Equal rows are normalised to equal rows. -/
theorem norm_congr {y y' g : Fin 1024 → EReal} (h : ∀ i, y i = y' i) (j : Fin 1024) : norm y g j = norm y' g j := by
  rw [funext h]

/-- Rows of 5632 features laid one after another, entry by entry. -/
theorem flat_5632 {α : Type} (x : (⟨3, ![4, 8192, 5632]⟩ : Shape).Idx → α) (h : (⟨3, ![4, 8192, 5632]⟩ : Shape).ShapeCasts ⟨2, ![32768, 5632]⟩)
    (r : Fin 32768) (j : Fin 5632) : shapeCast _ x h (ix2 r j) = x (ix3 (batch r) (pos r) j) := by
  unfold batch pos
  pointwise

/-- Rows of 4096 features laid one after another, entry by entry. -/
theorem flat_4096 {α : Type} (x : (⟨3, ![4, 8192, 4096]⟩ : Shape).Idx → α) (h : (⟨3, ![4, 8192, 4096]⟩ : Shape).ShapeCasts ⟨2, ![32768, 4096]⟩)
    (r : Fin 32768) (j : Fin 4096) : shapeCast _ x h (ix2 r j) = x (ix3 (batch r) (pos r) j) := by
  unfold batch pos
  pointwise

/-- Rows of 3072 features laid one after another, entry by entry. -/
theorem flat_3072 {α : Type} (x : (⟨3, ![4, 8192, 3072]⟩ : Shape).Idx → α) (h : (⟨3, ![4, 8192, 3072]⟩ : Shape).ShapeCasts ⟨2, ![32768, 3072]⟩)
    (r : Fin 32768) (j : Fin 3072) : shapeCast _ x h (ix2 r j) = x (ix3 (batch r) (pos r) j) := by
  unfold batch pos
  pointwise

/-- Equal rows are modulated to equal rows. -/
theorem modulated_congr {x x' g shift scale : Fin 1024 → EReal} (h : ∀ i, x i = x' i) (j : Fin 1024) :
    modulated x g shift scale j = modulated x' g shift scale j := by
  rw [funext h]

/-- Equal rows have equal products. -/
theorem sum_congr {K : ℕ} {a a' w : Fin K → EReal} (h : ∀ k, a k = a' k) : ∑ k, a k * w k = ∑ k, a' k * w k := by
  rw [funext h]

/-- The same with an offset. -/
theorem sum_offset_congr {K : ℕ} {a a' w : Fin K → EReal} {b : EReal} (h : ∀ k, a k = a' k) :
    ∑ k, a k * w k + b = ∑ k, a' k * w k + b := by
  rw [funext h]

end Cert.Dense

end
-- ==== Proof.UpValue.lean ====
/- The feed-forward layer's first product: rows normalised, modulated and multiplied by the weights. -/
module

public import proofs.«01_k».proof.Proof.Dense
public import proofs.«01_k».proof.Proof.Gen.UpKernel.Frame
public import proofs.«01_k».proof.Proof.Gen.UpKernelIdeal.Value
public import proofs.«01_k».proof.Proof.Gen.UpReferenceIdeal.Run
public import Idealize.ShloMosaic.Lib.Pipeline.ValueKit
public import Idealize.ShloMosaic.Lib.Pipeline.ReadBack

@[expose] public section

set_option maxRecDepth 16384

noncomputable section

namespace Cert.Up

open Idealize.ShloMosaic

/-- The arguments: rows, gains, shifts and scales of the batch rows, weights. -/
structure Args where
  x : Vec Ideal ⟨2, ![32768, 1024]⟩ .f32
  g : Vec Ideal ⟨1, ![1024]⟩ .f32
  shift : Vec Ideal ⟨2, ![4, 1024]⟩ .f32
  scale : Vec Ideal ⟨2, ![4, 1024]⟩ .f32
  w : Vec Ideal ⟨2, ![1024, 5632]⟩ .f32

/-- A row normalised and modulated. -/
def row (A : Args) (r : Fin 32768) (a : Fin 1024) : EReal :=
  Dense.modulated (fun i => A.x (ix2 r i)) (fun i => A.g (ix1 i)) (fun i => A.shift (ix2 (Dense.batch r) i))
    (fun i => A.scale (ix2 (Dense.batch r) i)) a

/-- The result at a row and a column. -/
def out (A : Args) (r : Fin 32768) (j : Fin 5632) : EReal := ∑ k : Fin 1024, row A r k * A.w (ix2 k j)

/-- The array of results. -/
def res (A : Args) : Vec Ideal ⟨2, ![32768, 5632]⟩ .bf16 := fun i => out A (i 0) (i 1)

end Cert.Up

namespace Cert.UpKernelIdeal.Rows

open Idealize.ShloMosaic Idealize.ShloMosaic.TcCoe Cert.UpKernelIdeal Cert.UpKernelIdeal.Gen Idealize.SL.Sem
open Idealize.ShloMosaic.Pipeline (Dat Cfg Window)
open Cert

variable (m : (ℓ : Loc nD τ sig) → Buf (Elt Ideal) ℓ)

/-- The grid has 352 points. -/
theorem lt352 (t : Fin cfg0.N) : t.val < 352 := lt_of_lt_of_eq t.isLt (show cfg0.N = 352 from N_0)

/-- The windows' block index at a point. -/
theorem idx : ∀ t : Fin cfg0.N,
    win0_0.index t = ![t.val / 11, 0] ∧ win0_1.index t = ![0, 0] ∧ win0_2.index t = ![t.val / 88, 0, 0] ∧ win0_3.index t = ![t.val / 88, 0, 0] ∧
    win0_4.index t = ![0, t.val % 11] ∧ win0_5.index t = ![0, t.val % 11] ∧ win0_6.index t = ![t.val / 11, t.val % 11] :=
  (by decide +kernel : ∀ t : Fin grid0.N, _)

/-- Row `r` of a point's block. -/
def rowOf (t : Fin cfg0.N) (r : Fin 1024) : Fin 32768 := ⟨t.val / 11 * 1024 + r.val, by have := lt352 t; omega⟩

/-- Column `j` of a point's block. -/
def colOf (t : Fin cfg0.N) (j : Fin 512) : Fin 5632 := ⟨t.val % 11 * 512 + j.val, by have := lt352 t; omega⟩

/-- The arguments of a launch. -/
def argsOf (c : Dev nD) : Up.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)

/-- A point's block of rows, entry by entry. -/
theorem iblk0_eq (c : Dev nD) (t : Fin cfg0.N) (r : Fin 1024) (a : Fin 1024) :
    iblk m c 0 t (ix2 r a) = (argsOf m c).x (ix2 (rowOf t r) a) := by
  have := lt352 t
  unfold argsOf rowOf
  blk_ext [iblk, V_main_arg0, idx t]

/-- The gains. -/
theorem iblk1_eq (c : Dev nD) (t : Fin cfg0.N) (j : Fin 1024) : iblk m c 1 t (ix2 0 j) = (argsOf m c).g (ix1 j) := by
  have e : iblk m c 1 t (ix2 0 j) = (V m c main_v1 : Vec Ideal S1x1024 .f32) (ix2 0 j) := by blk_ext [iblk, idx t]
  rw [e]
  unfold V argsOf
  simp only [hostOps0, List.flatten_cons, List.flatten_nil, List.append_nil, List.cons_append, List.nil_append]
  after_results
  pointwise

/-- A point's shifts. -/
theorem iblk2_eq (c : Dev nD) (t : Fin cfg0.N) (r : Fin 1024) (j : Fin 1024) :
    iblk m c 2 t (ix3 0 0 j) = (argsOf m c).shift (ix2 (Dense.batch (rowOf t r)) j) := by
  have := lt352 t
  have e : iblk m c 2 t (ix3 0 0 j) = (V m c main_v2 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's scales. -/
theorem iblk3_eq (c : Dev nD) (t : Fin cfg0.N) (r : Fin 1024) (j : Fin 1024) :
    iblk m c 3 t (ix3 0 0 j) = (argsOf m c).scale (ix2 (Dense.batch (rowOf t r)) j) := by
  have := lt352 t
  have e : iblk m c 3 t (ix3 0 0 j) = (V m c main_v3 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's block of weights, as the host rounds them. -/
theorem iblk4_eq (c : Dev nD) (t : Fin cfg0.N) (k : Fin 1024) (j : Fin 512) :
    iblk m c 4 t (ix2 k j) = (argsOf m c).w (ix2 k (colOf t j)) := by
  have := lt352 t
  have e : iblk m c 4 t (ix2 k j) = (V m c main_v4 : Vec Ideal S1024x5632 .bf16) (ix2 k (colOf t j)) := by
    unfold colOf
    blk_ext [iblk, idx t]
  rw [e]
  unfold V argsOf
  simp only [hostOps0, List.flatten_cons, List.flatten_nil, List.append_nil, List.cons_append, List.nil_append]
  after_results
  pointwise

/-- The offsets, all zero. -/
theorem iblk5_eq (c : Dev nD) (t : Fin cfg0.N) (j : Fin 512) : iblk m c 5 t (ix2 0 j) = (0 : EReal) := by
  have := lt352 t
  have e : iblk m c 5 t (ix2 0 j) = (V m c main_v5 : Vec Ideal S1x5632 .f32) (ix2 0 (colOf t j)) := by
    unfold colOf
    blk_ext [iblk, idx t]
  rw [e]
  unfold V
  simp only [hostOps0, List.flatten_cons, List.flatten_nil, List.append_nil, List.cons_append, List.nil_append]
  after_results
  pointwise

/-- The rows that the first point of a block of rows stores, entry by entry. -/
theorem pay1_eq (x0 : Vec Ideal S1024x1024 .f32) (x1 : Vec Ideal S1x1024 .f32) (x2 x3 : Vec Ideal S1x1x1024 .f32) (r a : Fin 1024) :
    k0_pay1 x0 x1 x3 x2 (ix2 r a)
      = Dense.modulated (fun i => x0 (ix2 r i)) (fun i => x1 (ix2 0 i)) (fun i => x2 (ix3 0 0 i)) (fun i => x3 (ix3 0 0 i)) a := by
  unfold Dense.modulated Dense.norm Dense.width Dense.eps Dense.one
  pointwise [k0_pay1]

/-- The product of a point, entry by entry. -/
theorem pay2_eq (s : Vec Ideal S1024x1024 .bf16) (x4 : Vec Ideal S1024x512 .bf16) (x5 : Vec Ideal S1x512 .f32) (r : Fin 1024) (j : Fin 512) :
    k0_pay2 s x4 x5 (ix2 r j) = ∑ k : Fin 1024, s (ix2 r k) * x4 (ix2 k j) + x5 (ix2 0 j) := by
  pointwise [k0_pay2]

/-- The rows from a point's blocks. -/
theorem rows_eq (c : Dev nD) (t : Fin cfg0.N) (r a : Fin 1024) :
    k0_pay1 (iblk m c 0 t) (iblk m c 1 t) (iblk m c 3 t) (iblk m c 2 t) (ix2 r a) = Up.row (argsOf m c) (rowOf t r) a := by
  rw [pay1_eq]
  unfold Up.row
  rw [funext fun i => iblk0_eq m c t r i, funext fun i => iblk1_eq m c t i, funext fun i => iblk2_eq m c t r i, funext fun i => iblk3_eq m c t r i]

/-- After a first point: the rows, and their product. -/
theorem first_eq (c : Dev nD) (t : Fin cfg0.N) (h : t.val % 11 = 0) :
    outsAt0 m c t.val t.isLt = (k0_pay2 (k0_pay1 (iblk m c 0 t) (iblk m c 1 t) (iblk m c 3 t) (iblk m c 2 t)) (iblk m c 4 t) (iblk m c 5 t),
      k0_pay1 (iblk m c 0 t) (iblk m c 1 t) (iblk m c 3 t) (iblk m c 2 t)) := by
  rw [outsAt0_A m c t h]
  frame_out

/-- After a later point: the rows as they were, and their product. -/
theorem later_eq (c : Dev nD) (t : Fin cfg0.N) (h : ¬t.val % 11 = 0) :
    outsAt0 m c t.val t.isLt = (k0_pay2 (outsAt0 m c (t.val - 1) (Nat.lt_of_le_of_lt (Nat.sub_le _ _) t.isLt)).2 (iblk m c 4 t) (iblk m c 5 t),
      (outsAt0 m c (t.val - 1) (Nat.lt_of_le_of_lt (Nat.sub_le _ _) t.isLt)).2) := by
  rw [outsAt0_B m c t h]
  frame_out
  rw [read_unread_whole]
  rfl

/-- The carried rows after every point. -/
theorem carried (c : Dev nD) : ∀ (n : ℕ) (h : n < cfg0.N) (r a : Fin 1024),
    (outsAt0 m c n h).2 (ix2 r a) = Up.row (argsOf m c) (rowOf ⟨n, h⟩ r) a := by
  intro n
  induction n with
  | zero =>
    intro h r a
    rw [first_eq m c ⟨0, h⟩ rfl]
    exact rows_eq m c ⟨0, h⟩ r a
  | succ n ih =>
    intro h r a
    by_cases h0 : (n + 1) % 11 = 0
    · rw [first_eq m c ⟨n + 1, h⟩ h0]
      exact rows_eq m c ⟨n + 1, h⟩ r a
    · rw [later_eq m c ⟨n + 1, h⟩ h0]
      refine (ih (Nat.lt_of_succ_lt h) r a).trans (congrArg (Up.row (argsOf m c) · a) (Fin.ext ?_))
      show n / 11 * 1024 + r.val = (n + 1) / 11 * 1024 + r.val
      have : n / 11 = (n + 1) / 11 := by omega
      rw [this]

/-- What a point writes: its carried rows times its block of weights. -/
theorem written (c : Dev nD) (t : Fin cfg0.N) :
    (outsAt0 m c t.val t.isLt).1 = k0_pay2 (outsAt0 m c t.val t.isLt).2 (iblk m c 4 t) (iblk m c 5 t) := by
  by_cases h : t.val % 11 = 0
  · rw [first_eq m c t h]
  · rw [later_eq m c t h]

/-- The array of results after the run. -/
theorem final (c : Dev nD) : (dats m 0 c).arrAt 6 cfg0.N = Up.res (argsOf m c) :=
  (dats m 0 c).arrAt_eq_of_covers 6 _ (by decide +kernel) fun t hf y => by
    have := lt352 t
    idx_vars y
    have e : (win0_6.blk t).view.emb (ix2 y0 y1) = ix2 (rowOf t y0) (colOf t y1) := by
      unfold rowOf colOf
      blk_ext [idx t]
    blk_simp
    rw [after0_6, e, written, pay2_eq, iblk5_eq, add_zero]
    show _ = Up.out (argsOf m c) (rowOf t y0) (colOf t y1)
    unfold Up.out
    exact Finset.sum_congr rfl fun k _ => by rw [carried, iblk4_eq]

end Cert.UpKernelIdeal.Rows

namespace Cert.UpReferenceIdeal.Rows

open Idealize.ShloMosaic Idealize.ShloMosaic.TcCoe Cert.UpReferenceIdeal Idealize.SL.Sem
open Cert

variable (m : (ℓ : Loc nD τ sig) → Buf (Elt Ideal) ℓ)

/-- The arguments of a launch. -/
def argsOf (c : Dev nD) : Up.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)

/-- The reference's normalised and modulated rows. -/
abbrev rows (Y : FVec Ideal S4x8192x1024 .f32) (g : FVec Ideal S1024 .f32) (shift scale : FVec Ideal S4x1024 .f32) : FVec Ideal S4x8192x1024 .f32 :=
  addf (mulf (mulf (mulf Y (broadcastInDim S4x8192x1024 ![0, 1, 2] Gen.bcast_S4x8192x1_S4x8192x1024_0_1_2 (Host.rsqrt (addf (Host.divf (broadcastInDim S4x8192x1 ![0, 1] Gen.bcast_S4x8192_S4x8192x1_0_1 (Host.reduceAdd (mulf Y Y) (constant S_ .f32 0x00000000#32) Gen.reducesTo_S4x8192x1024_S4x8192_d2 Gen.h_S_)) (broadcastInDim S4x8192x1 ![] Gen.bcast_S_S4x8192x1 (constant S_ .f32 0x44800000#32))) (broadcastInDim S4x8192x1 ![] Gen.bcast_S_S4x8192x1 (constant S_ .f32 0x358637BD#32)))))) (broadcastInDim S4x8192x1024 ![0, 1, 2] Gen.bcast_S1x1x1024_S4x8192x1024_0_1_2 (broadcastInDim S1x1x1024 ![2] Gen.bcast_S1024_S1x1x1024_2 g))) (broadcastInDim S4x8192x1024 ![0, 1, 2] Gen.bcast_S4x1x1024_S4x8192x1024_0_1_2 (addf (broadcastInDim S4x1x1024 ![] Gen.bcast_S_S4x1x1024 (constant S_ .f32 0x3F800000#32)) (broadcastInDim S4x1x1024 ![0, 2] Gen.bcast_S4x1024_S4x1x1024_0_2 scale)))) (broadcastInDim S4x8192x1024 ![0, 1, 2] Gen.bcast_S4x1x1024_S4x8192x1024_0_1_2 (broadcastInDim S4x1x1024 ![0, 2] Gen.bcast_S4x1024_S4x1x1024_0_2 shift))

/-- The normalised and modulated rows, entry by entry. -/
theorem rows_eq (Y : FVec Ideal S4x8192x1024 .f32) (g : FVec Ideal S1024 .f32) (shift scale : FVec Ideal S4x1024 .f32)
    (b : Fin 4) (p : Fin 8192) (j : Fin 1024) :
    rows Y g shift scale (ix3 b p j)
      = Dense.modulated (fun i => Y (ix3 b p i)) (fun i => g (ix1 i)) (fun i => shift (ix2 b i)) (fun i => scale (ix2 b i)) j := by
  unfold Dense.modulated Dense.norm Dense.width Dense.eps Dense.one
  pointwise

/-- The reference's product, entry by entry. -/
theorem core (H : FVec Ideal S4x8192x1024 .f32) (w : FVec Ideal S1024x5632 .f32) (b : Fin 4) (p : Fin 8192) (j : Fin 5632) :
    Host.dotGeneral dot_S4x8192x1024_S1024x5632_S4x8192x5632_2_0_01_1_n_n none H w (ix3 b p j)
      = ∑ k : Fin 1024, H (ix3 b p k) * w (ix2 k j) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v24) = Up.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      show _ = Up.res (argsOf m c)
      funext y
      idx_vars y
      show _ = Up.out (argsOf m c) y0 y1
      refine (Dense.flat_5632 _ _ y0 y1).trans ((core _ _ _ _ _).trans ?_)
      exact Dense.sum_congr fun k => (rows_eq _ _ _ _ _ _ _).trans
        (Dense.modulated_congr (fun i => Dense.seqs_1024 _ _ y0 i) _)), (h c).2⟩) (Value.run m ρ)

end Cert.UpReferenceIdeal.Rows

end
-- ==== Proof.DownValue.lean ====
/- The feed-forward layer's product back to the model's width, with the gate and the residual. -/
module

public import proofs.«01_k».proof.Proof.Dense
public import proofs.«01_k».proof.Proof.Gen.DownKernel.Frame
public import proofs.«01_k».proof.Proof.Gen.DownKernelIdeal.Value
public import proofs.«01_k».proof.Proof.Gen.DownReferenceIdeal.Run
public import Idealize.ShloMosaic.Lib.Pipeline.ValueKit

@[expose] public section

set_option maxRecDepth 16384

noncomputable section

namespace Cert.Down

open Idealize.ShloMosaic

/-- The arguments: hidden rows, weights, residual rows, gates of the batch rows. -/
structure Args where
  hid : Vec Ideal ⟨2, ![32768, 2816]⟩ .bf16
  w : Vec Ideal ⟨2, ![2816, 1024]⟩ .f32
  x : Vec Ideal ⟨2, ![32768, 1024]⟩ .f32
  gate : Vec Ideal ⟨2, ![4, 1024]⟩ .f32

/-- The result at a row and a column: the residual plus the gated product. -/
def out (A : Args) (r : Fin 32768) (j : Fin 1024) : EReal :=
  A.x (ix2 r j) + A.gate (ix2 (Dense.batch r) j) * ∑ k : Fin 2816, A.hid (ix2 r k) * A.w (ix2 k j)

/-- The array of results. -/
def res (A : Args) : Vec Ideal ⟨2, ![32768, 1024]⟩ .f32 := fun i => out A (i 0) (i 1)

end Cert.Down

namespace Cert.DownKernelIdeal.Rows

open Idealize.ShloMosaic Idealize.ShloMosaic.TcCoe Cert.DownKernelIdeal Cert.DownKernelIdeal.Gen Idealize.SL.Sem
open Idealize.ShloMosaic.Pipeline (Dat Cfg Window)
open Cert

variable (m : (ℓ : Loc nD τ sig) → Buf (Elt Ideal) ℓ)

/-- The grid has 64 points. -/
theorem lt64 (t : Fin cfg0.N) : t.val < 64 := lt_of_lt_of_eq t.isLt (show cfg0.N = 64 from N_0)

/-- The windows' block index at a point. -/
theorem idx : ∀ t : Fin cfg0.N,
    win0_0.index t = ![t.val, 0] ∧ win0_1.index t = ![0, 0] ∧ win0_2.index t = ![0, 0] ∧ win0_3.index t = ![t.val, 0] ∧
    win0_4.index t = ![t.val / 16, 0, 0] ∧ win0_5.index t = ![0, 0] ∧ win0_6.index t = ![t.val, 0] :=
  (by decide +kernel : ∀ t : Fin grid0.N, _)

/-- Row `r` of a point's block. -/
def rowOf (t : Fin cfg0.N) (r : Fin 512) : Fin 32768 := ⟨t.val * 512 + r.val, by have := lt64 t; omega⟩

/-- The arguments of a launch. -/
def argsOf (c : Dev nD) : Down.Args where
  hid := m ((c : Thread nD τ).loc main_arg0)
  w := m ((c : Thread nD τ).loc main_arg1)
  x := m ((c : Thread nD τ).loc main_arg2)
  gate := m ((c : Thread nD τ).loc main_arg3)

/-- A point's block of hidden rows, entry by entry. -/
theorem iblk0_eq (c : Dev nD) (t : Fin cfg0.N) (r : Fin 512) (a : Fin 2816) :
    iblk m c 0 t (ix2 r a) = (argsOf m c).hid (ix2 (rowOf t r) a) := by
  have := lt64 t
  unfold argsOf rowOf
  blk_ext [iblk, V_main_arg0, idx t]

/-- A point's block of residual rows, entry by entry. -/
theorem iblk3_eq (c : Dev nD) (t : Fin cfg0.N) (r : Fin 512) (a : Fin 1024) :
    iblk m c 3 t (ix2 r a) = (argsOf m c).x (ix2 (rowOf t r) a) := by
  have := lt64 t
  unfold argsOf rowOf
  blk_ext [iblk, V_main_arg2, idx t]

/-- The weights, as the host rounds them. -/
theorem iblk1_eq (c : Dev nD) (t : Fin cfg0.N) (k : Fin 2816) (j : Fin 1024) :
    iblk m c 1 t (ix2 k j) = (argsOf m c).w (ix2 k j) := by
  have e : iblk m c 1 t (ix2 k j) = (V m c main_v2 : Vec Ideal S2816x1024 .bf16) (ix2 k j) := by blk_ext [iblk, idx t]
  rw [e]
  unfold V argsOf
  simp only [hostOps0, List.flatten_cons, List.flatten_nil, List.append_nil, List.cons_append, List.nil_append]
  after_results
  pointwise

/-- The offsets, all zero. -/
theorem iblk2_eq (c : Dev nD) (t : Fin cfg0.N) (j : Fin 1024) : iblk m c 2 t (ix2 0 j) = (0 : EReal) := by
  have e : iblk m c 2 t (ix2 0 j) = (V m c main_v3 : Vec Ideal S1x1024 .f32) (ix2 0 j) := by blk_ext [iblk, idx t]
  rw [e]
  unfold V
  simp only [hostOps0, List.flatten_cons, List.flatten_nil, List.append_nil, List.cons_append, List.nil_append]
  after_results
  pointwise

/-- A point's gates. -/
theorem iblk4_eq (c : Dev nD) (t : Fin cfg0.N) (r : Fin 512) (j : Fin 1024) :
    iblk m c 4 t (ix3 0 0 j) = (argsOf m c).gate (ix2 (Dense.batch (rowOf t r)) j) := by
  have := lt64 t
  have e : iblk m c 4 t (ix3 0 0 j) = (V m c main_v4 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- What the body stores, entry by entry. -/
theorem pay_eq (x0 : Vec Ideal S512x2816 .bf16) (x1 : Vec Ideal S2816x1024 .bf16) (x2 : Vec Ideal S1x1024 .f32) (x3 : Vec Ideal S512x1024 .f32)
    (x4 : Vec Ideal S1x1x1024 .f32) (x5 : Vec Ideal S1x1024 .f32) (r : Fin 512) (j : Fin 1024) :
    out0_6 x0 x1 x2 x3 x4 x5 (ix2 r j) = x3 (ix2 r j) + x4 (ix3 0 0 j) * (∑ k : Fin 2816, x0 (ix2 r k) * x1 (ix2 k j) + x2 (ix2 0 j)) := by
  frame_out
  pointwise [k0_pay1]

/-- The array of results after the run. -/
theorem final (c : Dev nD) : (dats m 0 c).arrAt 6 cfg0.N = Down.res (argsOf m c) :=
  (dats m 0 c).arrAt_eq_of_covers 6 _ (by decide +kernel) fun t hf y => by
    have := lt64 t
    idx_vars y
    have e : (win0_6.blk t).view.emb (ix2 y0 y1) = ix2 (rowOf t y0) y1 := by
      unfold rowOf
      blk_ext [idx t]
    blk_simp
    rw [after0_6, e, pay_eq, iblk2_eq, iblk3_eq, iblk4_eq m c t y0, add_zero]
    show _ = Down.out (argsOf m c) (rowOf t y0) y1
    unfold Down.out
    congr 2
    exact Finset.sum_congr rfl fun k _ => by rw [iblk0_eq, iblk1_eq]

end Cert.DownKernelIdeal.Rows

namespace Cert.DownReferenceIdeal.Rows

open Idealize.ShloMosaic Idealize.ShloMosaic.TcCoe Cert.DownReferenceIdeal Cert.DownReferenceIdeal.Gen Idealize.SL.Sem
open Cert

variable (m : (ℓ : Loc nD τ sig) → Buf (Elt Ideal) ℓ)

/-- The arguments of a launch. -/
def argsOf (c : Dev nD) : Down.Args where
  hid := m ((c : Thread nD τ).loc main_arg0)
  w := m ((c : Thread nD τ).loc main_arg1)
  x := m ((c : Thread nD τ).loc main_arg2)
  gate := m ((c : Thread nD τ).loc main_arg3)

/-- The reference's last lines, entry by entry. -/
theorem core (H : FVec Ideal S4x8192x2816 .f32) (w : FVec Ideal S2816x1024 .f32) (X : FVec Ideal S4x8192x1024 .f32) (g : FVec Ideal S4x1024 .f32)
    (b : Fin 4) (p : Fin 8192) (j : Fin 1024) :
    addf X (mulf (broadcastInDim S4x8192x1024 ![0, 1, 2] Gen.bcast_S4x1x1024_S4x8192x1024_0_1_2 (broadcastInDim S4x1x1024 ![0, 2] Gen.bcast_S4x1024_S4x1x1024_0_2 g)) (Host.dotGeneral dot_S4x8192x2816_S2816x1024_S4x8192x1024_2_0_01_1_n_n none H w)) (ix3 b p j)
      = X (ix3 b p j) + g (ix2 b j) * ∑ k : Fin 2816, H (ix3 b p k) * w (ix2 k j) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = Down.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by
      show _ = Down.res (argsOf m c)
      funext y
      idx_vars y
      show _ = Down.out (argsOf m c) y0 y1
      refine (Dense.flat_1024 _ _ y0 y1).trans ((core _ _ _ _ _ _ _).trans ?_)
      exact Dense.gated_congr (Dense.seqs_1024 _ _ y0 y1) fun k => Dense.seqs_2816 _ _ y0 k), (h c).2⟩) (Value.run m ρ)

end Cert.DownReferenceIdeal.Rows

end
-- ==== Proof.LastValue.lean ====
/- The last feed-forward layer's product back to the model's width, with the gate, the residual and the last
   normalisation. -/
module

public import proofs.«01_k».proof.Proof.Dense
public import proofs.«01_k».proof.Proof.Gen.LastKernel.Frame
public import proofs.«01_k».proof.Proof.Gen.LastKernelIdeal.Value
public import proofs.«01_k».proof.Proof.Gen.LastReferenceIdeal.Run
public import Idealize.ShloMosaic.Lib.Pipeline.ValueKit

@[expose] public section

set_option maxRecDepth 16384

noncomputable section

namespace Cert.Last

open Idealize.ShloMosaic

/-- The arguments: hidden rows, weights, residual rows, gates of the batch rows, last gains. -/
structure Args where
  hid : Vec Ideal ⟨2, ![32768, 2816]⟩ .bf16
  w : Vec Ideal ⟨2, ![2816, 1024]⟩ .f32
  x : Vec Ideal ⟨2, ![32768, 1024]⟩ .f32
  gate : Vec Ideal ⟨2, ![4, 1024]⟩ .f32
  g : Vec Ideal ⟨1, ![1024]⟩ .f32

/-- The rows before the normalisation: the residual plus the gated product. -/
def row (A : Args) (r : Fin 32768) (j : Fin 1024) : EReal :=
  A.x (ix2 r j) + A.gate (ix2 (Dense.batch r) j) * ∑ k : Fin 2816, A.hid (ix2 r k) * A.w (ix2 k j)

/-- The result at a row and a column: the row normalised. -/
def out (A : Args) (r : Fin 32768) (j : Fin 1024) : EReal := Dense.norm (row A r) (fun i => A.g (ix1 i)) j

/-- The array of results. -/
def res (A : Args) : Vec Ideal ⟨2, ![32768, 1024]⟩ .f32 := fun i => out A (i 0) (i 1)

end Cert.Last

namespace Cert.LastKernelIdeal.Rows

open Idealize.ShloMosaic Idealize.ShloMosaic.TcCoe Cert.LastKernelIdeal Cert.LastKernelIdeal.Gen Idealize.SL.Sem
open Idealize.ShloMosaic.Pipeline (Dat Cfg Window)
open Cert

variable (m : (ℓ : Loc nD τ sig) → Buf (Elt Ideal) ℓ)

/-- The grid has 64 points. -/
theorem lt64 (t : Fin cfg0.N) : t.val < 64 := lt_of_lt_of_eq t.isLt (show cfg0.N = 64 from N_0)

/-- The windows' block index at a point. -/
theorem idx : ∀ t : Fin cfg0.N,
    win0_0.index t = ![t.val, 0] ∧ win0_1.index t = ![0, 0] ∧ win0_2.index t = ![0, 0] ∧ win0_3.index t = ![t.val, 0] ∧
    win0_4.index t = ![t.val / 16, 0, 0] ∧ win0_5.index t = ![0, 0] ∧ win0_6.index t = ![t.val, 0] :=
  (by decide +kernel : ∀ t : Fin grid0.N, _)

/-- Row `r` of a point's block. -/
def rowOf (t : Fin cfg0.N) (r : Fin 512) : Fin 32768 := ⟨t.val * 512 + r.val, by have := lt64 t; omega⟩

/-- The arguments of a launch. -/
def argsOf (c : Dev nD) : Last.Args where
  hid := m ((c : Thread nD τ).loc main_arg0)
  w := m ((c : Thread nD τ).loc main_arg1)
  x := m ((c : Thread nD τ).loc main_arg2)
  gate := m ((c : Thread nD τ).loc main_arg3)
  g := m ((c : Thread nD τ).loc main_arg4)

/-- A point's block of hidden rows, entry by entry. -/
theorem iblk0_eq (c : Dev nD) (t : Fin cfg0.N) (r : Fin 512) (a : Fin 2816) :
    iblk m c 0 t (ix2 r a) = (argsOf m c).hid (ix2 (rowOf t r) a) := by
  have := lt64 t
  unfold argsOf rowOf
  blk_ext [iblk, V_main_arg0, idx t]

/-- A point's block of residual rows, entry by entry. -/
theorem iblk3_eq (c : Dev nD) (t : Fin cfg0.N) (r : Fin 512) (a : Fin 1024) :
    iblk m c 3 t (ix2 r a) = (argsOf m c).x (ix2 (rowOf t r) a) := by
  have := lt64 t
  unfold argsOf rowOf
  blk_ext [iblk, V_main_arg2, idx t]

/-- The weights, as the host rounds them. -/
theorem iblk1_eq (c : Dev nD) (t : Fin cfg0.N) (k : Fin 2816) (j : Fin 1024) :
    iblk m c 1 t (ix2 k j) = (argsOf m c).w (ix2 k j) := by
  have e : iblk m c 1 t (ix2 k j) = (V m c main_v1 : Vec Ideal S2816x1024 .bf16) (ix2 k j) := by blk_ext [iblk, idx t]
  rw [e]
  unfold V argsOf
  simp only [hostOps0, List.flatten_cons, List.flatten_nil, List.append_nil, List.cons_append, List.nil_append]
  after_results
  pointwise

/-- The offsets, all zero. -/
theorem iblk2_eq (c : Dev nD) (t : Fin cfg0.N) (j : Fin 1024) : iblk m c 2 t (ix2 0 j) = (0 : EReal) := by
  have e : iblk m c 2 t (ix2 0 j) = (V m c main_v2 : Vec Ideal S1x1024 .f32) (ix2 0 j) := by blk_ext [iblk, idx t]
  rw [e]
  unfold V
  simp only [hostOps0, List.flatten_cons, List.flatten_nil, List.append_nil, List.cons_append, List.nil_append]
  after_results
  pointwise

/-- A point's gates. -/
theorem iblk4_eq (c : Dev nD) (t : Fin cfg0.N) (r : Fin 512) (j : Fin 1024) :
    iblk m c 4 t (ix3 0 0 j) = (argsOf m c).gate (ix2 (Dense.batch (rowOf t r)) j) := by
  have := lt64 t
  have e : iblk m c 4 t (ix3 0 0 j) = (V m c main_v3 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- The last gains. -/
theorem iblk5_eq (c : Dev nD) (t : Fin cfg0.N) (j : Fin 1024) : iblk m c 5 t (ix2 0 j) = (argsOf m c).g (ix1 j) := by
  have e : iblk m c 5 t (ix2 0 j) = (V m c main_v4 : Vec Ideal S1x1024 .f32) (ix2 0 j) := by blk_ext [iblk, idx t]
  rw [e]
  unfold V argsOf
  simp only [hostOps0, List.flatten_cons, List.flatten_nil, List.append_nil, List.cons_append, List.nil_append]
  after_results
  pointwise

/-- What the body stores, entry by entry. -/
theorem pay_eq (x0 : Vec Ideal S512x2816 .bf16) (x1 : Vec Ideal S2816x1024 .bf16) (x2 : Vec Ideal S1x1024 .f32) (x3 : Vec Ideal S512x1024 .f32)
    (x4 : Vec Ideal S1x1x1024 .f32) (x5 : Vec Ideal S1x1024 .f32) (r : Fin 512) (j : Fin 1024) :
    out0_6 x0 x1 x2 x3 x4 x5 (ix2 r j)
      = Dense.norm (fun i => x3 (ix2 r i) + x4 (ix3 0 0 i) * (∑ k : Fin 2816, x0 (ix2 r k) * x1 (ix2 k i) + x2 (ix2 0 i))) (fun i => x5 (ix2 0 i)) j := by
  unfold Dense.norm Dense.width Dense.eps
  frame_out
  pointwise [k0_pay1]

/-- The rows before the normalisation, from blocks that hold the arguments' entries. -/
theorem row_eq (A : Last.Args) (R : Fin 32768) (r : Fin 512) (x0 : Vec Ideal S512x2816 .bf16) (x1 : Vec Ideal S2816x1024 .bf16)
    (x2 : Vec Ideal S1x1024 .f32) (x3 : Vec Ideal S512x1024 .f32) (x4 : Vec Ideal S1x1x1024 .f32)
    (h0 : ∀ k, x0 (ix2 r k) = A.hid (ix2 R k)) (h1 : ∀ k i, x1 (ix2 k i) = A.w (ix2 k i)) (h2 : ∀ i, x2 (ix2 0 i) = (0 : EReal))
    (h3 : ∀ i, x3 (ix2 r i) = A.x (ix2 R i)) (h4 : ∀ i, x4 (ix3 0 0 i) = A.gate (ix2 (Dense.batch R) i)) (i : Fin 1024) :
    x3 (ix2 r i) + x4 (ix3 0 0 i) * (∑ k : Fin 2816, x0 (ix2 r k) * x1 (ix2 k i) + x2 (ix2 0 i)) = Last.row A R i := by
  rw [h2, h3, h4, add_zero]
  unfold Last.row
  congr 2
  exact Finset.sum_congr rfl fun k _ => by rw [h0, h1]

/-- The array of results after the run. -/
theorem final (c : Dev nD) : (dats m 0 c).arrAt 6 cfg0.N = Last.res (argsOf m c) :=
  (dats m 0 c).arrAt_eq_of_covers 6 _ (by decide +kernel) fun t hf y => by
    have := lt64 t
    idx_vars y
    have e : (win0_6.blk t).view.emb (ix2 y0 y1) = ix2 (rowOf t y0) y1 := by
      unfold rowOf
      blk_ext [idx t]
    blk_simp
    rw [after0_6, e, pay_eq]
    show _ = Last.out (argsOf m c) (rowOf t y0) y1
    unfold Last.out
    rw [funext fun i => iblk5_eq m c t i]
    exact Dense.norm_congr (row_eq (argsOf m c) (rowOf t y0) y0 _ _ _ _ _ (iblk0_eq m c t y0) (iblk1_eq m c t) (iblk2_eq m c t)
      (iblk3_eq m c t y0) (iblk4_eq m c t y0)) _

end Cert.LastKernelIdeal.Rows

namespace Cert.LastReferenceIdeal.Rows

open Idealize.ShloMosaic Idealize.ShloMosaic.TcCoe Cert.LastReferenceIdeal Cert.LastReferenceIdeal.Gen Idealize.SL.Sem
open Cert

variable (m : (ℓ : Loc nD τ sig) → Buf (Elt Ideal) ℓ)

/-- The arguments of a launch. -/
def argsOf (c : Dev nD) : Last.Args where
  hid := m ((c : Thread nD τ).loc main_arg0)
  w := m ((c : Thread nD τ).loc main_arg1)
  x := m ((c : Thread nD τ).loc main_arg2)
  gate := m ((c : Thread nD τ).loc main_arg3)
  g := m ((c : Thread nD τ).loc main_arg4)

/-- The reference's last lines, entry by entry. -/
theorem core (H : FVec Ideal S4x8192x2816 .f32) (w : FVec Ideal S2816x1024 .f32) (X : FVec Ideal S4x8192x1024 .f32) (g : FVec Ideal S4x1024 .f32)
    (b : Fin 4) (p : Fin 8192) (j : Fin 1024) :
    addf X (mulf (broadcastInDim S4x8192x1024 ![0, 1, 2] Gen.bcast_S4x1x1024_S4x8192x1024_0_1_2 (broadcastInDim S4x1x1024 ![0, 2] Gen.bcast_S4x1024_S4x1x1024_0_2 g)) (Host.dotGeneral dot_S4x8192x2816_S2816x1024_S4x8192x1024_2_0_01_1_n_n none H w)) (ix3 b p j)
      = X (ix3 b p j) + g (ix2 b j) * ∑ k : Fin 2816, H (ix3 b p k) * w (ix2 k j) := by
  pointwise

/-- The reference's normalisation, entry by entry. -/
theorem normal (Y : FVec Ideal S4x8192x1024 .f32) (g : FVec Ideal S1024 .f32) (b : Fin 4) (p : Fin 8192) (j : Fin 1024) :
    mulf (mulf Y (broadcastInDim S4x8192x1024 ![0, 1, 2] Gen.bcast_S4x8192x1_S4x8192x1024_0_1_2 (Host.rsqrt (addf (Host.divf (broadcastInDim S4x8192x1 ![0, 1] Gen.bcast_S4x8192_S4x8192x1_0_1 (Host.reduceAdd (mulf Y Y) (constant S_ .f32 0x00000000#32) Gen.reducesTo_S4x8192x1024_S4x8192_d2 Gen.h_S_)) (broadcastInDim S4x8192x1 ![] Gen.bcast_S_S4x8192x1 (constant S_ .f32 0x44800000#32))) (broadcastInDim S4x8192x1 ![] Gen.bcast_S_S4x8192x1 (constant S_ .f32 0x358637BD#32)))))) (broadcastInDim S4x8192x1024 ![0, 1, 2] Gen.bcast_S1x1x1024_S4x8192x1024_0_1_2 (broadcastInDim S1x1x1024 ![2] Gen.bcast_S1024_S1x1x1024_2 g)) (ix3 b p j)
      = Dense.norm (fun i => Y (ix3 b p i)) (fun i => g (ix1 i)) j := by
  unfold Dense.norm Dense.width Dense.eps
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = Last.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      show _ = Last.res (argsOf m c)
      funext y
      idx_vars y
      show _ = Last.out (argsOf m c) y0 y1
      refine (Dense.flat_1024 _ _ y0 y1).trans ((normal _ _ _ _ _).trans ?_)
      exact Dense.norm_congr (fun i => (core _ _ _ _ _ _ _).trans
        (Dense.gated_congr (Dense.seqs_1024 _ _ y0 i) fun k => Dense.seqs_2816 _ _ y0 k)) _), (h c).2⟩) (Value.run m ρ)

end Cert.LastReferenceIdeal.Rows

end
-- ==== Proof.HyenaInValue.lean ====
/- The first mixer's first product: rows normalised, modulated, multiplied by the weights, with offsets. -/
module

public import proofs.«01_k».proof.Proof.Dense
public import proofs.«01_k».proof.Proof.Gen.HyenaInKernel.Frame
public import proofs.«01_k».proof.Proof.Gen.HyenaInKernelIdeal.Value
public import proofs.«01_k».proof.Proof.Gen.HyenaInReferenceIdeal.Run
public import Idealize.ShloMosaic.Lib.Pipeline.ValueKit
public import Idealize.ShloMosaic.Lib.Pipeline.ReadBack

@[expose] public section

set_option maxRecDepth 16384

noncomputable section

namespace Cert.HyenaIn

open Idealize.ShloMosaic

/-- The arguments: rows, gains, shifts and scales of the batch rows, weights, offsets. -/
structure Args where
  x : Vec Ideal ⟨2, ![32768, 1024]⟩ .f32
  g : Vec Ideal ⟨1, ![1024]⟩ .f32
  shift : Vec Ideal ⟨2, ![4, 1024]⟩ .f32
  scale : Vec Ideal ⟨2, ![4, 1024]⟩ .f32
  w : Vec Ideal ⟨2, ![1024, 3072]⟩ .f32
  b : Vec Ideal ⟨1, ![3072]⟩ .f32

/-- A row normalised and modulated. -/
def row (A : Args) (r : Fin 32768) (a : Fin 1024) : EReal :=
  Dense.modulated (fun i => A.x (ix2 r i)) (fun i => A.g (ix1 i)) (fun i => A.shift (ix2 (Dense.batch r) i))
    (fun i => A.scale (ix2 (Dense.batch r) i)) a

/-- The result at a row and a column. -/
def out (A : Args) (r : Fin 32768) (j : Fin 3072) : EReal := ∑ k : Fin 1024, row A r k * A.w (ix2 k j) + A.b (ix1 j)

/-- The array of results. -/
def res (A : Args) : Vec Ideal ⟨2, ![32768, 3072]⟩ .bf16 := fun i => out A (i 0) (i 1)

end Cert.HyenaIn

namespace Cert.HyenaInKernelIdeal.Rows

open Idealize.ShloMosaic Idealize.ShloMosaic.TcCoe Cert.HyenaInKernelIdeal Cert.HyenaInKernelIdeal.Gen Idealize.SL.Sem
open Idealize.ShloMosaic.Pipeline (Dat Cfg Window)
open Cert

variable (m : (ℓ : Loc nD τ sig) → Buf (Elt Ideal) ℓ)

/-- The grid has 96 points. -/
theorem lt96 (t : Fin cfg0.N) : t.val < 96 := lt_of_lt_of_eq t.isLt (show cfg0.N = 96 from N_0)

/-- The windows' block index at a point. -/
theorem idx : ∀ t : Fin cfg0.N,
    win0_0.index t = ![t.val / 3, 0] ∧ win0_1.index t = ![0, 0] ∧ win0_2.index t = ![t.val / 24, 0, 0] ∧ win0_3.index t = ![t.val / 24, 0, 0] ∧
    win0_4.index t = ![0, t.val % 3] ∧ win0_5.index t = ![0, t.val % 3] ∧ win0_6.index t = ![t.val / 3, t.val % 3] :=
  (by decide +kernel : ∀ t : Fin grid0.N, _)

/-- Row `r` of a point's block. -/
def rowOf (t : Fin cfg0.N) (r : Fin 1024) : Fin 32768 := ⟨t.val / 3 * 1024 + r.val, by have := lt96 t; omega⟩

/-- Column `j` of a point's block. -/
def colOf (t : Fin cfg0.N) (j : Fin 1024) : Fin 3072 := ⟨t.val % 3 * 1024 + j.val, by have := lt96 t; omega⟩

/-- The arguments of a launch. -/
def argsOf (c : Dev nD) : HyenaIn.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)
  b := m ((c : Thread nD τ).loc main_arg5)

/-- A point's block of rows, entry by entry. -/
theorem iblk0_eq (c : Dev nD) (t : Fin cfg0.N) (r : Fin 1024) (a : Fin 1024) :
    iblk m c 0 t (ix2 r a) = (argsOf m c).x (ix2 (rowOf t r) a) := by
  have := lt96 t
  unfold argsOf rowOf
  blk_ext [iblk, V_main_arg0, idx t]

/-- The gains. -/
theorem iblk1_eq (c : Dev nD) (t : Fin cfg0.N) (j : Fin 1024) : iblk m c 1 t (ix2 0 j) = (argsOf m c).g (ix1 j) := by
  have e : iblk m c 1 t (ix2 0 j) = (V m c main_v0 : Vec Ideal S1x1024 .f32) (ix2 0 j) := by blk_ext [iblk, idx t]
  rw [e]
  unfold V argsOf
  simp only [hostOps0, List.flatten_cons, List.flatten_nil, List.append_nil, List.cons_append, List.nil_append]
  after_results
  pointwise

/-- A point's shifts. -/
theorem iblk2_eq (c : Dev nD) (t : Fin cfg0.N) (r : Fin 1024) (j : Fin 1024) :
    iblk m c 2 t (ix3 0 0 j) = (argsOf m c).shift (ix2 (Dense.batch (rowOf t r)) j) := by
  have := lt96 t
  have e : iblk m c 2 t (ix3 0 0 j) = (V m c main_v1 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's scales. -/
theorem iblk3_eq (c : Dev nD) (t : Fin cfg0.N) (r : Fin 1024) (j : Fin 1024) :
    iblk m c 3 t (ix3 0 0 j) = (argsOf m c).scale (ix2 (Dense.batch (rowOf t r)) j) := by
  have := lt96 t
  have e : iblk m c 3 t (ix3 0 0 j) = (V m c main_v2 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's block of weights, as the host rounds them. -/
theorem iblk4_eq (c : Dev nD) (t : Fin cfg0.N) (k : Fin 1024) (j : Fin 1024) :
    iblk m c 4 t (ix2 k j) = (argsOf m c).w (ix2 k (colOf t j)) := by
  have := lt96 t
  have e : iblk m c 4 t (ix2 k j) = (V m c main_v3 : Vec Ideal S1024x3072 .bf16) (ix2 k (colOf t j)) := by
    unfold colOf
    blk_ext [iblk, idx t]
  rw [e]
  unfold V argsOf
  simp only [hostOps0, List.flatten_cons, List.flatten_nil, List.append_nil, List.cons_append, List.nil_append]
  after_results
  pointwise

/-- A point's offsets. -/
theorem iblk5_eq (c : Dev nD) (t : Fin cfg0.N) (j : Fin 1024) : iblk m c 5 t (ix2 0 j) = (argsOf m c).b (ix1 (colOf t j)) := by
  have := lt96 t
  have e : iblk m c 5 t (ix2 0 j) = (V m c main_v4 : Vec Ideal S1x3072 .f32) (ix2 0 (colOf t j)) := by
    unfold colOf
    blk_ext [iblk, idx t]
  rw [e]
  unfold V argsOf
  simp only [hostOps0, List.flatten_cons, List.flatten_nil, List.append_nil, List.cons_append, List.nil_append]
  after_results
  pointwise

/-- The rows that the first point of a block of rows stores, entry by entry. -/
theorem pay1_eq (x0 : Vec Ideal S1024x1024 .f32) (x1 : Vec Ideal S1x1024 .f32) (x2 x3 : Vec Ideal S1x1x1024 .f32) (r a : Fin 1024) :
    k0_pay1 x0 x1 x3 x2 (ix2 r a)
      = Dense.modulated (fun i => x0 (ix2 r i)) (fun i => x1 (ix2 0 i)) (fun i => x2 (ix3 0 0 i)) (fun i => x3 (ix3 0 0 i)) a := by
  unfold Dense.modulated Dense.norm Dense.width Dense.eps Dense.one
  pointwise [k0_pay1]

/-- The product of a point, entry by entry. -/
theorem pay2_eq (s : Vec Ideal S1024x1024 .bf16) (x4 : Vec Ideal S1024x1024 .bf16) (x5 : Vec Ideal S1x1024 .f32) (r : Fin 1024) (j : Fin 1024) :
    k0_pay2 s x4 x5 (ix2 r j) = ∑ k : Fin 1024, s (ix2 r k) * x4 (ix2 k j) + x5 (ix2 0 j) := by
  pointwise [k0_pay2]

/-- The rows from a point's blocks. -/
theorem rows_eq (c : Dev nD) (t : Fin cfg0.N) (r a : Fin 1024) :
    k0_pay1 (iblk m c 0 t) (iblk m c 1 t) (iblk m c 3 t) (iblk m c 2 t) (ix2 r a) = HyenaIn.row (argsOf m c) (rowOf t r) a := by
  rw [pay1_eq]
  unfold HyenaIn.row
  rw [funext fun i => iblk0_eq m c t r i, funext fun i => iblk1_eq m c t i, funext fun i => iblk2_eq m c t r i, funext fun i => iblk3_eq m c t r i]

/-- After a first point: the rows, and their product. -/
theorem first_eq (c : Dev nD) (t : Fin cfg0.N) (h : t.val % 3 = 0) :
    outsAt0 m c t.val t.isLt = (k0_pay2 (k0_pay1 (iblk m c 0 t) (iblk m c 1 t) (iblk m c 3 t) (iblk m c 2 t)) (iblk m c 4 t) (iblk m c 5 t),
      k0_pay1 (iblk m c 0 t) (iblk m c 1 t) (iblk m c 3 t) (iblk m c 2 t)) := by
  rw [outsAt0_A m c t h]
  frame_out

/-- After a later point: the rows as they were, and their product. -/
theorem later_eq (c : Dev nD) (t : Fin cfg0.N) (h : ¬t.val % 3 = 0) :
    outsAt0 m c t.val t.isLt = (k0_pay2 (outsAt0 m c (t.val - 1) (Nat.lt_of_le_of_lt (Nat.sub_le _ _) t.isLt)).2 (iblk m c 4 t) (iblk m c 5 t),
      (outsAt0 m c (t.val - 1) (Nat.lt_of_le_of_lt (Nat.sub_le _ _) t.isLt)).2) := by
  rw [outsAt0_B m c t h]
  frame_out
  rw [read_unread_whole]
  rfl

/-- The carried rows after every point. -/
theorem carried (c : Dev nD) : ∀ (n : ℕ) (h : n < cfg0.N) (r a : Fin 1024),
    (outsAt0 m c n h).2 (ix2 r a) = HyenaIn.row (argsOf m c) (rowOf ⟨n, h⟩ r) a := by
  intro n
  induction n with
  | zero =>
    intro h r a
    rw [first_eq m c ⟨0, h⟩ rfl]
    exact rows_eq m c ⟨0, h⟩ r a
  | succ n ih =>
    intro h r a
    by_cases h0 : (n + 1) % 3 = 0
    · rw [first_eq m c ⟨n + 1, h⟩ h0]
      exact rows_eq m c ⟨n + 1, h⟩ r a
    · rw [later_eq m c ⟨n + 1, h⟩ h0]
      refine (ih (Nat.lt_of_succ_lt h) r a).trans (congrArg (HyenaIn.row (argsOf m c) · a) (Fin.ext ?_))
      show n / 3 * 1024 + r.val = (n + 1) / 3 * 1024 + r.val
      have : n / 3 = (n + 1) / 3 := by omega
      rw [this]

/-- What a point writes: its carried rows times its block of weights. -/
theorem written (c : Dev nD) (t : Fin cfg0.N) :
    (outsAt0 m c t.val t.isLt).1 = k0_pay2 (outsAt0 m c t.val t.isLt).2 (iblk m c 4 t) (iblk m c 5 t) := by
  by_cases h : t.val % 3 = 0
  · rw [first_eq m c t h]
  · rw [later_eq m c t h]

/-- The array of results after the run. -/
theorem final (c : Dev nD) : (dats m 0 c).arrAt 6 cfg0.N = HyenaIn.res (argsOf m c) :=
  (dats m 0 c).arrAt_eq_of_covers 6 _ (by decide +kernel) fun t hf y => by
    have := lt96 t
    idx_vars y
    have e : (win0_6.blk t).view.emb (ix2 y0 y1) = ix2 (rowOf t y0) (colOf t y1) := by
      unfold rowOf colOf
      blk_ext [idx t]
    blk_simp
    rw [after0_6, e, written, pay2_eq, iblk5_eq]
    show _ = HyenaIn.out (argsOf m c) (rowOf t y0) (colOf t y1)
    unfold HyenaIn.out
    refine congrArg (· + _) ?_
    exact Finset.sum_congr rfl fun k _ => by rw [carried, iblk4_eq]

end Cert.HyenaInKernelIdeal.Rows

namespace Cert.HyenaInReferenceIdeal.Rows

open Idealize.ShloMosaic Idealize.ShloMosaic.TcCoe Cert.HyenaInReferenceIdeal Idealize.SL.Sem
open Cert

variable (m : (ℓ : Loc nD τ sig) → Buf (Elt Ideal) ℓ)

/-- The arguments of a launch. -/
def argsOf (c : Dev nD) : HyenaIn.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)
  b := m ((c : Thread nD τ).loc main_arg5)

/-- The reference's normalised and modulated rows. -/
abbrev rows (Y : FVec Ideal S4x8192x1024 .f32) (g : FVec Ideal S1024 .f32) (shift scale : FVec Ideal S4x1024 .f32) : FVec Ideal S4x8192x1024 .f32 :=
  addf (mulf (mulf (mulf Y (broadcastInDim S4x8192x1024 ![0, 1, 2] Gen.bcast_S4x8192x1_S4x8192x1024_0_1_2 (Host.rsqrt (addf (Host.divf (broadcastInDim S4x8192x1 ![0, 1] Gen.bcast_S4x8192_S4x8192x1_0_1 (Host.reduceAdd (mulf Y Y) (constant S_ .f32 0x00000000#32) Gen.reducesTo_S4x8192x1024_S4x8192_d2 Gen.h_S_)) (broadcastInDim S4x8192x1 ![] Gen.bcast_S_S4x8192x1 (constant S_ .f32 0x44800000#32))) (broadcastInDim S4x8192x1 ![] Gen.bcast_S_S4x8192x1 (constant S_ .f32 0x358637BD#32)))))) (broadcastInDim S4x8192x1024 ![0, 1, 2] Gen.bcast_S1x1x1024_S4x8192x1024_0_1_2 (broadcastInDim S1x1x1024 ![2] Gen.bcast_S1024_S1x1x1024_2 g))) (broadcastInDim S4x8192x1024 ![0, 1, 2] Gen.bcast_S4x1x1024_S4x8192x1024_0_1_2 (addf (broadcastInDim S4x1x1024 ![] Gen.bcast_S_S4x1x1024 (constant S_ .f32 0x3F800000#32)) (broadcastInDim S4x1x1024 ![0, 2] Gen.bcast_S4x1024_S4x1x1024_0_2 scale)))) (broadcastInDim S4x8192x1024 ![0, 1, 2] Gen.bcast_S4x1x1024_S4x8192x1024_0_1_2 (broadcastInDim S4x1x1024 ![0, 2] Gen.bcast_S4x1024_S4x1x1024_0_2 shift))

/-- The normalised and modulated rows, entry by entry. -/
theorem rows_eq (Y : FVec Ideal S4x8192x1024 .f32) (g : FVec Ideal S1024 .f32) (shift scale : FVec Ideal S4x1024 .f32)
    (b : Fin 4) (p : Fin 8192) (j : Fin 1024) :
    rows Y g shift scale (ix3 b p j)
      = Dense.modulated (fun i => Y (ix3 b p i)) (fun i => g (ix1 i)) (fun i => shift (ix2 b i)) (fun i => scale (ix2 b i)) j := by
  unfold Dense.modulated Dense.norm Dense.width Dense.eps Dense.one
  pointwise

/-- The reference's product, entry by entry. -/
theorem core (H : FVec Ideal S4x8192x1024 .f32) (w : FVec Ideal S1024x3072 .f32) (o : FVec Ideal S3072 .f32) (b : Fin 4) (p : Fin 8192) (j : Fin 3072) :
    addf (Host.dotGeneral dot_S4x8192x1024_S1024x3072_S4x8192x3072_2_0_01_1_n_n none H w) (broadcastInDim S4x8192x3072 ![0, 1, 2] Gen.bcast_S1x1x3072_S4x8192x3072_0_1_2 (broadcastInDim S1x1x3072 ![2] Gen.bcast_S3072_S1x1x3072_2 o)) (ix3 b p j)
      = ∑ k : Fin 1024, H (ix3 b p k) * w (ix2 k j) + o (ix1 j) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v27) = HyenaIn.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (by
      show _ = HyenaIn.res (argsOf m c)
      funext y
      idx_vars y
      show _ = HyenaIn.out (argsOf m c) y0 y1
      refine (Dense.flat_3072 _ _ y0 y1).trans ((core _ _ _ _ _ _).trans ?_)
      exact Dense.sum_offset_congr fun k => (rows_eq _ _ _ _ _ _ _).trans
        (Dense.modulated_congr (fun i => Dense.seqs_1024 _ _ y0 i) _)), (h c).2⟩) (Value.run m ρ)

end Cert.HyenaInReferenceIdeal.Rows

end
-- ==== Proof.MlstmInValue.lean ====
/- The second mixer's first product: rows normalised, modulated and multiplied by the weights. -/
module

public import proofs.«01_k».proof.Proof.Dense
public import proofs.«01_k».proof.Proof.Gen.MlstmInKernel.Frame
public import proofs.«01_k».proof.Proof.Gen.MlstmInKernelIdeal.Value
public import proofs.«01_k».proof.Proof.Gen.MlstmInReferenceIdeal.Run
public import Idealize.ShloMosaic.Lib.Pipeline.ValueKit
public import Idealize.ShloMosaic.Lib.Pipeline.ReadBack

@[expose] public section

set_option maxRecDepth 16384

noncomputable section

namespace Cert.MlstmIn

open Idealize.ShloMosaic

/-- The arguments: rows, gains, shifts and scales of the batch rows, weights. -/
structure Args where
  x : Vec Ideal ⟨2, ![32768, 1024]⟩ .f32
  g : Vec Ideal ⟨1, ![1024]⟩ .f32
  shift : Vec Ideal ⟨2, ![4, 1024]⟩ .f32
  scale : Vec Ideal ⟨2, ![4, 1024]⟩ .f32
  w : Vec Ideal ⟨2, ![1024, 4096]⟩ .f32

/-- A row normalised and modulated. -/
def row (A : Args) (r : Fin 32768) (a : Fin 1024) : EReal :=
  Dense.modulated (fun i => A.x (ix2 r i)) (fun i => A.g (ix1 i)) (fun i => A.shift (ix2 (Dense.batch r) i))
    (fun i => A.scale (ix2 (Dense.batch r) i)) a

/-- The result at a row and a column. -/
def out (A : Args) (r : Fin 32768) (j : Fin 4096) : EReal := ∑ k : Fin 1024, row A r k * A.w (ix2 k j)

/-- The array of results. -/
def res (A : Args) : Vec Ideal ⟨2, ![32768, 4096]⟩ .bf16 := fun i => out A (i 0) (i 1)

end Cert.MlstmIn

namespace Cert.MlstmInKernelIdeal.Rows

open Idealize.ShloMosaic Idealize.ShloMosaic.TcCoe Cert.MlstmInKernelIdeal Cert.MlstmInKernelIdeal.Gen Idealize.SL.Sem
open Idealize.ShloMosaic.Pipeline (Dat Cfg Window)
open Cert

variable (m : (ℓ : Loc nD τ sig) → Buf (Elt Ideal) ℓ)

/-- The grid has 128 points. -/
theorem lt128 (t : Fin cfg0.N) : t.val < 128 := lt_of_lt_of_eq t.isLt (show cfg0.N = 128 from N_0)

/-- The windows' block index at a point. -/
theorem idx : ∀ t : Fin cfg0.N,
    win0_0.index t = ![t.val / 4, 0] ∧ win0_1.index t = ![0, 0] ∧ win0_2.index t = ![t.val / 32, 0, 0] ∧ win0_3.index t = ![t.val / 32, 0, 0] ∧
    win0_4.index t = ![0, t.val % 4] ∧ win0_5.index t = ![0, t.val % 4] ∧ win0_6.index t = ![t.val / 4, t.val % 4] :=
  (by decide +kernel : ∀ t : Fin grid0.N, _)

/-- Row `r` of a point's block. -/
def rowOf (t : Fin cfg0.N) (r : Fin 1024) : Fin 32768 := ⟨t.val / 4 * 1024 + r.val, by have := lt128 t; omega⟩

/-- Column `j` of a point's block. -/
def colOf (t : Fin cfg0.N) (j : Fin 1024) : Fin 4096 := ⟨t.val % 4 * 1024 + j.val, by have := lt128 t; omega⟩

/-- The arguments of a launch. -/
def argsOf (c : Dev nD) : MlstmIn.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)

/-- A point's block of rows, entry by entry. -/
theorem iblk0_eq (c : Dev nD) (t : Fin cfg0.N) (r : Fin 1024) (a : Fin 1024) :
    iblk m c 0 t (ix2 r a) = (argsOf m c).x (ix2 (rowOf t r) a) := by
  have := lt128 t
  unfold argsOf rowOf
  blk_ext [iblk, V_main_arg0, idx t]

/-- The gains. -/
theorem iblk1_eq (c : Dev nD) (t : Fin cfg0.N) (j : Fin 1024) : iblk m c 1 t (ix2 0 j) = (argsOf m c).g (ix1 j) := by
  have e : iblk m c 1 t (ix2 0 j) = (V m c main_v1 : Vec Ideal S1x1024 .f32) (ix2 0 j) := by blk_ext [iblk, idx t]
  rw [e]
  unfold V argsOf
  simp only [hostOps0, List.flatten_cons, List.flatten_nil, List.append_nil, List.cons_append, List.nil_append]
  after_results
  pointwise

/-- A point's shifts. -/
theorem iblk2_eq (c : Dev nD) (t : Fin cfg0.N) (r : Fin 1024) (j : Fin 1024) :
    iblk m c 2 t (ix3 0 0 j) = (argsOf m c).shift (ix2 (Dense.batch (rowOf t r)) j) := by
  have := lt128 t
  have e : iblk m c 2 t (ix3 0 0 j) = (V m c main_v2 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's scales. -/
theorem iblk3_eq (c : Dev nD) (t : Fin cfg0.N) (r : Fin 1024) (j : Fin 1024) :
    iblk m c 3 t (ix3 0 0 j) = (argsOf m c).scale (ix2 (Dense.batch (rowOf t r)) j) := by
  have := lt128 t
  have e : iblk m c 3 t (ix3 0 0 j) = (V m c main_v3 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- A point's block of weights, as the host rounds them. -/
theorem iblk4_eq (c : Dev nD) (t : Fin cfg0.N) (k : Fin 1024) (j : Fin 1024) :
    iblk m c 4 t (ix2 k j) = (argsOf m c).w (ix2 k (colOf t j)) := by
  have := lt128 t
  have e : iblk m c 4 t (ix2 k j) = (V m c main_v4 : Vec Ideal S1024x4096 .bf16) (ix2 k (colOf t j)) := by
    unfold colOf
    blk_ext [iblk, idx t]
  rw [e]
  unfold V argsOf
  simp only [hostOps0, List.flatten_cons, List.flatten_nil, List.append_nil, List.cons_append, List.nil_append]
  after_results
  pointwise

/-- The offsets, all zero. -/
theorem iblk5_eq (c : Dev nD) (t : Fin cfg0.N) (j : Fin 1024) : iblk m c 5 t (ix2 0 j) = (0 : EReal) := by
  have := lt128 t
  have e : iblk m c 5 t (ix2 0 j) = (V m c main_v5 : Vec Ideal S1x4096 .f32) (ix2 0 (colOf t j)) := by
    unfold colOf
    blk_ext [iblk, idx t]
  rw [e]
  unfold V
  simp only [hostOps0, List.flatten_cons, List.flatten_nil, List.append_nil, List.cons_append, List.nil_append]
  after_results
  pointwise

/-- The rows that the first point of a block of rows stores, entry by entry. -/
theorem pay1_eq (x0 : Vec Ideal S1024x1024 .f32) (x1 : Vec Ideal S1x1024 .f32) (x2 x3 : Vec Ideal S1x1x1024 .f32) (r a : Fin 1024) :
    k0_pay1 x0 x1 x3 x2 (ix2 r a)
      = Dense.modulated (fun i => x0 (ix2 r i)) (fun i => x1 (ix2 0 i)) (fun i => x2 (ix3 0 0 i)) (fun i => x3 (ix3 0 0 i)) a := by
  unfold Dense.modulated Dense.norm Dense.width Dense.eps Dense.one
  pointwise [k0_pay1]

/-- The product of a point, entry by entry. -/
theorem pay2_eq (s : Vec Ideal S1024x1024 .bf16) (x4 : Vec Ideal S1024x1024 .bf16) (x5 : Vec Ideal S1x1024 .f32) (r : Fin 1024) (j : Fin 1024) :
    k0_pay2 s x4 x5 (ix2 r j) = ∑ k : Fin 1024, s (ix2 r k) * x4 (ix2 k j) + x5 (ix2 0 j) := by
  pointwise [k0_pay2]

/-- The rows from a point's blocks. -/
theorem rows_eq (c : Dev nD) (t : Fin cfg0.N) (r a : Fin 1024) :
    k0_pay1 (iblk m c 0 t) (iblk m c 1 t) (iblk m c 3 t) (iblk m c 2 t) (ix2 r a) = MlstmIn.row (argsOf m c) (rowOf t r) a := by
  rw [pay1_eq]
  unfold MlstmIn.row
  rw [funext fun i => iblk0_eq m c t r i, funext fun i => iblk1_eq m c t i, funext fun i => iblk2_eq m c t r i, funext fun i => iblk3_eq m c t r i]

/-- After a first point: the rows, and their product. -/
theorem first_eq (c : Dev nD) (t : Fin cfg0.N) (h : t.val % 4 = 0) :
    outsAt0 m c t.val t.isLt = (k0_pay2 (k0_pay1 (iblk m c 0 t) (iblk m c 1 t) (iblk m c 3 t) (iblk m c 2 t)) (iblk m c 4 t) (iblk m c 5 t),
      k0_pay1 (iblk m c 0 t) (iblk m c 1 t) (iblk m c 3 t) (iblk m c 2 t)) := by
  rw [outsAt0_A m c t h]
  frame_out

/-- After a later point: the rows as they were, and their product. -/
theorem later_eq (c : Dev nD) (t : Fin cfg0.N) (h : ¬t.val % 4 = 0) :
    outsAt0 m c t.val t.isLt = (k0_pay2 (outsAt0 m c (t.val - 1) (Nat.lt_of_le_of_lt (Nat.sub_le _ _) t.isLt)).2 (iblk m c 4 t) (iblk m c 5 t),
      (outsAt0 m c (t.val - 1) (Nat.lt_of_le_of_lt (Nat.sub_le _ _) t.isLt)).2) := by
  rw [outsAt0_B m c t h]
  frame_out
  rw [read_unread_whole]
  rfl

/-- The carried rows after every point. -/
theorem carried (c : Dev nD) : ∀ (n : ℕ) (h : n < cfg0.N) (r a : Fin 1024),
    (outsAt0 m c n h).2 (ix2 r a) = MlstmIn.row (argsOf m c) (rowOf ⟨n, h⟩ r) a := by
  intro n
  induction n with
  | zero =>
    intro h r a
    rw [first_eq m c ⟨0, h⟩ rfl]
    exact rows_eq m c ⟨0, h⟩ r a
  | succ n ih =>
    intro h r a
    by_cases h0 : (n + 1) % 4 = 0
    · rw [first_eq m c ⟨n + 1, h⟩ h0]
      exact rows_eq m c ⟨n + 1, h⟩ r a
    · rw [later_eq m c ⟨n + 1, h⟩ h0]
      refine (ih (Nat.lt_of_succ_lt h) r a).trans (congrArg (MlstmIn.row (argsOf m c) · a) (Fin.ext ?_))
      show n / 4 * 1024 + r.val = (n + 1) / 4 * 1024 + r.val
      have : n / 4 = (n + 1) / 4 := by omega
      rw [this]

/-- What a point writes: its carried rows times its block of weights. -/
theorem written (c : Dev nD) (t : Fin cfg0.N) :
    (outsAt0 m c t.val t.isLt).1 = k0_pay2 (outsAt0 m c t.val t.isLt).2 (iblk m c 4 t) (iblk m c 5 t) := by
  by_cases h : t.val % 4 = 0
  · rw [first_eq m c t h]
  · rw [later_eq m c t h]

/-- The array of results after the run. -/
theorem final (c : Dev nD) : (dats m 0 c).arrAt 6 cfg0.N = MlstmIn.res (argsOf m c) :=
  (dats m 0 c).arrAt_eq_of_covers 6 _ (by decide +kernel) fun t hf y => by
    have := lt128 t
    idx_vars y
    have e : (win0_6.blk t).view.emb (ix2 y0 y1) = ix2 (rowOf t y0) (colOf t y1) := by
      unfold rowOf colOf
      blk_ext [idx t]
    blk_simp
    rw [after0_6, e, written, pay2_eq, iblk5_eq, add_zero]
    show _ = MlstmIn.out (argsOf m c) (rowOf t y0) (colOf t y1)
    unfold MlstmIn.out
    exact Finset.sum_congr rfl fun k _ => by rw [carried, iblk4_eq]

end Cert.MlstmInKernelIdeal.Rows

namespace Cert.MlstmInReferenceIdeal.Rows

open Idealize.ShloMosaic Idealize.ShloMosaic.TcCoe Cert.MlstmInReferenceIdeal Idealize.SL.Sem
open Cert

variable (m : (ℓ : Loc nD τ sig) → Buf (Elt Ideal) ℓ)

/-- The arguments of a launch. -/
def argsOf (c : Dev nD) : MlstmIn.Args where
  x := m ((c : Thread nD τ).loc main_arg0)
  g := m ((c : Thread nD τ).loc main_arg1)
  shift := m ((c : Thread nD τ).loc main_arg2)
  scale := m ((c : Thread nD τ).loc main_arg3)
  w := m ((c : Thread nD τ).loc main_arg4)

/-- The reference's normalised and modulated rows. -/
abbrev rows (Y : FVec Ideal S4x8192x1024 .f32) (g : FVec Ideal S1024 .f32) (shift scale : FVec Ideal S4x1024 .f32) : FVec Ideal S4x8192x1024 .f32 :=
  addf (mulf (mulf (mulf Y (broadcastInDim S4x8192x1024 ![0, 1, 2] Gen.bcast_S4x8192x1_S4x8192x1024_0_1_2 (Host.rsqrt (addf (Host.divf (broadcastInDim S4x8192x1 ![0, 1] Gen.bcast_S4x8192_S4x8192x1_0_1 (Host.reduceAdd (mulf Y Y) (constant S_ .f32 0x00000000#32) Gen.reducesTo_S4x8192x1024_S4x8192_d2 Gen.h_S_)) (broadcastInDim S4x8192x1 ![] Gen.bcast_S_S4x8192x1 (constant S_ .f32 0x44800000#32))) (broadcastInDim S4x8192x1 ![] Gen.bcast_S_S4x8192x1 (constant S_ .f32 0x358637BD#32)))))) (broadcastInDim S4x8192x1024 ![0, 1, 2] Gen.bcast_S1x1x1024_S4x8192x1024_0_1_2 (broadcastInDim S1x1x1024 ![2] Gen.bcast_S1024_S1x1x1024_2 g))) (broadcastInDim S4x8192x1024 ![0, 1, 2] Gen.bcast_S4x1x1024_S4x8192x1024_0_1_2 (addf (broadcastInDim S4x1x1024 ![] Gen.bcast_S_S4x1x1024 (constant S_ .f32 0x3F800000#32)) (broadcastInDim S4x1x1024 ![0, 2] Gen.bcast_S4x1024_S4x1x1024_0_2 scale)))) (broadcastInDim S4x8192x1024 ![0, 1, 2] Gen.bcast_S4x1x1024_S4x8192x1024_0_1_2 (broadcastInDim S4x1x1024 ![0, 2] Gen.bcast_S4x1024_S4x1x1024_0_2 shift))

/-- The normalised and modulated rows, entry by entry. -/
theorem rows_eq (Y : FVec Ideal S4x8192x1024 .f32) (g : FVec Ideal S1024 .f32) (shift scale : FVec Ideal S4x1024 .f32)
    (b : Fin 4) (p : Fin 8192) (j : Fin 1024) :
    rows Y g shift scale (ix3 b p j)
      = Dense.modulated (fun i => Y (ix3 b p i)) (fun i => g (ix1 i)) (fun i => shift (ix2 b i)) (fun i => scale (ix2 b i)) j := by
  unfold Dense.modulated Dense.norm Dense.width Dense.eps Dense.one
  pointwise

/-- The reference's product, entry by entry. -/
theorem core (H : FVec Ideal S4x8192x1024 .f32) (w : FVec Ideal S1024x4096 .f32) (b : Fin 4) (p : Fin 8192) (j : Fin 4096) :
    Host.dotGeneral dot_S4x8192x1024_S1024x4096_S4x8192x4096_2_0_01_1_n_n none H w (ix3 b p j)
      = ∑ k : Fin 1024, H (ix3 b p k) * w (ix2 k j) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v24) = MlstmIn.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      show _ = MlstmIn.res (argsOf m c)
      funext y
      idx_vars y
      show _ = MlstmIn.out (argsOf m c) y0 y1
      refine (Dense.flat_4096 _ _ y0 y1).trans ((core _ _ _ _ _).trans ?_)
      exact Dense.sum_congr fun k => (rows_eq _ _ _ _ _ _ _).trans
        (Dense.modulated_congr (fun i => Dense.seqs_1024 _ _ y0 i) _)), (h c).2⟩) (Value.run m ρ)

end Cert.MlstmInReferenceIdeal.Rows

end
-- ==== Proof.HyenaOutValue.lean ====
/- The first mixer's output product, with its offsets, the gate and the residual. -/
module

public import proofs.«01_k».proof.Proof.Dense
public import proofs.«01_k».proof.Proof.Gen.HyenaOutKernel.Frame
public import proofs.«01_k».proof.Proof.Gen.HyenaOutKernelIdeal.Value
public import proofs.«01_k».proof.Proof.Gen.HyenaOutReferenceIdeal.Run
public import Idealize.ShloMosaic.Lib.Pipeline.ValueKit

@[expose] public section

set_option maxRecDepth 16384

noncomputable section

namespace Cert.HyenaOut

open Idealize.ShloMosaic

/-- The arguments: mixed rows, weights, offsets, residual rows, gates of the batch rows. -/
structure Args where
  hid : Vec Ideal ⟨2, ![32768, 1024]⟩ .bf16
  w : Vec Ideal ⟨2, ![1024, 1024]⟩ .f32
  b : Vec Ideal ⟨1, ![1024]⟩ .f32
  x : Vec Ideal ⟨2, ![32768, 1024]⟩ .f32
  gate : Vec Ideal ⟨2, ![4, 1024]⟩ .f32

/-- The result at a row and a column: the residual plus the gated product. -/
def out (A : Args) (r : Fin 32768) (j : Fin 1024) : EReal :=
  A.x (ix2 r j) + A.gate (ix2 (Dense.batch r) j) * (∑ k : Fin 1024, A.hid (ix2 r k) * A.w (ix2 k j) + A.b (ix1 j))

/-- The array of results. -/
def res (A : Args) : Vec Ideal ⟨2, ![32768, 1024]⟩ .f32 := fun i => out A (i 0) (i 1)

end Cert.HyenaOut

namespace Cert.HyenaOutKernelIdeal.Rows

open Idealize.ShloMosaic Idealize.ShloMosaic.TcCoe Cert.HyenaOutKernelIdeal Cert.HyenaOutKernelIdeal.Gen Idealize.SL.Sem
open Idealize.ShloMosaic.Pipeline (Dat Cfg Window)
open Cert

variable (m : (ℓ : Loc nD τ sig) → Buf (Elt Ideal) ℓ)

/-- The grid has 64 points. -/
theorem lt64 (t : Fin cfg0.N) : t.val < 64 := lt_of_lt_of_eq t.isLt (show cfg0.N = 64 from N_0)

/-- The windows' block index at a point. -/
theorem idx : ∀ t : Fin cfg0.N,
    win0_0.index t = ![t.val, 0] ∧ win0_1.index t = ![0, 0] ∧ win0_2.index t = ![0, 0] ∧ win0_3.index t = ![t.val, 0] ∧
    win0_4.index t = ![t.val / 16, 0, 0] ∧ win0_5.index t = ![0, 0] ∧ win0_6.index t = ![t.val, 0] :=
  (by decide +kernel : ∀ t : Fin grid0.N, _)

/-- Row `r` of a point's block. -/
def rowOf (t : Fin cfg0.N) (r : Fin 512) : Fin 32768 := ⟨t.val * 512 + r.val, by have := lt64 t; omega⟩

/-- The arguments of a launch. -/
def argsOf (c : Dev nD) : HyenaOut.Args where
  hid := m ((c : Thread nD τ).loc main_arg0)
  w := m ((c : Thread nD τ).loc main_arg1)
  b := m ((c : Thread nD τ).loc main_arg2)
  x := m ((c : Thread nD τ).loc main_arg3)
  gate := m ((c : Thread nD τ).loc main_arg4)

/-- A point's block of mixed rows, entry by entry. -/
theorem iblk0_eq (c : Dev nD) (t : Fin cfg0.N) (r : Fin 512) (a : Fin 1024) :
    iblk m c 0 t (ix2 r a) = (argsOf m c).hid (ix2 (rowOf t r) a) := by
  have := lt64 t
  unfold argsOf rowOf
  blk_ext [iblk, V_main_arg0, idx t]

/-- A point's block of residual rows, entry by entry. -/
theorem iblk3_eq (c : Dev nD) (t : Fin cfg0.N) (r : Fin 512) (a : Fin 1024) :
    iblk m c 3 t (ix2 r a) = (argsOf m c).x (ix2 (rowOf t r) a) := by
  have := lt64 t
  unfold argsOf rowOf
  blk_ext [iblk, V_main_arg3, idx t]

/-- The weights, as the host rounds them. -/
theorem iblk1_eq (c : Dev nD) (t : Fin cfg0.N) (k : Fin 1024) (j : Fin 1024) :
    iblk m c 1 t (ix2 k j) = (argsOf m c).w (ix2 k j) := by
  have e : iblk m c 1 t (ix2 k j) = (V m c main_v1 : Vec Ideal S1024x1024 .bf16) (ix2 k j) := by blk_ext [iblk, idx t]
  rw [e]
  unfold V argsOf
  simp only [hostOps0, List.flatten_cons, List.flatten_nil, List.append_nil, List.cons_append, List.nil_append]
  after_results
  pointwise

/-- The offsets. -/
theorem iblk2_eq (c : Dev nD) (t : Fin cfg0.N) (j : Fin 1024) : iblk m c 2 t (ix2 0 j) = (argsOf m c).b (ix1 j) := by
  have e : iblk m c 2 t (ix2 0 j) = (V m c main_v2 : Vec Ideal S1x1024 .f32) (ix2 0 j) := by blk_ext [iblk, idx t]
  rw [e]
  unfold V argsOf
  simp only [hostOps0, List.flatten_cons, List.flatten_nil, List.append_nil, List.cons_append, List.nil_append]
  after_results
  pointwise

/-- A point's gates. -/
theorem iblk4_eq (c : Dev nD) (t : Fin cfg0.N) (r : Fin 512) (j : Fin 1024) :
    iblk m c 4 t (ix3 0 0 j) = (argsOf m c).gate (ix2 (Dense.batch (rowOf t r)) j) := by
  have := lt64 t
  have e : iblk m c 4 t (ix3 0 0 j) = (V m c main_v3 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- What the body stores, entry by entry. -/
theorem pay_eq (x0 : Vec Ideal S512x1024 .bf16) (x1 : Vec Ideal S1024x1024 .bf16) (x2 : Vec Ideal S1x1024 .f32) (x3 : Vec Ideal S512x1024 .f32)
    (x4 : Vec Ideal S1x1x1024 .f32) (x5 : Vec Ideal S1x1024 .f32) (r : Fin 512) (j : Fin 1024) :
    out0_6 x0 x1 x2 x3 x4 x5 (ix2 r j) = x3 (ix2 r j) + x4 (ix3 0 0 j) * (∑ k : Fin 1024, x0 (ix2 r k) * x1 (ix2 k j) + x2 (ix2 0 j)) := by
  frame_out
  pointwise [k0_pay1]

/-- The array of results after the run. -/
theorem final (c : Dev nD) : (dats m 0 c).arrAt 6 cfg0.N = HyenaOut.res (argsOf m c) :=
  (dats m 0 c).arrAt_eq_of_covers 6 _ (by decide +kernel) fun t hf y => by
    have := lt64 t
    idx_vars y
    have e : (win0_6.blk t).view.emb (ix2 y0 y1) = ix2 (rowOf t y0) y1 := by
      unfold rowOf
      blk_ext [idx t]
    blk_simp
    rw [after0_6, e, pay_eq, iblk2_eq, iblk3_eq, iblk4_eq m c t y0]
    show _ = HyenaOut.out (argsOf m c) (rowOf t y0) y1
    unfold HyenaOut.out
    congr 3
    exact Finset.sum_congr rfl fun k _ => by rw [iblk0_eq, iblk1_eq]

end Cert.HyenaOutKernelIdeal.Rows

namespace Cert.HyenaOutReferenceIdeal.Rows

open Idealize.ShloMosaic Idealize.ShloMosaic.TcCoe Cert.HyenaOutReferenceIdeal Cert.HyenaOutReferenceIdeal.Gen Idealize.SL.Sem
open Cert

variable (m : (ℓ : Loc nD τ sig) → Buf (Elt Ideal) ℓ)

/-- The arguments of a launch. -/
def argsOf (c : Dev nD) : HyenaOut.Args where
  hid := m ((c : Thread nD τ).loc main_arg0)
  w := m ((c : Thread nD τ).loc main_arg1)
  b := m ((c : Thread nD τ).loc main_arg2)
  x := m ((c : Thread nD τ).loc main_arg3)
  gate := m ((c : Thread nD τ).loc main_arg4)

/-- The reference's last lines, entry by entry. -/
theorem core (H : FVec Ideal S4x8192x1024 .f32) (w : FVec Ideal S1024x1024 .f32) (X : FVec Ideal S4x8192x1024 .f32) (g : FVec Ideal S4x1024 .f32) (o : FVec Ideal S1024 .f32)
    (b : Fin 4) (p : Fin 8192) (j : Fin 1024) :
    addf X (mulf (broadcastInDim S4x8192x1024 ![0, 1, 2] Gen.bcast_S4x1x1024_S4x8192x1024_0_1_2 (broadcastInDim S4x1x1024 ![0, 2] Gen.bcast_S4x1024_S4x1x1024_0_2 g)) (addf (Host.dotGeneral dot_S4x8192x1024_S1024x1024_S4x8192x1024_2_0_01_1_n_n none H w) (broadcastInDim S4x8192x1024 ![0, 1, 2] Gen.bcast_S1x1x1024_S4x8192x1024_0_1_2 (broadcastInDim S1x1x1024 ![2] Gen.bcast_S1024_S1x1x1024_2 o)))) (ix3 b p j)
      = X (ix3 b p j) + g (ix2 b j) * (∑ k : Fin 1024, H (ix3 b p k) * w (ix2 k j) + o (ix1 j)) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v11) = HyenaOut.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      show _ = HyenaOut.res (argsOf m c)
      funext y
      idx_vars y
      show _ = HyenaOut.out (argsOf m c) y0 y1
      refine (Dense.flat_1024 _ _ y0 y1).trans ((core _ _ _ _ _ _ _ _).trans ?_)
      exact Dense.gated_offset_congr (Dense.seqs_1024 _ _ y0 y1) fun k => Dense.seqs_1024 _ _ y0 k), (h c).2⟩) (Value.run m ρ)

end Cert.HyenaOutReferenceIdeal.Rows

end
-- ==== Proof.MlstmOutValue.lean ====
/- The second mixer's end: the heads normalised, the skip, the gate of the branch, the output product, the residual. -/
module

public import proofs.«01_k».proof.Proof.Dense
public import proofs.«01_k».proof.Proof.Gen.MlstmOutKernel.Frame
public import proofs.«01_k».proof.Proof.Gen.MlstmOutKernelIdeal.Value
public import proofs.«01_k».proof.Proof.Gen.MlstmOutReferenceIdeal.Run
public import Idealize.ShloMosaic.Lib.Pipeline.ValueKit
public import Idealize.ShloMosaic.Lib.IdealHost

@[expose] public section

set_option maxRecDepth 16384

noncomputable section

namespace Cert.MlstmOut

open Idealize.ShloMosaic

/-- The arguments: heads of both directions, convolved rows, branch rows, norm gains, skip gains, weights, residual rows, gates of
    the batch rows. -/
structure Args where
  h : Vec Ideal ⟨4, ![2, 4, 8192, 2048]⟩ .f32
  xc : Vec Ideal ⟨3, ![4, 8192, 2048]⟩ .bf16
  xz : Vec Ideal ⟨3, ![4, 8192, 4096]⟩ .bf16
  nw : Vec Ideal ⟨1, ![2048]⟩ .f32
  sk : Vec Ideal ⟨1, ![2048]⟩ .f32
  w : Vec Ideal ⟨2, ![2048, 1024]⟩ .f32
  x : Vec Ideal ⟨2, ![32768, 1024]⟩ .f32
  gate : Vec Ideal ⟨2, ![4, 1024]⟩ .f32

/-- The number of features of a head, 512, as the programs write it. -/
def count : EReal := Ideal.ofBits .f32 0x44000000#32

/-- The small number added to a variance. -/
def small : EReal := Ideal.ofBits .f32 0x3727C5AC#32

/-- The head of a feature. -/
def headOf (k : Fin 2048) : Fin 4 := ⟨k.val / 512, by omega⟩

/-- The place of a feature in its head. -/
def featOf (k : Fin 2048) : Fin 512 := ⟨k.val % 512, by omega⟩

/-- A feature of a head. -/
def at_ (n : Fin 4) (a : Fin 512) : Fin 2048 := ⟨n.val * 512 + a.val, by omega⟩

/-- The mean of a head. -/
def mean (f : Fin 512 → EReal) : EReal := Ideal.div (∑ a, f a) count

/-- A head less its mean, over the root of its variance. -/
def standard (f : Fin 512 → EReal) (a : Fin 512) : EReal :=
  (f a - mean f) * Ideal.rsqrt (Ideal.div (∑ b, (f b - mean f) * (f b - mean f)) count + small)

/-- A number times its logistic. -/
def silu (z : EReal) : EReal := z * Ideal.div Dense.one (Dense.one + Ideal.exp (-z))

/-- A row before the product: every head normalised, with gains, the skip added, times the branch. -/
def act (s nw sk xc z : Fin 2048 → EReal) (k : Fin 2048) : EReal :=
  (standard (fun a => s (at_ (headOf k) a)) (featOf k) * nw k + sk k * xc k) * silu (z k)

/-- The sum of both directions at a row. -/
def both (A : Args) (r : Fin 32768) (k : Fin 2048) : EReal :=
  A.h (ix4 0 (Dense.batch r) (Dense.pos r) k) + A.h (ix4 1 (Dense.batch r) (Dense.pos r) k)

/-- A row of the arguments before the product. -/
def row (A : Args) (r : Fin 32768) (k : Fin 2048) : EReal :=
  act (both A r) (fun k => A.nw (ix1 k)) (fun k => A.sk (ix1 k)) (fun k => A.xc (ix3 (Dense.batch r) (Dense.pos r) k))
    (fun k => A.xz (ix3 (Dense.batch r) (Dense.pos r) ⟨2048 + k.val, by omega⟩)) k

/-- The result at a row and a column: the residual plus the gated product. -/
def out (A : Args) (r : Fin 32768) (j : Fin 1024) : EReal :=
  A.x (ix2 r j) + A.gate (ix2 (Dense.batch r) j) * ∑ k : Fin 2048, row A r k * A.w (ix2 k j)

/-- The array of results. -/
def res (A : Args) : Vec Ideal ⟨2, ![32768, 1024]⟩ .f32 := fun i => out A (i 0) (i 1)

/-- The exponential is positive, so one more than it is not zero. -/
theorem den_ne (z : EReal) : Dense.one + Ideal.exp z ≠ 0 := by
  have h1 : Dense.one = 1 := Ideal.ofBits_one_f32
  rw [h1]
  have h0 : (0 : EReal) ≤ Ideal.exp z := by
    induction z using EReal.rec with
    | bot => exact le_refl _
    | top => exact le_top
    | coe r => exact EReal.coe_nonneg.mpr (Real.exp_pos r).le
  have : (0 : EReal) < 1 + Ideal.exp z := lt_of_lt_of_le zero_lt_one (le_add_of_nonneg_right h0)
  exact this.ne'

/-- A number over one plus the exponential of its opposite is the number times its logistic. -/
theorem silu_eq (z : EReal) : Ideal.div z (Dense.one + Ideal.exp (0 - z)) = silu z := by
  have h1 : Dense.one = 1 := Ideal.ofBits_one_f32
  unfold silu
  rw [zero_sub]
  unfold Ideal.div
  rw [if_neg (den_ne _), if_neg (den_ne _), h1, one_mul]

/-- Equal products give equal results. -/
theorem total_congr {K : ℕ} {x g : EReal} {f f' : Fin K → EReal} (h : ∀ k, f k = f' k) : x + g * ∑ k, f k = x + g * ∑ k, f' k := by
  rw [funext h]

end Cert.MlstmOut

namespace Cert.MlstmOutKernelIdeal.Rows

open Idealize.ShloMosaic Idealize.ShloMosaic.TcCoe Cert.MlstmOutKernelIdeal Cert.MlstmOutKernelIdeal.Gen Idealize.SL.Sem
open Idealize.ShloMosaic.Pipeline (Dat Cfg Window)
open Cert

variable (m : (ℓ : Loc nD τ sig) → Buf (Elt Ideal) ℓ)

/-- The grid has 128 points. -/
theorem lt128 (t : Fin cfg0.N) : t.val < 128 := lt_of_lt_of_eq t.isLt (show cfg0.N = 128 from N_0)

/-- The windows' block index at a point. -/
theorem idx : ∀ t : Fin cfg0.N,
    win0_0.index t = ![0, t.val, 0] ∧ win0_1.index t = ![1, t.val, 0] ∧ win0_2.index t = ![t.val, 0] ∧ win0_3.index t = ![t.val, 1] ∧
    win0_4.index t = ![0, 0] ∧ win0_5.index t = ![0, 0] ∧ win0_6.index t = ![0, 0] ∧ win0_7.index t = ![t.val, 0] ∧
    win0_8.index t = ![t.val / 32, 0, 0] ∧ win0_9.index t = ![t.val, 0] :=
  (by decide +kernel : ∀ t : Fin grid0.N, _)

/-- Row `r` of a point's block. -/
def rowOf (t : Fin cfg0.N) (r : Fin 256) : Fin 32768 := ⟨t.val * 256 + r.val, by have := lt128 t; omega⟩

/-- The arguments of a launch. -/
def argsOf (c : Dev nD) : MlstmOut.Args where
  h := m ((c : Thread nD τ).loc main_arg0)
  xc := m ((c : Thread nD τ).loc main_arg1)
  xz := m ((c : Thread nD τ).loc main_arg2)
  nw := m ((c : Thread nD τ).loc main_arg3)
  sk := m ((c : Thread nD τ).loc main_arg4)
  w := m ((c : Thread nD τ).loc main_arg5)
  x := m ((c : Thread nD τ).loc main_arg6)
  gate := m ((c : Thread nD τ).loc main_arg7)

/-- A point's rows of the forward direction. -/
theorem iblk0_eq (c : Dev nD) (t : Fin cfg0.N) (r : Fin 256) (k : Fin 2048) : iblk m c 0 t (ix3 0 r k) = (argsOf m c).h (ix4 0 (Dense.batch (rowOf t r)) (Dense.pos (rowOf t r)) k) := by
  have := lt128 t
  have e : iblk m c 0 t (ix3 0 r k) = (V m c main_v0 : Vec Ideal S2x32768x2048 .f32) (ix3 0 (rowOf t r) k) := by
    unfold rowOf
    blk_ext [iblk, idx t]
  rw [e]
  unfold V argsOf
  simp only [hostOps0, List.flatten_cons, List.flatten_nil, List.append_nil, List.cons_append, List.nil_append]
  after_results
  unfold Dense.batch Dense.pos
  pointwise

/-- A point's rows of the backward direction. -/
theorem iblk1_eq (c : Dev nD) (t : Fin cfg0.N) (r : Fin 256) (k : Fin 2048) : iblk m c 1 t (ix3 0 r k) = (argsOf m c).h (ix4 1 (Dense.batch (rowOf t r)) (Dense.pos (rowOf t r)) k) := by
  have := lt128 t
  have e : iblk m c 1 t (ix3 0 r k) = (V m c main_v0 : Vec Ideal S2x32768x2048 .f32) (ix3 1 (rowOf t r) k) := by
    unfold rowOf
    blk_ext [iblk, idx t]
  rw [e]
  unfold V argsOf
  simp only [hostOps0, List.flatten_cons, List.flatten_nil, List.append_nil, List.cons_append, List.nil_append]
  after_results
  unfold Dense.batch Dense.pos
  pointwise

/-- A point's convolved rows. -/
theorem iblk2_eq (c : Dev nD) (t : Fin cfg0.N) (r : Fin 256) (k : Fin 2048) : iblk m c 2 t (ix2 r k) = (argsOf m c).xc (ix3 (Dense.batch (rowOf t r)) (Dense.pos (rowOf t r)) k) := by
  have := lt128 t
  have e : iblk m c 2 t (ix2 r k) = (V m c main_v1 : Vec Ideal S32768x2048 .bf16) (ix2 (rowOf t r) k) := by
    unfold rowOf
    blk_ext [iblk, idx t]
  rw [e]
  unfold V argsOf
  simp only [hostOps0, List.flatten_cons, List.flatten_nil, List.append_nil, List.cons_append, List.nil_append]
  after_results
  unfold Dense.batch Dense.pos
  pointwise

/-- A point's branch rows: the second half of the columns. -/
theorem iblk3_eq (c : Dev nD) (t : Fin cfg0.N) (r : Fin 256) (k : Fin 2048) : iblk m c 3 t (ix2 r k) = (argsOf m c).xz (ix3 (Dense.batch (rowOf t r)) (Dense.pos (rowOf t r)) ⟨2048 + k.val, by omega⟩) := by
  have := lt128 t
  have e : iblk m c 3 t (ix2 r k) = (V m c main_v2 : Vec Ideal S32768x4096 .bf16) (ix2 (rowOf t r) ⟨2048 + k.val, by omega⟩) := by
    unfold rowOf
    blk_ext [iblk, idx t]
  rw [e]
  unfold V argsOf
  simp only [hostOps0, List.flatten_cons, List.flatten_nil, List.append_nil, List.cons_append, List.nil_append]
  after_results
  unfold Dense.batch Dense.pos
  pointwise

/-- The norm gains. -/
theorem iblk4_eq (c : Dev nD) (t : Fin cfg0.N) (k : Fin 2048) : iblk m c 4 t (ix2 0 k) = (argsOf m c).nw (ix1 k) := by
  have := lt128 t
  have e : iblk m c 4 t (ix2 0 k) = (V m c main_v3 : Vec Ideal S1x2048 .f32) (ix2 0 k) := by
    blk_ext [iblk, idx t]
  rw [e]
  unfold V argsOf
  simp only [hostOps0, List.flatten_cons, List.flatten_nil, List.append_nil, List.cons_append, List.nil_append]
  after_results
  pointwise

/-- The skip gains. -/
theorem iblk5_eq (c : Dev nD) (t : Fin cfg0.N) (k : Fin 2048) : iblk m c 5 t (ix2 0 k) = (argsOf m c).sk (ix1 k) := by
  have := lt128 t
  have e : iblk m c 5 t (ix2 0 k) = (V m c main_v4 : Vec Ideal S1x2048 .f32) (ix2 0 k) := by
    blk_ext [iblk, idx t]
  rw [e]
  unfold V argsOf
  simp only [hostOps0, List.flatten_cons, List.flatten_nil, List.append_nil, List.cons_append, List.nil_append]
  after_results
  pointwise

/-- The weights, as the host rounds them. -/
theorem iblk6_eq (c : Dev nD) (t : Fin cfg0.N) (k : Fin 2048) (j : Fin 1024) : iblk m c 6 t (ix2 k j) = (argsOf m c).w (ix2 k j) := by
  have := lt128 t
  have e : iblk m c 6 t (ix2 k j) = (V m c main_v5 : Vec Ideal S2048x1024 .bf16) (ix2 k j) := by
    blk_ext [iblk, idx t]
  rw [e]
  unfold V argsOf
  simp only [hostOps0, List.flatten_cons, List.flatten_nil, List.append_nil, List.cons_append, List.nil_append]
  after_results
  pointwise

/-- A point's block of residual rows, entry by entry. -/
theorem iblk7_eq (c : Dev nD) (t : Fin cfg0.N) (r : Fin 256) (a : Fin 1024) :
    iblk m c 7 t (ix2 r a) = (argsOf m c).x (ix2 (rowOf t r) a) := by
  have := lt128 t
  unfold argsOf rowOf
  blk_ext [iblk, V_main_arg6, idx t]

/-- A point's gates. -/
theorem iblk8_eq (c : Dev nD) (t : Fin cfg0.N) (r : Fin 256) (j : Fin 1024) : iblk m c 8 t (ix3 0 0 j) = (argsOf m c).gate (ix2 (Dense.batch (rowOf t r)) j) := by
  have := lt128 t
  have e : iblk m c 8 t (ix3 0 0 j) = (V m c main_v6 : Vec Ideal S4x1x1024 .f32) (ix3 (Dense.batch (rowOf t r)) 0 j) := by
    unfold Dense.batch rowOf
    blk_ext [iblk, idx t]
  rw [e]
  unfold V argsOf
  simp only [hostOps0, List.flatten_cons, List.flatten_nil, List.append_nil, List.cons_append, List.nil_append]
  after_results
  pointwise

/-- One head's block normalised, entry by entry. -/
theorem pay3_eq (v0 v2 : Vec Ideal S1x256x2048 .f32) (r : Fin 256) (a : Fin 512) :
    k0_pay3 v0 v2 (ix2 r a) = MlstmOut.standard (fun b => v0 (ix3 0 r (MlstmOut.at_ 0 b)) + v2 (ix3 0 r (MlstmOut.at_ 0 b))) a := by
  unfold MlstmOut.standard MlstmOut.mean MlstmOut.count MlstmOut.small MlstmOut.at_
  pointwise [k0_pay3, k0_pay2]

/-- The next head. -/
theorem pay4_eq (v0 v2 : Vec Ideal S1x256x2048 .f32) (r : Fin 256) (a : Fin 512) :
    k0_pay4 v0 v2 (ix2 r a) = MlstmOut.standard (fun b => v0 (ix3 0 r (MlstmOut.at_ 1 b)) + v2 (ix3 0 r (MlstmOut.at_ 1 b))) a := by
  unfold MlstmOut.standard MlstmOut.mean MlstmOut.count MlstmOut.small MlstmOut.at_
  pointwise [k0_pay4, k0_pay2]

/-- The rows before the branch, from the first two heads' blocks and the sums of the directions, entry by entry. -/
theorem pay7_eq (v0 v2 : Vec Ideal S1x256x2048 .f32) (v21 v38 : FVec Ideal S256x512 .f32) (x4 x5 : Vec Ideal S1x2048 .f32) (x2 : Vec Ideal S256x2048 .bf16)
    (r : Fin 256) (k : Fin 2048) :
    k0_pay7 (k0_pay2 v0 v2) v21 v38 (k0_pay5 v0 v2) (k0_pay6 v0 v2) x4 x5 x2 (ix2 r k)
      = (if h1 : k.val < 512 then v21 (ix2 r ⟨k.val, h1⟩)
        else if h2 : k.val - 512 < 512 then v38 (ix2 r ⟨k.val - 512, h2⟩)
        else if h3 : k.val - 512 - 512 < 512 then
          MlstmOut.standard (fun b => v0 (ix3 0 r (MlstmOut.at_ 2 b)) + v2 (ix3 0 r (MlstmOut.at_ 2 b))) ⟨k.val - 512 - 512, h3⟩
        else MlstmOut.standard (fun b => v0 (ix3 0 r (MlstmOut.at_ 3 b)) + v2 (ix3 0 r (MlstmOut.at_ 3 b))) ⟨k.val - 512 - 512 - 512, by omega⟩)
        * x4 (ix2 0 k) + x5 (ix2 0 k) * x2 (ix2 r k) := by
  unfold MlstmOut.standard MlstmOut.mean MlstmOut.count MlstmOut.small MlstmOut.at_
  pointwise [k0_pay7, k0_pay2, k0_pay5, k0_pay6]

/-- The rows before the branch: every head normalised, with gains and the skip. -/
theorem rows_eq (v0 v2 : Vec Ideal S1x256x2048 .f32) (x4 x5 : Vec Ideal S1x2048 .f32) (x2 : Vec Ideal S256x2048 .bf16) (r : Fin 256) (k : Fin 2048) :
    k0_pay7 (k0_pay2 v0 v2) (k0_pay3 v0 v2) (k0_pay4 v0 v2) (k0_pay5 v0 v2) (k0_pay6 v0 v2) x4 x5 x2 (ix2 r k)
      = MlstmOut.standard (fun b => v0 (ix3 0 r (MlstmOut.at_ (MlstmOut.headOf k) b)) + v2 (ix3 0 r (MlstmOut.at_ (MlstmOut.headOf k) b))) (MlstmOut.featOf k)
        * x4 (ix2 0 k) + x5 (ix2 0 k) * x2 (ix2 r k) := by
  have pick : ∀ (n : Fin 4) (a : Fin 512), k.val = n.val * 512 + a.val →
      MlstmOut.standard (fun b => v0 (ix3 0 r (MlstmOut.at_ n b)) + v2 (ix3 0 r (MlstmOut.at_ n b))) a
        = MlstmOut.standard (fun b => v0 (ix3 0 r (MlstmOut.at_ (MlstmOut.headOf k) b)) + v2 (ix3 0 r (MlstmOut.at_ (MlstmOut.headOf k) b))) (MlstmOut.featOf k) := fun n a e => by
    rw [show MlstmOut.headOf k = n from Fin.ext (show k.val / 512 = n.val by omega),
      show MlstmOut.featOf k = a from Fin.ext (show k.val % 512 = a.val by omega)]
  rw [pay7_eq]
  congr 2
  split_ifs with h1 h2 h3
  · exact (pay3_eq v0 v2 r _).trans (pick 0 _ (by show k.val = 0 * 512 + k.val; omega))
  · exact (pay4_eq v0 v2 r _).trans (pick 1 _ (by show k.val = 1 * 512 + (k.val - 512); omega))
  · exact pick 2 _ (by show k.val = 2 * 512 + (k.val - 512 - 512); omega)
  · exact pick 3 _ (by show k.val = 3 * 512 + (k.val - 512 - 512 - 512); omega)

/-- The branch, the product, the gate and the residual, entry by entry. -/
theorem pay1_eq (p : FVec Ideal S256x2048 .f32) (x3 : Vec Ideal S256x2048 .bf16) (x6 : Vec Ideal S2048x1024 .bf16) (x7 : Vec Ideal S256x1024 .f32)
    (x8 : Vec Ideal S1x1x1024 .f32) (r : Fin 256) (j : Fin 1024) :
    k0_pay1 p x3 x6 x7 x8 (ix2 r j)
      = x7 (ix2 r j) + x8 (ix3 0 0 j) * ∑ k : Fin 2048, (p (ix2 r k) * Ideal.div (x3 (ix2 r k)) (Dense.one + Ideal.exp (0 - x3 (ix2 r k)))) * x6 (ix2 k j) := by
  unfold Dense.one
  pointwise [k0_pay1]

/-- What the body stores, entry by entry. -/
theorem pay_eq (x0 x1 : Vec Ideal S1x256x2048 .f32) (x2 x3 : Vec Ideal S256x2048 .bf16) (x4 x5 : Vec Ideal S1x2048 .f32) (x6 : Vec Ideal S2048x1024 .bf16)
    (x7 : Vec Ideal S256x1024 .f32) (x8 : Vec Ideal S1x1x1024 .f32) (r : Fin 256) (j : Fin 1024) :
    out0_9 x0 x1 x2 x3 x4 x5 x6 x7 x8 (ix2 r j)
      = x7 (ix2 r j) + x8 (ix3 0 0 j) * ∑ k : Fin 2048, MlstmOut.act (fun k => x0 (ix3 0 r k) + x1 (ix3 0 r k)) (fun k => x4 (ix2 0 k))
          (fun k => x5 (ix2 0 k)) (fun k => x2 (ix2 r k)) (fun k => x3 (ix2 r k)) k * x6 (ix2 k j) := by
  frame_out
  rw [pay1_eq]
  congr 2
  refine Finset.sum_congr rfl fun k _ => ?_
  rw [rows_eq, MlstmOut.silu_eq]
  rfl

/-- The stored rows, from blocks that hold the arguments' entries. -/
theorem row_eq (A : MlstmOut.Args) (R : Fin 32768) (r : Fin 256) (x0 x1 : Vec Ideal S1x256x2048 .f32) (x2 x3 : Vec Ideal S256x2048 .bf16)
    (x4 x5 : Vec Ideal S1x2048 .f32)
    (h0 : ∀ k, x0 (ix3 0 r k) = A.h (ix4 0 (Dense.batch R) (Dense.pos R) k)) (h1 : ∀ k, x1 (ix3 0 r k) = A.h (ix4 1 (Dense.batch R) (Dense.pos R) k))
    (h2 : ∀ k, x2 (ix2 r k) = A.xc (ix3 (Dense.batch R) (Dense.pos R) k))
    (h3 : ∀ k : Fin 2048, x3 (ix2 r k) = A.xz (ix3 (Dense.batch R) (Dense.pos R) ⟨2048 + k.val, by omega⟩))
    (h4 : ∀ k, x4 (ix2 0 k) = A.nw (ix1 k)) (h5 : ∀ k, x5 (ix2 0 k) = A.sk (ix1 k)) (k : Fin 2048) :
    MlstmOut.act (fun k => x0 (ix3 0 r k) + x1 (ix3 0 r k)) (fun k => x4 (ix2 0 k)) (fun k => x5 (ix2 0 k)) (fun k => x2 (ix2 r k)) (fun k => x3 (ix2 r k)) k
      = MlstmOut.row A R k := by
  unfold MlstmOut.row
  rw [funext h2, funext h3, funext h4, funext h5]
  congr 1
  funext k
  rw [h0, h1]
  rfl

/-- What the body stores, from blocks that hold the arguments' entries. -/
theorem out_eq (A : MlstmOut.Args) (R : Fin 32768) (r : Fin 256) (x0 x1 : Vec Ideal S1x256x2048 .f32) (x2 x3 : Vec Ideal S256x2048 .bf16)
    (x4 x5 : Vec Ideal S1x2048 .f32) (x6 : Vec Ideal S2048x1024 .bf16) (x7 : Vec Ideal S256x1024 .f32) (x8 : Vec Ideal S1x1x1024 .f32)
    (h0 : ∀ k, x0 (ix3 0 r k) = A.h (ix4 0 (Dense.batch R) (Dense.pos R) k)) (h1 : ∀ k, x1 (ix3 0 r k) = A.h (ix4 1 (Dense.batch R) (Dense.pos R) k))
    (h2 : ∀ k, x2 (ix2 r k) = A.xc (ix3 (Dense.batch R) (Dense.pos R) k))
    (h3 : ∀ k : Fin 2048, x3 (ix2 r k) = A.xz (ix3 (Dense.batch R) (Dense.pos R) ⟨2048 + k.val, by omega⟩))
    (h4 : ∀ k, x4 (ix2 0 k) = A.nw (ix1 k)) (h5 : ∀ k, x5 (ix2 0 k) = A.sk (ix1 k)) (h6 : ∀ k j, x6 (ix2 k j) = A.w (ix2 k j))
    (h7 : ∀ j, x7 (ix2 r j) = A.x (ix2 R j)) (h8 : ∀ j, x8 (ix3 0 0 j) = A.gate (ix2 (Dense.batch R) j)) (j : Fin 1024) :
    out0_9 x0 x1 x2 x3 x4 x5 x6 x7 x8 (ix2 r j) = MlstmOut.out A R j := by
  rw [pay_eq, h7, h8]
  unfold MlstmOut.out
  exact MlstmOut.total_congr fun k => by rw [row_eq A R r x0 x1 x2 x3 x4 x5 h0 h1 h2 h3 h4 h5, h6]

/-- The array of results after the run. -/
theorem final (c : Dev nD) : (dats m 0 c).arrAt 9 cfg0.N = MlstmOut.res (argsOf m c) :=
  (dats m 0 c).arrAt_eq_of_covers 9 _ (by decide +kernel) fun t hf y => by
    have := lt128 t
    idx_vars y
    have e : (win0_9.blk t).view.emb (ix2 y0 y1) = ix2 (rowOf t y0) y1 := by
      unfold rowOf
      blk_ext [idx t]
    blk_simp
    rw [after0_9, e]
    exact out_eq (argsOf m c) (rowOf t y0) y0 _ _ _ _ _ _ _ _ _ (iblk0_eq m c t y0) (iblk1_eq m c t y0) (iblk2_eq m c t y0)
      (iblk3_eq m c t y0) (iblk4_eq m c t) (iblk5_eq m c t) (iblk6_eq m c t) (iblk7_eq m c t y0) (iblk8_eq m c t y0) y1

end Cert.MlstmOutKernelIdeal.Rows

namespace Cert.MlstmOutReferenceIdeal.Rows

open Idealize.ShloMosaic Idealize.ShloMosaic.TcCoe Cert.MlstmOutReferenceIdeal Cert.MlstmOutReferenceIdeal.Gen Idealize.SL.Sem
open Cert

variable (m : (ℓ : Loc nD τ sig) → Buf (Elt Ideal) ℓ)

/-- The arguments of a launch. -/
def argsOf (c : Dev nD) : MlstmOut.Args where
  h := m ((c : Thread nD τ).loc main_arg0)
  xc := m ((c : Thread nD τ).loc main_arg1)
  xz := m ((c : Thread nD τ).loc main_arg2)
  nw := m ((c : Thread nD τ).loc main_arg3)
  sk := m ((c : Thread nD τ).loc main_arg4)
  w := m ((c : Thread nD τ).loc main_arg5)
  x := m ((c : Thread nD τ).loc main_arg6)
  gate := m ((c : Thread nD τ).loc main_arg7)

/-- The reference's sum of both directions. -/
def sumOf (h : FVec Ideal S2x4x8192x2048 .f32) : FVec Ideal S4x8192x2048 .f32 :=
  addf (shapeCast _ (extractStridedSlice S1x4x8192x2048 ![0, 0, 0, 0] h Gen.slices_S2x4x8192x2048_S1x4x8192x2048_0_0_0_0) Gen.shapeCasts_S1x4x8192x2048_S4x8192x2048) (shapeCast _ (extractStridedSlice S1x4x8192x2048 ![1, 0, 0, 0] h Gen.slices_S2x4x8192x2048_S1x4x8192x2048_1_0_0_0) Gen.shapeCasts_S1x4x8192x2048_S4x8192x2048)

/-- The reference's rows cut into heads. -/
def split (s : FVec Ideal S4x8192x2048 .f32) : FVec Ideal S4x4x8192x512 .f32 :=
  transpose S4x4x8192x512 [0, 2, 1, 3] (shapeCast _ s Gen.shapeCasts_S4x8192x2048_S4x8192x4x512) Gen.transposes_S4x8192x4x512_S4x4x8192x512_0_2_1_3

/-- The reference's heads less their means. -/
def mid (T : FVec Ideal S4x4x8192x512 .f32) : FVec Ideal S4x4x8192x512 .f32 :=
  subf T (broadcastInDim S4x4x8192x512 ![0, 1, 2, 3] Gen.bcast_S4x4x8192x1_S4x4x8192x512_0_1_2_3 (Host.divf (broadcastInDim S4x4x8192x1 ![0, 1, 2] Gen.bcast_S4x4x8192_S4x4x8192x1_0_1_2 (Host.reduceAdd T (constant S_ .f32 0x00000000#32) Gen.reducesTo_S4x4x8192x512_S4x4x8192_d3 Gen.h_S_)) (broadcastInDim S4x4x8192x1 ![] Gen.bcast_S_S4x4x8192x1 (constant S_ .f32 0x44000000#32))))

/-- The reference's heads over the roots of their variances. -/
def over (M : FVec Ideal S4x4x8192x512 .f32) : FVec Ideal S4x4x8192x512 .f32 :=
  mulf M (broadcastInDim S4x4x8192x512 ![0, 1, 2, 3] Gen.bcast_S4x4x8192x1_S4x4x8192x512_0_1_2_3 (Host.rsqrt (addf (Host.divf (broadcastInDim S4x4x8192x1 ![0, 1, 2] Gen.bcast_S4x4x8192_S4x4x8192x1_0_1_2 (Host.reduceAdd (mulf M M) (constant S_ .f32 0x00000000#32) Gen.reducesTo_S4x4x8192x512_S4x4x8192_d3 Gen.h_S_)) (broadcastInDim S4x4x8192x1 ![] Gen.bcast_S_S4x4x8192x1 (constant S_ .f32 0x44000000#32))) (broadcastInDim S4x4x8192x1 ![] Gen.bcast_S_S4x4x8192x1 (constant S_ .f32 0x3727C5AC#32)))))

/-- The reference's heads laid side by side again. -/
def join (T : FVec Ideal S4x4x8192x512 .f32) : FVec Ideal S4x8192x2048 .f32 :=
  shapeCast _ (transpose S4x8192x4x512 [0, 2, 1, 3] T Gen.transposes_S4x4x8192x512_S4x8192x4x512_0_2_1_3) Gen.shapeCasts_S4x8192x4x512_S4x8192x2048

/-- The reference's gains and skip. -/
def gains (N : FVec Ideal S4x8192x2048 .f32) (nw sk : FVec Ideal S2048 .f32) (xc : FVec Ideal S4x8192x2048 .bf16) : FVec Ideal S4x8192x2048 .f32 :=
  addf (mulf N (broadcastInDim S4x8192x2048 ![0, 1, 2] Gen.bcast_S1x1x2048_S4x8192x2048_0_1_2 (broadcastInDim S1x1x2048 ![2] Gen.bcast_S2048_S1x1x2048_2 nw))) (mulf (broadcastInDim S4x8192x2048 ![0, 1, 2] Gen.bcast_S1x1x2048_S4x8192x2048_0_1_2 (broadcastInDim S1x1x2048 ![2] Gen.bcast_S2048_S1x1x2048_2 sk)) (extf .f32 xc Gen.bitsLt_bf16_f32))

/-- The reference's branch: the second half of the columns times its logistic. -/
def branch (xz : FVec Ideal S4x8192x4096 .bf16) : FVec Ideal S4x8192x2048 .f32 :=
  mulf (extf .f32 (extractStridedSlice S4x8192x2048 ![0, 0, 2048] xz Gen.slices_S4x8192x4096_S4x8192x2048_0_0_2048) Gen.bitsLt_bf16_f32) (Host.divf (broadcastInDim S4x8192x2048 ![] Gen.bcast_S_S4x8192x2048 (constant S_ .f32 0x3F800000#32)) (addf (broadcastInDim S4x8192x2048 ![] Gen.bcast_S_S4x8192x2048 (constant S_ .f32 0x3F800000#32)) (Host.exp (Host.negf (extf .f32 (extractStridedSlice S4x8192x2048 ![0, 0, 2048] xz Gen.slices_S4x8192x4096_S4x8192x2048_0_0_2048) Gen.bitsLt_bf16_f32)))))

/-- The reference's last lines. -/
def ends (H : FVec Ideal S4x8192x2048 .f32) (w : FVec Ideal S2048x1024 .f32) (X : FVec Ideal S4x8192x1024 .f32) (g : FVec Ideal S4x1024 .f32) : FVec Ideal S4x8192x1024 .f32 :=
  addf X (mulf (broadcastInDim S4x8192x1024 ![0, 1, 2] Gen.bcast_S4x1x1024_S4x8192x1024_0_1_2 (broadcastInDim S4x1x1024 ![0, 2] Gen.bcast_S4x1024_S4x1x1024_0_2 g)) (Host.dotGeneral dot_S4x8192x2048_S2048x1024_S4x8192x1024_2_0_01_1_n_n none H w))

/-- The sum of both directions, entry by entry. -/
theorem sumOf_eq (h : FVec Ideal S2x4x8192x2048 .f32) (b : Fin 4) (p : Fin 8192) (k : Fin 2048) :
    sumOf h (ix3 b p k) = h (ix4 0 b p k) + h (ix4 1 b p k) := by
  pointwise [sumOf]

/-- The heads, entry by entry. -/
theorem split_eq (s : FVec Ideal S4x8192x2048 .f32) (b n : Fin 4) (p : Fin 8192) (a : Fin 512) :
    split s (ix4 b n p a) = s (ix3 b p (MlstmOut.at_ n a)) := by
  unfold MlstmOut.at_
  pointwise [split]

/-- A head less its mean, entry by entry. -/
theorem mid_eq (T : FVec Ideal S4x4x8192x512 .f32) (b n : Fin 4) (p : Fin 8192) (a : Fin 512) :
    mid T (ix4 b n p a) = T (ix4 b n p a) - MlstmOut.mean (fun a => T (ix4 b n p a)) := by
  unfold MlstmOut.mean MlstmOut.count
  pointwise [mid]

/-- A head over the root of its variance, entry by entry. -/
theorem over_eq (M : FVec Ideal S4x4x8192x512 .f32) (b n : Fin 4) (p : Fin 8192) (a : Fin 512) :
    over M (ix4 b n p a) = M (ix4 b n p a) * Ideal.rsqrt (Ideal.div (∑ e, M (ix4 b n p e) * M (ix4 b n p e)) MlstmOut.count + MlstmOut.small) := by
  unfold MlstmOut.count MlstmOut.small
  pointwise [over]

/-- The heads side by side, entry by entry. -/
theorem join_eq (T : FVec Ideal S4x4x8192x512 .f32) (b : Fin 4) (p : Fin 8192) (k : Fin 2048) :
    join T (ix3 b p k) = T (ix4 b (MlstmOut.headOf k) p (MlstmOut.featOf k)) := by
  unfold MlstmOut.headOf MlstmOut.featOf
  pointwise [join]

/-- The gains and the skip, entry by entry. -/
theorem gains_eq (N : FVec Ideal S4x8192x2048 .f32) (nw sk : FVec Ideal S2048 .f32) (xc : FVec Ideal S4x8192x2048 .bf16) (b : Fin 4) (p : Fin 8192) (k : Fin 2048) :
    gains N nw sk xc (ix3 b p k) = N (ix3 b p k) * nw (ix1 k) + sk (ix1 k) * xc (ix3 b p k) := by
  pointwise [gains]

/-- The branch, entry by entry. -/
theorem branch_eq (xz : FVec Ideal S4x8192x4096 .bf16) (b : Fin 4) (p : Fin 8192) (k : Fin 2048) :
    branch xz (ix3 b p k) = MlstmOut.silu (xz (ix3 b p ⟨2048 + k.val, by omega⟩)) := by
  unfold MlstmOut.silu Dense.one
  pointwise [branch]

/-- The last lines, entry by entry. -/
theorem ends_eq (H : FVec Ideal S4x8192x2048 .f32) (w : FVec Ideal S2048x1024 .f32) (X : FVec Ideal S4x8192x1024 .f32) (g : FVec Ideal S4x1024 .f32)
    (b : Fin 4) (p : Fin 8192) (j : Fin 1024) :
    ends H w X g (ix3 b p j) = X (ix3 b p j) + g (ix2 b j) * ∑ k : Fin 2048, H (ix3 b p k) * w (ix2 k j) := by
  pointwise [ends]

/-- The rows before the product are those of the arguments. -/
theorem act_eq (A : MlstmOut.Args) (r : Fin 32768) (k : Fin 2048) :
    mulf (gains (join (over (mid (split (sumOf A.h))))) A.nw A.sk A.xc) (branch A.xz) (ix3 (Dense.batch r) (Dense.pos r) k) = MlstmOut.row A r k := by
  show gains _ A.nw A.sk A.xc (ix3 (Dense.batch r) (Dense.pos r) k) * branch A.xz (ix3 (Dense.batch r) (Dense.pos r) k) = _
  rw [gains_eq, branch_eq, join_eq, over_eq]
  simp only [mid_eq, split_eq, sumOf_eq]
  rfl

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v45) = MlstmOut.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (by
      funext y
      idx_vars y
      show shapeCast _ (ends (mulf (gains (join (over (mid (split (sumOf (argsOf m c).h))))) (argsOf m c).nw (argsOf m c).sk (argsOf m c).xc) (branch (argsOf m c).xz))
        (argsOf m c).w (shapeCast _ (argsOf m c).x Gen.shapeCasts_S32768x1024_S4x8192x1024) (argsOf m c).gate) Gen.shapeCasts_S4x8192x1024_S32768x1024 (ix2 y0 y1)
          = MlstmOut.out (argsOf m c) y0 y1
      refine (Dense.flat_1024 _ _ y0 y1).trans ((ends_eq _ _ _ _ _ _ _).trans ?_)
      exact Dense.gated_congr (Dense.seqs_1024 _ _ y0 y1) fun k => act_eq (argsOf m c) y0 k), (h c).2⟩) (Value.run m ρ)

end Cert.MlstmOutReferenceIdeal.Rows

end
-- ==== Proof.ConvValue.lean ====
/- The depthwise convolution of the feed-forward layer over the grid of positions, and the gate. -/
module

public import proofs.«01_k».proof.Proof.MlstmOutValue
public import proofs.«01_k».proof.Proof.Gen.ConvKernel.Frame
public import proofs.«01_k».proof.Proof.Gen.ConvKernelIdeal.Value
public import proofs.«01_k».proof.Proof.Gen.ConvReferenceIdeal.Run
public import Idealize.ShloMosaic.Lib.Pipeline.ValueKit

@[expose] public section

set_option maxRecDepth 16384

noncomputable section

namespace Cert.Conv

open Idealize.ShloMosaic

/-- The arguments: both halves of the hidden rows, the nine taps of every feature, the offsets. -/
structure Args where
  ag : Vec Ideal ⟨3, ![4, 8192, 5632]⟩ .bf16
  w : Vec Ideal ⟨3, ![3, 3, 2816]⟩ .f32
  b : Vec Ideal ⟨1, ![2816]⟩ .f32

/-- The gate half of a sequence, a grid row of zeros before it and after it. -/
def padded (A : Args) (b : Fin 4) (f : Fin 2816) (q : ℕ) : EReal :=
  if h : 64 ≤ q ∧ q < 8256 then A.ag (ix3 b ⟨q - 64, by omega⟩ ⟨2816 + f.val, by omega⟩) else 0

/-- The three taps of one column of the window, the first at place `q` of the padded sequence. -/
def column (A : Args) (b : Fin 4) (f : Fin 2816) (j : Fin 3) (q : ℕ) : EReal :=
  A.w (ix3 0 j f) * padded A b f q + A.w (ix3 1 j f) * padded A b f (q + 64) + A.w (ix3 2 j f) * padded A b f (q + 128)

/-- The convolution at a position: the middle column, the left one but at the left edge, the right one but at the right edge. -/
def conv (A : Args) (b : Fin 4) (f : Fin 2816) (p : ℕ) : EReal :=
  column A b f 1 p + (if p % 64 = 0 then 0 else column A b f 0 (p - 1)) + (if p % 64 = 63 then 0 else column A b f 2 (p + 1)) + A.b (ix1 f)

/-- The result at a position and a feature: the convolution times its logistic, times the first half. -/
def out (A : Args) (b : Fin 4) (p : Fin 8192) (f : Fin 2816) : EReal :=
  MlstmOut.silu (conv A b f p.val) * A.ag (ix3 b p ⟨f.val, by omega⟩)

/-- The array of results. -/
def res (A : Args) : Vec Ideal ⟨3, ![4, 8192, 2816]⟩ .bf16 := fun i => out A (i 0) (i 1) (i 2)

end Cert.Conv

namespace Cert.ConvKernelIdeal.Rows

open Idealize.ShloMosaic Idealize.ShloMosaic.TcCoe Cert.ConvKernelIdeal Cert.ConvKernelIdeal.Gen Idealize.SL.Sem
open Idealize.ShloMosaic.Pipeline (Dat Cfg Window)
open Cert

variable (m : (ℓ : Loc nD τ sig) → Buf (Elt Ideal) ℓ)

/-- The grid has 704 points. -/
theorem lt704 (t : Fin cfg0.N) : t.val < 704 := lt_of_lt_of_eq t.isLt (show cfg0.N = 704 from N_0)

/-- The windows' block index at a point, and the point's second coordinate. -/
theorem idx : ∀ t : Fin cfg0.N,
    win0_0.index t = ![t.val / 176, t.val / 11 % 16, 11 + t.val % 11] ∧
    win0_1.index t = ![t.val / 176, t.val / 11 % 16 * 8 - 1, 11 + t.val % 11] ∧
    win0_2.index t = ![t.val / 176, min (t.val / 11 % 16 * 8 + 8) 127, 11 + t.val % 11] ∧
    win0_3.index t = ![t.val / 176, t.val / 11 % 16, t.val % 11] ∧
    win0_4.index t = ![0, t.val % 11] ∧ win0_5.index t = ![0, t.val % 11] ∧
    win0_6.index t = ![t.val / 176, t.val / 11 % 16, t.val % 11] ∧ (grid0.coords t 1).val = t.val / 11 % 16 :=
  (by decide +kernel : ∀ t : Fin grid0.N, _)

/-- The sequence of a point. -/
def seqOf (t : Fin cfg0.N) : Fin 4 := ⟨t.val / 176, by have := lt704 t; omega⟩

/-- The block of positions of a point. -/
def partOf (t : Fin cfg0.N) : ℕ := t.val / 11 % 16

/-- The position of row `r` of a point's block. -/
def posOf (t : Fin cfg0.N) (r : Fin 512) : Fin 8192 := ⟨t.val / 11 % 16 * 512 + r.val, by omega⟩

/-- The feature of column `k` of a point's block. -/
def featOf (t : Fin cfg0.N) (k : Fin 256) : Fin 2816 := ⟨t.val % 11 * 256 + k.val, by omega⟩

/-- The arguments of a launch. -/
def argsOf (c : Dev nD) : Conv.Args where
  ag := m ((c : Thread nD τ).loc main_arg0)
  w := m ((c : Thread nD τ).loc main_arg1)
  b := m ((c : Thread nD τ).loc main_arg2)

/-- A point's rows of the gate half. -/
theorem iblk0_eq (c : Dev nD) (t : Fin cfg0.N) (r : Fin 512) (k : Fin 256) :
    iblk m c 0 t (ix3 0 r k) = (argsOf m c).ag (ix3 (seqOf t) (posOf t r) ⟨2816 + (featOf t k).val, by omega⟩) := by
  have := lt704 t
  unfold argsOf seqOf posOf featOf
  blk_ext [iblk, V_main_arg0, idx t]

/-- The grid row before a point's rows. -/
theorem iblk1_eq (c : Dev nD) (t : Fin cfg0.N) (s : Fin 64) (k : Fin 256) (p : Fin 8192) (h : p.val + 64 = partOf t * 512 + s.val) :
    iblk m c 1 t (ix3 0 s k) = (argsOf m c).ag (ix3 (seqOf t) p ⟨2816 + (featOf t k).val, by omega⟩) := by
  have := lt704 t
  have hp : p = ⟨(t.val / 11 % 16 * 8 - 1) * 64 + s.val, by omega⟩ := Fin.ext (by unfold partOf at h; show p.val = (t.val / 11 % 16 * 8 - 1) * 64 + s.val; omega)
  rw [hp]
  unfold argsOf seqOf featOf
  blk_ext [iblk, V_main_arg0, idx t]

/-- The grid row after a point's rows. -/
theorem iblk2_eq (c : Dev nD) (t : Fin cfg0.N) (s : Fin 64) (k : Fin 256) (p : Fin 8192) (h : p.val = partOf t * 512 + 512 + s.val) :
    iblk m c 2 t (ix3 0 s k) = (argsOf m c).ag (ix3 (seqOf t) p ⟨2816 + (featOf t k).val, by omega⟩) := by
  have := lt704 t
  have hp : p = ⟨min (t.val / 11 % 16 * 8 + 8) 127 * 64 + s.val, by omega⟩ := Fin.ext (by unfold partOf at h; show p.val = min (t.val / 11 % 16 * 8 + 8) 127 * 64 + s.val; omega)
  rw [hp]
  unfold argsOf seqOf featOf
  blk_ext [iblk, V_main_arg0, idx t]

/-- A point's rows of the first half. -/
theorem iblk3_eq (c : Dev nD) (t : Fin cfg0.N) (r : Fin 512) (k : Fin 256) :
    iblk m c 3 t (ix3 0 r k) = (argsOf m c).ag (ix3 (seqOf t) (posOf t r) ⟨(featOf t k).val, by omega⟩) := by
  have := lt704 t
  unfold argsOf seqOf posOf featOf
  blk_ext [iblk, V_main_arg0, idx t]

/-- A point's taps. -/
theorem iblk4_eq (c : Dev nD) (t : Fin cfg0.N) (i j : Fin 3) (n : Fin 9) (hn : n.val = i.val * 3 + j.val) (k : Fin 256) :
    iblk m c 4 t (ix2 n k) = (argsOf m c).w (ix3 i j (featOf t k)) := by
  have := lt704 t
  have e : iblk m c 4 t (ix2 n k) = (V m c main_v0 : Vec Ideal S9x2816 .f32) (ix2 n (featOf t k)) := by
    unfold featOf
    blk_ext [iblk, idx t]
  have hi : i = ⟨n.val / 3, by clear hn; omega⟩ := Fin.ext (by show i.val = n.val / 3; omega)
  have hj : j = ⟨n.val % 3, by clear hn; omega⟩ := Fin.ext (by show j.val = n.val % 3; omega)
  rw [e, hi, hj]
  unfold V argsOf
  simp only [hostOps0, List.flatten_cons, List.flatten_nil, List.append_nil, List.cons_append, List.nil_append]
  after_results
  pointwise

/-- A point's offsets. -/
theorem iblk5_eq (c : Dev nD) (t : Fin cfg0.N) (k : Fin 256) : iblk m c 5 t (ix2 0 k) = (argsOf m c).b (ix1 (featOf t k)) := by
  have := lt704 t
  have e : iblk m c 5 t (ix2 0 k) = (V m c main_v1 : Vec Ideal S1x2816 .f32) (ix2 0 (featOf t k)) := by
    unfold featOf
    blk_ext [iblk, idx t]
  rw [e]
  unfold V argsOf
  simp only [hostOps0, List.flatten_cons, List.flatten_nil, List.append_nil, List.cons_append, List.nil_append]
  after_results
  pointwise

/-- Whether a block has a block before it, as the body tells it. -/
theorem first_eq : ∀ n : Fin 16, Scalar.cmpi CmpIPredicate.sgt (BitVec.ofNat 32 n.val) 0#32 = if n.val = 0 then 0#1 else 1#1 := by
  decide +kernel

/-- Whether a block has a block after it, as the body tells it. -/
theorem last_eq : ∀ n : Fin 16, Scalar.cmpi CmpIPredicate.slt (BitVec.ofNat 32 n.val) 15#32 = if n.val = 15 then 0#1 else 1#1 := by
  decide +kernel

/-- The rows with their neighbours, entry by entry. -/
theorem pay3_eq (i : grid0.Coords) (v0 : Vec Ideal S1x512x256 .bf16) (v4 v10 : Vec Ideal S1x64x256 .bf16) (s : Fin 640) (k : Fin 256) :
    k0_pay3 i v0 v4 v10 (ix2 s k)
      = if h : s.val < 64 then Scalar.select (Scalar.cmpi CmpIPredicate.sgt (BitVec.ofNat 32 (i 1).val) 0#32) (v4 (ix3 0 ⟨s.val, h⟩ k)) 0
        else if h2 : s.val - 64 < 512 then v0 (ix3 0 ⟨s.val - 64, h2⟩ k)
        else Scalar.select (Scalar.cmpi CmpIPredicate.slt (BitVec.ofNat 32 (i 1).val) 15#32) (v10 (ix3 0 ⟨s.val - 64 - 512, by omega⟩ k)) 0 := by
  pointwise [k0_pay3, k0_pay2]

/-- The rows with their neighbours are the padded sequence at the block's place. -/
theorem ext_eq (A : Conv.Args) (b : Fin 4) (f : Fin 2816) (i : grid0.Coords) (n : Fin 16) (hi : (i 1).val = n.val)
    (v0 : Vec Ideal S1x512x256 .bf16) (v4 v10 : Vec Ideal S1x64x256 .bf16) (k : Fin 256)
    (h0 : ∀ (s : Fin 512) (p : Fin 8192), p.val = n.val * 512 + s.val → v0 (ix3 0 s k) = A.ag (ix3 b p ⟨2816 + f.val, by omega⟩))
    (h4 : ∀ (s : Fin 64) (p : Fin 8192), p.val + 64 = n.val * 512 + s.val → v4 (ix3 0 s k) = A.ag (ix3 b p ⟨2816 + f.val, by omega⟩))
    (h10 : ∀ (s : Fin 64) (p : Fin 8192), p.val = n.val * 512 + 512 + s.val → v10 (ix3 0 s k) = A.ag (ix3 b p ⟨2816 + f.val, by omega⟩))
    (s : Fin 640) : k0_pay3 i v0 v4 v10 (ix2 s k) = Conv.padded A b f (n.val * 512 + s.val) := by
  rw [pay3_eq, hi, first_eq, last_eq]
  unfold Conv.padded
  split_ifs with h1 e1 e2 e2 e3 e4 e5 e6 e7
  all_goals first
    | omega
    | rfl
    | exact h4 ⟨s.val, by omega⟩ ⟨n.val * 512 + s.val - 64, by omega⟩ (by show n.val * 512 + s.val - 64 + 64 = n.val * 512 + s.val; omega)
    | exact h0 ⟨s.val - 64, by omega⟩ ⟨n.val * 512 + s.val - 64, by omega⟩ (by show n.val * 512 + s.val - 64 = n.val * 512 + (s.val - 64); omega)
    | exact h10 ⟨s.val - 64 - 512, by omega⟩ ⟨n.val * 512 + s.val - 64, by omega⟩ (by show n.val * 512 + s.val - 64 = n.val * 512 + 512 + (s.val - 64 - 512); omega)

/-- The rows from the grid row before, entry by entry. -/
theorem pay4_eq (i : grid0.Coords) (v0 : Vec Ideal S1x512x256 .bf16) (v4 v10 : Vec Ideal S1x64x256 .bf16) (s : Fin 512) (k : Fin 256) :
    k0_pay4 i v0 v4 v10 (ix2 s k) = k0_pay3 i v0 v4 v10 (ix2 ⟨s.val, by omega⟩ k) := by
  pointwise [k0_pay4]

/-- The rows themselves, entry by entry. -/
theorem pay2_eq (i : grid0.Coords) (v0 : Vec Ideal S1x512x256 .bf16) (v4 v10 : Vec Ideal S1x64x256 .bf16) (s : Fin 512) (k : Fin 256) :
    k0_pay2 v0 (ix2 s k) = k0_pay3 i v0 v4 v10 (ix2 ⟨64 + s.val, by omega⟩ k) := by
  rw [pay3_eq, dif_neg (by show ¬ 64 + s.val < 64; omega), dif_pos (by show 64 + s.val - 64 < 512; omega)]
  rw [show (⟨64 + s.val - 64, by omega⟩ : Fin 512) = s from Fin.ext (by show 64 + s.val - 64 = s.val; omega)]
  pointwise [k0_pay2]

/-- The rows from the grid row after, entry by entry. -/
theorem pay5_eq (i : grid0.Coords) (v0 : Vec Ideal S1x512x256 .bf16) (v4 v10 : Vec Ideal S1x64x256 .bf16) (s : Fin 512) (k : Fin 256) :
    k0_pay5 i v0 v4 v10 (ix2 s k) = k0_pay3 i v0 v4 v10 (ix2 ⟨128 + s.val, by omega⟩ k) := by
  pointwise [k0_pay5]

/-- Whether row `r` lies in grid column `n`, as the body tells it. -/
def edge (n : BitVec 32) (r : Fin 512) : BitVec 1 :=
  IntOp.cmpi CmpIPredicate.eq
    (Scalar.select
      (IntOp.andi
        (IntOp.xori
          (IntOp.cmpi CmpIPredicate.slt
            (IntOp.remsi ArithUnit.vector (BitVec.ofNat 32 r.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 r.val) (Scalar.select (Scalar.cmpi CmpIPredicate.eq 64#32 0#32) 1#32 64#32)) 0#32))
      (IntOp.addi
        (IntOp.remsi ArithUnit.vector (BitVec.ofNat 32 r.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 r.val) (Scalar.select (Scalar.cmpi CmpIPredicate.eq 64#32 0#32) 1#32 64#32)))
    n

/-- The left edge. -/
theorem edge_0 : ∀ r : Fin 512, edge 0#32 r = if r.val % 64 = 0 then 1#1 else 0#1 := by
  decide +kernel

/-- The right edge. -/
theorem edge_63 : ∀ r : Fin 512, edge 63#32 r = if r.val % 64 = 63 then 1#1 else 0#1 := by
  decide +kernel

/-- The first column of taps, entry by entry. -/
theorem pay7_eq (i : grid0.Coords) (v0 : Vec Ideal S1x512x256 .bf16) (v4 v10 : Vec Ideal S1x64x256 .bf16) (v18 : Vec Ideal S9x256 .f32) (r : Fin 512) (k : Fin 256) :
    k0_pay7 i v0 v4 v10 v18 (ix2 r k)
      = v18 (ix2 0 k) * k0_pay4 i v0 v4 v10 (ix2 r k) + v18 (ix2 3 k) * k0_pay2 v0 (ix2 r k) + v18 (ix2 6 k) * k0_pay5 i v0 v4 v10 (ix2 r k) := by
  pointwise [k0_pay7, k0_pay6]

/-- The middle column of taps, entry by entry. -/
theorem pay8_eq (i : grid0.Coords) (v0 : Vec Ideal S1x512x256 .bf16) (v4 v10 : Vec Ideal S1x64x256 .bf16) (v18 : Vec Ideal S9x256 .f32) (r : Fin 512) (k : Fin 256) :
    k0_pay8 i v0 v4 v10 v18 (ix2 r k)
      = v18 (ix2 1 k) * k0_pay4 i v0 v4 v10 (ix2 r k) + v18 (ix2 4 k) * k0_pay2 v0 (ix2 r k) + v18 (ix2 7 k) * k0_pay5 i v0 v4 v10 (ix2 r k) := by
  pointwise [k0_pay8, k0_pay6]

/-- The three columns together, entry by entry. -/
theorem pay9_eq (v2 v16 v17 v30 v41 : FVec Ideal S512x256 .f32) (v18 : Vec Ideal S9x256 .f32) (r : Fin 512) (k : Fin 256) :
    k0_pay9 v2 v16 v17 (k0_pay6 v18) v30 v41 (ix2 r k)
      = v41 (ix2 r k) + Scalar.select (edge 0#32 r) 0 (v30 (ix2 ⟨(r.val + 512 - 1) % 512, by omega⟩ k))
        + Scalar.select (edge 63#32 r) 0
          (v18 (ix2 2 k) * v16 (ix2 ⟨(r.val + 512 - 511) % 512, by omega⟩ k) + v18 (ix2 5 k) * v2 (ix2 ⟨(r.val + 512 - 511) % 512, by omega⟩ k)
            + v18 (ix2 8 k) * v17 (ix2 ⟨(r.val + 512 - 511) % 512, by omega⟩ k)) := by
  unfold edge
  pointwise [k0_pay9, k0_pay6]

/-- The offset, the logistic and the gate, entry by entry. -/
theorem pay1_eq (v85 : FVec Ideal S512x256 .f32) (v86 : Vec Ideal S1x256 .f32) (v96 : Vec Ideal S1x512x256 .bf16) (r : Fin 512) (k : Fin 256) :
    k0_pay1 v85 (k0_pay10 v86) v96 (ix3 0 r k) = MlstmOut.silu (v85 (ix2 r k) + v86 (ix2 0 k)) * v96 (ix3 0 r k) := by
  rw [← MlstmOut.silu_eq]
  unfold Dense.one
  pointwise [k0_pay1, k0_pay10]

/-- What the body stores, from blocks that hold the arguments' entries. -/
theorem out_eq (A : Conv.Args) (b : Fin 4) (f : Fin 2816) (i : grid0.Coords) (n : Fin 16) (hi : (i 1).val = n.val)
    (x0 : Vec Ideal S1x512x256 .bf16) (x1 x2 : Vec Ideal S1x64x256 .bf16) (x3 : Vec Ideal S1x512x256 .bf16) (x4 : Vec Ideal S9x256 .f32)
    (x5 : Vec Ideal S1x256 .f32) (k : Fin 256) (r : Fin 512) (P : Fin 8192) (hP : P.val = n.val * 512 + r.val)
    (h0 : ∀ (s : Fin 512) (p : Fin 8192), p.val = n.val * 512 + s.val → x0 (ix3 0 s k) = A.ag (ix3 b p ⟨2816 + f.val, by omega⟩))
    (h1 : ∀ (s : Fin 64) (p : Fin 8192), p.val + 64 = n.val * 512 + s.val → x1 (ix3 0 s k) = A.ag (ix3 b p ⟨2816 + f.val, by omega⟩))
    (h2 : ∀ (s : Fin 64) (p : Fin 8192), p.val = n.val * 512 + 512 + s.val → x2 (ix3 0 s k) = A.ag (ix3 b p ⟨2816 + f.val, by omega⟩))
    (h3 : x3 (ix3 0 r k) = A.ag (ix3 b P ⟨f.val, by omega⟩))
    (h4 : ∀ (i j : Fin 3) (n : Fin 9), n.val = i.val * 3 + j.val → x4 (ix2 n k) = A.w (ix3 i j f))
    (h5 : x5 (ix2 0 k) = A.b (ix1 f)) :
    out0_6 i x0 x1 x2 x3 x4 x5 (ix3 0 r k) = Conv.out A b P f := by
  frame_out
  have E := ext_eq A b f i n hi x0 x1 x2 k h0 h1 h2
  have g : ∀ (s : Fin 512) (q : ℕ) (hq : q = n.val * 512 + s.val),
      k0_pay4 i x0 x1 x2 (ix2 s k) = Conv.padded A b f q ∧ k0_pay2 x0 (ix2 s k) = Conv.padded A b f (q + 64)
        ∧ k0_pay5 i x0 x1 x2 (ix2 s k) = Conv.padded A b f (q + 128) := by
    rintro s q rfl
    refine ⟨?_, ?_, ?_⟩
    · rw [pay4_eq, E]
    · rw [pay2_eq i x0 x1 x2, E]
      exact congrArg _ (by show n.val * 512 + (64 + s.val) = _; omega)
    · rw [pay5_eq, E]
      exact congrArg _ (by show n.val * 512 + (128 + s.val) = _; omega)
  have w0 : ∀ j : Fin 3, ∀ n : Fin 9, n.val = j.val → x4 (ix2 n k) = A.w (ix3 0 j f) := fun j n hn => h4 0 j n (by show n.val = 0 * 3 + j.val; omega)
  have w1 : ∀ j : Fin 3, ∀ n : Fin 9, n.val = 3 + j.val → x4 (ix2 n k) = A.w (ix3 1 j f) := fun j n hn => h4 1 j n (by show n.val = 1 * 3 + j.val; omega)
  have w2 : ∀ j : Fin 3, ∀ n : Fin 9, n.val = 6 + j.val → x4 (ix2 n k) = A.w (ix3 2 j f) := fun j n hn => h4 2 j n (by show n.val = 2 * 3 + j.val; omega)
  rw [pay1_eq, pay9_eq, pay8_eq, pay7_eq, h3, h5, edge_0, edge_63]
  obtain ⟨a1, a2, a3⟩ := g r P.val hP
  rw [a1, a2, a3, w0 1 1 rfl, w1 1 4 rfl, w2 1 7 rfl, w0 0 0 rfl, w1 0 3 rfl, w2 0 6 rfl, w0 2 2 rfl, w1 2 5 rfl, w2 2 8 rfl]
  unfold Conv.out Conv.conv
  have c0 : P.val % 64 = r.val % 64 := by omega
  have left : (Scalar.select (if r.val % 64 = 0 then 1#1 else 0#1) (0 : EReal)
      (A.w (ix3 0 0 f) * k0_pay4 i x0 x1 x2 (ix2 ⟨(r.val + 512 - 1) % 512, by omega⟩ k) + A.w (ix3 1 0 f) * k0_pay2 x0 (ix2 ⟨(r.val + 512 - 1) % 512, by omega⟩ k)
        + A.w (ix3 2 0 f) * k0_pay5 i x0 x1 x2 (ix2 ⟨(r.val + 512 - 1) % 512, by omega⟩ k)))
      = if P.val % 64 = 0 then 0 else Conv.column A b f 0 (P.val - 1) := by
    rw [c0]
    split_ifs with h
    · rfl
    · obtain ⟨b1, b2, b3⟩ := g ⟨(r.val + 512 - 1) % 512, by omega⟩ (P.val - 1) (by show _ = n.val * 512 + (r.val + 512 - 1) % 512; omega)
      rw [b1, b2, b3]
      rfl
  have right : (Scalar.select (if r.val % 64 = 63 then 1#1 else 0#1) (0 : EReal)
      (A.w (ix3 0 2 f) * k0_pay4 i x0 x1 x2 (ix2 ⟨(r.val + 512 - 511) % 512, by omega⟩ k) + A.w (ix3 1 2 f) * k0_pay2 x0 (ix2 ⟨(r.val + 512 - 511) % 512, by omega⟩ k)
        + A.w (ix3 2 2 f) * k0_pay5 i x0 x1 x2 (ix2 ⟨(r.val + 512 - 511) % 512, by omega⟩ k)))
      = if P.val % 64 = 63 then 0 else Conv.column A b f 2 (P.val + 1) := by
    rw [c0]
    split_ifs with h
    · rfl
    · obtain ⟨b1, b2, b3⟩ := g ⟨(r.val + 512 - 511) % 512, by omega⟩ (P.val + 1) (by show _ = n.val * 512 + (r.val + 512 - 511) % 512; omega)
      rw [b1, b2, b3]
      rfl
  rw [left, right]
  rfl

/-- The array of results after the run. -/
theorem final (c : Dev nD) : (dats m 0 c).arrAt 6 cfg0.N = Conv.res (argsOf m c) :=
  (dats m 0 c).arrAt_eq_of_covers 6 _ (by decide +kernel) fun t hf y => by
    have := lt704 t
    idx_vars y
    have e : (win0_6.blk t).view.emb (ix3 y0 y1 y2) = ix3 (seqOf t) (posOf t y1) (featOf t y2) := by
      unfold seqOf posOf featOf
      blk_ext [idx t]
    blk_simp
    rw [after0_6, e]
    have z : y0 = 0 := Fin.ext (by omega)
    rw [z]
    exact out_eq (argsOf m c) (seqOf t) (featOf t y2) (cfg0.grid.coords t) ⟨t.val / 11 % 16, by omega⟩ (idx t).2.2.2.2.2.2.2 _ _ _ _ _ _ y2 y1 (posOf t y1) rfl
      (fun s p h => (iblk0_eq m c t s y2).trans (by rw [show posOf t s = p from Fin.ext h.symm]))
      (fun s p h => iblk1_eq m c t s y2 p h) (fun s p h => iblk2_eq m c t s y2 p h) (iblk3_eq m c t y1 y2)
      (fun i j n h => iblk4_eq m c t i j n h y2) (iblk5_eq m c t y2)

end Cert.ConvKernelIdeal.Rows

namespace Cert.ConvReferenceIdeal.Rows

open Idealize.ShloMosaic Idealize.ShloMosaic.TcCoe Cert.ConvReferenceIdeal Cert.ConvReferenceIdeal.Gen Idealize.SL.Sem
open Cert

variable (m : (ℓ : Loc nD τ sig) → Buf (Elt Ideal) ℓ)

/-- The arguments of a launch. -/
def argsOf (c : Dev nD) : Conv.Args where
  ag := m ((c : Thread nD τ).loc main_arg0)
  w := m ((c : Thread nD τ).loc main_arg1)
  b := m ((c : Thread nD τ).loc main_arg2)

/-- The reference's grid of the gate half, a border of zeros around it. -/
def image (ag : FVec Ideal S4x8192x5632 .bf16) : FVec Ideal S4x130x66x2816 .f32 :=
  pad S4x130x66x2816 ![0, 1, 1, 0] ![0, 1, 1, 0] ![0, 0, 0, 0] (shapeCast _ (extractStridedSlice S4x8192x2816 ![0, 0, 2816] (extf .f32 ag Gen.bitsLt_bf16_f32) Gen.slices_S4x8192x5632_S4x8192x2816_0_0_2816) Gen.shapeCasts_S4x8192x2816_S4x128x64x2816) (sitofp .f32 (constantI S_ 32 0#32)) Gen.pads_S4x128x64x2816_S4x130x66x2816_000_110_110_000 Gen.h_S_

/-- The reference's sum of nine shifted products. -/
def taps (w : FVec Ideal S3x3x2816 .f32) (I : FVec Ideal S4x130x66x2816 .f32) : FVec Ideal S4x128x64x2816 .f32 :=
  addf (addf (addf (addf (addf (addf (addf (addf (addf (broadcastInDim S4x128x64x2816 ![] Gen.bcast_S_S4x128x64x2816 (constant S_ .f32 0x00000000#32)) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![0, 0, 0] w Gen.slices_S3x3x2816_S1x1x2816_0_0_0) Gen.shapeCasts_S1x1x2816_S2816))) (extractStridedSlice S4x128x64x2816 ![0, 0, 0, 0] I Gen.slices_S4x130x66x2816_S4x128x64x2816_0_0_0_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![0, 1, 0] w Gen.slices_S3x3x2816_S1x1x2816_0_1_0) Gen.shapeCasts_S1x1x2816_S2816))) (extractStridedSlice S4x128x64x2816 ![0, 0, 1, 0] I Gen.slices_S4x130x66x2816_S4x128x64x2816_0_0_1_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![0, 2, 0] w Gen.slices_S3x3x2816_S1x1x2816_0_2_0) Gen.shapeCasts_S1x1x2816_S2816))) (extractStridedSlice S4x128x64x2816 ![0, 0, 2, 0] I Gen.slices_S4x130x66x2816_S4x128x64x2816_0_0_2_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![1, 0, 0] w Gen.slices_S3x3x2816_S1x1x2816_1_0_0) Gen.shapeCasts_S1x1x2816_S2816))) (extractStridedSlice S4x128x64x2816 ![0, 1, 0, 0] I Gen.slices_S4x130x66x2816_S4x128x64x2816_0_1_0_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![1, 1, 0] w Gen.slices_S3x3x2816_S1x1x2816_1_1_0) Gen.shapeCasts_S1x1x2816_S2816))) (extractStridedSlice S4x128x64x2816 ![0, 1, 1, 0] I Gen.slices_S4x130x66x2816_S4x128x64x2816_0_1_1_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![1, 2, 0] w Gen.slices_S3x3x2816_S1x1x2816_1_2_0) Gen.shapeCasts_S1x1x2816_S2816))) (extractStridedSlice S4x128x64x2816 ![0, 1, 2, 0] I Gen.slices_S4x130x66x2816_S4x128x64x2816_0_1_2_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![2, 0, 0] w Gen.slices_S3x3x2816_S1x1x2816_2_0_0) Gen.shapeCasts_S1x1x2816_S2816))) (extractStridedSlice S4x128x64x2816 ![0, 2, 0, 0] I Gen.slices_S4x130x66x2816_S4x128x64x2816_0_2_0_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![2, 1, 0] w Gen.slices_S3x3x2816_S1x1x2816_2_1_0) Gen.shapeCasts_S1x1x2816_S2816))) (extractStridedSlice S4x128x64x2816 ![0, 2, 1, 0] I Gen.slices_S4x130x66x2816_S4x128x64x2816_0_2_1_0))) (mulf (broadcastInDim S4x128x64x2816 ![0, 1, 2, 3] Gen.bcast_S1x1x1x2816_S4x128x64x2816_0_1_2_3 (broadcastInDim S1x1x1x2816 ![3] Gen.bcast_S2816_S1x1x1x2816_3 (shapeCast _ (extractStridedSlice S1x1x2816 ![2, 2, 0] w Gen.slices_S3x3x2816_S1x1x2816_2_2_0) Gen.shapeCasts_S1x1x2816_S2816))) (extractStridedSlice S4x128x64x2816 ![0, 2, 2, 0] I Gen.slices_S4x130x66x2816_S4x128x64x2816_0_2_2_0))

/-- The reference's convolution. -/
def conv (ag : FVec Ideal S4x8192x5632 .bf16) (w : FVec Ideal S3x3x2816 .f32) (b : FVec Ideal S2816 .f32) : FVec Ideal S4x8192x2816 .f32 :=
  addf (shapeCast _ (taps w (image ag)) Gen.shapeCasts_S4x128x64x2816_S4x8192x2816) (broadcastInDim S4x8192x2816 ![0, 1, 2] Gen.bcast_S1x1x2816_S4x8192x2816_0_1_2 (broadcastInDim S1x1x2816 ![2] Gen.bcast_S2816_S1x1x2816_2 b))

/-- The reference's logistic and gate. -/
def ends (C : FVec Ideal S4x8192x2816 .f32) (ag : FVec Ideal S4x8192x5632 .bf16) : FVec Ideal S4x8192x2816 .bf16 :=
  truncf .bf16 (mulf (mulf C (Host.divf (broadcastInDim S4x8192x2816 ![] Gen.bcast_S_S4x8192x2816 (constant S_ .f32 0x3F800000#32)) (addf (broadcastInDim S4x8192x2816 ![] Gen.bcast_S_S4x8192x2816 (constant S_ .f32 0x3F800000#32)) (Host.exp (Host.negf C))))) (extractStridedSlice S4x8192x2816 ![0, 0, 0] (extf .f32 ag Gen.bitsLt_bf16_f32) Gen.slices_S4x8192x5632_S4x8192x2816_0_0_0)) Gen.bitsLt_bf16_f32

/-- The integer zero as a number. -/
theorem sitofp_0 : (FloatOps.sitofp .f32 0#32 : Ideal .f32) = 0 := by
  show (((0#32 : BitVec 32).toInt : ℝ) : EReal) = 0
  simp

/-- The bordered grid, entry by entry. -/
theorem image_eq (ag : FVec Ideal S4x8192x5632 .bf16) (b : Fin 4) (y : Fin 130) (x : Fin 66) (f : Fin 2816) :
    image ag (ix4 b y x f) = if h : (1 ≤ y.val ∧ y.val - 1 < 128) ∧ 1 ≤ x.val ∧ x.val - 1 < 64 then
      ag (ix3 b ⟨(y.val - 1) * 64 + (x.val - 1), by omega⟩ ⟨2816 + f.val, by omega⟩) else 0 := by
  have z : (FloatOps.sitofp .f32 0#32 : Ideal .f32) = 0 := sitofp_0
  rw [← z]
  pointwise [image]

/-- The sum of nine products, entry by entry. -/
theorem taps_eq (w : FVec Ideal S3x3x2816 .f32) (I : FVec Ideal S4x130x66x2816 .f32) (b : Fin 4) (y : Fin 128) (x : Fin 64) (f : Fin 2816) :
    taps w I (ix4 b y x f)
      = 0
        + w (ix3 0 0 f) * I (ix4 b ⟨y.val, by omega⟩ ⟨x.val, by omega⟩ f)
        + w (ix3 0 1 f) * I (ix4 b ⟨y.val, by omega⟩ ⟨1 + x.val, by omega⟩ f)
        + w (ix3 0 2 f) * I (ix4 b ⟨y.val, by omega⟩ ⟨2 + x.val, by omega⟩ f)
        + w (ix3 1 0 f) * I (ix4 b ⟨1 + y.val, by omega⟩ ⟨x.val, by omega⟩ f)
        + w (ix3 1 1 f) * I (ix4 b ⟨1 + y.val, by omega⟩ ⟨1 + x.val, by omega⟩ f)
        + w (ix3 1 2 f) * I (ix4 b ⟨1 + y.val, by omega⟩ ⟨2 + x.val, by omega⟩ f)
        + w (ix3 2 0 f) * I (ix4 b ⟨2 + y.val, by omega⟩ ⟨x.val, by omega⟩ f)
        + w (ix3 2 1 f) * I (ix4 b ⟨2 + y.val, by omega⟩ ⟨1 + x.val, by omega⟩ f)
        + w (ix3 2 2 f) * I (ix4 b ⟨2 + y.val, by omega⟩ ⟨2 + x.val, by omega⟩ f) := by
  pointwise [taps]

/-- The convolution, entry by entry. -/
theorem conv_eq (ag : FVec Ideal S4x8192x5632 .bf16) (w : FVec Ideal S3x3x2816 .f32) (o : FVec Ideal S2816 .f32) (b : Fin 4) (p : Fin 8192) (f : Fin 2816) :
    conv ag w o (ix3 b p f) = taps w (image ag) (ix4 b ⟨p.val / 64, by omega⟩ ⟨p.val % 64, by omega⟩ f) + o (ix1 f) := by
  pointwise [conv]

/-- The last lines, entry by entry. -/
theorem ends_eq (C : FVec Ideal S4x8192x2816 .f32) (ag : FVec Ideal S4x8192x5632 .bf16) (b : Fin 4) (p : Fin 8192) (f : Fin 2816) :
    ends C ag (ix3 b p f) = MlstmOut.silu (C (ix3 b p f)) * ag (ix3 b p ⟨f.val, by omega⟩) := by
  unfold MlstmOut.silu Dense.one
  pointwise [ends]

/-- The bordered grid at a shifted position is the padded sequence, but beyond the left and the right edge. -/
theorem cell (A : Conv.Args) (b : Fin 4) (f : Fin 2816) (p : Fin 8192) (Y : Fin 130) (X : Fin 66) (i j q : ℕ)
    (hY : Y.val = p.val / 64 + i) (hX : X.val = p.val % 64 + j) (hi : i < 3) (hj : j < 3) (hq : q = p.val + j - 1 + i * 64) :
    image A.ag (ix4 b Y X f)
      = if (p.val % 64 = 0 ∧ j = 0) ∨ (p.val % 64 = 63 ∧ j = 2) then 0 else Conv.padded A b f q := by
  rw [image_eq]
  unfold Conv.padded
  split_ifs with h1 h2 h3 h4 h5
  all_goals first
    | rfl
    | omega
    | exact congrArg A.ag (congrArg (fun q => ix3 b q _) (Fin.ext (by show (Y.val - 1) * 64 + (X.val - 1) = q - 64; omega)))

/-- The sum of nine products is the three columns. -/
theorem total (A : Conv.Args) (b : Fin 4) (f : Fin 2816) (p : Fin 8192) :
    conv A.ag A.w A.b (ix3 b p f) = Conv.conv A b f p.val := by
  rw [conv_eq, taps_eq]
  dsimp only
  rw [cell A b f p ⟨p.val / 64, by omega⟩ ⟨p.val % 64, by omega⟩ 0 0 (p.val - 1) (by show p.val / 64 = p.val / 64 + 0; omega) (by show p.val % 64 = p.val % 64 + 0; omega) (by omega) (by omega) (by omega),
    cell A b f p ⟨p.val / 64, by omega⟩ ⟨1 + p.val % 64, by omega⟩ 0 1 (p.val) (by show p.val / 64 = p.val / 64 + 0; omega) (by show 1 + p.val % 64 = p.val % 64 + 1; omega) (by omega) (by omega) (by omega),
    cell A b f p ⟨p.val / 64, by omega⟩ ⟨2 + p.val % 64, by omega⟩ 0 2 (p.val + 1) (by show p.val / 64 = p.val / 64 + 0; omega) (by show 2 + p.val % 64 = p.val % 64 + 2; omega) (by omega) (by omega) (by omega),
    cell A b f p ⟨1 + p.val / 64, by omega⟩ ⟨p.val % 64, by omega⟩ 1 0 (p.val - 1 + 64) (by show 1 + p.val / 64 = p.val / 64 + 1; omega) (by show p.val % 64 = p.val % 64 + 0; omega) (by omega) (by omega) (by omega),
    cell A b f p ⟨1 + p.val / 64, by omega⟩ ⟨1 + p.val % 64, by omega⟩ 1 1 (p.val + 64) (by show 1 + p.val / 64 = p.val / 64 + 1; omega) (by show 1 + p.val % 64 = p.val % 64 + 1; omega) (by omega) (by omega) (by omega),
    cell A b f p ⟨1 + p.val / 64, by omega⟩ ⟨2 + p.val % 64, by omega⟩ 1 2 (p.val + 1 + 64) (by show 1 + p.val / 64 = p.val / 64 + 1; omega) (by show 2 + p.val % 64 = p.val % 64 + 2; omega) (by omega) (by omega) (by omega),
    cell A b f p ⟨2 + p.val / 64, by omega⟩ ⟨p.val % 64, by omega⟩ 2 0 (p.val - 1 + 128) (by show 2 + p.val / 64 = p.val / 64 + 2; omega) (by show p.val % 64 = p.val % 64 + 0; omega) (by omega) (by omega) (by omega),
    cell A b f p ⟨2 + p.val / 64, by omega⟩ ⟨1 + p.val % 64, by omega⟩ 2 1 (p.val + 128) (by show 2 + p.val / 64 = p.val / 64 + 2; omega) (by show 1 + p.val % 64 = p.val % 64 + 1; omega) (by omega) (by omega) (by omega),
    cell A b f p ⟨2 + p.val / 64, by omega⟩ ⟨2 + p.val % 64, by omega⟩ 2 2 (p.val + 1 + 128) (by show 2 + p.val / 64 = p.val / 64 + 2; omega) (by show 2 + p.val % 64 = p.val % 64 + 2; omega) (by omega) (by omega) (by omega)]
  unfold Conv.conv Conv.column
  by_cases h0 : p.val % 64 = 0
  · simp (decide := true) only [h0, true_and, and_true, false_and, and_false, or_false, false_or, or_self, if_true, if_false, mul_zero, zero_add, add_zero]
    abel
  · by_cases h63 : p.val % 64 = 63
    · simp (decide := true) only [h63, true_and, and_true, false_and, and_false, or_false, false_or, or_self, if_true, if_false, mul_zero, zero_add, add_zero]
      abel
    · simp (decide := true) only [h0, h63, true_and, and_true, false_and, and_false, or_false, false_or, or_self, if_true, if_false, mul_zero, zero_add, add_zero]
      abel

/-- The reference's run: its result array is the array of results, and its arguments stay. -/
theorem run (ρ : Dev nD → PrngReg) : θ_run defs (onTc (τ := τ) (main (F := Ideal))) ⟨m, fun _ => 0, ρ⟩ fun r => ∀ c : Dev nD,
      r.2.mem ((c : Thread nD τ).loc main_v75) = Conv.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      funext y
      idx_vars y
      show ends (conv (argsOf m c).ag (argsOf m c).w (argsOf m c).b) (argsOf m c).ag (ix3 y0 y1 y2) = Conv.out (argsOf m c) y0 y1 y2
      rw [ends_eq, total]
      rfl), (h c).2⟩) (Value.run m ρ)

end Cert.ConvReferenceIdeal.Rows

end
-- ==== Proof.HyenaConvValue.lean ====
/- The short convolution of the Hyena mixer, and the product of two of its three parts. -/
module

public import proofs.«01_k».proof.Proof.ConvValue
public import proofs.«01_k».proof.Proof.Gen.HyenaConvKernel.Frame
public import proofs.«01_k».proof.Proof.Gen.HyenaConvKernelIdeal.Value
public import proofs.«01_k».proof.Proof.Gen.HyenaConvReferenceIdeal.Run
public import Idealize.ShloMosaic.Lib.Pipeline.ValueKit

@[expose] public section

set_option maxRecDepth 16384

noncomputable section

namespace Cert.HyenaConv

open Idealize.ShloMosaic

/-- The arguments: the projected rows (three parts side by side), the three taps of every feature, the offsets. -/
structure Args where
  proj : Vec Ideal ⟨3, ![4, 8192, 3072]⟩ .bf16
  w : Vec Ideal ⟨2, ![3, 3072]⟩ .f32
  b : Vec Ideal ⟨1, ![3072]⟩ .f32

/-- The entry one position earlier, zero before the first position. -/
def earlier (A : Args) (b : Fin 4) (f : Fin 3072) (p : Fin 8192) : EReal :=
  if h : 1 ≤ p.val then A.proj (ix3 b ⟨p.val - 1, by omega⟩ f) else 0

/-- The entry one position later, zero after the last position. -/
def later (A : Args) (b : Fin 4) (f : Fin 3072) (p : Fin 8192) : EReal :=
  if h : p.val + 1 < 8192 then A.proj (ix3 b ⟨p.val + 1, h⟩ f) else 0

/-- The convolution at a position: three taps and the offset. -/
def conv (A : Args) (b : Fin 4) (f : Fin 3072) (p : Fin 8192) : EReal :=
  A.w (ix2 0 f) * earlier A b f p + A.w (ix2 1 f) * A.proj (ix3 b p f) + A.w (ix2 2 f) * later A b f p + A.b (ix1 f)

/-- The first result: the first part convolved. -/
def res0 (A : Args) : Vec Ideal ⟨3, ![4, 8192, 1024]⟩ .bf16 := fun i => conv A (i 0) ⟨(i 2).val, lt_trans (i 2).isLt (by decide)⟩ (i 1)

/-- The second result: the product of the other two parts convolved. -/
def res1 (A : Args) : Vec Ideal ⟨3, ![4, 8192, 1024]⟩ .bf16 := fun i =>
  conv A (i 0) ⟨1024 + (i 2).val, lt_of_lt_of_le (Nat.add_lt_add_left (i 2).isLt 1024) (by decide)⟩ (i 1)
    * conv A (i 0) ⟨2048 + (i 2).val, lt_of_lt_of_le (Nat.add_lt_add_left (i 2).isLt 2048) (by decide)⟩ (i 1)

end Cert.HyenaConv

namespace Cert.HyenaConvKernelIdeal.Rows

open Idealize.ShloMosaic Idealize.ShloMosaic.TcCoe Cert.HyenaConvKernelIdeal Cert.HyenaConvKernelIdeal.Gen Idealize.SL.Sem
open Idealize.ShloMosaic.Pipeline (Dat Cfg Window)
open Cert

variable (m : (ℓ : Loc nD τ sig) → Buf (Elt Ideal) ℓ)

/-- The grid has 128 points. -/
theorem lt128 (t : Fin cfg0.N) : t.val < 128 := lt_of_lt_of_eq t.isLt (show cfg0.N = 128 from N_0)

/-- The windows' block index at a point, and the point's second coordinate. -/
theorem idx : ∀ t : Fin cfg0.N,
    win0_0.index t = ![t.val / 32, t.val / 2 % 16, 0 + t.val % 2] ∧
    win0_1.index t = ![t.val / 32, t.val / 2 % 16 * 32 - 1, 0 + t.val % 2] ∧
    win0_2.index t = ![t.val / 32, min (t.val / 2 % 16 * 32 + 32) 511, 0 + t.val % 2] ∧
    win0_3.index t = ![t.val / 32, t.val / 2 % 16, 2 + t.val % 2] ∧
    win0_4.index t = ![t.val / 32, t.val / 2 % 16 * 32 - 1, 2 + t.val % 2] ∧
    win0_5.index t = ![t.val / 32, min (t.val / 2 % 16 * 32 + 32) 511, 2 + t.val % 2] ∧
    win0_6.index t = ![t.val / 32, t.val / 2 % 16, 4 + t.val % 2] ∧
    win0_7.index t = ![t.val / 32, t.val / 2 % 16 * 32 - 1, 4 + t.val % 2] ∧
    win0_8.index t = ![t.val / 32, min (t.val / 2 % 16 * 32 + 32) 511, 4 + t.val % 2] ∧
    win0_9.index t = ![0, 0 + t.val % 2] ∧
    win0_10.index t = ![0, 2 + t.val % 2] ∧
    win0_11.index t = ![0, 4 + t.val % 2] ∧
    win0_12.index t = ![0, 0 + t.val % 2] ∧
    win0_13.index t = ![0, 2 + t.val % 2] ∧
    win0_14.index t = ![0, 4 + t.val % 2] ∧
    win0_15.index t = ![t.val / 32, t.val / 2 % 16, t.val % 2] ∧
    win0_16.index t = ![t.val / 32, t.val / 2 % 16, t.val % 2] ∧
    (grid0.coords t 1).val = t.val / 2 % 16 :=
  (by decide +kernel : ∀ t : Fin grid0.N, _)

/-- The sequence of a point. -/
def seqOf (t : Fin cfg0.N) : Fin 4 := ⟨t.val / 32, by have := lt128 t; omega⟩

/-- The block of positions of a point. -/
def partOf (t : Fin cfg0.N) : Fin 16 := ⟨t.val / 2 % 16, by omega⟩

/-- The position of row `r` of a point's block. -/
def posOf (t : Fin cfg0.N) (r : Fin 512) : Fin 8192 := ⟨t.val / 2 % 16 * 512 + r.val, by omega⟩

/-- The feature of column `k` of a point's block. -/
def featOf (t : Fin cfg0.N) (k : Fin 512) : Fin 1024 := ⟨t.val % 2 * 512 + k.val, by omega⟩

/-- The arguments of a launch. -/
def argsOf (c : Dev nD) : HyenaConv.Args where
  proj := m ((c : Thread nD τ).loc main_arg0)
  w := m ((c : Thread nD τ).loc main_arg1)
  b := m ((c : Thread nD τ).loc main_arg2)

/-- A point's rows of the first part. -/
theorem iblk0_eq (c : Dev nD) (t : Fin cfg0.N) (k : Fin 512) (s : Fin 512) (p : Fin 8192) (h : p.val = (partOf t).val * 512 + s.val) :
    iblk m c 0 t (ix3 0 s k) = (argsOf m c).proj (ix3 (seqOf t) p ⟨(featOf t k).val, by omega⟩) := by
  have := lt128 t
  have hp : p = posOf t s := Fin.ext h
  rw [hp]
  unfold argsOf seqOf posOf featOf
  blk_ext [iblk, V_main_arg0, idx t]

/-- The row before a point's rows, first part. -/
theorem iblk1_eq (c : Dev nD) (t : Fin cfg0.N) (k : Fin 512) (p : Fin 8192) (h : p.val + 1 = (partOf t).val * 512) :
    iblk m c 1 t (ix3 0 15 k) = (argsOf m c).proj (ix3 (seqOf t) p ⟨(featOf t k).val, by omega⟩) := by
  have := lt128 t
  have hp : p = ⟨(t.val / 2 % 16 * 32 - 1) * 16 + 15, by omega⟩ := Fin.ext (by unfold partOf at h; show p.val = (t.val / 2 % 16 * 32 - 1) * 16 + 15; dsimp only at h; omega)
  rw [hp]
  unfold argsOf seqOf featOf
  blk_ext [iblk, V_main_arg0, idx t]

/-- The row after a point's rows, first part. -/
theorem iblk2_eq (c : Dev nD) (t : Fin cfg0.N) (k : Fin 512) (p : Fin 8192) (h : p.val = (partOf t).val * 512 + 512) :
    iblk m c 2 t (ix3 0 0 k) = (argsOf m c).proj (ix3 (seqOf t) p ⟨(featOf t k).val, by omega⟩) := by
  have := lt128 t
  have hp : p = ⟨min (t.val / 2 % 16 * 32 + 32) 511 * 16, by omega⟩ := Fin.ext (by unfold partOf at h; show p.val = min (t.val / 2 % 16 * 32 + 32) 511 * 16; dsimp only at h; omega)
  rw [hp]
  unfold argsOf seqOf featOf
  blk_ext [iblk, V_main_arg0, idx t]

/-- A point's rows of the second part. -/
theorem iblk3_eq (c : Dev nD) (t : Fin cfg0.N) (k : Fin 512) (s : Fin 512) (p : Fin 8192) (h : p.val = (partOf t).val * 512 + s.val) :
    iblk m c 3 t (ix3 0 s k) = (argsOf m c).proj (ix3 (seqOf t) p ⟨1024 + (featOf t k).val, by omega⟩) := by
  have := lt128 t
  have hp : p = posOf t s := Fin.ext h
  rw [hp]
  unfold argsOf seqOf posOf featOf
  blk_ext [iblk, V_main_arg0, idx t]

/-- The row before a point's rows, second part. -/
theorem iblk4_eq (c : Dev nD) (t : Fin cfg0.N) (k : Fin 512) (p : Fin 8192) (h : p.val + 1 = (partOf t).val * 512) :
    iblk m c 4 t (ix3 0 15 k) = (argsOf m c).proj (ix3 (seqOf t) p ⟨1024 + (featOf t k).val, by omega⟩) := by
  have := lt128 t
  have hp : p = ⟨(t.val / 2 % 16 * 32 - 1) * 16 + 15, by omega⟩ := Fin.ext (by unfold partOf at h; show p.val = (t.val / 2 % 16 * 32 - 1) * 16 + 15; dsimp only at h; omega)
  rw [hp]
  unfold argsOf seqOf featOf
  blk_ext [iblk, V_main_arg0, idx t]

/-- The row after a point's rows, second part. -/
theorem iblk5_eq (c : Dev nD) (t : Fin cfg0.N) (k : Fin 512) (p : Fin 8192) (h : p.val = (partOf t).val * 512 + 512) :
    iblk m c 5 t (ix3 0 0 k) = (argsOf m c).proj (ix3 (seqOf t) p ⟨1024 + (featOf t k).val, by omega⟩) := by
  have := lt128 t
  have hp : p = ⟨min (t.val / 2 % 16 * 32 + 32) 511 * 16, by omega⟩ := Fin.ext (by unfold partOf at h; show p.val = min (t.val / 2 % 16 * 32 + 32) 511 * 16; dsimp only at h; omega)
  rw [hp]
  unfold argsOf seqOf featOf
  blk_ext [iblk, V_main_arg0, idx t]

/-- A point's rows of the third part. -/
theorem iblk6_eq (c : Dev nD) (t : Fin cfg0.N) (k : Fin 512) (s : Fin 512) (p : Fin 8192) (h : p.val = (partOf t).val * 512 + s.val) :
    iblk m c 6 t (ix3 0 s k) = (argsOf m c).proj (ix3 (seqOf t) p ⟨2048 + (featOf t k).val, by omega⟩) := by
  have := lt128 t
  have hp : p = posOf t s := Fin.ext h
  rw [hp]
  unfold argsOf seqOf posOf featOf
  blk_ext [iblk, V_main_arg0, idx t]

/-- The row before a point's rows, third part. -/
theorem iblk7_eq (c : Dev nD) (t : Fin cfg0.N) (k : Fin 512) (p : Fin 8192) (h : p.val + 1 = (partOf t).val * 512) :
    iblk m c 7 t (ix3 0 15 k) = (argsOf m c).proj (ix3 (seqOf t) p ⟨2048 + (featOf t k).val, by omega⟩) := by
  have := lt128 t
  have hp : p = ⟨(t.val / 2 % 16 * 32 - 1) * 16 + 15, by omega⟩ := Fin.ext (by unfold partOf at h; show p.val = (t.val / 2 % 16 * 32 - 1) * 16 + 15; dsimp only at h; omega)
  rw [hp]
  unfold argsOf seqOf featOf
  blk_ext [iblk, V_main_arg0, idx t]

/-- The row after a point's rows, third part. -/
theorem iblk8_eq (c : Dev nD) (t : Fin cfg0.N) (k : Fin 512) (p : Fin 8192) (h : p.val = (partOf t).val * 512 + 512) :
    iblk m c 8 t (ix3 0 0 k) = (argsOf m c).proj (ix3 (seqOf t) p ⟨2048 + (featOf t k).val, by omega⟩) := by
  have := lt128 t
  have hp : p = ⟨min (t.val / 2 % 16 * 32 + 32) 511 * 16, by omega⟩ := Fin.ext (by unfold partOf at h; show p.val = min (t.val / 2 % 16 * 32 + 32) 511 * 16; dsimp only at h; omega)
  rw [hp]
  unfold argsOf seqOf featOf
  blk_ext [iblk, V_main_arg0, idx t]

/-- A point's taps, first part. -/
theorem iblk9_eq (c : Dev nD) (t : Fin cfg0.N) (k : Fin 512) (j : Fin 3) :
    iblk m c 9 t (ix2 j k) = (argsOf m c).w (ix2 j ⟨(featOf t k).val, by omega⟩) := by
  have := lt128 t
  unfold argsOf featOf
  blk_ext [iblk, V_main_arg1, idx t]

/-- A point's offsets, first part. -/
theorem iblk12_eq (c : Dev nD) (t : Fin cfg0.N) (k : Fin 512) :
    iblk m c 12 t (ix2 0 k) = (argsOf m c).b (ix1 ⟨(featOf t k).val, by omega⟩) := by
  have := lt128 t
  have e : iblk m c 12 t (ix2 0 k) = (V m c main_v0 : Vec Ideal S1x3072 .f32) (ix2 0 ⟨(featOf t k).val, by omega⟩) := by
    unfold featOf
    blk_ext [iblk, idx t]
  rw [e]
  unfold V argsOf
  simp only [hostOps0, List.flatten_cons, List.flatten_nil, List.append_nil, List.cons_append, List.nil_append]
  after_results
  pointwise

/-- A point's taps, second part. -/
theorem iblk10_eq (c : Dev nD) (t : Fin cfg0.N) (k : Fin 512) (j : Fin 3) :
    iblk m c 10 t (ix2 j k) = (argsOf m c).w (ix2 j ⟨1024 + (featOf t k).val, by omega⟩) := by
  have := lt128 t
  unfold argsOf featOf
  blk_ext [iblk, V_main_arg1, idx t]

/-- A point's offsets, second part. -/
theorem iblk13_eq (c : Dev nD) (t : Fin cfg0.N) (k : Fin 512) :
    iblk m c 13 t (ix2 0 k) = (argsOf m c).b (ix1 ⟨1024 + (featOf t k).val, by omega⟩) := by
  have := lt128 t
  have e : iblk m c 13 t (ix2 0 k) = (V m c main_v0 : Vec Ideal S1x3072 .f32) (ix2 0 ⟨1024 + (featOf t k).val, by omega⟩) := by
    unfold featOf
    blk_ext [iblk, idx t]
  rw [e]
  unfold V argsOf
  simp only [hostOps0, List.flatten_cons, List.flatten_nil, List.append_nil, List.cons_append, List.nil_append]
  after_results
  pointwise

/-- A point's taps, third part. -/
theorem iblk11_eq (c : Dev nD) (t : Fin cfg0.N) (k : Fin 512) (j : Fin 3) :
    iblk m c 11 t (ix2 j k) = (argsOf m c).w (ix2 j ⟨2048 + (featOf t k).val, by omega⟩) := by
  have := lt128 t
  unfold argsOf featOf
  blk_ext [iblk, V_main_arg1, idx t]

/-- A point's offsets, third part. -/
theorem iblk14_eq (c : Dev nD) (t : Fin cfg0.N) (k : Fin 512) :
    iblk m c 14 t (ix2 0 k) = (argsOf m c).b (ix1 ⟨2048 + (featOf t k).val, by omega⟩) := by
  have := lt128 t
  have e : iblk m c 14 t (ix2 0 k) = (V m c main_v0 : Vec Ideal S1x3072 .f32) (ix2 0 ⟨2048 + (featOf t k).val, by omega⟩) := by
    unfold featOf
    blk_ext [iblk, idx t]
  rw [e]
  unfold V argsOf
  simp only [hostOps0, List.flatten_cons, List.flatten_nil, List.append_nil, List.cons_append, List.nil_append]
  after_results
  pointwise

/-- Whether a block has a block before it, as the body tells it. -/
theorem first_eq : ∀ n : Fin 16, Scalar.cmpi CmpIPredicate.sgt (BitVec.ofNat 32 n.val) 0#32 = if n.val = 0 then 0#1 else 1#1 := by
  decide +kernel

/-- Whether a block has a block after it, as the body tells it. -/
theorem last_eq : ∀ n : Fin 16, Scalar.cmpi CmpIPredicate.slt (BitVec.ofNat 32 n.val) 15#32 = if n.val = 15 then 0#1 else 1#1 := by
  decide +kernel

/-- Whether a row is row `n`, as the body tells it. -/
def here (n : BitVec 32) (r : Fin 512) : BitVec 1 := IntOp.cmpi CmpIPredicate.eq (BitVec.ofNat 32 r.val) n

/-- The first row. -/
theorem here_0 : ∀ r : Fin 512, here 0#32 r = if r.val = 0 then 1#1 else 0#1 := by
  decide +kernel

/-- The last row. -/
theorem here_511 : ∀ r : Fin 512, here 511#32 r = if r.val = 511 then 1#1 else 0#1 := by
  decide +kernel

/-- One convolution as the body computes it, from a column of the block, the entries before and after it, the taps and the offset. -/
def body (n : ℕ) (x : Fin 512 → EReal) (u v : EReal) (w0 w1 w2 o : EReal) (r : Fin 512) : EReal :=
  w0 * Scalar.select (here 0#32 r) (Scalar.select (Scalar.cmpi CmpIPredicate.sgt (BitVec.ofNat 32 n) 0#32) u 0) (x ⟨(r.val + 512 - 1) % 512, by omega⟩)
    + w1 * x r
    + w2 * Scalar.select (here 511#32 r) (Scalar.select (Scalar.cmpi CmpIPredicate.slt (BitVec.ofNat 32 n) 15#32) v 0) (x ⟨(r.val + 512 - 511) % 512, by omega⟩)
    + o

/-- It is the convolution, where the block holds the arguments' entries. -/
theorem body_eq (A : HyenaConv.Args) (b : Fin 4) (f : Fin 3072) (n : Fin 16) (x : Fin 512 → EReal) (u v w0 w1 w2 o : EReal) (r : Fin 512)
    (P : Fin 8192) (hP : P.val = n.val * 512 + r.val)
    (h0 : ∀ (s : Fin 512) (p : Fin 8192), p.val = n.val * 512 + s.val → x s = A.proj (ix3 b p f))
    (h1 : ∀ p : Fin 8192, p.val + 1 = n.val * 512 → u = A.proj (ix3 b p f))
    (h2 : ∀ p : Fin 8192, p.val = n.val * 512 + 512 → v = A.proj (ix3 b p f))
    (e0 : w0 = A.w (ix2 0 f)) (e1 : w1 = A.w (ix2 1 f)) (e2 : w2 = A.w (ix2 2 f)) (eo : o = A.b (ix1 f)) :
    body n.val x u v w0 w1 w2 o r = HyenaConv.conv A b f P := by
  unfold body HyenaConv.conv
  rw [first_eq, last_eq, here_0, here_511, h0 r P hP, e0, e1, e2, eo]
  have l : (Scalar.select (if r.val = 0 then 1#1 else 0#1) (Scalar.select (if n.val = 0 then 0#1 else 1#1) u 0) (x ⟨(r.val + 512 - 1) % 512, by omega⟩) : EReal)
      = HyenaConv.earlier A b f P := by
    unfold HyenaConv.earlier
    split_ifs with c1 c2 c3 c3 c3
    all_goals first
      | omega
      | rfl
      | exact h1 ⟨P.val - 1, by omega⟩ (by show P.val - 1 + 1 = _; omega)
      | exact h0 ⟨(r.val + 512 - 1) % 512, by omega⟩ ⟨P.val - 1, by omega⟩ (by show P.val - 1 = n.val * 512 + (r.val + 512 - 1) % 512; omega)
  have g : (Scalar.select (if r.val = 511 then 1#1 else 0#1) (Scalar.select (if n.val = 15 then 0#1 else 1#1) v 0) (x ⟨(r.val + 512 - 511) % 512, by omega⟩) : EReal)
      = HyenaConv.later A b f P := by
    unfold HyenaConv.later
    split_ifs with c1 c2 c3 c3 c3
    all_goals first
      | omega
      | rfl
      | exact h2 ⟨P.val + 1, by omega⟩ (by show P.val + 1 = _; omega)
      | exact h0 ⟨(r.val + 512 - 511) % 512, by omega⟩ ⟨P.val + 1, by omega⟩ (by show P.val + 1 = n.val * 512 + (r.val + 512 - 511) % 512; omega)
  rw [l, g]

/-- The first store, entry by entry. -/
theorem first_store (i : grid0.Coords) (x0 : Vec Ideal S1x512x512 .bf16) (x1 x2 : Vec Ideal S1x1x512 .bf16) (x9 : Vec Ideal S3x512 .f32) (x12 : Vec Ideal S1x512 .f32) (r k : Fin 512) :
    k0_pay7 (k0_pay2 x0) x9 (k0_pay3 x12) (k0_pay4 i x1 x0) (k0_pay5 i x2 x0) (k0_pay6 x9) (ix3 0 r k)
      = body (i 1).val (fun s => x0 (ix3 0 s k)) (x1 (ix3 0 0 k)) (x2 (ix3 0 0 k)) (x9 (ix2 0 k)) (x9 (ix2 1 k)) (x9 (ix2 2 k)) (x12 (ix2 0 k)) r := by
  unfold body here
  pointwise [k0_pay7, k0_pay2, k0_pay3, k0_pay4, k0_pay5, k0_pay6]

/-- The convolution of the second part, entry by entry. -/
theorem second_part (n : ℕ) (x3 : Vec Ideal S1x512x512 .bf16) (x4 x5 : Vec Ideal S1x1x512 .bf16) (x10 : Vec Ideal S3x512 .f32) (x13 : Vec Ideal S1x512 .f32) (r k : Fin 512) :
    k0_pay13 (k0_pay8 (BitVec.ofNat 32 n) x4) (k0_pay9 (BitVec.ofNat 32 n) x5) (k0_pay10 x3) x10 (k0_pay11 x13) (iota .tc S512x1 32 [0] iota_S512x1_d0_w32) k0_pay12 1#32 (ix2 r k)
      = body n (fun s => x3 (ix3 0 s k)) (x4 (ix3 0 0 k)) (x5 (ix3 0 0 k)) (x10 (ix2 0 k)) (x10 (ix2 1 k)) (x10 (ix2 2 k)) (x13 (ix2 0 k)) r := by
  unfold body here
  pointwise [k0_pay13, k0_pay8, k0_pay9, k0_pay10, k0_pay11, k0_pay12]

/-- The second store, entry by entry. -/
theorem second_store (n : ℕ) (v99 : FVec Ideal S512x512 .f32) (x6 : Vec Ideal S1x512x512 .bf16) (x7 x8 : Vec Ideal S1x1x512 .bf16) (x11 : Vec Ideal S3x512 .f32) (x14 : Vec Ideal S1x512 .f32) (r k : Fin 512) :
    k0_pay1 v99 (k0_pay14 (BitVec.ofNat 32 n) x7) (k0_pay15 (BitVec.ofNat 32 n) x8) (k0_pay16 x6) x11 x14 (ix3 0 r k)
      = v99 (ix2 r k) * body n (fun s => x6 (ix3 0 s k)) (x7 (ix3 0 0 k)) (x8 (ix3 0 0 k)) (x11 (ix2 0 k)) (x11 (ix2 1 k)) (x11 (ix2 2 k)) (x14 (ix2 0 k)) r := by
  unfold body here
  pointwise [k0_pay1, k0_pay14, k0_pay15, k0_pay16]

/-- The last row of the block before. -/
theorem row15_eq (x : Vec Ideal S1x16x512 .bf16) (k : Fin 512) : View.ld x r0_0 (ix3 0 0 k) = x (ix3 0 15 k) := by
  pointwise [r0_0]

/-- The first row of the block after. -/
theorem row0_eq (x : Vec Ideal S1x16x512 .bf16) (k : Fin 512) : View.ld x r0_1 (ix3 0 0 k) = x (ix3 0 0 k) := by
  pointwise [r0_1]

/-- The first result at a point. -/
theorem out15_eq (A : HyenaConv.Args) (b : Fin 4) (f : Fin 3072) (i : grid0.Coords) (n : Fin 16) (hi : (i 1).val = n.val)
    (x0 : Vec Ideal S1x512x512 .bf16) (x1 x2 : Vec Ideal S1x16x512 .bf16) (x3 : Vec Ideal S1x512x512 .bf16) (x4 x5 : Vec Ideal S1x16x512 .bf16)
    (x6 : Vec Ideal S1x512x512 .bf16) (x7 x8 : Vec Ideal S1x16x512 .bf16) (x9 x10 x11 : Vec Ideal S3x512 .f32) (x12 x13 x14 : Vec Ideal S1x512 .f32)
    (k r : Fin 512) (P : Fin 8192) (hP : P.val = n.val * 512 + r.val)
    (h0 : ∀ (s : Fin 512) (p : Fin 8192), p.val = n.val * 512 + s.val → x0 (ix3 0 s k) = A.proj (ix3 b p f))
    (h1 : ∀ p : Fin 8192, p.val + 1 = n.val * 512 → x1 (ix3 0 15 k) = A.proj (ix3 b p f))
    (h2 : ∀ p : Fin 8192, p.val = n.val * 512 + 512 → x2 (ix3 0 0 k) = A.proj (ix3 b p f))
    (hw : ∀ j : Fin 3, x9 (ix2 j k) = A.w (ix2 j f)) (ho : x12 (ix2 0 k) = A.b (ix1 f)) :
    out0_15 i x0 x1 x2 x3 x4 x5 x6 x7 x8 x9 x10 x11 x12 x13 x14 (ix3 0 r k) = HyenaConv.conv A b f P := by
  frame_out
  rw [first_store, hi]
  exact body_eq A b f n _ _ _ _ _ _ _ r P hP h0 (fun p h => (row15_eq x1 k).trans (h1 p h)) (fun p h => (row0_eq x2 k).trans (h2 p h)) (hw 0) (hw 1) (hw 2) ho

/-- The second result at a point. -/
theorem out16_eq (A : HyenaConv.Args) (b : Fin 4) (f g : Fin 3072) (i : grid0.Coords) (n : Fin 16) (hi : (i 1).val = n.val)
    (x0 : Vec Ideal S1x512x512 .bf16) (x1 x2 : Vec Ideal S1x16x512 .bf16) (x3 : Vec Ideal S1x512x512 .bf16) (x4 x5 : Vec Ideal S1x16x512 .bf16)
    (x6 : Vec Ideal S1x512x512 .bf16) (x7 x8 : Vec Ideal S1x16x512 .bf16) (x9 x10 x11 : Vec Ideal S3x512 .f32) (x12 x13 x14 : Vec Ideal S1x512 .f32)
    (k r : Fin 512) (P : Fin 8192) (hP : P.val = n.val * 512 + r.val)
    (h3 : ∀ (s : Fin 512) (p : Fin 8192), p.val = n.val * 512 + s.val → x3 (ix3 0 s k) = A.proj (ix3 b p f))
    (h4 : ∀ p : Fin 8192, p.val + 1 = n.val * 512 → x4 (ix3 0 15 k) = A.proj (ix3 b p f))
    (h5 : ∀ p : Fin 8192, p.val = n.val * 512 + 512 → x5 (ix3 0 0 k) = A.proj (ix3 b p f))
    (hw : ∀ j : Fin 3, x10 (ix2 j k) = A.w (ix2 j f)) (ho : x13 (ix2 0 k) = A.b (ix1 f))
    (h6 : ∀ (s : Fin 512) (p : Fin 8192), p.val = n.val * 512 + s.val → x6 (ix3 0 s k) = A.proj (ix3 b p g))
    (h7 : ∀ p : Fin 8192, p.val + 1 = n.val * 512 → x7 (ix3 0 15 k) = A.proj (ix3 b p g))
    (h8 : ∀ p : Fin 8192, p.val = n.val * 512 + 512 → x8 (ix3 0 0 k) = A.proj (ix3 b p g))
    (hw' : ∀ j : Fin 3, x11 (ix2 j k) = A.w (ix2 j g)) (ho' : x14 (ix2 0 k) = A.b (ix1 g)) :
    out0_16 i x0 x1 x2 x3 x4 x5 x6 x7 x8 x9 x10 x11 x12 x13 x14 (ix3 0 r k) = HyenaConv.conv A b f P * HyenaConv.conv A b g P := by
  frame_out
  rw [second_store, second_part, hi]
  exact congrArg₂ (· * ·) (body_eq A b f n _ _ _ _ _ _ _ r P hP h3 (fun p h => (row15_eq x4 k).trans (h4 p h)) (fun p h => (row0_eq x5 k).trans (h5 p h)) (hw 0) (hw 1) (hw 2) ho)
    (body_eq A b g n _ _ _ _ _ _ _ r P hP h6 (fun p h => (row15_eq x7 k).trans (h7 p h)) (fun p h => (row0_eq x8 k).trans (h8 p h)) (hw' 0) (hw' 1) (hw' 2) ho')

/-- A point's coordinate along the positions. -/
theorem coord_eq (t : Fin cfg0.N) : (cfg0.grid.coords t 1).val = (partOf t).val := (idx t).2.2.2.2.2.2.2.2.2.2.2.2.2.2.2.2.2

/-- The first array of results after the run. -/
theorem final0 (c : Dev nD) : (dats m 0 c).arrAt 15 cfg0.N = HyenaConv.res0 (argsOf m c) :=
  (dats m 0 c).arrAt_eq_of_covers 15 _ (by decide +kernel) fun t hf y => by
    have := lt128 t
    idx_vars y
    have e : (win0_15.blk t).view.emb (ix3 y0 y1 y2) = ix3 (seqOf t) (posOf t y1) (featOf t y2) := by
      unfold seqOf posOf featOf
      blk_ext [idx t]
    blk_simp
    rw [after0_15, e]
    have z : y0 = 0 := Fin.ext (by omega)
    rw [z]
    exact out15_eq (argsOf m c) (seqOf t) ⟨(featOf t y2).val, by omega⟩ (cfg0.grid.coords t) (partOf t) (coord_eq t) _ _ _ _ _ _ _ _ _ _ _ _ _ _ _ y2 y1 (posOf t y1) rfl
      (iblk0_eq m c t y2) (iblk1_eq m c t y2) (iblk2_eq m c t y2) (iblk9_eq m c t y2) (iblk12_eq m c t y2)

/-- The second array of results after the run. -/
theorem final1 (c : Dev nD) : (dats m 0 c).arrAt 16 cfg0.N = HyenaConv.res1 (argsOf m c) :=
  (dats m 0 c).arrAt_eq_of_covers 16 _ (by decide +kernel) fun t hf y => by
    have := lt128 t
    idx_vars y
    have e : (win0_16.blk t).view.emb (ix3 y0 y1 y2) = ix3 (seqOf t) (posOf t y1) (featOf t y2) := by
      unfold seqOf posOf featOf
      blk_ext [idx t]
    blk_simp
    rw [after0_16, e]
    have z : y0 = 0 := Fin.ext (by omega)
    rw [z]
    exact out16_eq (argsOf m c) (seqOf t) ⟨1024 + (featOf t y2).val, by omega⟩ ⟨2048 + (featOf t y2).val, by omega⟩ (cfg0.grid.coords t) (partOf t) (coord_eq t)
      _ _ _ _ _ _ _ _ _ _ _ _ _ _ _ y2 y1 (posOf t y1) rfl
      (iblk3_eq m c t y2) (iblk4_eq m c t y2) (iblk5_eq m c t y2) (iblk10_eq m c t y2) (iblk13_eq m c t y2)
      (iblk6_eq m c t y2) (iblk7_eq m c t y2) (iblk8_eq m c t y2) (iblk11_eq m c t y2) (iblk14_eq m c t y2)

end Cert.HyenaConvKernelIdeal.Rows

namespace Cert.HyenaConvReferenceIdeal.Rows

open Idealize.ShloMosaic Idealize.ShloMosaic.TcCoe Cert.HyenaConvReferenceIdeal Cert.HyenaConvReferenceIdeal.Gen Idealize.SL.Sem
open Cert

variable (m : (ℓ : Loc nD τ sig) → Buf (Elt Ideal) ℓ)

/-- The arguments of a launch. -/
def argsOf (c : Dev nD) : HyenaConv.Args where
  proj := m ((c : Thread nD τ).loc main_arg0)
  w := m ((c : Thread nD τ).loc main_arg1)
  b := m ((c : Thread nD τ).loc main_arg2)

/-- The reference's sequence with a row of zeros before it and after it. -/
def padded (x : FVec Ideal S4x8192x3072 .bf16) : FVec Ideal S4x8194x3072 .f32 :=
  pad S4x8194x3072 ![0, 1, 0] ![0, 1, 0] ![0, 0, 0] (extf .f32 x Gen.bitsLt_bf16_f32) (sitofp .f32 (constantI S_ 32 0#32)) Gen.pads_S4x8192x3072_S4x8194x3072_000_110_000 Gen.h_S_

/-- The reference's convolution. -/
def conv (x : FVec Ideal S4x8192x3072 .bf16) (w : FVec Ideal S3x3072 .f32) (b : FVec Ideal S3072 .f32) : FVec Ideal S4x8192x3072 .f32 :=
  addf (addf (addf
    (mulf (broadcastInDim S4x8192x3072 ![0, 1, 2] Gen.bcast_S1x1x3072_S4x8192x3072_0_1_2 (broadcastInDim S1x1x3072 ![2] Gen.bcast_S3072_S1x1x3072_2 (shapeCast _ (extractStridedSlice S1x3072 ![0, 0] w Gen.slices_S3x3072_S1x3072_0_0) Gen.shapeCasts_S1x3072_S3072))) (extractStridedSlice S4x8192x3072 ![0, 0, 0] (padded x) Gen.slices_S4x8194x3072_S4x8192x3072_0_0_0))
    (mulf (broadcastInDim S4x8192x3072 ![0, 1, 2] Gen.bcast_S1x1x3072_S4x8192x3072_0_1_2 (broadcastInDim S1x1x3072 ![2] Gen.bcast_S3072_S1x1x3072_2 (shapeCast _ (extractStridedSlice S1x3072 ![1, 0] w Gen.slices_S3x3072_S1x3072_1_0) Gen.shapeCasts_S1x3072_S3072))) (extractStridedSlice S4x8192x3072 ![0, 1, 0] (padded x) Gen.slices_S4x8194x3072_S4x8192x3072_0_1_0)))
    (mulf (broadcastInDim S4x8192x3072 ![0, 1, 2] Gen.bcast_S1x1x3072_S4x8192x3072_0_1_2 (broadcastInDim S1x1x3072 ![2] Gen.bcast_S3072_S1x1x3072_2 (shapeCast _ (extractStridedSlice S1x3072 ![2, 0] w Gen.slices_S3x3072_S1x3072_2_0) Gen.shapeCasts_S1x3072_S3072))) (extractStridedSlice S4x8192x3072 ![0, 2, 0] (padded x) Gen.slices_S4x8194x3072_S4x8192x3072_0_2_0)))
    (broadcastInDim S4x8192x3072 ![0, 1, 2] Gen.bcast_S1x1x3072_S4x8192x3072_0_1_2 (broadcastInDim S1x1x3072 ![2] Gen.bcast_S3072_S1x1x3072_2 b))

/-- The padded sequence, entry by entry. -/
theorem padded_eq (x : FVec Ideal S4x8192x3072 .bf16) (b : Fin 4) (q : Fin 8194) (f : Fin 3072) :
    padded x (ix3 b q f) = if h : 1 ≤ q.val ∧ q.val - 1 < 8192 then x (ix3 b ⟨q.val - 1, h.2⟩ f) else 0 := by
  have z : (FloatOps.sitofp .f32 0#32 : Ideal .f32) = 0 := ConvReferenceIdeal.Rows.sitofp_0
  rw [← z]
  pointwise [padded]

/-- The three products, entry by entry. -/
theorem taps_eq (x : FVec Ideal S4x8192x3072 .bf16) (w : FVec Ideal S3x3072 .f32) (o : FVec Ideal S3072 .f32) (b : Fin 4) (p : Fin 8192) (f : Fin 3072) :
    conv x w o (ix3 b p f)
      = w (ix2 0 f) * padded x (ix3 b ⟨p.val, by omega⟩ f) + w (ix2 1 f) * padded x (ix3 b ⟨1 + p.val, by omega⟩ f)
        + w (ix2 2 f) * padded x (ix3 b ⟨2 + p.val, by omega⟩ f) + o (ix1 f) := by
  pointwise [conv]

/-- The reference's convolution is the convolution. -/
theorem conv_eq (A : HyenaConv.Args) (b : Fin 4) (p : Fin 8192) (f : Fin 3072) :
    conv A.proj A.w A.b (ix3 b p f) = HyenaConv.conv A b f p := by
  rw [taps_eq, padded_eq, padded_eq, padded_eq]
  unfold HyenaConv.conv HyenaConv.earlier HyenaConv.later
  have e0 : (if h : 1 ≤ p.val ∧ p.val - 1 < 8192 then A.proj (ix3 b ⟨p.val - 1, h.2⟩ f) else 0)
      = if h : 1 ≤ p.val then A.proj (ix3 b ⟨p.val - 1, by omega⟩ f) else 0 := by
    by_cases h : 1 ≤ p.val
    · rw [dif_pos ⟨h, by omega⟩, dif_pos h]
    · rw [dif_neg (fun c => h c.1), dif_neg h]
  have e1 : (if h : 1 ≤ 1 + p.val ∧ 1 + p.val - 1 < 8192 then A.proj (ix3 b ⟨1 + p.val - 1, h.2⟩ f) else 0) = A.proj (ix3 b p f) := by
    rw [dif_pos ⟨by omega, by omega⟩]
    exact congrArg A.proj (congrArg (fun q => ix3 b q f) (Fin.ext (by show 1 + p.val - 1 = p.val; omega)))
  have e2 : (if h : 1 ≤ 2 + p.val ∧ 2 + p.val - 1 < 8192 then A.proj (ix3 b ⟨2 + p.val - 1, h.2⟩ f) else 0)
      = if h : p.val + 1 < 8192 then A.proj (ix3 b ⟨p.val + 1, h⟩ f) else 0 := by
    by_cases h : p.val + 1 < 8192
    · rw [dif_pos ⟨by omega, by omega⟩, dif_pos h]
      exact congrArg A.proj (congrArg (fun q => ix3 b q f) (Fin.ext (by show 2 + p.val - 1 = p.val + 1; omega)))
    · rw [dif_neg (fun c => h (by omega)), dif_neg h]
  dsimp only
  rw [e0, e1, e2]

/-- The reference's first result. -/
def first (C : FVec Ideal S4x8192x3072 .f32) : FVec Ideal S4x8192x1024 .bf16 :=
  truncf .bf16 (extractStridedSlice S4x8192x1024 ![0, 0, 0] C Gen.slices_S4x8192x3072_S4x8192x1024_0_0_0) Gen.bitsLt_bf16_f32

/-- The reference's second result. -/
def second (C : FVec Ideal S4x8192x3072 .f32) : FVec Ideal S4x8192x1024 .bf16 :=
  truncf .bf16 (mulf (extractStridedSlice S4x8192x1024 ![0, 0, 1024] C Gen.slices_S4x8192x3072_S4x8192x1024_0_0_1024)
    (extractStridedSlice S4x8192x1024 ![0, 0, 2048] C Gen.slices_S4x8192x3072_S4x8192x1024_0_0_2048)) Gen.bitsLt_bf16_f32

/-- The first result, entry by entry. -/
theorem first_eq (C : FVec Ideal S4x8192x3072 .f32) (b : Fin 4) (p : Fin 8192) (f : Fin 1024) :
    first C (ix3 b p f) = C (ix3 b p ⟨f.val, by omega⟩) := by
  pointwise [first]

/-- The second result, entry by entry. -/
theorem second_eq (C : FVec Ideal S4x8192x3072 .f32) (b : Fin 4) (p : Fin 8192) (f : Fin 1024) :
    second C (ix3 b p f) = C (ix3 b p ⟨1024 + f.val, by omega⟩) * C (ix3 b p ⟨2048 + f.val, by omega⟩) := by
  pointwise [second]

/-- The reference's run: its result arrays are the arrays of results, and its arguments stay. -/
theorem run (ρ : Dev nD → PrngReg) : θ_run defs (onTc (τ := τ) (main (F := Ideal))) ⟨m, fun _ => 0, ρ⟩ fun r => ∀ c : Dev nD,
      r.2.mem ((c : Thread nD τ).loc main_v28) = HyenaConv.res0 (argsOf m c)
      ∧ r.2.mem ((c : Thread nD τ).loc main_v30) = HyenaConv.res1 (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      funext y
      idx_vars y
      show first (conv (argsOf m c).proj (argsOf m c).w (argsOf m c).b) (ix3 y0 y1 y2) = HyenaConv.conv (argsOf m c) y0 ⟨y2.val, by omega⟩ y1
      rw [first_eq, conv_eq]), (h c).2.1.trans (by
      funext y
      idx_vars y
      show second (conv (argsOf m c).proj (argsOf m c).w (argsOf m c).b) (ix3 y0 y1 y2)
        = HyenaConv.conv (argsOf m c) y0 ⟨1024 + y2.val, by omega⟩ y1 * HyenaConv.conv (argsOf m c) y0 ⟨2048 + y2.val, by omega⟩ y1
      rw [second_eq, conv_eq, conv_eq]), (h c).2.2⟩) (Value.run m ρ)

end Cert.HyenaConvReferenceIdeal.Rows

end
-- ==== Proof.Prep.lean ====
/- The projections and gates of the mLSTM mixer: what they are, and the sums both programs make of them. -/
module

public import proofs.«01_k».proof.Proof.MlstmOutValue

@[expose] public section

noncomputable section

namespace Cert.Prep

open Idealize.ShloMosaic

/-- The arguments: rows of two branches side by side, the three taps of every feature, the offsets, the blocks of the three
    projections, the weights and offsets of the gates. -/
structure Args where
  xz : Vec Ideal ⟨3, ![4, 8192, 4096]⟩ .bf16
  cw : Vec Ideal ⟨2, ![3, 2048]⟩ .f32
  cb : Vec Ideal ⟨1, ![2048]⟩ .f32
  wq : Vec Ideal ⟨3, ![512, 4, 4]⟩ .f32
  wk : Vec Ideal ⟨3, ![512, 4, 4]⟩ .f32
  wv : Vec Ideal ⟨3, ![512, 4, 4]⟩ .f32
  wg : Vec Ideal ⟨2, ![6144, 16]⟩ .f32
  bg : Vec Ideal ⟨1, ![16]⟩ .f32

/-- The rows of the first branch. -/
def raw (A : Args) (b : Fin 4) (p : Fin 8192) (f : Fin 2048) : EReal := A.xz (ix3 b p ⟨f.val, by omega⟩)

/-- The entry one position earlier, zero before the first position. -/
def earlier (A : Args) (b : Fin 4) (p : Fin 8192) (f : Fin 2048) : EReal :=
  if h : 1 ≤ p.val then raw A b ⟨p.val - 1, by omega⟩ f else 0

/-- The entry one position later, zero after the last position. -/
def later (A : Args) (b : Fin 4) (p : Fin 8192) (f : Fin 2048) : EReal :=
  if h : p.val + 1 < 8192 then raw A b ⟨p.val + 1, h⟩ f else 0

/-- The convolution at a position: three taps and the offset. -/
def conv (A : Args) (b : Fin 4) (p : Fin 8192) (f : Fin 2048) : EReal :=
  A.cw (ix2 0 f) * earlier A b p f + A.cw (ix2 1 f) * raw A b p f + A.cw (ix2 2 f) * later A b p f + A.cb (ix1 f)

/-- The convolved rows, each entry times its logistic. -/
def act (A : Args) (b : Fin 4) (p : Fin 8192) (f : Fin 2048) : EReal := MlstmOut.silu (conv A b p f)

/-- A row's projection by blocks of four features. -/
def heads (x : Fin 2048 → EReal) (w : Vec Ideal ⟨3, ![512, 4, 4]⟩ .f32) (f : Fin 2048) : EReal :=
  ∑ c : Fin 4, x ⟨f.val / 4 * 4 + c.val, by omega⟩ * w (ix3 ⟨f.val / 4, by omega⟩ c ⟨f.val % 4, by omega⟩)

/-- The queries. -/
def q (A : Args) (b : Fin 4) (p : Fin 8192) : Fin 2048 → EReal := heads (act A b p) A.wq

/-- The keys, before their scale. -/
def k (A : Args) (b : Fin 4) (p : Fin 8192) : Fin 2048 → EReal := heads (act A b p) A.wk

/-- The values. -/
def v (A : Args) (b : Fin 4) (p : Fin 8192) : Fin 2048 → EReal := heads (raw A b p) A.wv

/-- The scale of the keys, as the programs write it. -/
def scale : EReal := Ideal.ofBits .f32 0x3D3504F3#32

/-- A gate from the three projections of a row. -/
def gateOf (wg : Vec Ideal ⟨2, ![6144, 16]⟩ .f32) (bg : Vec Ideal ⟨1, ![16]⟩ .f32) (q k v : Fin 2048 → EReal) (g : Fin 16) : EReal :=
  ∑ f : Fin 2048, q f * wg (ix2 ⟨f.val, by omega⟩ g) + ∑ f : Fin 2048, k f * wg (ix2 ⟨2048 + f.val, by omega⟩ g)
    + ∑ f : Fin 2048, v f * wg (ix2 ⟨4096 + f.val, by omega⟩ g) + bg (ix1 g)

/-- A gate at a position. -/
def gate (A : Args) (b : Fin 4) (p : Fin 8192) (g : Fin 16) : EReal := gateOf A.wg A.bg (q A b p) (k A b p) (v A b p) g

/-- The logarithm of a number's logistic. -/
def logsig (z : EReal) : EReal := min z 0 - Ideal.log (1 + Ideal.exp (-max z (-z)))

/-- The forget gates come as logarithms of their logistic, the input gates as they are. -/
def shown (g : Fin 16) (z : EReal) : EReal := if g.val / 4 % 2 = 1 then logsig z else z

/-- The queries' array. -/
def res0 (A : Args) : Vec Ideal ⟨3, ![4, 8192, 2048]⟩ .bf16 := fun i => q A (i 0) (i 1) (i 2)

/-- The keys' array, scaled. -/
def res1 (A : Args) : Vec Ideal ⟨3, ![4, 8192, 2048]⟩ .bf16 := fun i => k A (i 0) (i 1) (i 2) * scale

/-- The values' array. -/
def res2 (A : Args) : Vec Ideal ⟨3, ![4, 8192, 2048]⟩ .bf16 := fun i => v A (i 0) (i 1) (i 2)

/-- The convolved rows' array. -/
def res3 (A : Args) : Vec Ideal ⟨3, ![4, 8192, 2048]⟩ .bf16 := fun i => act A (i 0) (i 1) (i 2)

/-- The gates' array. -/
def res4 (A : Args) : Vec Ideal ⟨3, ![4, 8192, 16]⟩ .f32 := fun i => shown (i 2) (gate A (i 0) (i 1) (i 2))

/-- A square tile of the projection: the blocks of 64 groups of four features on the diagonal, zero elsewhere. -/
def tile (w : Vec Ideal ⟨3, ![512, 4, 4]⟩ .f32) (t : Fin 8) (a j : Fin 256) : EReal :=
  w (ix3 ⟨t.val * 64 + a.val / 4, by omega⟩ ⟨a.val % 4, by omega⟩ ⟨j.val % 4, by omega⟩) * if a.val / 4 = j.val / 4 then 1 else 0

/-- The product of 256 features of a row with a tile is 256 features of the row's projection. -/
theorem tile_sum (x : Fin 2048 → EReal) (w : Vec Ideal ⟨3, ![512, 4, 4]⟩ .f32) (t : Fin 8) (j : Fin 256) (f : Fin 2048) (hf : f.val = t.val * 256 + j.val) :
    ∑ a : Fin 256, x ⟨t.val * 256 + a.val, by omega⟩ * tile w t a j = heads x w f := by
  have e : ∑ a : Fin 256, x ⟨t.val * 256 + a.val, by omega⟩ * tile w t a j
      = ∑ n : Fin 64, ∑ c : Fin 4, x ⟨t.val * 256 + (n.val * 4 + c.val), by omega⟩ * tile w t ⟨n.val * 4 + c.val, by omega⟩ j :=
    (Fin.sum_mul_add_congr fun n c hl => rfl).symm
  rw [e, Finset.sum_eq_single (⟨j.val / 4, by omega⟩ : Fin 64)]
  · unfold heads tile
    refine Finset.sum_congr rfl fun c _ => ?_
    have h1 : (j.val / 4 * 4 + c.val) / 4 = j.val / 4 := by omega
    rw [if_pos h1, mul_one]
    congr 2
    · exact Fin.ext (by show t.val * 256 + (j.val / 4 * 4 + c.val) = f.val / 4 * 4 + c.val; omega)
    · have i0 : (⟨t.val * 64 + (j.val / 4 * 4 + c.val) / 4, by omega⟩ : Fin 512) = ⟨f.val / 4, by omega⟩ := Fin.ext (by show t.val * 64 + (j.val / 4 * 4 + c.val) / 4 = f.val / 4; omega)
      have i1 : (⟨(j.val / 4 * 4 + c.val) % 4, by omega⟩ : Fin 4) = c := Fin.ext (by show (j.val / 4 * 4 + c.val) % 4 = c.val; omega)
      have i2 : (⟨j.val % 4, by omega⟩ : Fin 4) = ⟨f.val % 4, by omega⟩ := Fin.ext (by show j.val % 4 = f.val % 4; omega)
      rw [i0, i1, i2]
  · intro n _ hn
    refine Finset.sum_eq_zero fun c _ => ?_
    unfold tile
    have h1 : ¬ (n.val * 4 + c.val) / 4 = j.val / 4 := fun h => hn (Fin.ext (by show n.val = j.val / 4; omega))
    rw [if_neg h1, mul_zero, mul_zero]
  · intro h
    exact absurd (Finset.mem_univ _) h

/-- A sum over the features, tile by tile. -/
theorem tiles_sum (F : Fin 2048 → EReal) : ∑ t : Fin 8, ∑ a : Fin 256, F ⟨t.val * 256 + a.val, by omega⟩ = ∑ f : Fin 2048, F f :=
  Fin.sum_mul_add_congr fun t a hl => rfl

/-- Three sums of eight added in turns, from an offset on, are the three sums and the offset. -/
theorem turns (b : EReal) (Q K V : Fin 8 → EReal) :
    b + Q 0 + K 0 + V 0 + Q 1 + K 1 + V 1 + Q 2 + K 2 + V 2 + Q 3 + K 3 + V 3 + Q 4 + K 4 + V 4 + Q 5 + K 5 + V 5 + Q 6 + K 6 + V 6
      + Q 7 + K 7 + V 7 = ∑ t, Q t + ∑ t, K t + ∑ t, V t + b := by
  rw [Fin.sum_univ_eight, Fin.sum_univ_eight, Fin.sum_univ_eight]
  abel

end Cert.Prep

end
-- ==== Proof.PrepBlocks.lean ====
/- The projections and gates of the mLSTM mixer: what the kernel computes of one block of positions. -/
module

public import proofs.«01_k».proof.Proof.Prep
public import proofs.«01_k».proof.Proof.Gen.PrepKernel.Frame
public import proofs.«01_k».proof.Proof.Gen.PrepKernelIdeal.Value
public import Idealize.ShloMosaic.Lib.Pipeline.ValueKit

@[expose] public section

set_option maxRecDepth 16384

noncomputable section

namespace Cert.PrepKernelIdeal.Rows

open Idealize.ShloMosaic Idealize.ShloMosaic.TcCoe Cert.PrepKernelIdeal Cert.PrepKernelIdeal.Gen Idealize.SL.Sem
open Cert

/-- The product of 256 columns of a block, from column `o` on, with a tile. -/
def proj (X : FVec Ideal S256x2048 .bf16) (o : ℕ) (h : o + 256 ≤ 2048) (w : Vec Ideal S1x256x256 .bf16) (r j : Fin 256) : EReal :=
  ∑ a : Fin 256, X (ix2 r ⟨o + a.val, by omega⟩) * w (ix3 0 a j)

/-- The product of 256 features with their weights for a gate. -/
def share (x : Fin 256 → EReal) (w : Vec Ideal S256x16 .bf16) (g : Fin 16) : EReal := ∑ a : Fin 256, x a * w (ix2 a g)

/-- The first store of the queries, entry by entry. -/
theorem store_q_0 (a : FVec Ideal S256x2048 .f32) (b : Vec Ideal S3x2048 .f32) (d : FVec Ideal S1x2048 .f32) (e f : FVec Ideal S256x2048 .f32) (l : FVec Ideal S1x2048 .f32) (w5 : Vec Ideal S1x256x256 .bf16) (r j : Fin 256) :
    k0_pay16 (k0_pay12 a b d e f l w5) (ix3 0 r j) = proj (k0_pay8 a b d e f l) 0 (by decide) w5 r j := by
  unfold proj
  pointwise [k0_pay11, k0_pay12, k0_pay16]

/-- The first store of the keys, entry by entry. -/
theorem store_k_0 (a : FVec Ideal S256x2048 .f32) (b : Vec Ideal S3x2048 .f32) (d : FVec Ideal S1x2048 .f32) (e f : FVec Ideal S256x2048 .f32) (l : FVec Ideal S1x2048 .f32) (w6 : Vec Ideal S1x256x256 .bf16) (r j : Fin 256) :
    k0_pay17 (k0_pay11 a b d e f l w6) (ix3 0 r j) = proj (k0_pay8 a b d e f l) 0 (by decide) w6 r j * Prep.scale := by
  unfold proj Prep.scale
  pointwise [k0_pay11, k0_pay17]

/-- The first store of the values, entry by entry. -/
theorem store_v_0 (V : FVec Ideal S256x2048 .bf16) (w7 : Vec Ideal S1x256x256 .bf16) (r j : Fin 256) :
    k0_pay18 (k0_pay14 V w7) (ix3 0 r j) = proj V 0 (by decide) w7 r j := by
  unfold proj
  pointwise [k0_pay11, k0_pay14, k0_pay18]

/-- The gates with the first tile's shares, entry by entry. -/
theorem gates_0 (a : FVec Ideal S256x2048 .f32) (b : Vec Ideal S3x2048 .f32) (d : FVec Ideal S1x2048 .f32) (e f : FVec Ideal S256x2048 .f32) (l : FVec Ideal S1x2048 .f32) (V : FVec Ideal S256x2048 .bf16) (o : Vec Ideal S1x16 .f32) (w5 w6 w7 : Vec Ideal S1x256x256 .bf16) (w8 w9 w10 : Vec Ideal S256x16 .bf16) (r : Fin 256) (g : Fin 16) :
    k0_pay15 (k0_pay10 o) (k0_pay12 a b d e f l w5) (k0_pay13 a b d e f l w6) (k0_pay14 V w7) w8 w9 w10 (ix2 r g)
      = o (ix2 0 g) + share (proj (k0_pay8 a b d e f l) 0 (by decide) w5 r) w8 g + share (proj (k0_pay8 a b d e f l) 0 (by decide) w6 r) w9 g + share (proj V 0 (by decide) w7 r) w10 g := by
  unfold share proj
  pointwise [k0_pay10, k0_pay11, k0_pay12, k0_pay13, k0_pay14, k0_pay15]

/-- The second store of the queries, entry by entry. -/
theorem store_q_1 (X : FVec Ideal S256x2048 .bf16) (w5 : Vec Ideal S1x256x256 .bf16) (r j : Fin 256) :
    k0_pay26 (k0_pay19 X w5) (ix3 0 r j) = proj X 256 (by decide) w5 r j := by
  unfold proj
  pointwise [k0_pay19, k0_pay22, k0_pay23, k0_pay24, k0_pay26]

/-- The second store of the keys, entry by entry. -/
theorem store_k_1 (X : FVec Ideal S256x2048 .bf16) (w6 : Vec Ideal S1x256x256 .bf16) (r j : Fin 256) :
    k0_pay27 (k0_pay20 X) (k0_pay21 w6) (ix3 0 r j) = proj X 256 (by decide) w6 r j * Prep.scale := by
  unfold proj Prep.scale
  pointwise [k0_pay20, k0_pay21, k0_pay22, k0_pay23, k0_pay24, k0_pay27]

/-- The second store of the values, entry by entry. -/
theorem store_v_1 (V : FVec Ideal S256x2048 .bf16) (w7 : Vec Ideal S1x256x256 .bf16) (r j : Fin 256) :
    k0_pay28 V w7 (ix3 0 r j) = proj V 256 (by decide) w7 r j := by
  unfold proj
  pointwise [k0_pay22, k0_pay23, k0_pay24, k0_pay28]

/-- The gates with the second tile's shares, entry by entry. -/
theorem gates_1 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay25 V prev (k0_pay19 X w5) (k0_pay20 X) (k0_pay21 w6) w7 w8 w9 w10 (ix2 r g)
      = prev (ix2 r g) + share (proj X 256 (by decide) w5 r) w8 g + share (proj X 256 (by decide) w6 r) w9 g + share (proj V 256 (by decide) w7 r) w10 g := by
  unfold share proj
  pointwise [k0_pay19, k0_pay20, k0_pay21, k0_pay22, k0_pay23, k0_pay24, k0_pay25]

/-- The third store of the queries, entry by entry. -/
theorem store_q_2 (X : FVec Ideal S256x2048 .bf16) (w5 : Vec Ideal S1x256x256 .bf16) (r j : Fin 256) :
    k0_pay34 (k0_pay29 X) w5 (ix3 0 r j) = proj X 512 (by decide) w5 r j := by
  unfold proj
  pointwise [k0_pay29, k0_pay30, k0_pay31, k0_pay32, k0_pay34]

/-- The third store of the keys, entry by entry. -/
theorem store_k_2 (X : FVec Ideal S256x2048 .bf16) (w6 : Vec Ideal S1x256x256 .bf16) (r j : Fin 256) :
    k0_pay36 (k0_pay35 X w6) (ix3 0 r j) = proj X 512 (by decide) w6 r j * Prep.scale := by
  unfold proj Prep.scale
  pointwise [k0_pay30, k0_pay31, k0_pay32, k0_pay35, k0_pay36]

/-- The third store of the values, entry by entry. -/
theorem store_v_2 (V : FVec Ideal S256x2048 .bf16) (w7 : Vec Ideal S1x256x256 .bf16) (r j : Fin 256) :
    k0_pay37 (k0_pay32 V w7) (ix3 0 r j) = proj V 512 (by decide) w7 r j := by
  unfold proj
  pointwise [k0_pay30, k0_pay31, k0_pay32, k0_pay37]

/-- The gates with the third tile's shares, entry by entry. -/
theorem gates_2 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay33 V X prev (k0_pay29 X) w5 w6 w7 w8 w9 w10 (ix2 r g)
      = prev (ix2 r g) + share (proj X 512 (by decide) w5 r) w8 g + share (proj X 512 (by decide) w6 r) w9 g + share (proj V 512 (by decide) w7 r) w10 g := by
  unfold share proj
  pointwise [k0_pay29, k0_pay30, k0_pay31, k0_pay32, k0_pay33]

/-- The fourth store of the queries, entry by entry. -/
theorem store_q_3 (X : FVec Ideal S256x2048 .bf16) (w5 : Vec Ideal S1x256x256 .bf16) (r j : Fin 256) :
    k0_pay42 (k0_pay39 X w5) (ix3 0 r j) = proj X 768 (by decide) w5 r j := by
  unfold proj
  pointwise [k0_pay38, k0_pay39, k0_pay40, k0_pay42]

/-- The fourth store of the keys, entry by entry. -/
theorem store_k_3 (X : FVec Ideal S256x2048 .bf16) (w6 : Vec Ideal S1x256x256 .bf16) (r j : Fin 256) :
    k0_pay43 (k0_pay38 X w6) (ix3 0 r j) = proj X 768 (by decide) w6 r j * Prep.scale := by
  unfold proj Prep.scale
  pointwise [k0_pay38, k0_pay39, k0_pay40, k0_pay43]

/-- The fourth store of the values, entry by entry. -/
theorem store_v_3 (V : FVec Ideal S256x2048 .bf16) (w7 : Vec Ideal S1x256x256 .bf16) (r j : Fin 256) :
    k0_pay44 (k0_pay40 V w7) (ix3 0 r j) = proj V 768 (by decide) w7 r j := by
  unfold proj
  pointwise [k0_pay38, k0_pay39, k0_pay40, k0_pay44]

/-- The gates with the fourth tile's shares, entry by entry. -/
theorem gates_3 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay41 V X prev w5 w6 w7 w8 w9 w10 (ix2 r g)
      = prev (ix2 r g) + share (proj X 768 (by decide) w5 r) w8 g + share (proj X 768 (by decide) w6 r) w9 g + share (proj V 768 (by decide) w7 r) w10 g := by
  unfold share proj
  pointwise [k0_pay38, k0_pay39, k0_pay40, k0_pay41]

/-- The fifth store of the queries, entry by entry. -/
theorem store_q_4 (X : FVec Ideal S256x2048 .bf16) (w5 : Vec Ideal S1x256x256 .bf16) (r j : Fin 256) :
    k0_pay51 (k0_pay46 X w5) (ix3 0 r j) = proj X 1024 (by decide) w5 r j := by
  unfold proj
  pointwise [k0_pay45, k0_pay46, k0_pay51]

/-- The fifth store of the keys, entry by entry. -/
theorem store_k_4 (X : FVec Ideal S256x2048 .bf16) (w6 : Vec Ideal S1x256x256 .bf16) (r j : Fin 256) :
    k0_pay52 (k0_pay45 X w6) (ix3 0 r j) = proj X 1024 (by decide) w6 r j * Prep.scale := by
  unfold proj Prep.scale
  pointwise [k0_pay45, k0_pay46, k0_pay52]

/-- The fifth store of the values, entry by entry. -/
theorem store_v_4 (V : FVec Ideal S256x2048 .bf16) (w7 : Vec Ideal S1x256x256 .bf16) (r j : Fin 256) :
    k0_pay53 (k0_pay48 V w7) (ix3 0 r j) = proj V 1024 (by decide) w7 r j := by
  unfold proj
  pointwise [k0_pay45, k0_pay46, k0_pay48, k0_pay53]

/-- The gates with the fifth tile's shares, entry by entry. -/
theorem gates_4 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay50 (k0_pay47 X w6) (k0_pay48 V w7) (k0_pay49 X prev w5 w8) w9 w10 (ix2 r g)
      = prev (ix2 r g) + share (proj X 1024 (by decide) w5 r) w8 g + share (proj X 1024 (by decide) w6 r) w9 g + share (proj V 1024 (by decide) w7 r) w10 g := by
  unfold share proj
  pointwise [k0_pay45, k0_pay46, k0_pay47, k0_pay48, k0_pay49, k0_pay50]

/-- The sixth store of the queries, entry by entry. -/
theorem store_q_5 (X : FVec Ideal S256x2048 .bf16) (w5 : Vec Ideal S1x256x256 .bf16) (r j : Fin 256) :
    k0_pay61 (k0_pay54 X w5) (ix3 0 r j) = proj X 1280 (by decide) w5 r j := by
  unfold proj
  pointwise [k0_pay54, k0_pay58, k0_pay59, k0_pay61]

/-- The sixth store of the keys, entry by entry. -/
theorem store_k_5 (X : FVec Ideal S256x2048 .bf16) (w6 : Vec Ideal S1x256x256 .bf16) (r j : Fin 256) :
    k0_pay62 (k0_pay55 X w6) (ix3 0 r j) = proj X 1280 (by decide) w6 r j * Prep.scale := by
  unfold proj Prep.scale
  pointwise [k0_pay55, k0_pay58, k0_pay59, k0_pay62]

/-- The sixth store of the values, entry by entry. -/
theorem store_v_5 (V : FVec Ideal S256x2048 .bf16) (w7 : Vec Ideal S1x256x256 .bf16) (r j : Fin 256) :
    k0_pay63 (k0_pay56 V) (k0_pay57 w7) (ix3 0 r j) = proj V 1280 (by decide) w7 r j := by
  unfold proj
  pointwise [k0_pay56, k0_pay57, k0_pay58, k0_pay59, k0_pay63]

/-- The gates with the sixth tile's shares, entry by entry. -/
theorem gates_5 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay60 prev (k0_pay54 X w5) (k0_pay55 X w6) (k0_pay56 V) (k0_pay57 w7) w8 w9 w10 (ix2 r g)
      = prev (ix2 r g) + share (proj X 1280 (by decide) w5 r) w8 g + share (proj X 1280 (by decide) w6 r) w9 g + share (proj V 1280 (by decide) w7 r) w10 g := by
  unfold share proj
  pointwise [k0_pay54, k0_pay55, k0_pay56, k0_pay57, k0_pay58, k0_pay59, k0_pay60]

/-- The seventh store of the queries, entry by entry. -/
theorem store_q_6 (X : FVec Ideal S256x2048 .bf16) (w5 : Vec Ideal S1x256x256 .bf16) (r j : Fin 256) :
    k0_pay70 (k0_pay64 X w5) (ix3 0 r j) = proj X 1536 (by decide) w5 r j := by
  unfold proj
  pointwise [k0_pay64, k0_pay66, k0_pay67, k0_pay68, k0_pay70]

/-- The seventh store of the keys, entry by entry. -/
theorem store_k_6 (X : FVec Ideal S256x2048 .bf16) (w6 : Vec Ideal S1x256x256 .bf16) (r j : Fin 256) :
    k0_pay71 (k0_pay65 X) w6 (ix3 0 r j) = proj X 1536 (by decide) w6 r j * Prep.scale := by
  unfold proj Prep.scale
  pointwise [k0_pay65, k0_pay66, k0_pay67, k0_pay68, k0_pay71]

/-- The seventh store of the values, entry by entry. -/
theorem store_v_6 (V : FVec Ideal S256x2048 .bf16) (w7 : Vec Ideal S1x256x256 .bf16) (r j : Fin 256) :
    k0_pay72 (k0_pay68 V w7) (ix3 0 r j) = proj V 1536 (by decide) w7 r j := by
  unfold proj
  pointwise [k0_pay66, k0_pay67, k0_pay68, k0_pay72]

/-- The gates with the seventh tile's shares, entry by entry. -/
theorem gates_6 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay69 V prev (k0_pay64 X w5) (k0_pay65 X) w6 w7 w8 w9 w10 (ix2 r g)
      = prev (ix2 r g) + share (proj X 1536 (by decide) w5 r) w8 g + share (proj X 1536 (by decide) w6 r) w9 g + share (proj V 1536 (by decide) w7 r) w10 g := by
  unfold share proj
  pointwise [k0_pay64, k0_pay65, k0_pay66, k0_pay67, k0_pay68, k0_pay69]

/-- The eighth store of the queries, entry by entry. -/
theorem store_q_7 (X : FVec Ideal S256x2048 .bf16) (w5 : Vec Ideal S1x256x256 .bf16) (r j : Fin 256) :
    k0_pay77 X w5 (ix3 0 r j) = proj X 1792 (by decide) w5 r j := by
  unfold proj
  pointwise [k0_pay73, k0_pay74, k0_pay75, k0_pay77]

/-- The eighth store of the keys, entry by entry. -/
theorem store_k_7 (X : FVec Ideal S256x2048 .bf16) (w6 : Vec Ideal S1x256x256 .bf16) (r j : Fin 256) :
    k0_pay78 (k0_pay73 X w6) (Scalar.ofBits .f32 0x3D3504F3#32) (ix3 0 r j) = proj X 1792 (by decide) w6 r j * Prep.scale := by
  unfold proj Prep.scale
  pointwise [k0_pay73, k0_pay74, k0_pay75, k0_pay78]

/-- The eighth store of the values, entry by entry. -/
theorem store_v_7 (V : FVec Ideal S256x2048 .bf16) (w7 : Vec Ideal S1x256x256 .bf16) (r j : Fin 256) :
    k0_pay79 (k0_pay75 V w7) (ix3 0 r j) = proj V 1792 (by decide) w7 r j := by
  unfold proj
  pointwise [k0_pay73, k0_pay74, k0_pay75, k0_pay79]

/-- The gates with the eighth tile's shares, entry by entry. -/
theorem gates_7 (X V : FVec Ideal S256x2048 .bf16) (prev : FVec Ideal S256x16 .f32) (w5 w6 w7 : Vec Ideal S1x256x256 .bf16) (w8 w9 w10 : Vec Ideal S256x16 .bf16) (r : Fin 256) (g : Fin 16) :
    k0_pay76 V X prev w5 w6 w7 w8 w9 w10 (ix2 r g)
      = prev (ix2 r g) + share (proj X 1792 (by decide) w5 r) w8 g + share (proj X 1792 (by decide) w6 r) w9 g + share (proj V 1792 (by decide) w7 r) w10 g := by
  unfold share proj
  pointwise [k0_pay73, k0_pay74, k0_pay75, k0_pay76]

/-- The first tile of a projection's weights. -/
theorem tile_0 (x : Vec Ideal S8x256x256 .bf16) (a j : Fin 256) : View.ld x r0_6 (ix3 0 a j) = x (ix3 0 a j) := by
  pointwise [r0_6]

/-- The first part of the gates' weights. -/
theorem part_0 (x : Vec Ideal S2048x16 .bf16) (a : Fin 256) (g : Fin 16) : View.ld x r0_7 (ix2 a g) = x (ix2 ⟨0 + a.val, by omega⟩ g) := by
  pointwise [r0_7]

/-- The second tile of a projection's weights. -/
theorem tile_1 (x : Vec Ideal S8x256x256 .bf16) (a j : Fin 256) : View.ld x r0_9 (ix3 0 a j) = x (ix3 1 a j) := by
  pointwise [r0_9]

/-- The second part of the gates' weights. -/
theorem part_1 (x : Vec Ideal S2048x16 .bf16) (a : Fin 256) (g : Fin 16) : View.ld x r0_10 (ix2 a g) = x (ix2 ⟨256 + a.val, by omega⟩ g) := by
  pointwise [r0_10]

/-- The third tile of a projection's weights. -/
theorem tile_2 (x : Vec Ideal S8x256x256 .bf16) (a j : Fin 256) : View.ld x r0_12 (ix3 0 a j) = x (ix3 2 a j) := by
  pointwise [r0_12]

/-- The third part of the gates' weights. -/
theorem part_2 (x : Vec Ideal S2048x16 .bf16) (a : Fin 256) (g : Fin 16) : View.ld x r0_13 (ix2 a g) = x (ix2 ⟨512 + a.val, by omega⟩ g) := by
  pointwise [r0_13]

/-- The fourth tile of a projection's weights. -/
theorem tile_3 (x : Vec Ideal S8x256x256 .bf16) (a j : Fin 256) : View.ld x r0_15 (ix3 0 a j) = x (ix3 3 a j) := by
  pointwise [r0_15]

/-- The fourth part of the gates' weights. -/
theorem part_3 (x : Vec Ideal S2048x16 .bf16) (a : Fin 256) (g : Fin 16) : View.ld x r0_16 (ix2 a g) = x (ix2 ⟨768 + a.val, by omega⟩ g) := by
  pointwise [r0_16]

/-- The fifth tile of a projection's weights. -/
theorem tile_4 (x : Vec Ideal S8x256x256 .bf16) (a j : Fin 256) : View.ld x r0_18 (ix3 0 a j) = x (ix3 4 a j) := by
  pointwise [r0_18]

/-- The fifth part of the gates' weights. -/
theorem part_4 (x : Vec Ideal S2048x16 .bf16) (a : Fin 256) (g : Fin 16) : View.ld x r0_19 (ix2 a g) = x (ix2 ⟨1024 + a.val, by omega⟩ g) := by
  pointwise [r0_19]

/-- The sixth tile of a projection's weights. -/
theorem tile_5 (x : Vec Ideal S8x256x256 .bf16) (a j : Fin 256) : View.ld x r0_21 (ix3 0 a j) = x (ix3 5 a j) := by
  pointwise [r0_21]

/-- The sixth part of the gates' weights. -/
theorem part_5 (x : Vec Ideal S2048x16 .bf16) (a : Fin 256) (g : Fin 16) : View.ld x r0_22 (ix2 a g) = x (ix2 ⟨1280 + a.val, by omega⟩ g) := by
  pointwise [r0_22]

/-- The seventh tile of a projection's weights. -/
theorem tile_6 (x : Vec Ideal S8x256x256 .bf16) (a j : Fin 256) : View.ld x r0_24 (ix3 0 a j) = x (ix3 6 a j) := by
  pointwise [r0_24]

/-- The seventh part of the gates' weights. -/
theorem part_6 (x : Vec Ideal S2048x16 .bf16) (a : Fin 256) (g : Fin 16) : View.ld x r0_25 (ix2 a g) = x (ix2 ⟨1536 + a.val, by omega⟩ g) := by
  pointwise [r0_25]

/-- The eighth tile of a projection's weights. -/
theorem tile_7 (x : Vec Ideal S8x256x256 .bf16) (a j : Fin 256) : View.ld x r0_27 (ix3 0 a j) = x (ix3 7 a j) := by
  pointwise [r0_27]

/-- The eighth part of the gates' weights. -/
theorem part_7 (x : Vec Ideal S2048x16 .bf16) (a : Fin 256) (g : Fin 16) : View.ld x r0_28 (ix2 a g) = x (ix2 ⟨1792 + a.val, by omega⟩ g) := by
  pointwise [r0_28]

/-- One of two numbers by a bit that tells whether a gate is a forget gate. -/
theorem select_of (c : BitVec 1) (a b : EReal) (g : Fin 16) (h : c = if g.val / 4 % 2 = 1 then 1#1 else 0#1) :
    Scalar.select c a b = if g.val / 4 % 2 = 1 then a else b := by
  rw [h]
  split_ifs <;> rfl

/-- The store of the gates, entry by entry. -/
theorem gates_store (z : FVec Ideal S256x16 .f32) (r : Fin 256) (g : Fin 16) :
    k0_pay1 z (Scalar.select (Scalar.cmpi .eq 2#32 0#32) 1#32 2#32) k0_pay80 k0_pay81 0#32 (ix3 0 r g) = Prep.shown g (z (ix2 r g)) := by
  pointwise [k0_pay1, k0_pay80, k0_pay81]
  refine (select_of _ _ _ g ?_).trans ?_
  · revert g
    decide +kernel
  · unfold Prep.shown Prep.logsig
    rw [zero_sub]
    rfl

/-- Whether a block has a block before it, as the body tells it. -/
theorem first_eq : ∀ n : Fin 32, Scalar.cmpi CmpIPredicate.sgt (BitVec.ofNat 32 n.val) 0#32 = if n.val = 0 then 0#1 else 1#1 := by
  decide +kernel

/-- Whether a block has a block after it, as the body tells it. -/
theorem last_eq : ∀ n : Fin 32, Scalar.cmpi CmpIPredicate.slt (BitVec.ofNat 32 n.val) 31#32 = if n.val = 31 then 0#1 else 1#1 := by
  decide +kernel

/-- Whether a row is row `n`, as the body tells it. -/
def here (n : BitVec 32) (r : Fin 256) : BitVec 1 := IntOp.cmpi CmpIPredicate.eq (BitVec.ofNat 32 r.val) n

/-- The first row. -/
theorem here_0 : ∀ r : Fin 256, here 0#32 r = if r.val = 0 then 1#1 else 0#1 := by
  decide +kernel

/-- The last row. -/
theorem here_255 : ∀ r : Fin 256, here 255#32 r = if r.val = 255 then 1#1 else 0#1 := by
  decide +kernel

/-- The convolution as the body computes it, from a column of the block, the entries before and after it, the taps and the offset. -/
def body (n : ℕ) (x : Fin 256 → EReal) (u v : EReal) (w0 w1 w2 o : EReal) (r : Fin 256) : EReal :=
  w0 * Scalar.select (here 0#32 r) (Scalar.select (Scalar.cmpi CmpIPredicate.sgt (BitVec.ofNat 32 n) 0#32) u 0) (x ⟨(r.val + 256 - 1) % 256, by omega⟩)
    + w1 * x r
    + w2 * Scalar.select (here 255#32 r) (Scalar.select (Scalar.cmpi CmpIPredicate.slt (BitVec.ofNat 32 n) 31#32) v 0) (x ⟨(r.val + 256 - 255) % 256, by omega⟩)
    + o

/-- It is the convolution, where the block holds the arguments' entries. -/
theorem body_eq (A : Prep.Args) (b : Fin 4) (f : Fin 2048) (n : Fin 32) (x : Fin 256 → EReal) (u v w0 w1 w2 o : EReal) (r : Fin 256)
    (P : Fin 8192) (hP : P.val = n.val * 256 + r.val)
    (h0 : ∀ (s : Fin 256) (p : Fin 8192), p.val = n.val * 256 + s.val → x s = Prep.raw A b p f)
    (h1 : ∀ p : Fin 8192, p.val + 1 = n.val * 256 → u = Prep.raw A b p f)
    (h2 : ∀ p : Fin 8192, p.val = n.val * 256 + 256 → v = Prep.raw A b p f)
    (e0 : w0 = A.cw (ix2 0 f)) (e1 : w1 = A.cw (ix2 1 f)) (e2 : w2 = A.cw (ix2 2 f)) (eo : o = A.cb (ix1 f)) :
    body n.val x u v w0 w1 w2 o r = Prep.conv A b P f := by
  unfold body Prep.conv
  rw [first_eq, last_eq, here_0, here_255, h0 r P hP, e0, e1, e2, eo]
  have l : (Scalar.select (if r.val = 0 then 1#1 else 0#1) (Scalar.select (if n.val = 0 then 0#1 else 1#1) u 0) (x ⟨(r.val + 256 - 1) % 256, by omega⟩) : EReal)
      = Prep.earlier A b P f := by
    unfold Prep.earlier
    split_ifs with c1 c2 c3 c3 c3
    all_goals first
      | omega
      | rfl
      | exact h1 ⟨P.val - 1, by omega⟩ (by show P.val - 1 + 1 = _; omega)
      | exact h0 ⟨(r.val + 256 - 1) % 256, by omega⟩ ⟨P.val - 1, by omega⟩ (by show P.val - 1 = n.val * 256 + (r.val + 256 - 1) % 256; omega)
  have g : (Scalar.select (if r.val = 255 then 1#1 else 0#1) (Scalar.select (if n.val = 31 then 0#1 else 1#1) v 0) (x ⟨(r.val + 256 - 255) % 256, by omega⟩) : EReal)
      = Prep.later A b P f := by
    unfold Prep.later
    split_ifs with c1 c2 c3 c3 c3
    all_goals first
      | omega
      | rfl
      | exact h2 ⟨P.val + 1, by omega⟩ (by show P.val + 1 = _; omega)
      | exact h0 ⟨(r.val + 256 - 255) % 256, by omega⟩ ⟨P.val + 1, by omega⟩ (by show P.val + 1 = n.val * 256 + (r.val + 256 - 255) % 256; omega)
  rw [l, g]

/-- A number times its logistic, as the body writes it. -/
theorem silu_one (z : EReal) : Ideal.div z (1 + Ideal.exp (0 - z)) = MlstmOut.silu z := by
  rw [← MlstmOut.silu_eq]
  unfold Dense.one
  pointwise

/-- The convolved block, entry by entry. -/
theorem act_eq (i : grid0.Coords) (x0 : Vec Ideal S1x256x2048 .bf16) (x1 x2 : Vec Ideal S1x1x2048 .bf16) (x3 : Vec Ideal S3x2048 .f32) (x4 : Vec Ideal S1x2048 .f32) (r : Fin 256) (k : Fin 2048) :
    k0_pay8 (k0_pay3 x0) x3 (k0_pay4 x4) (k0_pay5 i x1 x0) (k0_pay6 i x2 x0) (k0_pay7 x3) (ix2 r k)
      = MlstmOut.silu (body (i 1).val (fun s => x0 (ix3 0 s k)) (x1 (ix3 0 0 k)) (x2 (ix3 0 0 k)) (x3 (ix2 0 k)) (x3 (ix2 1 k)) (x3 (ix2 2 k)) (x4 (ix2 0 k)) r) := by
  unfold body here
  pointwise [k0_pay8, k0_pay3, k0_pay4, k0_pay5, k0_pay6, k0_pay7, k0_pay2]
  exact silu_one _

/-- The stored convolved block is the convolved block. -/
theorem store_act (a : FVec Ideal S256x2048 .f32) (b : Vec Ideal S3x2048 .f32) (d : FVec Ideal S1x2048 .f32) (e f : FVec Ideal S256x2048 .f32) (l : FVec Ideal S1x2048 .f32) (r : Fin 256) (k : Fin 2048) :
    k0_pay9 a b d e f l (ix3 0 r k) = k0_pay8 a b d e f l (ix2 r k) := by
  pointwise [k0_pay9]

/-- The block itself, entry by entry. -/
theorem raw_eq (x0 : Vec Ideal S1x256x2048 .bf16) (r : Fin 256) (k : Fin 2048) : k0_pay2 x0 (ix2 r k) = x0 (ix3 0 r k) := by
  pointwise [k0_pay2]

/-- The last row of the block before. -/
theorem row15_eq (x : Vec Ideal S1x16x2048 .bf16) (k : Fin 2048) : View.ld x r0_0 (ix3 0 0 k) = x (ix3 0 15 k) := by
  pointwise [r0_0]

/-- The first row of the block after. -/
theorem row0_eq (x : Vec Ideal S1x16x2048 .bf16) (k : Fin 2048) : View.ld x r0_1 (ix3 0 0 k) = x (ix3 0 0 k) := by
  pointwise [r0_1]

end Cert.PrepKernelIdeal.Rows

end
-- ==== Proof.PrepOut.lean ====
/- The projections and gates of the mLSTM mixer: what the kernel stores of one block of positions. -/
module

public import proofs.«01_k».proof.Proof.PrepBlocks

@[expose] public section

set_option maxRecDepth 16384

noncomputable section

namespace Cert.PrepKernelIdeal.Rows

open Idealize.ShloMosaic Idealize.ShloMosaic.TcCoe Cert.PrepKernelIdeal Cert.PrepKernelIdeal.Gen Idealize.SL.Sem
open Cert

/-- A product with a tile is a part of the row's projection. -/
theorem proj_eq (X : FVec Ideal S256x2048 .bf16) (xa : Fin 2048 → EReal) (w : Vec Ideal ⟨3, ![512, 4, 4]⟩ .f32) (t : Fin 8) (o : ℕ) (ho : o + 256 ≤ 2048)
    (eo : o = t.val * 256) (w5 : Vec Ideal S1x256x256 .bf16) (r j : Fin 256) (f : Fin 2048) (rows : ∀ f : Fin 2048, X (ix2 r f) = xa f)
    (tiles : ∀ a j : Fin 256, w5 (ix3 0 a j) = Prep.tile w t a j) (hf : f.val = o + j.val) : proj X o ho w5 r j = Prep.heads xa w f := by
  subst eo
  unfold proj
  rw [← Prep.tile_sum xa w t j f hf]
  exact Finset.sum_congr rfl fun a _ => by rw [rows, tiles]

/-- The block of queries at a point. -/
theorem out12_eq (i : grid0.Coords) (x0 : Vec Ideal S1x256x2048 .bf16) (x1 x2 : Vec Ideal S1x16x2048 .bf16) (x3 : Vec Ideal S3x2048 .f32) (x4 : Vec Ideal S1x2048 .f32)
    (x5 x6 x7 : Vec Ideal S8x256x256 .bf16) (x8 x9 x10 : Vec Ideal S2048x16 .bf16) (x11 : Vec Ideal S1x16 .f32)
    (xa : Fin 2048 → EReal) (w : Vec Ideal ⟨3, ![512, 4, 4]⟩ .f32) (r : Fin 256) (f : Fin 2048)
    (rows : ∀ f : Fin 2048, k0_pay88 i x0 x1 x2 x3 x4 x5 x6 x7 x8 x9 x10 x11 (ix2 r f) = xa f)
    (tiles : ∀ (t : Fin 8) (a j : Fin 256), x5 (ix3 t a j) = Prep.tile w t a j) :
    out0_12 i x0 x1 x2 x3 x4 x5 x6 x7 x8 x9 x10 x11 (ix3 0 r f) = Prep.heads xa w f := by
  unfold out0_12
  canon_tiles u h
  case piece0 =>
    idx_vars u
    rw [show u0 = 0 from Fin.ext h0.symm, show u1 = r from Fin.ext h1.symm]
    exact (store_q_7 _ _ r u2).trans (proj_eq _ xa w 7 1792 (by decide) rfl _ r u2 f rows (fun a j => (tile_7 x5 a j).trans (tiles 7 a j)) (by omega))
  case piece1 =>
    idx_vars u
    rw [show u0 = 0 from Fin.ext h0.symm, show u1 = r from Fin.ext h1.symm]
    exact (store_q_6 _ _ r u2).trans (proj_eq _ xa w 6 1536 (by decide) rfl _ r u2 f rows (fun a j => (tile_6 x5 a j).trans (tiles 6 a j)) (by omega))
  case piece2 =>
    idx_vars u
    rw [show u0 = 0 from Fin.ext h0.symm, show u1 = r from Fin.ext h1.symm]
    exact (store_q_5 _ _ r u2).trans (proj_eq _ xa w 5 1280 (by decide) rfl _ r u2 f rows (fun a j => (tile_5 x5 a j).trans (tiles 5 a j)) (by omega))
  case piece3 =>
    idx_vars u
    rw [show u0 = 0 from Fin.ext h0.symm, show u1 = r from Fin.ext h1.symm]
    exact (store_q_4 _ _ r u2).trans (proj_eq _ xa w 4 1024 (by decide) rfl _ r u2 f rows (fun a j => (tile_4 x5 a j).trans (tiles 4 a j)) (by omega))
  case piece4 =>
    idx_vars u
    rw [show u0 = 0 from Fin.ext h0.symm, show u1 = r from Fin.ext h1.symm]
    exact (store_q_3 _ _ r u2).trans (proj_eq _ xa w 3 768 (by decide) rfl _ r u2 f rows (fun a j => (tile_3 x5 a j).trans (tiles 3 a j)) (by omega))
  case piece5 =>
    idx_vars u
    rw [show u0 = 0 from Fin.ext h0.symm, show u1 = r from Fin.ext h1.symm]
    exact (store_q_2 _ _ r u2).trans (proj_eq _ xa w 2 512 (by decide) rfl _ r u2 f rows (fun a j => (tile_2 x5 a j).trans (tiles 2 a j)) (by omega))
  case piece6 =>
    idx_vars u
    rw [show u0 = 0 from Fin.ext h0.symm, show u1 = r from Fin.ext h1.symm]
    exact (store_q_1 _ _ r u2).trans (proj_eq _ xa w 1 256 (by decide) rfl _ r u2 f rows (fun a j => (tile_1 x5 a j).trans (tiles 1 a j)) (by omega))
  case piece7 =>
    idx_vars u
    rw [show u0 = 0 from Fin.ext h0.symm, show u1 = r from Fin.ext h1.symm]
    exact (store_q_0 _ _ _ _ _ _ _ r u2).trans (proj_eq _ xa w 0 0 (by decide) rfl _ r u2 f rows (fun a j => (tile_0 x5 a j).trans (tiles 0 a j)) (by omega))

/-- The block of keys at a point. -/
theorem out13_eq (i : grid0.Coords) (x0 : Vec Ideal S1x256x2048 .bf16) (x1 x2 : Vec Ideal S1x16x2048 .bf16) (x3 : Vec Ideal S3x2048 .f32) (x4 : Vec Ideal S1x2048 .f32)
    (x5 x6 x7 : Vec Ideal S8x256x256 .bf16) (x8 x9 x10 : Vec Ideal S2048x16 .bf16) (x11 : Vec Ideal S1x16 .f32)
    (xa : Fin 2048 → EReal) (w : Vec Ideal ⟨3, ![512, 4, 4]⟩ .f32) (r : Fin 256) (f : Fin 2048)
    (rows : ∀ f : Fin 2048, k0_pay88 i x0 x1 x2 x3 x4 x5 x6 x7 x8 x9 x10 x11 (ix2 r f) = xa f)
    (tiles : ∀ (t : Fin 8) (a j : Fin 256), x6 (ix3 t a j) = Prep.tile w t a j) :
    out0_13 i x0 x1 x2 x3 x4 x5 x6 x7 x8 x9 x10 x11 (ix3 0 r f) = Prep.heads xa w f * Prep.scale := by
  unfold out0_13
  canon_tiles u h
  case piece0 =>
    idx_vars u
    rw [show u0 = 0 from Fin.ext h0.symm, show u1 = r from Fin.ext h1.symm]
    exact (store_k_7 _ _ r u2).trans (congrArg (· * Prep.scale) (proj_eq _ xa w 7 1792 (by decide) rfl _ r u2 f rows (fun a j => (tile_7 x6 a j).trans (tiles 7 a j)) (by omega)))
  case piece1 =>
    idx_vars u
    rw [show u0 = 0 from Fin.ext h0.symm, show u1 = r from Fin.ext h1.symm]
    exact (store_k_6 _ _ r u2).trans (congrArg (· * Prep.scale) (proj_eq _ xa w 6 1536 (by decide) rfl _ r u2 f rows (fun a j => (tile_6 x6 a j).trans (tiles 6 a j)) (by omega)))
  case piece2 =>
    idx_vars u
    rw [show u0 = 0 from Fin.ext h0.symm, show u1 = r from Fin.ext h1.symm]
    exact (store_k_5 _ _ r u2).trans (congrArg (· * Prep.scale) (proj_eq _ xa w 5 1280 (by decide) rfl _ r u2 f rows (fun a j => (tile_5 x6 a j).trans (tiles 5 a j)) (by omega)))
  case piece3 =>
    idx_vars u
    rw [show u0 = 0 from Fin.ext h0.symm, show u1 = r from Fin.ext h1.symm]
    exact (store_k_4 _ _ r u2).trans (congrArg (· * Prep.scale) (proj_eq _ xa w 4 1024 (by decide) rfl _ r u2 f rows (fun a j => (tile_4 x6 a j).trans (tiles 4 a j)) (by omega)))
  case piece4 =>
    idx_vars u
    rw [show u0 = 0 from Fin.ext h0.symm, show u1 = r from Fin.ext h1.symm]
    exact (store_k_3 _ _ r u2).trans (congrArg (· * Prep.scale) (proj_eq _ xa w 3 768 (by decide) rfl _ r u2 f rows (fun a j => (tile_3 x6 a j).trans (tiles 3 a j)) (by omega)))
  case piece5 =>
    idx_vars u
    rw [show u0 = 0 from Fin.ext h0.symm, show u1 = r from Fin.ext h1.symm]
    exact (store_k_2 _ _ r u2).trans (congrArg (· * Prep.scale) (proj_eq _ xa w 2 512 (by decide) rfl _ r u2 f rows (fun a j => (tile_2 x6 a j).trans (tiles 2 a j)) (by omega)))
  case piece6 =>
    idx_vars u
    rw [show u0 = 0 from Fin.ext h0.symm, show u1 = r from Fin.ext h1.symm]
    exact (store_k_1 _ _ r u2).trans (congrArg (· * Prep.scale) (proj_eq _ xa w 1 256 (by decide) rfl _ r u2 f rows (fun a j => (tile_1 x6 a j).trans (tiles 1 a j)) (by omega)))
  case piece7 =>
    idx_vars u
    rw [show u0 = 0 from Fin.ext h0.symm, show u1 = r from Fin.ext h1.symm]
    exact (store_k_0 _ _ _ _ _ _ _ r u2).trans (congrArg (· * Prep.scale) (proj_eq _ xa w 0 0 (by decide) rfl _ r u2 f rows (fun a j => (tile_0 x6 a j).trans (tiles 0 a j)) (by omega)))

/-- The block of values at a point. -/
theorem out14_eq (i : grid0.Coords) (x0 : Vec Ideal S1x256x2048 .bf16) (x1 x2 : Vec Ideal S1x16x2048 .bf16) (x3 : Vec Ideal S3x2048 .f32) (x4 : Vec Ideal S1x2048 .f32)
    (x5 x6 x7 : Vec Ideal S8x256x256 .bf16) (x8 x9 x10 : Vec Ideal S2048x16 .bf16) (x11 : Vec Ideal S1x16 .f32)
    (xa : Fin 2048 → EReal) (w : Vec Ideal ⟨3, ![512, 4, 4]⟩ .f32) (r : Fin 256) (f : Fin 2048)
    (rows : ∀ f : Fin 2048, k0_pay82 i x0 x1 x2 x3 x4 x5 x6 x7 x8 x9 x10 x11 (ix2 r f) = xa f)
    (tiles : ∀ (t : Fin 8) (a j : Fin 256), x7 (ix3 t a j) = Prep.tile w t a j) :
    out0_14 i x0 x1 x2 x3 x4 x5 x6 x7 x8 x9 x10 x11 (ix3 0 r f) = Prep.heads xa w f := by
  unfold out0_14
  canon_tiles u h
  case piece0 =>
    idx_vars u
    rw [show u0 = 0 from Fin.ext h0.symm, show u1 = r from Fin.ext h1.symm]
    exact (store_v_7 _ _ r u2).trans (proj_eq _ xa w 7 1792 (by decide) rfl _ r u2 f rows (fun a j => (tile_7 x7 a j).trans (tiles 7 a j)) (by omega))
  case piece1 =>
    idx_vars u
    rw [show u0 = 0 from Fin.ext h0.symm, show u1 = r from Fin.ext h1.symm]
    exact (store_v_6 _ _ r u2).trans (proj_eq _ xa w 6 1536 (by decide) rfl _ r u2 f rows (fun a j => (tile_6 x7 a j).trans (tiles 6 a j)) (by omega))
  case piece2 =>
    idx_vars u
    rw [show u0 = 0 from Fin.ext h0.symm, show u1 = r from Fin.ext h1.symm]
    exact (store_v_5 _ _ r u2).trans (proj_eq _ xa w 5 1280 (by decide) rfl _ r u2 f rows (fun a j => (tile_5 x7 a j).trans (tiles 5 a j)) (by omega))
  case piece3 =>
    idx_vars u
    rw [show u0 = 0 from Fin.ext h0.symm, show u1 = r from Fin.ext h1.symm]
    exact (store_v_4 _ _ r u2).trans (proj_eq _ xa w 4 1024 (by decide) rfl _ r u2 f rows (fun a j => (tile_4 x7 a j).trans (tiles 4 a j)) (by omega))
  case piece4 =>
    idx_vars u
    rw [show u0 = 0 from Fin.ext h0.symm, show u1 = r from Fin.ext h1.symm]
    exact (store_v_3 _ _ r u2).trans (proj_eq _ xa w 3 768 (by decide) rfl _ r u2 f rows (fun a j => (tile_3 x7 a j).trans (tiles 3 a j)) (by omega))
  case piece5 =>
    idx_vars u
    rw [show u0 = 0 from Fin.ext h0.symm, show u1 = r from Fin.ext h1.symm]
    exact (store_v_2 _ _ r u2).trans (proj_eq _ xa w 2 512 (by decide) rfl _ r u2 f rows (fun a j => (tile_2 x7 a j).trans (tiles 2 a j)) (by omega))
  case piece6 =>
    idx_vars u
    rw [show u0 = 0 from Fin.ext h0.symm, show u1 = r from Fin.ext h1.symm]
    exact (store_v_1 _ _ r u2).trans (proj_eq _ xa w 1 256 (by decide) rfl _ r u2 f rows (fun a j => (tile_1 x7 a j).trans (tiles 1 a j)) (by omega))
  case piece7 =>
    idx_vars u
    rw [show u0 = 0 from Fin.ext h0.symm, show u1 = r from Fin.ext h1.symm]
    exact (store_v_0 _ _ r u2).trans (proj_eq _ xa w 0 0 (by decide) rfl _ r u2 f rows (fun a j => (tile_0 x7 a j).trans (tiles 0 a j)) (by omega))

/-- The shares of 256 features in a gate. -/
theorem share_eq (X : FVec Ideal S256x2048 .bf16) (xa : Fin 2048 → EReal) (w : Vec Ideal ⟨3, ![512, 4, 4]⟩ .f32) (t : Fin 8) (o : ℕ) (ho : o + 256 ≤ 2048)
    (eo : o = t.val * 256) (w5 : Vec Ideal S1x256x256 .bf16) (w8 : Vec Ideal S256x16 .bf16) (x8 : Vec Ideal S2048x16 .bf16) (r : Fin 256) (g : Fin 16)
    (W : Fin 2048 → EReal) (rows : ∀ f : Fin 2048, X (ix2 r f) = xa f) (tiles : ∀ a j : Fin 256, w5 (ix3 0 a j) = Prep.tile w t a j)
    (loads : ∀ a : Fin 256, w8 (ix2 a g) = x8 (ix2 ⟨o + a.val, by omega⟩ g)) (parts : ∀ f : Fin 2048, x8 (ix2 f g) = W f) :
    share (proj X o ho w5 r) w8 g = ∑ a : Fin 256, Prep.heads xa w ⟨t.val * 256 + a.val, by omega⟩ * W ⟨t.val * 256 + a.val, by omega⟩ := by
  subst eo
  unfold share
  exact Finset.sum_congr rfl fun a _ => by
    rw [proj_eq X xa w t _ ho rfl w5 r a ⟨t.val * 256 + a.val, by omega⟩ rows tiles rfl, loads, parts]

/-- The block of gates at a point. -/
theorem out16_eq (i : grid0.Coords) (x0 : Vec Ideal S1x256x2048 .bf16) (x1 x2 : Vec Ideal S1x16x2048 .bf16) (x3 : Vec Ideal S3x2048 .f32) (x4 : Vec Ideal S1x2048 .f32)
    (x5 x6 x7 : Vec Ideal S8x256x256 .bf16) (x8 x9 x10 : Vec Ideal S2048x16 .bf16) (x11 : Vec Ideal S1x16 .f32)
    (xa xr : Fin 2048 → EReal) (wq wk wv : Vec Ideal ⟨3, ![512, 4, 4]⟩ .f32) (wg : Vec Ideal ⟨2, ![6144, 16]⟩ .f32) (bg : Vec Ideal ⟨1, ![16]⟩ .f32) (r : Fin 256) (g : Fin 16)
    (rows : ∀ f : Fin 2048, k0_pay88 i x0 x1 x2 x3 x4 x5 x6 x7 x8 x9 x10 x11 (ix2 r f) = xa f)
    (raws : ∀ f : Fin 2048, k0_pay82 i x0 x1 x2 x3 x4 x5 x6 x7 x8 x9 x10 x11 (ix2 r f) = xr f)
    (tilesq : ∀ (t : Fin 8) (a j : Fin 256), x5 (ix3 t a j) = Prep.tile wq t a j)
    (tilesk : ∀ (t : Fin 8) (a j : Fin 256), x6 (ix3 t a j) = Prep.tile wk t a j)
    (tilesv : ∀ (t : Fin 8) (a j : Fin 256), x7 (ix3 t a j) = Prep.tile wv t a j)
    (partsq : ∀ f : Fin 2048, x8 (ix2 f g) = wg (ix2 ⟨f.val, by omega⟩ g))
    (partsk : ∀ f : Fin 2048, x9 (ix2 f g) = wg (ix2 ⟨2048 + f.val, by omega⟩ g))
    (partsv : ∀ f : Fin 2048, x10 (ix2 f g) = wg (ix2 ⟨4096 + f.val, by omega⟩ g))
    (bias : View.ld x11 r0_5 (ix2 0 g) = bg (ix1 g)) :
    out0_16 i x0 x1 x2 x3 x4 x5 x6 x7 x8 x9 x10 x11 (ix3 0 r g) = Prep.shown g (Prep.gateOf wg bg (Prep.heads xa wq) (Prep.heads xa wk) (Prep.heads xr wv) g) := by
  unfold out0_16
  canon_tiles u h
  case piece0 =>
    idx_vars u
    rw [show u0 = 0 from Fin.ext h0.symm, show u1 = r from Fin.ext h1.symm, show u2 = g from Fin.ext h2.symm]
    refine (gates_store _ r g).trans (congrArg (Prep.shown g) ?_)
    unfold k0_pay89 k0_pay90 k0_pay91 k0_pay92 k0_pay93 k0_pay94 k0_pay95 k0_pay96 k0_pay97 k0_pay98 k0_pay99 k0_pay100 k0_pay101
    rw [gates_7, gates_6, gates_5, gates_4, gates_3, gates_2, gates_1, gates_0]
    refine Eq.trans ?_ ((Prep.turns (bg (ix1 g))
      (fun t => ∑ a : Fin 256, (fun f => Prep.heads xa wq f * wg (ix2 ⟨f.val, by omega⟩ g)) ⟨t.val * 256 + a.val, by omega⟩)
      (fun t => ∑ a : Fin 256, (fun f => Prep.heads xa wk f * wg (ix2 ⟨2048 + f.val, by omega⟩ g)) ⟨t.val * 256 + a.val, by omega⟩)
      (fun t => ∑ a : Fin 256, (fun f => Prep.heads xr wv f * wg (ix2 ⟨4096 + f.val, by omega⟩ g)) ⟨t.val * 256 + a.val, by omega⟩)).trans
      (congrArg₂ (· + ·) (congrArg₂ (· + ·) (congrArg₂ (· + ·) (Prep.tiles_sum (fun f => Prep.heads xa wq f * wg (ix2 ⟨f.val, by omega⟩ g)))
        (Prep.tiles_sum (fun f => Prep.heads xa wk f * wg (ix2 ⟨2048 + f.val, by omega⟩ g))))
        (Prep.tiles_sum (fun f => Prep.heads xr wv f * wg (ix2 ⟨4096 + f.val, by omega⟩ g)))) rfl))
    exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) bias
      (share_eq _ xa wq 0 0 (by decide) rfl _ _ x8 r g (fun f => wg (ix2 ⟨f.val, by omega⟩ g)) rows (fun a j => (tile_0 x5 a j).trans (tilesq 0 a j)) (fun a => part_0 x8 a g) partsq))
      (share_eq _ xa wk 0 0 (by decide) rfl _ _ x9 r g (fun f => wg (ix2 ⟨2048 + f.val, by omega⟩ g)) rows (fun a j => (tile_0 x6 a j).trans (tilesk 0 a j)) (fun a => part_0 x9 a g) partsk))
      (share_eq _ xr wv 0 0 (by decide) rfl _ _ x10 r g (fun f => wg (ix2 ⟨4096 + f.val, by omega⟩ g)) raws (fun a j => (tile_0 x7 a j).trans (tilesv 0 a j)) (fun a => part_0 x10 a g) partsv))
      (share_eq _ xa wq 1 256 (by decide) rfl _ _ x8 r g (fun f => wg (ix2 ⟨f.val, by omega⟩ g)) rows (fun a j => (tile_1 x5 a j).trans (tilesq 1 a j)) (fun a => part_1 x8 a g) partsq))
      (share_eq _ xa wk 1 256 (by decide) rfl _ _ x9 r g (fun f => wg (ix2 ⟨2048 + f.val, by omega⟩ g)) rows (fun a j => (tile_1 x6 a j).trans (tilesk 1 a j)) (fun a => part_1 x9 a g) partsk))
      (share_eq _ xr wv 1 256 (by decide) rfl _ _ x10 r g (fun f => wg (ix2 ⟨4096 + f.val, by omega⟩ g)) raws (fun a j => (tile_1 x7 a j).trans (tilesv 1 a j)) (fun a => part_1 x10 a g) partsv))
      (share_eq _ xa wq 2 512 (by decide) rfl _ _ x8 r g (fun f => wg (ix2 ⟨f.val, by omega⟩ g)) rows (fun a j => (tile_2 x5 a j).trans (tilesq 2 a j)) (fun a => part_2 x8 a g) partsq))
      (share_eq _ xa wk 2 512 (by decide) rfl _ _ x9 r g (fun f => wg (ix2 ⟨2048 + f.val, by omega⟩ g)) rows (fun a j => (tile_2 x6 a j).trans (tilesk 2 a j)) (fun a => part_2 x9 a g) partsk))
      (share_eq _ xr wv 2 512 (by decide) rfl _ _ x10 r g (fun f => wg (ix2 ⟨4096 + f.val, by omega⟩ g)) raws (fun a j => (tile_2 x7 a j).trans (tilesv 2 a j)) (fun a => part_2 x10 a g) partsv))
      (share_eq _ xa wq 3 768 (by decide) rfl _ _ x8 r g (fun f => wg (ix2 ⟨f.val, by omega⟩ g)) rows (fun a j => (tile_3 x5 a j).trans (tilesq 3 a j)) (fun a => part_3 x8 a g) partsq))
      (share_eq _ xa wk 3 768 (by decide) rfl _ _ x9 r g (fun f => wg (ix2 ⟨2048 + f.val, by omega⟩ g)) rows (fun a j => (tile_3 x6 a j).trans (tilesk 3 a j)) (fun a => part_3 x9 a g) partsk))
      (share_eq _ xr wv 3 768 (by decide) rfl _ _ x10 r g (fun f => wg (ix2 ⟨4096 + f.val, by omega⟩ g)) raws (fun a j => (tile_3 x7 a j).trans (tilesv 3 a j)) (fun a => part_3 x10 a g) partsv))
      (share_eq _ xa wq 4 1024 (by decide) rfl _ _ x8 r g (fun f => wg (ix2 ⟨f.val, by omega⟩ g)) rows (fun a j => (tile_4 x5 a j).trans (tilesq 4 a j)) (fun a => part_4 x8 a g) partsq))
      (share_eq _ xa wk 4 1024 (by decide) rfl _ _ x9 r g (fun f => wg (ix2 ⟨2048 + f.val, by omega⟩ g)) rows (fun a j => (tile_4 x6 a j).trans (tilesk 4 a j)) (fun a => part_4 x9 a g) partsk))
      (share_eq _ xr wv 4 1024 (by decide) rfl _ _ x10 r g (fun f => wg (ix2 ⟨4096 + f.val, by omega⟩ g)) raws (fun a j => (tile_4 x7 a j).trans (tilesv 4 a j)) (fun a => part_4 x10 a g) partsv))
      (share_eq _ xa wq 5 1280 (by decide) rfl _ _ x8 r g (fun f => wg (ix2 ⟨f.val, by omega⟩ g)) rows (fun a j => (tile_5 x5 a j).trans (tilesq 5 a j)) (fun a => part_5 x8 a g) partsq))
      (share_eq _ xa wk 5 1280 (by decide) rfl _ _ x9 r g (fun f => wg (ix2 ⟨2048 + f.val, by omega⟩ g)) rows (fun a j => (tile_5 x6 a j).trans (tilesk 5 a j)) (fun a => part_5 x9 a g) partsk))
      (share_eq _ xr wv 5 1280 (by decide) rfl _ _ x10 r g (fun f => wg (ix2 ⟨4096 + f.val, by omega⟩ g)) raws (fun a j => (tile_5 x7 a j).trans (tilesv 5 a j)) (fun a => part_5 x10 a g) partsv))
      (share_eq _ xa wq 6 1536 (by decide) rfl _ _ x8 r g (fun f => wg (ix2 ⟨f.val, by omega⟩ g)) rows (fun a j => (tile_6 x5 a j).trans (tilesq 6 a j)) (fun a => part_6 x8 a g) partsq))
      (share_eq _ xa wk 6 1536 (by decide) rfl _ _ x9 r g (fun f => wg (ix2 ⟨2048 + f.val, by omega⟩ g)) rows (fun a j => (tile_6 x6 a j).trans (tilesk 6 a j)) (fun a => part_6 x9 a g) partsk))
      (share_eq _ xr wv 6 1536 (by decide) rfl _ _ x10 r g (fun f => wg (ix2 ⟨4096 + f.val, by omega⟩ g)) raws (fun a j => (tile_6 x7 a j).trans (tilesv 6 a j)) (fun a => part_6 x10 a g) partsv))
      (share_eq _ xa wq 7 1792 (by decide) rfl _ _ x8 r g (fun f => wg (ix2 ⟨f.val, by omega⟩ g)) rows (fun a j => (tile_7 x5 a j).trans (tilesq 7 a j)) (fun a => part_7 x8 a g) partsq))
      (share_eq _ xa wk 7 1792 (by decide) rfl _ _ x9 r g (fun f => wg (ix2 ⟨2048 + f.val, by omega⟩ g)) rows (fun a j => (tile_7 x6 a j).trans (tilesk 7 a j)) (fun a => part_7 x9 a g) partsk))
      (share_eq _ xr wv 7 1792 (by decide) rfl _ _ x10 r g (fun f => wg (ix2 ⟨4096 + f.val, by omega⟩ g)) raws (fun a j => (tile_7 x7 a j).trans (tilesv 7 a j)) (fun a => part_7 x10 a g) partsv)

end Cert.PrepKernelIdeal.Rows

end
-- ==== Proof.PrepReference.lean ====
/- The projections and gates of the mLSTM mixer: what the reference computes. -/
module

public import proofs.«01_k».proof.Proof.Prep
public import proofs.«01_k».proof.Proof.ConvValue
public import proofs.«01_k».proof.Proof.Gen.PrepReferenceIdeal.Run

@[expose] public section

set_option maxRecDepth 16384

noncomputable section

namespace Cert.PrepReferenceIdeal.Rows

open Idealize.ShloMosaic Idealize.ShloMosaic.TcCoe Cert.PrepReferenceIdeal Cert.PrepReferenceIdeal.Gen Idealize.SL.Sem
open Cert

variable (m : (ℓ : Loc nD τ sig) → Buf (Elt Ideal) ℓ)

/-- The arguments of a launch. -/
def argsOf (c : Dev nD) : Prep.Args where
  xz := m ((c : Thread nD τ).loc main_arg0)
  cw := m ((c : Thread nD τ).loc main_arg1)
  cb := m ((c : Thread nD τ).loc main_arg2)
  wq := m ((c : Thread nD τ).loc main_arg3)
  wk := m ((c : Thread nD τ).loc main_arg4)
  wv := m ((c : Thread nD τ).loc main_arg5)
  wg := m ((c : Thread nD τ).loc main_arg6)
  bg := m ((c : Thread nD τ).loc main_arg7)

/-- The reference's rows of the first branch. -/
def rows (xz : FVec Ideal S4x8192x4096 .bf16) : FVec Ideal S4x8192x2048 .f32 :=
  extf .f32 (extractStridedSlice S4x8192x2048 ![0, 0, 0] xz Gen.slices_S4x8192x4096_S4x8192x2048_0_0_0) Gen.bitsLt_bf16_f32

/-- The reference's sequence with a row of zeros before it and after it. -/
def padded (x : FVec Ideal S4x8192x2048 .f32) : FVec Ideal S4x8194x2048 .f32 :=
  pad S4x8194x2048 ![0, 1, 0] ![0, 1, 0] ![0, 0, 0] x (sitofp .f32 (constantI S_ 32 0#32)) Gen.pads_S4x8192x2048_S4x8194x2048_000_110_000 Gen.h_S_

/-- The reference's convolution. -/
def conv (x : FVec Ideal S4x8192x2048 .f32) (w : FVec Ideal S3x2048 .f32) (b : FVec Ideal S2048 .f32) : FVec Ideal S4x8192x2048 .f32 :=
  addf (addf (addf
    (mulf (broadcastInDim S4x8192x2048 ![0, 1, 2] Gen.bcast_S1x1x2048_S4x8192x2048_0_1_2 (broadcastInDim S1x1x2048 ![2] Gen.bcast_S2048_S1x1x2048_2 (shapeCast _ (extractStridedSlice S1x2048 ![0, 0] w Gen.slices_S3x2048_S1x2048_0_0) Gen.shapeCasts_S1x2048_S2048))) (extractStridedSlice S4x8192x2048 ![0, 0, 0] (padded x) Gen.slices_S4x8194x2048_S4x8192x2048_0_0_0))
    (mulf (broadcastInDim S4x8192x2048 ![0, 1, 2] Gen.bcast_S1x1x2048_S4x8192x2048_0_1_2 (broadcastInDim S1x1x2048 ![2] Gen.bcast_S2048_S1x1x2048_2 (shapeCast _ (extractStridedSlice S1x2048 ![1, 0] w Gen.slices_S3x2048_S1x2048_1_0) Gen.shapeCasts_S1x2048_S2048))) (extractStridedSlice S4x8192x2048 ![0, 1, 0] (padded x) Gen.slices_S4x8194x2048_S4x8192x2048_0_1_0)))
    (mulf (broadcastInDim S4x8192x2048 ![0, 1, 2] Gen.bcast_S1x1x2048_S4x8192x2048_0_1_2 (broadcastInDim S1x1x2048 ![2] Gen.bcast_S2048_S1x1x2048_2 (shapeCast _ (extractStridedSlice S1x2048 ![2, 0] w Gen.slices_S3x2048_S1x2048_2_0) Gen.shapeCasts_S1x2048_S2048))) (extractStridedSlice S4x8192x2048 ![0, 2, 0] (padded x) Gen.slices_S4x8194x2048_S4x8192x2048_0_2_0)))
    (broadcastInDim S4x8192x2048 ![0, 1, 2] Gen.bcast_S1x1x2048_S4x8192x2048_0_1_2 (broadcastInDim S1x1x2048 ![2] Gen.bcast_S2048_S1x1x2048_2 b))

/-- The reference's product of a number with its logistic. -/
def silu (x : FVec Ideal S4x8192x2048 .f32) : FVec Ideal S4x8192x2048 .f32 :=
  mulf x (Host.divf (broadcastInDim S4x8192x2048 ![] Gen.bcast_S_S4x8192x2048 (constant S_ .f32 0x3F800000#32))
    (addf (broadcastInDim S4x8192x2048 ![] Gen.bcast_S_S4x8192x2048 (constant S_ .f32 0x3F800000#32)) (Host.exp (Host.negf x))))

/-- The reference's projection by blocks. -/
def heads (w : FVec Ideal S512x4x4 .f32) (x : FVec Ideal S4x8192x2048 .f32) : FVec Ideal S4x8192x2048 .f32 :=
  shapeCast _ (transpose S4x8192x512x4 [2, 3, 0, 1] (Host.dotGeneral dot_S512x4x4_S4x8192x512x4_S512x4x4x8192_1_3_2_01_0_2 none w
    (shapeCast _ x Gen.shapeCasts_S4x8192x2048_S4x8192x512x4)) Gen.transposes_S512x4x4x8192_S4x8192x512x4_2_3_0_1) Gen.shapeCasts_S4x8192x512x4_S4x8192x2048

/-- The reference's gates. -/
def gates (q k v : FVec Ideal S4x8192x2048 .f32) (wg : FVec Ideal S6144x16 .f32) (bg : FVec Ideal S16 .f32) : FVec Ideal S4x8192x16 .f32 :=
  addf (addf (addf
    (Host.dotGeneral dot_S4x8192x2048_S2048x16_S4x8192x16_2_0_01_1_n_n none q (extractStridedSlice S2048x16 ![0, 0] wg Gen.slices_S6144x16_S2048x16_0_0))
    (Host.dotGeneral dot_S4x8192x2048_S2048x16_S4x8192x16_2_0_01_1_n_n none k (extractStridedSlice S2048x16 ![2048, 0] wg Gen.slices_S6144x16_S2048x16_2048_0)))
    (Host.dotGeneral dot_S4x8192x2048_S2048x16_S4x8192x16_2_0_01_1_n_n none v (extractStridedSlice S2048x16 ![4096, 0] wg Gen.slices_S6144x16_S2048x16_4096_0)))
    (broadcastInDim S4x8192x16 ![0, 1, 2] Gen.bcast_S1x1x16_S4x8192x16_0_1_2 (broadcastInDim S1x1x16 ![2] Gen.bcast_S16_S1x1x16_2 bg))

/-- The reference's gates by direction, kind and head. -/
def parted (g : FVec Ideal S4x8192x16 .f32) : FVec Ideal S4x8192x2x2x4 .f32 := shapeCast _ g Gen.shapeCasts_S4x8192x16_S4x8192x2x2x4

/-- The reference's input gates. -/
def inputs (g : FVec Ideal S4x8192x2x2x4 .f32) : FVec Ideal S4x8192x2x1x4 .f32 :=
  extractStridedSlice S4x8192x2x1x4 ![0, 0, 0, 0, 0] g Gen.slices_S4x8192x2x2x4_S4x8192x2x1x4_0_0_0_0_0

/-- The reference's forget gates. -/
def forgets (g : FVec Ideal S4x8192x2x2x4 .f32) : FVec Ideal S4x8192x2x1x4 .f32 :=
  extractStridedSlice S4x8192x2x1x4 ![0, 0, 0, 1, 0] g Gen.slices_S4x8192x2x2x4_S4x8192x2x1x4_0_0_0_1_0

/-- The reference's logarithms of the logistic. -/
def logs (x : FVec Ideal S4x8192x2x1x4 .f32) : FVec Ideal S4x8192x2x1x4 .f32 :=
  subf (minimumf x (broadcastInDim S4x8192x2x1x4 ![] Gen.bcast_S_S4x8192x2x1x4 (constant S_ .f32 0x00000000#32)))
    (Host.log (addf (broadcastInDim S4x8192x2x1x4 ![] Gen.bcast_S_S4x8192x2x1x4 (constant S_ .f32 0x3F800000#32)) (Host.exp (Host.negf (Host.absf x)))))

/-- The reference's array of gates, its two kinds put together. -/
def joined (a b : FVec Ideal S4x8192x2x1x4 .f32) : FVec Ideal S4x8192x16 .f32 :=
  shapeCast _ (concatenate S4x8192x2x2x4 3 [⟨S4x8192x2x1x4, a⟩, ⟨S4x8192x2x1x4, b⟩] Gen.concatenates_S4x8192x2x1x4_S4x8192x2x1x4_S4x8192x2x2x4_d3) Gen.shapeCasts_S4x8192x2x2x4_S4x8192x16

/-- The rows, entry by entry. -/
theorem rows_eq (A : Prep.Args) (b : Fin 4) (p : Fin 8192) (f : Fin 2048) : rows A.xz (ix3 b p f) = Prep.raw A b p f := by
  unfold Prep.raw
  pointwise [rows]

/-- The padded sequence, entry by entry. -/
theorem padded_eq (x : FVec Ideal S4x8192x2048 .f32) (b : Fin 4) (q : Fin 8194) (f : Fin 2048) :
    padded x (ix3 b q f) = if h : 1 ≤ q.val ∧ q.val - 1 < 8192 then x (ix3 b ⟨q.val - 1, h.2⟩ f) else 0 := by
  have z : (FloatOps.sitofp .f32 0#32 : Ideal .f32) = 0 := ConvReferenceIdeal.Rows.sitofp_0
  rw [← z]
  pointwise [padded]

/-- The three products, entry by entry. -/
theorem taps_eq (x : FVec Ideal S4x8192x2048 .f32) (w : FVec Ideal S3x2048 .f32) (o : FVec Ideal S2048 .f32) (b : Fin 4) (p : Fin 8192) (f : Fin 2048) :
    conv x w o (ix3 b p f)
      = w (ix2 0 f) * padded x (ix3 b ⟨p.val, by omega⟩ f) + w (ix2 1 f) * padded x (ix3 b ⟨1 + p.val, by omega⟩ f)
        + w (ix2 2 f) * padded x (ix3 b ⟨2 + p.val, by omega⟩ f) + o (ix1 f) := by
  pointwise [conv]

/-- The reference's convolution is the convolution. -/
theorem conv_eq (A : Prep.Args) (b : Fin 4) (p : Fin 8192) (f : Fin 2048) :
    conv (rows A.xz) A.cw A.cb (ix3 b p f) = Prep.conv A b p f := by
  rw [taps_eq, padded_eq, padded_eq, padded_eq]
  unfold Prep.conv Prep.earlier Prep.later
  have e0 : (if h : 1 ≤ p.val ∧ p.val - 1 < 8192 then rows A.xz (ix3 b ⟨p.val - 1, h.2⟩ f) else 0)
      = if h : 1 ≤ p.val then Prep.raw A b ⟨p.val - 1, by omega⟩ f else 0 := by
    by_cases h : 1 ≤ p.val
    · rw [dif_pos ⟨h, by omega⟩, dif_pos h, rows_eq]
    · rw [dif_neg (fun c => h c.1), dif_neg h]
  have e1 : (if h : 1 ≤ 1 + p.val ∧ 1 + p.val - 1 < 8192 then rows A.xz (ix3 b ⟨1 + p.val - 1, h.2⟩ f) else 0) = Prep.raw A b p f := by
    rw [dif_pos ⟨by omega, by omega⟩, rows_eq]
    exact congrArg (fun q => Prep.raw A b q f) (Fin.ext (by show 1 + p.val - 1 = p.val; omega))
  have e2 : (if h : 1 ≤ 2 + p.val ∧ 2 + p.val - 1 < 8192 then rows A.xz (ix3 b ⟨2 + p.val - 1, h.2⟩ f) else 0)
      = if h : p.val + 1 < 8192 then Prep.raw A b ⟨p.val + 1, h⟩ f else 0 := by
    by_cases h : p.val + 1 < 8192
    · rw [dif_pos ⟨by omega, by omega⟩, dif_pos h, rows_eq]
      exact congrArg (fun q => Prep.raw A b q f) (Fin.ext (by show 2 + p.val - 1 = p.val + 1; omega))
    · rw [dif_neg (fun c => h (by omega)), dif_neg h]
  dsimp only
  rw [e0, e1, e2]

/-- The product with the logistic, entry by entry. -/
theorem silu_eq (x : FVec Ideal S4x8192x2048 .f32) (b : Fin 4) (p : Fin 8192) (f : Fin 2048) :
    silu x (ix3 b p f) = MlstmOut.silu (x (ix3 b p f)) := by
  unfold MlstmOut.silu Dense.one
  pointwise [silu]

/-- The projection by blocks, entry by entry. -/
theorem heads_eq (w : FVec Ideal S512x4x4 .f32) (x : FVec Ideal S4x8192x2048 .f32) (b : Fin 4) (p : Fin 8192) (f : Fin 2048) (xa : Fin 2048 → EReal)
    (entries : ∀ f : Fin 2048, x (ix3 b p f) = xa f) : heads w x (ix3 b p f) = Prep.heads xa w f := by
  have e : heads w x (ix3 b p f) = ∑ c : Fin 4, w (ix3 ⟨f.val / 4, by omega⟩ c ⟨f.val % 4, by omega⟩) * x (ix3 b p ⟨f.val / 4 * 4 + c.val, by omega⟩) := by
    pointwise [heads]
  rw [e]
  unfold Prep.heads
  exact Finset.sum_congr rfl fun c _ => by rw [entries, mul_comm]

/-- The gates, entry by entry. -/
theorem gates_eq (q k v : FVec Ideal S4x8192x2048 .f32) (wg : FVec Ideal S6144x16 .f32) (bg : FVec Ideal S16 .f32) (b : Fin 4) (p : Fin 8192) (g : Fin 16)
    (qa ka va : Fin 2048 → EReal) (eq : ∀ f : Fin 2048, q (ix3 b p f) = qa f) (ek : ∀ f : Fin 2048, k (ix3 b p f) = ka f) (ev : ∀ f : Fin 2048, v (ix3 b p f) = va f) :
    gates q k v wg bg (ix3 b p g) = Prep.gateOf wg bg qa ka va g := by
  have e : gates q k v wg bg (ix3 b p g) = ∑ f : Fin 2048, q (ix3 b p f) * wg (ix2 ⟨f.val, by omega⟩ g) + ∑ f : Fin 2048, k (ix3 b p f) * wg (ix2 ⟨2048 + f.val, by omega⟩ g)
      + ∑ f : Fin 2048, v (ix3 b p f) * wg (ix2 ⟨4096 + f.val, by omega⟩ g) + bg (ix1 g) := by
    pointwise [gates]
  rw [e]
  unfold Prep.gateOf
  exact congrArg (· + bg (ix1 g)) (congrArg₂ (· + ·) (congrArg₂ (· + ·) (Finset.sum_congr rfl fun f _ => by rw [eq]) (Finset.sum_congr rfl fun f _ => by rw [ek]))
    (Finset.sum_congr rfl fun f _ => by rw [ev]))

/-- The logarithm of the logistic, entry by entry. -/
theorem logs_eq (x : FVec Ideal S4x8192x2x1x4 .f32) (b : Fin 4) (p : Fin 8192) (d : Fin 2) (z : Fin 1) (h : Fin 4) :
    logs x (ix5 b p d z h) = Prep.logsig (x (ix5 b p d z h)) := by
  have e : z = 0 := Subsingleton.elim _ _
  subst e
  unfold Prep.logsig
  pointwise [logs]
  rfl

/-- The input gates, entry by entry. -/
theorem inputs_eq (G : FVec Ideal S4x8192x16 .f32) (b : Fin 4) (p : Fin 8192) (d : Fin 2) (z : Fin 1) (h : Fin 4) (g : Fin 16) (at_g : g.val = d.val * 8 + h.val) :
    inputs (parted G) (ix5 b p d z h) = G (ix3 b p g) := by
  have e : z = 0 := Subsingleton.elim _ _
  have eg : g = ⟨d.val * 8 + h.val, by omega⟩ := Fin.ext at_g
  subst e
  rw [eg]
  pointwise [inputs, parted]

/-- The forget gates, entry by entry. -/
theorem forgets_eq (G : FVec Ideal S4x8192x16 .f32) (b : Fin 4) (p : Fin 8192) (d : Fin 2) (z : Fin 1) (h : Fin 4) (g : Fin 16) (at_g : g.val = d.val * 8 + 4 + h.val) :
    forgets (parted G) (ix5 b p d z h) = G (ix3 b p g) := by
  have e : z = 0 := Subsingleton.elim _ _
  have eg : g = ⟨d.val * 8 + 4 + h.val, by omega⟩ := Fin.ext at_g
  subst e
  rw [eg]
  pointwise [forgets, parted]

/-- The direction of a gate. -/
def dirOf (g : Fin 16) : Fin 2 := ⟨g.val / 8, by omega⟩

/-- The head of a gate. -/
def headOf (g : Fin 16) : Fin 4 := ⟨g.val % 4, by omega⟩

/-- The two kinds put together, entry by entry. -/
theorem kinds_eq (u w : FVec Ideal S4x8192x2x1x4 .f32) (b : Fin 4) (p : Fin 8192) (g : Fin 16) :
    joined u w (ix3 b p g) = if g.val / 4 % 2 = 1 then w (ix5 b p (dirOf g) 0 (headOf g)) else u (ix5 b p (dirOf g) 0 (headOf g)) := by
  unfold dirOf headOf
  pointwise [joined]
  by_cases c1 : g.val / 4 % 2 < 1
  · have c : ¬ g.val / 4 % 2 = 1 := by omega
    rw [dif_pos c1, if_neg c]
    exact congrArg (fun z : Fin 1 => u (ix5 b p _ z _)) (Subsingleton.elim _ _)
  · have c : g.val / 4 % 2 = 1 := by omega
    rw [dif_neg c1, if_pos c]
    exact congrArg (fun z : Fin 1 => w (ix5 b p _ z _)) (Subsingleton.elim _ _)

/-- The array of gates, entry by entry. -/
theorem joined_eq (G : FVec Ideal S4x8192x16 .f32) (b : Fin 4) (p : Fin 8192) (g : Fin 16) :
    joined (inputs (parted G)) (logs (forgets (parted G))) (ix3 b p g) = Prep.shown g (G (ix3 b p g)) := by
  rw [kinds_eq]
  unfold Prep.shown
  split_ifs with c
  · rw [logs_eq, forgets_eq G b p (dirOf g) 0 (headOf g) g (by unfold dirOf headOf; dsimp only; omega)]
  · rw [inputs_eq G b p (dirOf g) 0 (headOf g) g (by unfold dirOf headOf; dsimp only; omega)]

/-- The convolved rows of the reference. -/
def acted (A : Prep.Args) : FVec Ideal S4x8192x2048 .f32 := silu (conv (rows A.xz) A.cw A.cb)

/-- They are the convolved rows. -/
theorem acted_eq (A : Prep.Args) (b : Fin 4) (p : Fin 8192) (f : Fin 2048) : acted A (ix3 b p f) = Prep.act A b p f := by
  unfold acted Prep.act
  rw [silu_eq, conv_eq]

/-- The reference's scaled keys. -/
def scaled (k : FVec Ideal S4x8192x2048 .f32) : FVec Ideal S4x8192x2048 .f32 :=
  mulf k (broadcastInDim S4x8192x2048 ![] Gen.bcast_S_S4x8192x2048 (constant S_ .f32 0x3D3504F3#32))

/-- The scaled keys, entry by entry. -/
theorem scaled_eq (k : FVec Ideal S4x8192x2048 .f32) (b : Fin 4) (p : Fin 8192) (f : Fin 2048) : scaled k (ix3 b p f) = k (ix3 b p f) * Prep.scale := by
  unfold Prep.scale
  pointwise [scaled]

/-- The reference's narrower array. -/
def narrow (x : FVec Ideal S4x8192x2048 .f32) : FVec Ideal S4x8192x2048 .bf16 := truncf .bf16 x Gen.bitsLt_bf16_f32

/-- It has the same entries. -/
theorem narrow_eq (x : FVec Ideal S4x8192x2048 .f32) (b : Fin 4) (p : Fin 8192) (f : Fin 2048) : narrow x (ix3 b p f) = x (ix3 b p f) := by
  pointwise [narrow]

/-- The reference's run: its result arrays are the arrays of results, and its arguments stay. -/
theorem run (ρ : Dev nD → PrngReg) : θ_run defs (onTc (τ := τ) (main (F := Ideal))) ⟨m, fun _ => 0, ρ⟩ fun r => ∀ c : Dev nD,
      r.2.mem ((c : Thread nD τ).loc main_v64) = Prep.res0 (argsOf m c)
      ∧ r.2.mem ((c : Thread nD τ).loc main_v67) = Prep.res1 (argsOf m c)
      ∧ r.2.mem ((c : Thread nD τ).loc main_v68) = Prep.res2 (argsOf m c)
      ∧ r.2.mem ((c : Thread nD τ).loc main_v69) = Prep.res3 (argsOf m c)
      ∧ r.2.mem ((c : Thread nD τ).loc main_v63) = Prep.res4 (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (by
      funext y
      idx_vars y
      unfold Value.res_main_v64
      show narrow (heads (argsOf m c).wq (acted (argsOf m c))) (ix3 y0 y1 y2) = Prep.q (argsOf m c) y0 y1 y2
      rw [narrow_eq]
      exact heads_eq _ _ y0 y1 y2 _ (acted_eq (argsOf m c) y0 y1)), (h c).2.1.trans (by
      funext y
      idx_vars y
      unfold Value.res_main_v67
      show narrow (scaled (heads (argsOf m c).wk (acted (argsOf m c)))) (ix3 y0 y1 y2) = Prep.k (argsOf m c) y0 y1 y2 * Prep.scale
      rw [narrow_eq, scaled_eq]
      exact congrArg (· * Prep.scale) (heads_eq _ _ y0 y1 y2 _ (acted_eq (argsOf m c) y0 y1))), (h c).2.2.1.trans (by
      funext y
      idx_vars y
      show narrow (heads (argsOf m c).wv (rows (argsOf m c).xz)) (ix3 y0 y1 y2) = Prep.v (argsOf m c) y0 y1 y2
      rw [narrow_eq]
      exact heads_eq _ _ y0 y1 y2 _ (rows_eq (argsOf m c) y0 y1)), (h c).2.2.2.1.trans (by
      funext y
      idx_vars y
      unfold Value.res_main_v69
      show narrow (acted (argsOf m c)) (ix3 y0 y1 y2) = Prep.act (argsOf m c) y0 y1 y2
      rw [narrow_eq, acted_eq]), (h c).2.2.2.2.1.trans (by
      funext y
      idx_vars y
      unfold Value.res_main_v63
      show joined (inputs (parted (gates (heads (argsOf m c).wq (acted (argsOf m c))) (heads (argsOf m c).wk (acted (argsOf m c))) (heads (argsOf m c).wv (rows (argsOf m c).xz)) (argsOf m c).wg (argsOf m c).bg)))
        (logs (forgets (parted (gates (heads (argsOf m c).wq (acted (argsOf m c))) (heads (argsOf m c).wk (acted (argsOf m c))) (heads (argsOf m c).wv (rows (argsOf m c).xz)) (argsOf m c).wg (argsOf m c).bg)))) (ix3 y0 y1 y2)
        = Prep.shown y2 (Prep.gate (argsOf m c) y0 y1 y2)
      rw [joined_eq]
      exact congrArg (Prep.shown y2) (gates_eq _ _ _ _ _ y0 y1 y2 (Prep.q (argsOf m c) y0 y1) (Prep.k (argsOf m c) y0 y1) (Prep.v (argsOf m c) y0 y1)
        (fun f => heads_eq _ _ y0 y1 f _ (acted_eq (argsOf m c) y0 y1)) (fun f => heads_eq _ _ y0 y1 f _ (acted_eq (argsOf m c) y0 y1))
        (fun f => heads_eq _ _ y0 y1 f _ (rows_eq (argsOf m c) y0 y1)))), (h c).2.2.2.2.2⟩) (Value.run m ρ)

end Cert.PrepReferenceIdeal.Rows

end
-- ==== Proof.PrepValue.lean ====
/- The projections and gates of the mLSTM mixer. -/
module

public import proofs.«01_k».proof.Proof.PrepOut
public import proofs.«01_k».proof.Proof.PrepReference

@[expose] public section

set_option maxRecDepth 16384

noncomputable section

namespace Cert.PrepKernelIdeal.Rows

open Idealize.ShloMosaic Idealize.ShloMosaic.TcCoe Cert.PrepKernelIdeal Cert.PrepKernelIdeal.Gen Idealize.SL.Sem
open Idealize.ShloMosaic.Pipeline (Dat Cfg Window)
open Cert

variable (m : (ℓ : Loc nD τ sig) → Buf (Elt Ideal) ℓ)

/-- The grid has 128 points. -/
theorem lt128 (t : Fin cfg0.N) : t.val < 128 := lt_of_lt_of_eq t.isLt (show cfg0.N = 128 from N_0)

/-- The windows' block index at a point, and the point's second coordinate. -/
theorem idx : ∀ t : Fin cfg0.N,
    win0_0.index t = ![t.val / 32, t.val % 32, 0] ∧
    win0_1.index t = ![t.val / 32, t.val % 32 * 16 - 1, 0] ∧
    win0_2.index t = ![t.val / 32, min (t.val % 32 * 16 + 16) 511, 0] ∧
    win0_3.index t = ![0, 0] ∧
    win0_4.index t = ![0, 0] ∧
    win0_5.index t = ![0, 0, 0] ∧
    win0_6.index t = ![0, 0, 0] ∧
    win0_7.index t = ![0, 0, 0] ∧
    win0_8.index t = ![0, 0] ∧
    win0_9.index t = ![0, 0] ∧
    win0_10.index t = ![0, 0] ∧
    win0_11.index t = ![0, 0] ∧
    win0_12.index t = ![t.val / 32, t.val % 32, 0] ∧
    win0_13.index t = ![t.val / 32, t.val % 32, 0] ∧
    win0_14.index t = ![t.val / 32, t.val % 32, 0] ∧
    win0_15.index t = ![t.val / 32, t.val % 32, 0] ∧
    win0_16.index t = ![t.val / 32, t.val % 32, 0] ∧
    (grid0.coords t 1).val = t.val % 32 :=
  (by decide +kernel : ∀ t : Fin grid0.N, _)

/-- The sequence of a point. -/
def seqOf (t : Fin cfg0.N) : Fin 4 := ⟨t.val / 32, by have := lt128 t; omega⟩

/-- The block of positions of a point. -/
def partOf (t : Fin cfg0.N) : Fin 32 := ⟨t.val % 32, by omega⟩

/-- The position of row `r` of a point's block. -/
def posOf (t : Fin cfg0.N) (r : Fin 256) : Fin 8192 := ⟨t.val % 32 * 256 + r.val, by omega⟩

/-- The arguments of a launch. -/
def argsOf (c : Dev nD) : Prep.Args where
  xz := m ((c : Thread nD τ).loc main_arg0)
  cw := m ((c : Thread nD τ).loc main_arg1)
  cb := m ((c : Thread nD τ).loc main_arg2)
  wq := m ((c : Thread nD τ).loc main_arg3)
  wk := m ((c : Thread nD τ).loc main_arg4)
  wv := m ((c : Thread nD τ).loc main_arg5)
  wg := m ((c : Thread nD τ).loc main_arg6)
  bg := m ((c : Thread nD τ).loc main_arg7)

/-- A point's rows. -/
theorem iblk0_eq (c : Dev nD) (t : Fin cfg0.N) (k : Fin 2048) (s : Fin 256) (p : Fin 8192) (h : p.val = (partOf t).val * 256 + s.val) :
    iblk m c 0 t (ix3 0 s k) = Prep.raw (argsOf m c) (seqOf t) p k := by
  have := lt128 t
  have hp : p = posOf t s := Fin.ext h
  rw [hp]
  unfold Prep.raw argsOf seqOf posOf
  blk_ext [iblk, V_main_arg0, idx t]

/-- The row before a point's rows. -/
theorem iblk1_eq (c : Dev nD) (t : Fin cfg0.N) (k : Fin 2048) (p : Fin 8192) (h : p.val + 1 = (partOf t).val * 256) :
    iblk m c 1 t (ix3 0 15 k) = Prep.raw (argsOf m c) (seqOf t) p k := by
  have := lt128 t
  have hp : p = ⟨(t.val % 32 * 16 - 1) * 16 + 15, by omega⟩ := Fin.ext (by unfold partOf at h; show p.val = (t.val % 32 * 16 - 1) * 16 + 15; dsimp only at h; omega)
  rw [hp]
  unfold Prep.raw argsOf seqOf
  blk_ext [iblk, V_main_arg0, idx t]

/-- The row after a point's rows. -/
theorem iblk2_eq (c : Dev nD) (t : Fin cfg0.N) (k : Fin 2048) (p : Fin 8192) (h : p.val = (partOf t).val * 256 + 256) :
    iblk m c 2 t (ix3 0 0 k) = Prep.raw (argsOf m c) (seqOf t) p k := by
  have := lt128 t
  have hp : p = ⟨min (t.val % 32 * 16 + 16) 511 * 16, by omega⟩ := Fin.ext (by unfold partOf at h; show p.val = min (t.val % 32 * 16 + 16) 511 * 16; dsimp only at h; omega)
  rw [hp]
  unfold Prep.raw argsOf seqOf
  blk_ext [iblk, V_main_arg0, idx t]

/-- A point's taps. -/
theorem iblk3_eq (c : Dev nD) (t : Fin cfg0.N) (k : Fin 2048) (j : Fin 3) : iblk m c 3 t (ix2 j k) = (argsOf m c).cw (ix2 j k) := by
  have := lt128 t
  unfold argsOf
  blk_ext [iblk, V_main_arg1, idx t]

/-- A point's offsets. -/
theorem iblk4_eq (c : Dev nD) (t : Fin cfg0.N) (k : Fin 2048) : iblk m c 4 t (ix2 0 k) = (argsOf m c).cb (ix1 k) := by
  have := lt128 t
  have e : iblk m c 4 t (ix2 0 k) = (V m c main_v1 : Vec Ideal S1x2048 .f32) (ix2 0 k) := by
    blk_ext [iblk, idx t]
  rw [e]
  unfold V argsOf
  simp only [hostOps0, List.flatten_cons, List.flatten_nil, List.append_nil, List.cons_append, List.nil_append]
  after_results
  pointwise

/-- The word that compares two numbers below 64. -/
theorem eye_word : ∀ n k : Fin 64, IntOp.cmpi CmpIPredicate.eq (IntOp.addi (BitVec.ofNat 32 n.val) 0#32) (BitVec.ofNat 32 k.val) = if n.val = k.val then 1#1 else 0#1 := by
  decide +kernel

/-- That word as a number: one where the two agree, zero elsewhere. -/
theorem eye_eq (n k : ℕ) (hn : n < 64) (hk : k < 64) :
    (FloatOps.uitofp .f32 (IntOp.cmpi CmpIPredicate.eq (IntOp.addi (BitVec.ofNat 32 n) 0#32) (BitVec.ofNat 32 k)) : Ideal .f32) = if n = k then 1 else 0 := by
  rw [eye_word ⟨n, hn⟩ ⟨k, hk⟩]
  split_ifs
  · show ((((1#1 : BitVec 1).toNat : ℝ)) : EReal) = 1
    norm_num
  · show ((((0#1 : BitVec 1).toNat : ℝ)) : EReal) = 0
    norm_num

/-- A point's tiles of the weights of the queries. -/
theorem iblk5_eq (c : Dev nD) (t : Fin cfg0.N) (s : Fin 8) (a j : Fin 256) : iblk m c 5 t (ix3 s a j) = Prep.tile (argsOf m c).wq s a j := by
  have := lt128 t
  have e : iblk m c 5 t (ix3 s a j) = (V m c main_v16 : Vec Ideal S8x256x256 .bf16) (ix3 s a j) := by
    blk_ext [iblk, idx t]
  rw [e]
  unfold Prep.tile
  rw [← eye_eq (a.val / 4) (j.val / 4) (by omega) (by omega)]
  unfold V argsOf
  simp only [hostOps0, List.flatten_cons, List.flatten_nil, List.append_nil, List.cons_append, List.nil_append]
  after_results
  pointwise

/-- A point's tiles of the weights of the keys. -/
theorem iblk6_eq (c : Dev nD) (t : Fin cfg0.N) (s : Fin 8) (a j : Fin 256) : iblk m c 6 t (ix3 s a j) = Prep.tile (argsOf m c).wk s a j := by
  have := lt128 t
  have e : iblk m c 6 t (ix3 s a j) = (V m c main_v31 : Vec Ideal S8x256x256 .bf16) (ix3 s a j) := by
    blk_ext [iblk, idx t]
  rw [e]
  unfold Prep.tile
  rw [← eye_eq (a.val / 4) (j.val / 4) (by omega) (by omega)]
  unfold V argsOf
  simp only [hostOps0, List.flatten_cons, List.flatten_nil, List.append_nil, List.cons_append, List.nil_append]
  after_results
  pointwise

/-- A point's tiles of the weights of the values. -/
theorem iblk7_eq (c : Dev nD) (t : Fin cfg0.N) (s : Fin 8) (a j : Fin 256) : iblk m c 7 t (ix3 s a j) = Prep.tile (argsOf m c).wv s a j := by
  have := lt128 t
  have e : iblk m c 7 t (ix3 s a j) = (V m c main_v46 : Vec Ideal S8x256x256 .bf16) (ix3 s a j) := by
    blk_ext [iblk, idx t]
  rw [e]
  unfold Prep.tile
  rw [← eye_eq (a.val / 4) (j.val / 4) (by omega) (by omega)]
  unfold V argsOf
  simp only [hostOps0, List.flatten_cons, List.flatten_nil, List.append_nil, List.cons_append, List.nil_append]
  after_results
  pointwise

/-- A point's weights of the gates on the queries. -/
theorem iblk8_eq (c : Dev nD) (t : Fin cfg0.N) (g : Fin 16) (f : Fin 2048) : iblk m c 8 t (ix2 f g) = (argsOf m c).wg (ix2 ⟨f.val, by omega⟩ g) := by
  have := lt128 t
  have e : iblk m c 8 t (ix2 f g) = (V m c main_v47 : Vec Ideal S2048x16 .bf16) (ix2 f g) := by
    blk_ext [iblk, idx t]
  rw [e]
  unfold V argsOf
  simp only [hostOps0, List.flatten_cons, List.flatten_nil, List.append_nil, List.cons_append, List.nil_append]
  after_results
  pointwise

/-- A point's weights of the gates on the keys. -/
theorem iblk9_eq (c : Dev nD) (t : Fin cfg0.N) (g : Fin 16) (f : Fin 2048) : iblk m c 9 t (ix2 f g) = (argsOf m c).wg (ix2 ⟨2048 + f.val, by omega⟩ g) := by
  have := lt128 t
  have e : iblk m c 9 t (ix2 f g) = (V m c main_v48 : Vec Ideal S2048x16 .bf16) (ix2 f g) := by
    blk_ext [iblk, idx t]
  rw [e]
  unfold V argsOf
  simp only [hostOps0, List.flatten_cons, List.flatten_nil, List.append_nil, List.cons_append, List.nil_append]
  after_results
  pointwise

/-- A point's weights of the gates on the values. -/
theorem iblk10_eq (c : Dev nD) (t : Fin cfg0.N) (g : Fin 16) (f : Fin 2048) : iblk m c 10 t (ix2 f g) = (argsOf m c).wg (ix2 ⟨4096 + f.val, by omega⟩ g) := by
  have := lt128 t
  have e : iblk m c 10 t (ix2 f g) = (V m c main_v49 : Vec Ideal S2048x16 .bf16) (ix2 f g) := by
    blk_ext [iblk, idx t]
  rw [e]
  unfold V argsOf
  simp only [hostOps0, List.flatten_cons, List.flatten_nil, List.append_nil, List.cons_append, List.nil_append]
  after_results
  pointwise

/-- A point's offsets of the gates. -/
theorem iblk11_eq (c : Dev nD) (t : Fin cfg0.N) (g : Fin 16) : iblk m c 11 t (ix2 0 g) = (argsOf m c).bg (ix1 g) := by
  have := lt128 t
  have e : iblk m c 11 t (ix2 0 g) = (V m c main_v50 : Vec Ideal S1x16 .f32) (ix2 0 g) := by
    blk_ext [iblk, idx t]
  rw [e]
  unfold V argsOf
  simp only [hostOps0, List.flatten_cons, List.flatten_nil, List.append_nil, List.cons_append, List.nil_append]
  after_results
  pointwise

/-- The whole block of rows, as it is loaded. -/
theorem all_rows (x : Vec Ideal S1x256x2048 .bf16) (r : Fin 256) (k : Fin 2048) : View.ld x r0_2 (ix3 0 r k) = x (ix3 0 r k) := by
  pointwise [r0_2]

/-- The taps, as they are loaded. -/
theorem all_taps (x : Vec Ideal S3x2048 .f32) (j : Fin 3) (k : Fin 2048) : View.ld x r0_3 (ix2 j k) = x (ix2 j k) := by
  pointwise [r0_3]

/-- The offsets, as they are loaded. -/
theorem all_offsets (x : Vec Ideal S1x2048 .f32) (k : Fin 2048) : View.ld x r0_4 (ix2 0 k) = x (ix2 0 k) := by
  pointwise [r0_4]

/-- The offsets of the gates, as they are loaded. -/
theorem all_gates (x : Vec Ideal S1x16 .f32) (g : Fin 16) : View.ld x r0_5 (ix2 0 g) = x (ix2 0 g) := by
  pointwise [r0_5]

/-- A point's coordinate along the positions. -/
theorem coord_eq (t : Fin cfg0.N) : (cfg0.grid.coords t 1).val = (partOf t).val := (idx t).2.2.2.2.2.2.2.2.2.2.2.2.2.2.2.2.2

/-- The convolved block at a point. -/
theorem acts (c : Dev nD) (t : Fin cfg0.N) (r : Fin 256) (f : Fin 2048) :
    k0_pay88 (cfg0.grid.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r f) = Prep.act (argsOf m c) (seqOf t) (posOf t r) f := by
  unfold k0_pay88 k0_pay83 k0_pay84 k0_pay85 k0_pay86 k0_pay87
  rw [act_eq, coord_eq]
  unfold Prep.act
  exact congrArg MlstmOut.silu (body_eq (argsOf m c) (seqOf t) f (partOf t) _ _ _ _ _ _ _ r (posOf t r) rfl
    (fun s p h => (all_rows _ s f).trans (iblk0_eq m c t f s p h)) (fun p h => (row15_eq _ f).trans (iblk1_eq m c t f p h)) (fun p h => (row0_eq _ f).trans (iblk2_eq m c t f p h))
    ((all_taps _ 0 f).trans (iblk3_eq m c t f 0)) ((all_taps _ 1 f).trans (iblk3_eq m c t f 1)) ((all_taps _ 2 f).trans (iblk3_eq m c t f 2))
    ((all_offsets _ f).trans (iblk4_eq m c t f)))

/-- The block itself at a point. -/
theorem raws (c : Dev nD) (t : Fin cfg0.N) (r : Fin 256) (f : Fin 2048) :
    k0_pay82 (cfg0.grid.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r f) = Prep.raw (argsOf m c) (seqOf t) (posOf t r) f := by
  unfold k0_pay82
  rw [raw_eq]
  exact (all_rows _ r f).trans (iblk0_eq m c t f r (posOf t r) rfl)

/-- The stored convolved block is the convolved block. -/
theorem out15_eq (i : grid0.Coords) (x0 : Vec Ideal S1x256x2048 .bf16) (x1 x2 : Vec Ideal S1x16x2048 .bf16) (x3 : Vec Ideal S3x2048 .f32) (x4 : Vec Ideal S1x2048 .f32)
    (x5 x6 x7 : Vec Ideal S8x256x256 .bf16) (x8 x9 x10 : Vec Ideal S2048x16 .bf16) (x11 : Vec Ideal S1x16 .f32) (r : Fin 256) (f : Fin 2048) :
    out0_15 i x0 x1 x2 x3 x4 x5 x6 x7 x8 x9 x10 x11 (ix3 0 r f) = k0_pay88 i x0 x1 x2 x3 x4 x5 x6 x7 x8 x9 x10 x11 (ix2 r f) := by
  unfold out0_15
  canon_tiles u h
  case piece0 =>
    idx_vars u
    rw [show u0 = 0 from Fin.ext h0.symm, show u1 = r from Fin.ext h1.symm, show u2 = f from Fin.ext h2.symm]
    exact store_act _ _ _ _ _ _ r f

/-- The array of queries after the run. -/
theorem final0 (c : Dev nD) : (dats m 0 c).arrAt 12 cfg0.N = Prep.res0 (argsOf m c) :=
  (dats m 0 c).arrAt_eq_of_covers 12 _ (by decide +kernel) fun t hf y => by
    have := lt128 t
    idx_vars y
    have e : (win0_12.blk t).view.emb (ix3 y0 y1 y2) = ix3 (seqOf t) (posOf t y1) y2 := by
      unfold seqOf posOf
      blk_ext [idx t]
    blk_simp
    rw [after0_12, e]
    have z : y0 = 0 := Fin.ext (by omega)
    rw [z]
    exact out12_eq _ _ _ _ _ _ _ _ _ _ _ _ _ _ _ y1 y2 (acts m c t y1) (iblk5_eq m c t)

/-- The array of keys after the run. -/
theorem final1 (c : Dev nD) : (dats m 0 c).arrAt 13 cfg0.N = Prep.res1 (argsOf m c) :=
  (dats m 0 c).arrAt_eq_of_covers 13 _ (by decide +kernel) fun t hf y => by
    have := lt128 t
    idx_vars y
    have e : (win0_13.blk t).view.emb (ix3 y0 y1 y2) = ix3 (seqOf t) (posOf t y1) y2 := by
      unfold seqOf posOf
      blk_ext [idx t]
    blk_simp
    rw [after0_13, e]
    have z : y0 = 0 := Fin.ext (by omega)
    rw [z]
    exact out13_eq _ _ _ _ _ _ _ _ _ _ _ _ _ _ _ y1 y2 (acts m c t y1) (iblk6_eq m c t)

/-- The array of values after the run. -/
theorem final2 (c : Dev nD) : (dats m 0 c).arrAt 14 cfg0.N = Prep.res2 (argsOf m c) :=
  (dats m 0 c).arrAt_eq_of_covers 14 _ (by decide +kernel) fun t hf y => by
    have := lt128 t
    idx_vars y
    have e : (win0_14.blk t).view.emb (ix3 y0 y1 y2) = ix3 (seqOf t) (posOf t y1) y2 := by
      unfold seqOf posOf
      blk_ext [idx t]
    blk_simp
    rw [after0_14, e]
    have z : y0 = 0 := Fin.ext (by omega)
    rw [z]
    exact out14_eq _ _ _ _ _ _ _ _ _ _ _ _ _ _ _ y1 y2 (raws m c t y1) (iblk7_eq m c t)

/-- The array of convolved rows after the run. -/
theorem final3 (c : Dev nD) : (dats m 0 c).arrAt 15 cfg0.N = Prep.res3 (argsOf m c) :=
  (dats m 0 c).arrAt_eq_of_covers 15 _ (by decide +kernel) fun t hf y => by
    have := lt128 t
    idx_vars y
    have e : (win0_15.blk t).view.emb (ix3 y0 y1 y2) = ix3 (seqOf t) (posOf t y1) y2 := by
      unfold seqOf posOf
      blk_ext [idx t]
    blk_simp
    rw [after0_15, e]
    have z : y0 = 0 := Fin.ext (by omega)
    rw [z]
    exact (out15_eq _ _ _ _ _ _ _ _ _ _ _ _ _ y1 y2).trans (acts m c t y1 y2)

/-- The array of gates after the run. -/
theorem final4 (c : Dev nD) : (dats m 0 c).arrAt 16 cfg0.N = Prep.res4 (argsOf m c) :=
  (dats m 0 c).arrAt_eq_of_covers 16 _ (by decide +kernel) fun t hf y => by
    have := lt128 t
    idx_vars y
    have e : (win0_16.blk t).view.emb (ix3 y0 y1 y2) = ix3 (seqOf t) (posOf t y1) y2 := by
      unfold seqOf posOf
      blk_ext [idx t]
    blk_simp
    rw [after0_16, e]
    have z : y0 = 0 := Fin.ext (by omega)
    rw [z]
    exact out16_eq _ _ _ _ _ _ _ _ _ _ _ _ _ _ _ _ _ _ _ _ y1 y2 (acts m c t y1) (raws m c t y1) (iblk5_eq m c t) (iblk6_eq m c t) (iblk7_eq m c t)
      (iblk8_eq m c t y2) (iblk9_eq m c t y2) (iblk10_eq m c t y2) ((all_gates _ y2).trans (iblk11_eq m c t y2))

end Cert.PrepKernelIdeal.Rows

end
-- ==== Proof.AdalnValue.lean ====
/- The modulation's product: the rows of conditions through their logistic, padded to eight rows, times the weights, with
   the offsets. -/
module

public import proofs.«01_k».proof.Proof.Dense
public import proofs.«01_k».proof.Proof.ConvValue
public import proofs.«01_k».proof.Proof.MlstmOutValue
public import proofs.«01_k».proof.Proof.Gen.AdalnKernel.Frame
public import proofs.«01_k».proof.Proof.Gen.AdalnKernelIdeal.Value
public import proofs.«01_k».proof.Proof.Gen.AdalnReferenceIdeal.Run
public import Idealize.ShloMosaic.Lib.Pipeline.ValueKit

@[expose] public section

set_option maxRecDepth 16384

noncomputable section

namespace Cert.Adaln

open Idealize.ShloMosaic

/-- The arguments: rows of conditions, weights, offsets. -/
structure Args where
  conds : Vec Ideal ⟨2, ![5, 1024]⟩ .f32
  w : Vec Ideal ⟨2, ![1024, 6144]⟩ .f32
  b : Vec Ideal ⟨1, ![6144]⟩ .f32

/-- A row before the product: the conditions times their logistic in the first five rows, zeros in the last three. -/
def row (A : Args) (r : Fin 8) (k : Fin 1024) : EReal :=
  if h : r.val < 5 then MlstmOut.silu (A.conds (ix2 ⟨r.val, h⟩ k)) else 0

/-- The result at a row and a column. -/
def out (A : Args) (r : Fin 8) (j : Fin 6144) : EReal := ∑ k : Fin 1024, row A r k * A.w (ix2 k j) + A.b (ix1 j)

/-- The array of results. -/
def res (A : Args) : Vec Ideal ⟨2, ![8, 6144]⟩ .f32 := fun i => out A (i 0) (i 1)

end Cert.Adaln

namespace Cert.AdalnKernelIdeal.Rows

open Idealize.ShloMosaic Idealize.ShloMosaic.TcCoe Cert.AdalnKernelIdeal Cert.AdalnKernelIdeal.Gen Idealize.SL.Sem
open Idealize.ShloMosaic.Pipeline (Dat Cfg Window)
open Cert

variable (m : (ℓ : Loc nD τ sig) → Buf (Elt Ideal) ℓ)

/-- The grid has 6 points. -/
theorem lt6 (t : Fin cfg0.N) : t.val < 6 := lt_of_lt_of_eq t.isLt (show cfg0.N = 6 from N_0)

/-- The windows' block index at a point. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- Column `j` of a point's block. -/
def colOf (t : Fin cfg0.N) (j : Fin 1024) : Fin 6144 := ⟨t.val * 1024 + j.val, by have := lt6 t; omega⟩

/-- The arguments of a launch. -/
def argsOf (c : Dev nD) : Adaln.Args where
  conds := m ((c : Thread nD τ).loc main_arg0)
  w := m ((c : Thread nD τ).loc main_arg1)
  b := m ((c : Thread nD τ).loc main_arg2)

/-- The padded rows, as the host makes them. -/
def padded (x : FVec Ideal S5x1024 .f32) : FVec Ideal S8x1024 .f32 :=
  pad S8x1024 ![0, 0] ![3, 0] ![0, 0]
    (Host.divf x (addf (broadcastInDim S5x1024 ![] Gen.bcast_S_S5x1024 (constant S_ .f32 0x3F800000#32)) (Host.exp (Host.negf x))))
    (sitofp .f32 (constantI S_ 32 0#32)) Gen.pads_S5x1024_S8x1024_030_000 Gen.h_S_

/-- The padded rows, entry by entry. -/
theorem padded_eq (A : Adaln.Args) (r : Fin 8) (k : Fin 1024) : padded A.conds (ix2 r k) = Adaln.row A r k := by
  have z : (FloatOps.sitofp .f32 0#32 : Ideal .f32) = 0 := ConvReferenceIdeal.Rows.sitofp_0
  have p : padded A.conds (ix2 r k) = if h : r.val < 5 then
      Ideal.div (A.conds (ix2 ⟨r.val, h⟩ k)) (1 + Ideal.exp (-A.conds (ix2 ⟨r.val, h⟩ k))) else (FloatOps.sitofp .f32 0#32 : Ideal .f32) := by
    pointwise [padded]
  have s (y : EReal) : Ideal.div y (1 + Ideal.exp (-y)) = MlstmOut.silu y := by
    rw [← MlstmOut.silu_eq, zero_sub, show Dense.one = 1 from Ideal.ofBits_one_f32]
  rw [p, z]
  unfold Adaln.row
  simp only [s]

/-- The rows at every point. -/
theorem iblk0_eq (c : Dev nD) (t : Fin cfg0.N) (r : Fin 8) (k : Fin 1024) :
    iblk m c 0 t (ix2 r k) = Adaln.row (argsOf m c) r k := by
  have e : iblk m c 0 t (ix2 r k) = (V m c main_v5 : Vec Ideal S8x1024 .f32) (ix2 r k) := by blk_ext [iblk, idx t]
  have v : (V m c main_v5 : Vec Ideal S8x1024 .f32) = padded (argsOf m c).conds := by
    unfold V argsOf
    simp only [hostOps0, hostOps0_1, hostOps0_2, List.flatten_cons, List.flatten_nil, List.append_nil, List.cons_append, List.nil_append]
    after_results
    rfl
  rw [e, v, padded_eq]

/-- A point's columns of the weights, as the host rounds them. -/
theorem iblk1_eq (c : Dev nD) (t : Fin cfg0.N) (k : Fin 1024) (j : Fin 1024) :
    iblk m c 1 t (ix2 k j) = (argsOf m c).w (ix2 k (colOf t j)) := by
  have := lt6 t
  have e : iblk m c 1 t (ix2 k j) = (V m c main_v6 : Vec Ideal S1024x6144 .bf16) (ix2 k (colOf t j)) := by
    unfold colOf
    blk_ext [iblk, idx t]
  rw [e]
  unfold V argsOf
  simp only [hostOps0, hostOps0_1, hostOps0_2, List.flatten_cons, List.flatten_nil, List.append_nil, List.cons_append, List.nil_append]
  after_results
  pointwise

/-- A point's columns of the offsets. -/
theorem iblk2_eq (c : Dev nD) (t : Fin cfg0.N) (j : Fin 1024) : iblk m c 2 t (ix2 0 j) = (argsOf m c).b (ix1 (colOf t j)) := by
  have := lt6 t
  have e : iblk m c 2 t (ix2 0 j) = (V m c main_v7 : Vec Ideal S1x6144 .f32) (ix2 0 (colOf t j)) := by
    unfold colOf
    blk_ext [iblk, idx t]
  rw [e]
  unfold V argsOf
  simp only [hostOps0, hostOps0_1, hostOps0_2, List.flatten_cons, List.flatten_nil, List.append_nil, List.cons_append, List.nil_append]
  after_results
  pointwise

/-- What the body stores, entry by entry. -/
theorem pay_eq (x0 : Vec Ideal S8x1024 .f32) (x1 : Vec Ideal S1024x1024 .bf16) (x2 : Vec Ideal S1x1024 .f32) (r : Fin 8) (j : Fin 1024) :
    out0_3 x0 x1 x2 (ix2 r j) = ∑ k : Fin 1024, x0 (ix2 r k) * x1 (ix2 k j) + x2 (ix2 0 j) := by
  frame_out
  pointwise [k0_pay1]

/-- The array of results after the run. -/
theorem final (c : Dev nD) : (dats m 0 c).arrAt 3 cfg0.N = Adaln.res (argsOf m c) :=
  (dats m 0 c).arrAt_eq_of_covers 3 _ (by decide +kernel) fun t hf y => by
    have := lt6 t
    idx_vars y
    have e : (win0_3.blk t).view.emb (ix2 y0 y1) = ix2 y0 (colOf t y1) := by
      unfold colOf
      blk_ext [idx t]
    blk_simp
    rw [after0_3, e, pay_eq, iblk2_eq]
    show _ = Adaln.out (argsOf m c) y0 (colOf t y1)
    unfold Adaln.out
    congr 1
    exact Finset.sum_congr rfl fun k _ => by rw [iblk0_eq, iblk1_eq]

end Cert.AdalnKernelIdeal.Rows

namespace Cert.AdalnReferenceIdeal.Rows

open Idealize.ShloMosaic Idealize.ShloMosaic.TcCoe Cert.AdalnReferenceIdeal Cert.AdalnReferenceIdeal.Gen Idealize.SL.Sem
open Cert

variable (m : (ℓ : Loc nD τ sig) → Buf (Elt Ideal) ℓ)

/-- The arguments of a launch. -/
def argsOf (c : Dev nD) : Adaln.Args where
  conds := m ((c : Thread nD τ).loc main_arg0)
  w := m ((c : Thread nD τ).loc main_arg1)
  b := m ((c : Thread nD τ).loc main_arg2)

/-- The padded rows of the reference. -/
def padded (x : FVec Ideal S5x1024 .f32) : FVec Ideal S8x1024 .f32 :=
  pad S8x1024 ![0, 0] ![3, 0] ![0, 0]
    (mulf x (Host.divf (broadcastInDim S5x1024 ![] Gen.bcast_S_S5x1024 (constant S_ .f32 0x3F800000#32))
      (addf (broadcastInDim S5x1024 ![] Gen.bcast_S_S5x1024 (constant S_ .f32 0x3F800000#32)) (Host.exp (Host.negf x)))))
    (sitofp .f32 (constantI S_ 32 0#32)) Gen.pads_S5x1024_S8x1024_030_000 Gen.h_S_

/-- The padded rows, entry by entry. -/
theorem padded_eq (A : Adaln.Args) (r : Fin 8) (k : Fin 1024) : padded A.conds (ix2 r k) = Adaln.row A r k := by
  have z : (FloatOps.sitofp .f32 0#32 : Ideal .f32) = 0 := ConvReferenceIdeal.Rows.sitofp_0
  have p : padded A.conds (ix2 r k) = if h : r.val < 5 then
      A.conds (ix2 ⟨r.val, h⟩ k) * Ideal.div 1 (1 + Ideal.exp (-A.conds (ix2 ⟨r.val, h⟩ k))) else (FloatOps.sitofp .f32 0#32 : Ideal .f32) := by
    pointwise [padded]
  rw [p, z]
  unfold Adaln.row MlstmOut.silu
  rw [show Dense.one = 1 from Ideal.ofBits_one_f32]

/-- The product and the offsets, entry by entry. -/
theorem core (P : FVec Ideal S8x1024 .f32) (w : FVec Ideal S1024x6144 .f32) (o : FVec Ideal S6144 .f32) (r : Fin 8) (j : Fin 6144) :
    addf (Host.dotGeneral dot_S8x1024_S1024x6144_S8x6144_1_0_0_1_n_n none P w)
        (broadcastInDim S8x6144 ![0, 1] Gen.bcast_S1x6144_S8x6144_0_1 (broadcastInDim S1x6144 ![1] Gen.bcast_S6144_S1x6144_1 o)) (ix2 r j)
      = ∑ k : Fin 1024, P (ix2 r k) * w (ix2 k j) + o (ix1 j) := by
  pointwise

/-- The run of the reference: the same results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = Adaln.res (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      show _ = Adaln.res (argsOf m c)
      funext y
      idx_vars y
      show _ = Adaln.out (argsOf m c) y0 y1
      exact (core (padded (argsOf m c).conds) _ _ y0 y1).trans (Dense.sum_offset_congr fun k => padded_eq (argsOf m c) y0 k)), (h c).2⟩)
    (Value.run m ρ)

end Cert.AdalnReferenceIdeal.Rows

end
-- ==== Proof.RefSum.lean ====
/- The reference's running sum along the last axis, read at an index: the sum of the entries up to it. -/
module

public import proofs.«01_k».proof.Proof.Gen.ReferenceIdeal.Step
public import proofs.«01_k».proof.Proof.Chunk
public import Idealize.ShloMosaic.Lib.Pointwise

@[expose] public section

set_option maxRecDepth 16384

noncomputable section

namespace Cert.ReferenceIdeal.Scan

open Idealize.ShloMosaic Cert.ReferenceIdeal Cert.ReferenceIdeal.Gen Idealize.SL.Sem
open Cert

/-- Adding the terms of a list one by one adds their sum. -/
theorem foldl_add_sum {α : Type} (l : List α) (f : α → EReal) (z : EReal) :
    l.foldl (fun r n => r + f n) z = z + (l.map f).sum := by
  induction l generalizing z with
  | nil => simp
  | cons a l ih => rw [List.foldl_cons, ih, List.map_cons, List.sum_cons, add_assoc]

/-- The window of the running sum has one place per entry of the last axis. -/
def places : Fin 128 ≃ (⟨3, ![1, 1, 128]⟩ : Shape).Idx where
  toFun k := ix3 0 0 k
  invFun w := w 2
  left_inv k := rfl
  right_inv w := by
    idx_vars w
    rw [Fin.fin_one_eq_zero w0, Fin.fin_one_eq_zero w1]

/-- The running sum at an entry. -/
theorem cumsum_eq (x : FVec Ideal S8x4x128 .f32) (z : FVec Ideal S_ .f32) (hz : z (Shape.Idx.first h_S_) = (0 : EReal)) (R : Fin 8) (h : Fin 4) (i : Fin 128) :
    Host.reduceWindowAdd ![1, 1, 128] ![1, 1, 1] ![0, 0, 127] ![0, 0, 0] x z reduceWindows_S8x4x128_S8x4x128_w1s1p0_0_w1s1p0_0_w128s1p127_0 h_S_ (ix3 R h i)
      = ∑ j : Fin 128, if j ≤ i then x (ix3 R h j) else (0 : EReal) := by
  unfold Host.reduceWindowAdd
  rw [hz]
  show Ideal.hostReduceWindowAdd _ _ _ _ _ x 0 (ix3 R h i) = _
  unfold Ideal.hostReduceWindowAdd Host.reduceWindow
  dsimp only
  rw [foldl_add_sum, zero_add, ← Fin.sum_univ_def]
  refine Fintype.sum_equiv (((⟨3, ![1, 1, 128]⟩ : Shape).rowMajor.symm.trans places.symm).trans (Equiv.addLeft (i + 1))) _
    (fun j => if j ≤ i then x (ix3 R h j) else (0 : EReal)) fun n => ?_
  obtain ⟨k, hn⟩ := places.surjective ((⟨3, ![1, 1, 128]⟩ : Shape).rowMajor.symm n)
  have hkn : (((⟨3, ![1, 1, 128]⟩ : Shape).rowMajor.symm.trans places.symm).trans (Equiv.addLeft (i + 1))) n
      = (Equiv.addLeft (i + 1)) k := by
    show (Equiv.addLeft (i + 1)) (places.symm ((⟨3, ![1, 1, 128]⟩ : Shape).rowMajor.symm n)) = _
    rw [← hn, Equiv.symm_apply_apply]
  rw [hkn]
  simp only [← hn]
  have hv : ((Equiv.addLeft (i + 1)) k).val = (i.val + 1 + k.val) % 128 := by
    show ((i + 1) + k).val = _
    rw [Fin.val_add, Fin.val_add]
    show ((i.val + 1) % 128 + k.val) % 128 = _
    omega
  by_cases hk : 127 ≤ i.val + k.val
  · rw [dif_pos, if_pos]
    · refine congrArg x (funext fun a => Fin.ext ?_)
      fin_cases a
      · show R.val * 1 + 0 - 0 = R.val; omega
      · show h.val * 1 + 0 - 0 = h.val; omega
      · show i.val * 1 + k.val - 127 = ((Equiv.addLeft (i + 1)) k).val; omega
    · show ((Equiv.addLeft (i + 1)) k).val ≤ i.val; omega
    · intro a
      fin_cases a
      · show 0 ≤ R.val * 1 + 0 ∧ R.val * 1 + 0 - 0 < 8; omega
      · show 0 ≤ h.val * 1 + 0 ∧ h.val * 1 + 0 - 0 < 4; omega
      · show 127 ≤ i.val * 1 + k.val ∧ i.val * 1 + k.val - 127 < 128; omega
  · rw [dif_neg, if_neg]
    · show ¬((Equiv.addLeft (i + 1)) k).val ≤ i.val; omega
    · intro hin
      have := (hin 2).1
      change 127 ≤ i.val * 1 + k.val at this
      omega

end Cert.ReferenceIdeal.Scan
end
-- ==== Proof.RefChunk.lean ====
/- One trip of the reference's loop, at the extended reals, is one chunk of the recurrence for every row (direction and
   batch) and head. -/
module

public import proofs.«01_k».proof.Proof.RefSum

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Step Idealize.SL.Sem
open Cert

/-- A selection on a decided bit. -/
theorem sel_eq (P : Prop) [Decidable P] (x y : EReal) : Scalar.select (if P then 1#1 else 0#1) x y = if P then x else y := by
  split <;> rfl

/-- The mask: a position sees itself and the earlier ones. -/
theorem mask_eq (i j : Fin 128) : (K_main_v36 (F := Ideal)) (ix2 i j) = if j ≤ i then 1#1 else 0#1 := by
  pointwise [K_main_v36, K_main_call5_v4, K_main_call5_v2, K_main_call5_v0, K_main_call5_v1, K_main_call5_c, K_main_call5_v3,
    K_main_v35, K_main_c, K_main_call5_v5, K_main_call5_c_0]
  have key : ∀ p r : Fin 128, IntOp.cmpi CmpIPredicate.sge (IntOp.addi (BitVec.ofNat 32 p.val) 0#32) (BitVec.ofNat 32 r.val)
      = if r ≤ p then 1#1 else 0#1 := by decide +kernel
  rw [key]
  split <;> rfl

/-- What a row and head of the state hold: a chunk's inputs at trip `t`, and the carried memory. -/
structure Row (t : ℕ) (s : State Ideal) (R : Fin 8) (h : Fin 4) (X : Chunk.Data) (S : Chunk.Mem) : Prop where
  q : ∀ (i : Fin 128) (a : Fin 512), b5 t s (ix4 R h i a) = X.q i a
  k : ∀ (i : Fin 128) (a : Fin 512), b11 t s (ix4 R h i a) = X.k i a
  v : ∀ (i : Fin 128) (a : Fin 512), b17 t s (ix4 R h i a) = X.v i a
  ig : ∀ i : Fin 128, b22 t s (ix3 R h i) = X.ig i
  lf : ∀ i : Fin 128, b27 t s (ix3 R h i) = X.lf i
  C : ∀ e a : Fin 512, s.main_v48_7 (ix4 R h e a) = S.C a e
  n : ∀ a : Fin 512, s.main_v48_8 (ix3 R h a) = S.n a
  m : s.main_v48_9 (ix2 R h) = S.m

variable {t : ℕ} {s : State Ideal} {R : Fin 8} {h : Fin 4} {X : Chunk.Data} {S : Chunk.Mem} (H : Row t s R h X S)

include H

/-- The summed log gates. -/
theorem b30_eq (i : Fin 128) : b30 t s (ix3 R h i) = Chunk.b X i := by
  unfold b30
  rw [cumsum_eq _ _ (by unfold b29 b28; pointwise) R h i]
  unfold Chunk.b
  simp only [H.lf]

/-- All of them summed. -/
theorem b77_eq : b77 t s (ix2 R h) = Chunk.bl X := by
  pointwise [b77, b76]
  rw [b30_eq H]
  unfold Chunk.b Chunk.bl
  refine Finset.sum_congr rfl fun j _ => if_pos ?_
  show j.val ≤ 127
  omega

/-- The exponents of the scores. -/
theorem b46_eq (i j : Fin 128) : b46 t s (ix4 R h i j) = Chunk.d X i j := by
  pointwise [b46, b44, b41, b38, b36, b37, b34, b35, b40, b39, b45, b43, b42]
  rw [mask_eq, b30_eq H, b30_eq H, H.ig, sel_eq]
  rfl

/-- The exponent of the carried memory. -/
theorem b33_eq (i : Fin 128) : b33 t s (ix3 R h i) = Chunk.b X i + S.m := by
  pointwise [b33, b32, b31]
  rw [b30_eq H, H.m]

/-- A row's stabiliser. -/
theorem b49_eq (i : Fin 128) : b49 t s (ix3 R h i) = Chunk.mrow X S i := by
  pointwise [b49, b48, b47]
  simp only [b46_eq H, b33_eq H]
  rfl

/-- The carried memory's weight. -/
theorem b51_eq (i : Fin 128) : b51 t s (ix3 R h i) = Chunk.w X S i := by
  pointwise [b51, b50]
  rw [b33_eq H, b49_eq H]
  rfl

/-- The weighted scores. -/
theorem b57_eq (i j : Fin 128) : b57 t s (ix4 R h i j) = Chunk.s X S i j := by
  pointwise [b57, b52, b56, b55, b54, b53]
  simp only [b46_eq H, b49_eq H, H.q, H.k]
  rfl

/-- The numerator. -/
theorem b63_eq (i : Fin 128) (e : Fin 512) : b63 t s (ix4 R h i e) = Chunk.num X S i e := by
  pointwise [b63, b61, b60, b58, b59, b62]
  simp only [b51_eq H, b57_eq H, H.q, H.C, H.v]
  rfl

/-- The denominator. -/
theorem b68_eq (i : Fin 128) : b68 t s (ix3 R h i) = Chunk.den X S i := by
  pointwise [b68, b65, b64, b67, b66]
  simp only [b51_eq H, b57_eq H, H.q, H.n]
  unfold Chunk.den
  congr 2
  exact Finset.sum_congr rfl fun a _ => mul_comm _ _

/-- The chunk's output. -/
theorem b75_eq (i : Fin 128) (e : Fin 512) : b75 t s (ix4 R h i e) = Chunk.h X S i e := by
  pointwise [b75, b74, b73, b72, b71, b70, b69]
  simp only [b63_eq H, b68_eq H, b49_eq H]
  rfl

/-- The exponents of the weights in the new memory. -/
theorem b81_eq (j : Fin 128) : b81 t s (ix3 R h j) = Chunk.e X j := by
  pointwise [b81, b80, b79, b78]
  rw [b77_eq H, b30_eq H, H.ig]
  rfl

/-- The new stabiliser. -/
theorem b85_eq : b85 t s (ix2 R h) = (Chunk.next X S).m := by
  pointwise [b85, b82, b84, b83]
  simp only [b77_eq H, b81_eq H, H.m]
  rfl

/-- The old memory's weight. -/
theorem b88_eq : b88 t s (ix2 R h) = Chunk.g X S := by
  pointwise [b88, b87, b86]
  rw [b77_eq H, H.m, b85_eq H]
  rfl

/-- The positions' weights. -/
theorem b92_eq (j : Fin 128) : b92 t s (ix3 R h j) = Chunk.wnew X S j := by
  pointwise [b92, b91, b90, b89]
  rw [b81_eq H, b85_eq H]
  rfl

/-- The new matrix. -/
theorem b100_eq (e a : Fin 512) : b100 t s (ix4 R h e a) = (Chunk.next X S).C a e := by
  pointwise [b100, b95, b94, b93, b99, b98, b97, b96]
  simp only [b88_eq H, b92_eq H, H.C, H.k, H.v]
  unfold Chunk.next
  dsimp only
  congr 1
  exact Finset.sum_congr rfl fun j _ => mul_comm _ _

/-- The new normaliser. -/
theorem b105_eq (a : Fin 512) : b105 t s (ix3 R h a) = (Chunk.next X S).n a := by
  pointwise [b105, b103, b102, b101, b104]
  simp only [b88_eq H, b92_eq H, H.n, H.k]
  unfold Chunk.next
  dsimp only
  congr 1
  exact Finset.sum_congr rfl fun j _ => mul_comm _ _

omit H

end Cert.ReferenceIdeal.Scan
end
-- ==== Proof.RefFirst.lean ====
/- The reference's first state holds the arguments' chunks and first memories. -/
module

public import proofs.«01_k».proof.Proof.RefSum
public import Idealize.ShloMosaic.Lib.Pointwise

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Step Idealize.SL.Sem
open Cert

variable (A : Chunk.Args)

/-- The row of a direction and batch. -/
def row (dir : Fin 2) (b : Fin 4) : Fin 8 := ⟨dir.val * 4 + b.val, by omega⟩

/-- The first state of the loop from the arguments. -/
def first : State Ideal := init A.q A.k A.v A.g A.C A.n A.m

/-- A sequence and its reversal stacked, at a direction's row and a step: the sequence at the step's position. -/
theorem both_read (x : FVec Ideal S4x4x8192x512 .f32) (dir : Fin 2) (b h : Fin 4) (l : Fin 8192) (a : Fin 512) :
    concatenate S8x4x8192x512 0 [⟨S4x4x8192x512, x⟩, ⟨S4x4x8192x512, Host.reverse [2] x⟩] concatenates_S4x4x8192x512_S4x4x8192x512_S8x4x8192x512_d0
      (ix4 (row dir b) h l a) = x (ix4 b h (Chunk.pos dir l) a) := by
  unfold row
  fin_cases dir
  · pointwise
    rfl
  · pointwise
    rfl

/-- The same for a gate. -/
theorem bothG_read (x y : FVec Ideal S4x4x8192 .f32) (dir : Fin 2) (b h : Fin 4) (l : Fin 8192) :
    concatenate S8x4x8192 0 [⟨S4x4x8192, x⟩, ⟨S4x4x8192, Host.reverse [2] y⟩] concatenates_S4x4x8192_S4x4x8192_S8x4x8192_d0
      (ix3 (row dir b) h l) = (if dir = 0 then x else y) (ix3 b h (Chunk.pos dir l)) := by
  unfold row
  fin_cases dir
  · pointwise
    rfl
  · pointwise
    rfl

/-- The steps split into chunks. -/
theorem chunks_read (x : FVec Ideal S8x4x8192x512 .f32) (c : Fin 64) (R : Fin 8) (h : Fin 4) (i : Fin 128) (a : Fin 512) :
    transpose S64x8x4x128x512 [2, 0, 1, 3, 4] (shapeCast S8x4x64x128x512 x shapeCasts_S8x4x8192x512_S8x4x64x128x512)
      transposes_S8x4x64x128x512_S64x8x4x128x512_2_0_1_3_4 (ix5 c R h i a) = x (ix4 R h (Chunk.stepAt c i) a) := by
  pointwise
  exact congrArg (fun l => x (ix4 R h l a)) (Fin.ext (by show c.val * 128 + i.val = 128 * c.val + i.val; omega))

/-- The same for a gate. -/
theorem chunksG_read (x : FVec Ideal S8x4x8192 .f32) (c : Fin 64) (R : Fin 8) (h : Fin 4) (i : Fin 128) :
    transpose S64x8x4x128 [2, 0, 1, 3] (shapeCast S8x4x64x128 x shapeCasts_S8x4x8192_S8x4x64x128)
      transposes_S8x4x64x128_S64x8x4x128_2_0_1_3 (ix4 c R h i) = x (ix3 R h (Chunk.stepAt c i)) := by
  pointwise
  exact congrArg (fun l => x (ix3 R h l)) (Fin.ext (by show c.val * 128 + i.val = 128 * c.val + i.val; omega))

/-- The features split into heads. -/
theorem heads_read (x : FVec Ideal S4x8192x2048 .bf16) (b h : Fin 4) (l : Fin 8192) (a : Fin 512) :
    transpose S4x4x8192x512 [0, 2, 1, 3] (shapeCast S4x8192x4x512 (extf .f32 x bitsLt_bf16_f32 : FVec Ideal S4x8192x2048 .f32) shapeCasts_S4x8192x2048_S4x8192x4x512)
      transposes_S4x8192x4x512_S4x4x8192x512_0_2_1_3 (ix4 b h l a) = x (ix3 b l (Chunk.feat h a)) := by
  pointwise
  exact congrArg (fun f => x (ix3 b l f)) (Fin.ext (by show h.val * 512 + a.val = 512 * h.val + a.val; omega))

/-- A chunk's queries. -/
theorem first_q (dir : Fin 2) (b h : Fin 4) (c : Fin 64) (i : Fin 128) (a : Fin 512) :
    (first A).main_v48_0 (ix5 c (row dir b) h i a) = (Chunk.chunkAt A dir b h c).q i a :=
  (chunks_read _ c (row dir b) h i a).trans ((both_read _ dir b h _ a).trans (heads_read _ b h _ a))

/-- A chunk's keys. -/
theorem first_k (dir : Fin 2) (b h : Fin 4) (c : Fin 64) (i : Fin 128) (a : Fin 512) :
    (first A).main_v48_1 (ix5 c (row dir b) h i a) = (Chunk.chunkAt A dir b h c).k i a :=
  (chunks_read _ c (row dir b) h i a).trans ((both_read _ dir b h _ a).trans (heads_read _ b h _ a))

/-- A chunk's values. -/
theorem first_v (dir : Fin 2) (b h : Fin 4) (c : Fin 64) (i : Fin 128) (a : Fin 512) :
    (first A).main_v48_2 (ix5 c (row dir b) h i a) = (Chunk.chunkAt A dir b h c).v i a :=
  (chunks_read _ c (row dir b) h i a).trans ((both_read _ dir b h _ a).trans (heads_read _ b h _ a))

/-- A direction's gates among the sixteen: the input gates. -/
theorem gate_ig (dir : Fin 2) (b h : Fin 4) (l : Fin 8192) :
    (if dir = 0 then A_main_v24 A.q A.k A.v A.g A.C A.n A.m else A_main_v26 A.q A.k A.v A.g A.C A.n A.m) (ix3 b h l)
      = A.g (ix3 b l ⟨8 * dir.val + h.val, by omega⟩) := by
  fin_cases dir
  · show A_main_v24 A.q A.k A.v A.g A.C A.n A.m (ix3 b h l) = _
    pointwise [A_main_v24, A_main_v23, A_main_v10, A_main_v9]
  · show A_main_v26 A.q A.k A.v A.g A.C A.n A.m (ix3 b h l) = _
    pointwise [A_main_v26, A_main_v25, A_main_v10, A_main_v9]

/-- The log forget gates. -/
theorem gate_lf (dir : Fin 2) (b h : Fin 4) (l : Fin 8192) :
    (if dir = 0 then A_main_v30 A.q A.k A.v A.g A.C A.n A.m else A_main_v32 A.q A.k A.v A.g A.C A.n A.m) (ix3 b h l)
      = A.g (ix3 b l ⟨8 * dir.val + 4 + h.val, by omega⟩) := by
  fin_cases dir
  · show A_main_v30 A.q A.k A.v A.g A.C A.n A.m (ix3 b h l) = _
    pointwise [A_main_v30, A_main_v29, A_main_v10, A_main_v9]
  · show A_main_v32 A.q A.k A.v A.g A.C A.n A.m (ix3 b h l) = _
    pointwise [A_main_v32, A_main_v31, A_main_v10, A_main_v9]

/-- A chunk's input gates. -/
theorem first_ig (dir : Fin 2) (b h : Fin 4) (c : Fin 64) (i : Fin 128) :
    (first A).main_v48_3 (ix4 c (row dir b) h i) = (Chunk.chunkAt A dir b h c).ig i :=
  (chunksG_read _ c (row dir b) h i).trans ((bothG_read _ _ dir b h _).trans (gate_ig A dir b h _))

/-- A chunk's log forget gates. -/
theorem first_lf (dir : Fin 2) (b h : Fin 4) (c : Fin 64) (i : Fin 128) :
    (first A).main_v48_4 (ix4 c (row dir b) h i) = (Chunk.chunkAt A dir b h c).lf i :=
  (chunksG_read _ c (row dir b) h i).trans ((bothG_read _ _ dir b h _).trans (gate_lf A dir b h _))

/-- The first matrix. -/
theorem first_C (dir : Fin 2) (b h : Fin 4) (e a : Fin 512) :
    (first A).main_v48_7 (ix4 (row dir b) h e a) = (Chunk.start A dir b h).C a e := by
  show A_main_v12 A.q A.k A.v A.g A.C A.n A.m _ = A.C _
  unfold row
  pointwise [A_main_v12, A_main_v11]

/-- The first normaliser. -/
theorem first_n (dir : Fin 2) (b h : Fin 4) (a : Fin 512) :
    (first A).main_v48_8 (ix3 (row dir b) h a) = (Chunk.start A dir b h).n a := by
  show A_main_v13 A.q A.k A.v A.g A.C A.n A.m _ = A.n _
  unfold row
  pointwise [A_main_v13]

/-- The first stabiliser. -/
theorem first_m (dir : Fin 2) (b h : Fin 4) :
    (first A).main_v48_9 (ix2 (row dir b) h) = (Chunk.start A dir b h).m := by
  show A_main_v16 A.q A.k A.v A.g A.C A.n A.m _ = A.m _
  unfold row
  pointwise [A_main_v16, A_main_v15, A_main_v14]

end Cert.ReferenceIdeal.Scan
end
-- ==== Proof.RefTrip.lean ====
/- What a trip of the reference's loop reads and writes, and what its results are of the last state. -/
module

public import proofs.«01_k».proof.Proof.RefFirst
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Step Idealize.SL.Sem
open Cert

/-- A trip's start among the chunks is the trip's number, which is below the number of chunks. -/
theorem start_toInt (t : ℕ) (ht : t < 64) : (BitVec.ofNat 32 t).toInt = (t : ℤ) := by
  rw [BitVec.toInt_eq_toNat_of_lt] <;> rw [BitVec.toNat_ofNat, Nat.mod_eq_of_lt (by omega)]
  omega

/-- Where chunk `t` starts on the five axes. -/
def at5 (t : ℕ) : Fin 5 → ℕ := ![t, 0, 0, 0, 0]
/-- Where chunk `t` of the gates starts on the four axes. -/
def at4 (t : ℕ) : Fin 4 → ℕ := ![t, 0, 0, 0]
/-- The start as a trip computes it. -/
def word5 (t : ℕ) : Fin 5 → Int :=
  (fun k : Fin 5 => ((![constantI S_ 32 (BitVec.ofNat 32 t), constantI S_ 32 0#32, constantI S_ 32 0#32, constantI S_ 32 0#32, constantI S_ 32 0#32] : Fin 5 → IVec S_ 32) k (Shape.Idx.first h_S_)).toInt)
/-- The start of a gate's chunk as a trip computes it. -/
def word4 (t : ℕ) : Fin 4 → Int :=
  (fun k : Fin 4 => ((![constantI S_ 32 (BitVec.ofNat 32 t), constantI S_ 32 0#32, constantI S_ 32 0#32, constantI S_ 32 0#32] : Fin 4 → IVec S_ 32) k (Shape.Idx.first h_S_)).toInt)

/-- A trip's start is the chunk's. -/
theorem word5_eq (t : ℕ) (ht : t < 64) (k : Fin 5) : word5 t k = (at5 t k : ℤ) := by
  fin_cases k
  · exact start_toInt t ht
  all_goals rfl

/-- The same for a gate. -/
theorem word4_eq (t : ℕ) (ht : t < 64) (k : Fin 4) : word4 t k = (at4 t k : ℤ) := by
  fin_cases k
  · exact start_toInt t ht
  all_goals rfl

/-- A chunk lies inside. -/
theorem fits5 (t : ℕ) (ht : t < 64) : S64x8x4x128x512.Slices (at5 t) S1x8x4x128x512 :=
  ⟨rfl, fun k => by
    fin_cases k
    · show t + 1 ≤ 64; omega
    · show 0 + 8 ≤ 8; omega
    · show 0 + 4 ≤ 4; omega
    · show 0 + 128 ≤ 128; omega
    · show 0 + 512 ≤ 512; omega⟩

/-- The same for a gate. -/
theorem fits4 (t : ℕ) (ht : t < 64) : S64x8x4x128.Slices (at4 t) S1x8x4x128 :=
  ⟨rfl, fun k => by
    fin_cases k
    · show t + 1 ≤ 64; omega
    · show 0 + 8 ≤ 8; omega
    · show 0 + 4 ≤ 4; omega
    · show 0 + 128 ≤ 128; omega⟩

/-- Chunk `t` cut out of the queries, keys or values. -/
theorem slice_read (t : ℕ) (ht : t < 64) (x : FVec Ideal S64x8x4x128x512 .f32) (R : Fin 8) (h : Fin 4) (i : Fin 128) (a : Fin 512) :
    shapeCast S8x4x128x512 (Host.dynamicSlice S1x8x4x128x512 x (word5 t) sliceFits_S64x8x4x128x512_S1x8x4x128x512)
      shapeCasts_S1x8x4x128x512_S8x4x128x512 (ix4 R h i a) = x (ix5 ⟨t, ht⟩ R h i a) := by
  have e := WordCmp.dynamicSlice_eq_extract (s := S64x8x4x128x512) S1x8x4x128x512 x (word5 t) sliceFits_S64x8x4x128x512_S1x8x4x128x512
    (at5 t) (fits5 t ht) (word5_eq t ht)
  refine (congrFun (congrArg (fun z => shapeCast S8x4x128x512 z shapeCasts_S1x8x4x128x512_S8x4x128x512) e) (ix4 R h i a)).trans ?_
  pointwise [at5]

/-- Chunk `t` cut out of the gates. -/
theorem sliceG_read (t : ℕ) (ht : t < 64) (x : FVec Ideal S64x8x4x128 .f32) (R : Fin 8) (h : Fin 4) (i : Fin 128) :
    shapeCast S8x4x128 (Host.dynamicSlice S1x8x4x128 x (word4 t) sliceFits_S64x8x4x128_S1x8x4x128)
      shapeCasts_S1x8x4x128_S8x4x128 (ix3 R h i) = x (ix4 ⟨t, ht⟩ R h i) := by
  have e := WordCmp.dynamicSlice_eq_extract (s := S64x8x4x128) S1x8x4x128 x (word4 t) sliceFits_S64x8x4x128_S1x8x4x128
    (at4 t) (fits4 t ht) (word4_eq t ht)
  refine (congrFun (congrArg (fun z => shapeCast S8x4x128 z shapeCasts_S1x8x4x128_S8x4x128) e) (ix3 R h i)).trans ?_
  pointwise [at4]

/-- A trip writes its chunk's outputs and keeps the others. -/
theorem b111_read (t : ℕ) (ht : t < 64) (s : State Ideal) (c : Fin 64) (R : Fin 8) (h : Fin 4) (i : Fin 128) (a : Fin 512) :
    b111 t s (ix5 c R h i a) = if c.val = t then b75 t s (ix4 R h i a) else s.main_v48_10 (ix5 c R h i a) := by
  have e := WordCmp.dynamicUpdateSlice_eq_update (s := S64x8x4x128x512) s.main_v48_10 (b106 t s) (word5 t)
    updateFits_S64x8x4x128x512_S1x8x4x128x512 (at5 t) (fits5 t ht) (word5_eq t ht)
  refine (congrFun e (ix5 c R h i a)).trans ?_
  pointwise [b106, at5]
  by_cases hc : c.val = t
  · rw [dif_pos (by omega), if_pos hc]
  · rw [dif_neg (by omega), if_neg hc]

/-- The outputs. -/
theorem out_read (s : State Ideal) (dir : Fin 2) (b : Fin 4) (p : Fin 8192) (h : Fin 4) (e : Fin 512) :
    R_main_v58 s (ix4 dir b p (Chunk.feat h e)) = s.main_v48_10 (ix5 ⟨(Chunk.pos dir p).val / 128, by omega⟩ (row dir b) h ⟨(Chunk.pos dir p).val % 128, by omega⟩ e) := by
  unfold Chunk.feat row
  fin_cases dir
  · pointwise [R_main_v58]
    rfl
  · pointwise [R_main_v58]
    rfl

/-- The last matrices. -/
theorem C_read (s : State Ideal) (dir : Fin 2) (b : Fin 4) (h : Fin 4) (a c : Fin 512) :
    R_main_v60 s (ix5 dir b h a c) = s.main_v48_7 (ix4 (row dir b) h c a) := by
  unfold row
  pointwise [R_main_v60]

/-- The last normalisers. -/
theorem n_read (s : State Ideal) (dir : Fin 2) (b : Fin 4) (h : Fin 4) (u : Fin 1) (a : Fin 512) :
    R_main_v61 s (ix5 dir b h u a) = s.main_v48_8 (ix3 (row dir b) h a) := by
  unfold row
  pointwise [R_main_v61]

/-- The last stabilisers. -/
theorem m_read (s : State Ideal) (dir : Fin 2) (b : Fin 4) (h : Fin 4) (u : Fin 1) (l : Fin 128) :
    R_main_v63 s (ix5 dir b h u l) = s.main_v48_9 (ix2 (row dir b) h) := by
  unfold row
  pointwise [R_main_v63]

end Cert.ReferenceIdeal.Scan
end
-- ==== Proof.RefTrips.lean ====
/- The reference's run, stated over one trip as a function of the loop's state: where the buffers hold a state, a trip's every
   buffer holds that trip's value, so the run's four results are functions of the state after 64 trips. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v48_7) = s.main_v48_7
  f_8 : V0 (Proc.devRef .tc main_v48_8) = s.main_v48_8
  f_9 : V0 (Proc.devRef .tc main_v48_9) = s.main_v48_9
  f_10 : V0 (Proc.devRef .tc main_v48_10) = s.main_v48_10
  f_0 : V0 (Proc.devRef .tc main_v48_0) = s.main_v48_0
  f_1 : V0 (Proc.devRef .tc main_v48_1) = s.main_v48_1
  f_2 : V0 (Proc.devRef .tc main_v48_2) = s.main_v48_2
  f_3 : V0 (Proc.devRef .tc main_v48_3) = s.main_v48_3
  f_4 : V0 (Proc.devRef .tc main_v48_4) = s.main_v48_4
  n_6 : V0 (Proc.devRef .tc main_v48_6) = constantI S_ 32 (BitVec.ofNat 32 j)
  k_5 : V0 (Proc.devRef .tc main_v48_5) = Cert.ReferenceIdeal.Step.K_main_v36 (F := F)

variable {V0 s j}

set_option maxRecDepth 8192 in
/-- Value 0 of a trip. -/
theorem al_0 (h : Holds V0 s j) : (constantI S_ 32 0#32 : (Proc.devRef .tc main_while0b_call6_c : DevRef τ sig).ty.Contents (Elt F)) = Cert.ReferenceIdeal.Step.b0 j s := by
  unfold Cert.ReferenceIdeal.Step.b0
  rfl
set_option maxRecDepth 8192 in
/-- Value 1 of a trip. -/
theorem al_1 (h : Holds V0 s j) : (constantI S_ 32 0#32 : (Proc.devRef .tc main_while0b_call6_c_0 : DevRef τ sig).ty.Contents (Elt F)) = Cert.ReferenceIdeal.Step.b1 j s := by
  unfold Cert.ReferenceIdeal.Step.b1
  rfl
set_option maxRecDepth 8192 in
/-- Value 2 of a trip. -/
theorem al_2 (h : Holds V0 s j) : (constantI S_ 32 0#32 : (Proc.devRef .tc main_while0b_call6_c_1 : DevRef τ sig).ty.Contents (Elt F)) = Cert.ReferenceIdeal.Step.b2 j s := by
  unfold Cert.ReferenceIdeal.Step.b2
  rfl
set_option maxRecDepth 8192 in
/-- Value 3 of a trip. -/
theorem al_3 (h : Holds V0 s j) : (constantI S_ 32 0#32 : (Proc.devRef .tc main_while0b_call6_c_2 : DevRef τ sig).ty.Contents (Elt F)) = Cert.ReferenceIdeal.Step.b3 j s := by
  unfold Cert.ReferenceIdeal.Step.b3
  rfl
set_option maxRecDepth 8192 in
/-- Value 4 of a trip. -/
theorem al_4 (h : Holds V0 s j) : (Host.dynamicSlice S1x8x4x128x512 (V0 (Proc.devRef .tc main_v48_0)) (fun k => (((![V0 (Proc.devRef .tc main_v48_6), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x128x512_S1x8x4x128x512 : (Proc.devRef .tc main_while0b_call6_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
/-- Value 5 of a trip. -/
theorem al_5 (h : Holds V0 s j) : (res_main_while0b_v64 V0 : (Proc.devRef .tc main_while0b_v64 : DevRef τ sig).ty.Contents (Elt F)) = Cert.ReferenceIdeal.Step.b5 j s := by
  unfold res_main_while0b_v64 Cert.ReferenceIdeal.Step.b5
  rw [← al_4 h]
  try rfl
set_option maxRecDepth 8192 in
/-- Value 6 of a trip. -/
theorem al_6 (h : Holds V0 s j) : (constantI S_ 32 0#32 : (Proc.devRef .tc main_while0b_call7_c : DevRef τ sig).ty.Contents (Elt F)) = Cert.ReferenceIdeal.Step.b6 j s := by
  unfold Cert.ReferenceIdeal.Step.b6
  rfl
set_option maxRecDepth 8192 in
/-- Value 7 of a trip. -/
theorem al_7 (h : Holds V0 s j) : (constantI S_ 32 0#32 : (Proc.devRef .tc main_while0b_call7_c_0 : DevRef τ sig).ty.Contents (Elt F)) = Cert.ReferenceIdeal.Step.b7 j s := by
  unfold Cert.ReferenceIdeal.Step.b7
  rfl
set_option maxRecDepth 8192 in
/-- Value 8 of a trip. -/
theorem al_8 (h : Holds V0 s j) : (constantI S_ 32 0#32 : (Proc.devRef .tc main_while0b_call7_c_1 : DevRef τ sig).ty.Contents (Elt F)) = Cert.ReferenceIdeal.Step.b8 j s := by
  unfold Cert.ReferenceIdeal.Step.b8
  rfl
set_option maxRecDepth 8192 in
/-- Value 9 of a trip. -/
theorem al_9 (h : Holds V0 s j) : (constantI S_ 32 0#32 : (Proc.devRef .tc main_while0b_call7_c_2 : DevRef τ sig).ty.Contents (Elt F)) = Cert.ReferenceIdeal.Step.b9 j s := by
  unfold Cert.ReferenceIdeal.Step.b9
  rfl
set_option maxRecDepth 8192 in
/-- Value 10 of a trip. -/
theorem al_10 (h : Holds V0 s j) : (Host.dynamicSlice S1x8x4x128x512 (V0 (Proc.devRef .tc main_v48_1)) (fun k => (((![V0 (Proc.devRef .tc main_v48_6), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x128x512_S1x8x4x128x512 : (Proc.devRef .tc main_while0b_call7_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
/-- Value 11 of a trip. -/
theorem al_11 (h : Holds V0 s j) : (res_main_while0b_v65 V0 : (Proc.devRef .tc main_while0b_v65 : DevRef τ sig).ty.Contents (Elt F)) = Cert.ReferenceIdeal.Step.b11 j s := by
  unfold res_main_while0b_v65 Cert.ReferenceIdeal.Step.b11
  rw [← al_10 h]
  try rfl
set_option maxRecDepth 8192 in
/-- Value 12 of a trip. -/
theorem al_12 (h : Holds V0 s j) : (constantI S_ 32 0#32 : (Proc.devRef .tc main_while0b_call8_c : DevRef τ sig).ty.Contents (Elt F)) = Cert.ReferenceIdeal.Step.b12 j s := by
  unfold Cert.ReferenceIdeal.Step.b12
  rfl
set_option maxRecDepth 8192 in
/-- Value 13 of a trip. -/
theorem al_13 (h : Holds V0 s j) : (constantI S_ 32 0#32 : (Proc.devRef .tc main_while0b_call8_c_0 : DevRef τ sig).ty.Contents (Elt F)) = Cert.ReferenceIdeal.Step.b13 j s := by
  unfold Cert.ReferenceIdeal.Step.b13
  rfl
set_option maxRecDepth 8192 in
/-- Value 14 of a trip. -/
theorem al_14 (h : Holds V0 s j) : (constantI S_ 32 0#32 : (Proc.devRef .tc main_while0b_call8_c_1 : DevRef τ sig).ty.Contents (Elt F)) = Cert.ReferenceIdeal.Step.b14 j s := by
  unfold Cert.ReferenceIdeal.Step.b14
  rfl
set_option maxRecDepth 8192 in
/-- Value 15 of a trip. -/
theorem al_15 (h : Holds V0 s j) : (constantI S_ 32 0#32 : (Proc.devRef .tc main_while0b_call8_c_2 : DevRef τ sig).ty.Contents (Elt F)) = Cert.ReferenceIdeal.Step.b15 j s := by
  unfold Cert.ReferenceIdeal.Step.b15
  rfl
set_option maxRecDepth 8192 in
/-- Value 16 of a trip. -/
theorem al_16 (h : Holds V0 s j) : (Host.dynamicSlice S1x8x4x128x512 (V0 (Proc.devRef .tc main_v48_2)) (fun k => (((![V0 (Proc.devRef .tc main_v48_6), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x128x512_S1x8x4x128x512 : (Proc.devRef .tc main_while0b_call8_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
/-- Value 17 of a trip. -/
theorem al_17 (h : Holds V0 s j) : (res_main_while0b_v66 V0 : (Proc.devRef .tc main_while0b_v66 : DevRef τ sig).ty.Contents (Elt F)) = Cert.ReferenceIdeal.Step.b17 j s := by
  unfold res_main_while0b_v66 Cert.ReferenceIdeal.Step.b17
  rw [← al_16 h]
  try rfl
set_option maxRecDepth 8192 in
/-- Value 18 of a trip. -/
theorem al_18 (h : Holds V0 s j) : (constantI S_ 32 0#32 : (Proc.devRef .tc main_while0b_call9_c : DevRef τ sig).ty.Contents (Elt F)) = Cert.ReferenceIdeal.Step.b18 j s := by
  unfold Cert.ReferenceIdeal.Step.b18
  rfl
set_option maxRecDepth 8192 in
/-- Value 19 of a trip. -/
theorem al_19 (h : Holds V0 s j) : (constantI S_ 32 0#32 : (Proc.devRef .tc main_while0b_call9_c_0 : DevRef τ sig).ty.Contents (Elt F)) = Cert.ReferenceIdeal.Step.b19 j s := by
  unfold Cert.ReferenceIdeal.Step.b19
  rfl
set_option maxRecDepth 8192 in
/-- Value 20 of a trip. -/
theorem al_20 (h : Holds V0 s j) : (constantI S_ 32 0#32 : (Proc.devRef .tc main_while0b_call9_c_1 : DevRef τ sig).ty.Contents (Elt F)) = Cert.ReferenceIdeal.Step.b20 j s := by
  unfold Cert.ReferenceIdeal.Step.b20
  rfl
set_option maxRecDepth 8192 in
/-- Value 21 of a trip. -/
theorem al_21 (h : Holds V0 s j) : (Host.dynamicSlice S1x8x4x128 (V0 (Proc.devRef .tc main_v48_3)) (fun k => (((![V0 (Proc.devRef .tc main_v48_6), constantI S_ 32 0#32, constantI S_ 32 0#32, constantI S_ 32 0#32] : Fin 4 → (⟨S_, .i32⟩ : BufTy).Contents (Elt F))) k (Shape.Idx.first h_S_)).toInt) sliceFits_S64x8x4x128_S1x8x4x128 : (Proc.devRef .tc main_while0b_call9_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
/-- Value 22 of a trip. -/
theorem al_22 (h : Holds V0 s j) : (res_main_while0b_v67 V0 : (Proc.devRef .tc main_while0b_v67 : DevRef τ sig).ty.Contents (Elt F)) = Cert.ReferenceIdeal.Step.b22 j s := by
  unfold res_main_while0b_v67 Cert.ReferenceIdeal.Step.b22
  rw [← al_21 h]
  try rfl
set_option maxRecDepth 8192 in
/-- Value 23 of a trip. -/
theorem al_23 (h : Holds V0 s j) : (constantI S_ 32 0#32 : (Proc.devRef .tc main_while0b_call10_c : DevRef τ sig).ty.Contents (Elt F)) = Cert.ReferenceIdeal.Step.b23 j s := by
  unfold Cert.ReferenceIdeal.Step.b23
  rfl
set_option maxRecDepth 8192 in
/-- Value 24 of a trip. -/
theorem al_24 (h : Holds V0 s j) : (constantI S_ 32 0#32 : (Proc.devRef .tc main_while0b_call10_c_0 : DevRef τ sig).ty.Contents (Elt F)) = Cert.ReferenceIdeal.Step.b24 j s := by
  unfold Cert.ReferenceIdeal.Step.b24
  rfl
set_option maxRecDepth 8192 in
/-- Value 25 of a trip. -/
theorem al_25 (h : Holds V0 s j) : (constantI S_ 32 0#32 : (Proc.devRef .tc main_while0b_call10_c_1 : DevRef τ sig).ty.Contents (Elt F)) = Cert.ReferenceIdeal.Step.b25 j s := by
  unfold Cert.ReferenceIdeal.Step.b25
  rfl
set_option maxRecDepth 8192 in
/-- Value 26 of a trip. -/
theorem al_26 (h : Holds V0 s j) : (Host.dynamicSlice S1x8x4x128 (V0 (Proc.devRef .tc main_v48_4)) (fun k => (((![V0 (Proc.devRef .tc main_v48_6), constantI S_ 32 0#32, constantI S_ 32 0#32, constantI S_ 32 0#32] : Fin 4 → (⟨S_, .i32⟩ : BufTy).Contents (Elt F))) k (Shape.Idx.first h_S_)).toInt) sliceFits_S64x8x4x128_S1x8x4x128 : (Proc.devRef .tc main_while0b_call10_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
/-- Value 27 of a trip. -/
theorem al_27 (h : Holds V0 s j) : (shapeCast S8x4x128 (Host.dynamicSlice S1x8x4x128 (V0 (Proc.devRef .tc main_v48_4)) (fun k => (((![V0 (Proc.devRef .tc main_v48_6), constantI S_ 32 0#32, constantI S_ 32 0#32, constantI S_ 32 0#32] : Fin 4 → (⟨S_, .i32⟩ : BufTy).Contents (Elt F))) k (Shape.Idx.first h_S_)).toInt) sliceFits_S64x8x4x128_S1x8x4x128) shapeCasts_S1x8x4x128_S8x4x128 : (Proc.devRef .tc main_while0b_v68 : DevRef τ sig).ty.Contents (Elt F)) = Cert.ReferenceIdeal.Step.b27 j s := by
  unfold Cert.ReferenceIdeal.Step.b27
  rw [← al_26 h]
  try rfl
set_option maxRecDepth 8192 in
/-- Value 28 of a trip. -/
theorem al_28 (h : Holds V0 s j) : (constant S_ .f32 0x00000000#32 : (Proc.devRef .tc main_while0b_call11_call0_cst : DevRef τ sig).ty.Contents (Elt F)) = Cert.ReferenceIdeal.Step.b28 j s := by
  unfold Cert.ReferenceIdeal.Step.b28
  rfl
set_option maxRecDepth 8192 in
/-- Value 29 of a trip. -/
theorem al_29 (h : Holds V0 s j) : (broadcastInDim S_ ![] bcast_S_S_ (constant S_ .f32 0x00000000#32) : (Proc.devRef .tc main_while0b_call11_call0_v0 : DevRef τ sig).ty.Contents (Elt F)) = Cert.ReferenceIdeal.Step.b29 j s := by
  unfold Cert.ReferenceIdeal.Step.b29
  rw [← al_28 h]
  try rfl
set_option maxRecDepth 8192 in
/-- Value 30 of a trip. -/
theorem al_30 (h : Holds V0 s j) : (res_main_while0b_v69 V0 : (Proc.devRef .tc main_while0b_v69 : DevRef τ sig).ty.Contents (Elt F)) = Cert.ReferenceIdeal.Step.b30 j s := by
  unfold res_main_while0b_v69 Cert.ReferenceIdeal.Step.b30
  rw [← al_27 h, ← al_29 h]
  try rfl
set_option maxRecDepth 8192 in
/-- Value 31 of a trip. -/
theorem al_31 (h : Holds V0 s j) : (broadcastInDim S8x4x1 ![0, 1] bcast_S8x4_S8x4x1_0_1 (V0 (Proc.devRef .tc main_v48_9)) : (Proc.devRef .tc main_while0b_v70 : DevRef τ sig).ty.Contents (Elt F)) = Cert.ReferenceIdeal.Step.b31 j s := by
  unfold Cert.ReferenceIdeal.Step.b31
  rw [h.f_9]
  try rfl
set_option maxRecDepth 8192 in
/-- Value 32 of a trip. -/
theorem al_32 (h : Holds V0 s j) : (broadcastInDim S8x4x128 ![0, 1, 2] bcast_S8x4x1_S8x4x128_0_1_2 (broadcastInDim S8x4x1 ![0, 1] bcast_S8x4_S8x4x1_0_1 (V0 (Proc.devRef .tc main_v48_9))) : (Proc.devRef .tc main_while0b_v71 : DevRef τ sig).ty.Contents (Elt F)) = Cert.ReferenceIdeal.Step.b32 j s := by
  unfold Cert.ReferenceIdeal.Step.b32
  rw [← al_31 h]
  try rfl
set_option maxRecDepth 8192 in
/-- Value 33 of a trip. -/
theorem al_33 (h : Holds V0 s j) : (res_main_while0b_v72 V0 : (Proc.devRef .tc main_while0b_v72 : DevRef τ sig).ty.Contents (Elt F)) = Cert.ReferenceIdeal.Step.b33 j s := by
  unfold res_main_while0b_v72 Cert.ReferenceIdeal.Step.b33
  rw [← al_30 h, ← al_32 h]
  try rfl
set_option maxRecDepth 8192 in
/-- Value 34 of a trip. -/
theorem al_34 (h : Holds V0 s j) : (broadcastInDim S8x4x128x1 ![0, 1, 2] bcast_S8x4x128_S8x4x128x1_0_1_2 (res_main_while0b_v69 V0) : (Proc.devRef .tc main_while0b_v73 : DevRef τ sig).ty.Contents (Elt F)) = Cert.ReferenceIdeal.Step.b34 j s := by
  unfold Cert.ReferenceIdeal.Step.b34
  rw [← al_30 h]
  try rfl
set_option maxRecDepth 8192 in
/-- Value 35 of a trip. -/
theorem al_35 (h : Holds V0 s j) : (broadcastInDim S8x4x1x128 ![0, 1, 3] bcast_S8x4x128_S8x4x1x128_0_1_3 (res_main_while0b_v69 V0) : (Proc.devRef .tc main_while0b_v74 : DevRef τ sig).ty.Contents (Elt F)) = Cert.ReferenceIdeal.Step.b35 j s := by
  unfold Cert.ReferenceIdeal.Step.b35
  rw [← al_30 h]
  try rfl
set_option maxRecDepth 8192 in
/-- Value 36 of a trip. -/
theorem al_36 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v69 V0)) : (Proc.devRef .tc main_while0b_v75 : DevRef τ sig).ty.Contents (Elt F)) = Cert.ReferenceIdeal.Step.b36 j s := by
  unfold Cert.ReferenceIdeal.Step.b36
  rw [← al_34 h]
  try rfl
set_option maxRecDepth 8192 in
/-- Value 37 of a trip. -/
theorem al_37 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v69 V0)) : (Proc.devRef .tc main_while0b_v76 : DevRef τ sig).ty.Contents (Elt F)) = Cert.ReferenceIdeal.Step.b37 j s := by
  unfold Cert.ReferenceIdeal.Step.b37
  rw [← al_35 h]
  try rfl
set_option maxRecDepth 8192 in
/-- Value 38 of a trip. -/
theorem al_38 (h : Holds V0 s j) : (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v69 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v69 V0))) : (Proc.devRef .tc main_while0b_v77 : DevRef τ sig).ty.Contents (Elt F)) = Cert.ReferenceIdeal.Step.b38 j s := by
  unfold Cert.ReferenceIdeal.Step.b38
  rw [← al_36 h, ← al_37 h]
  try rfl
set_option maxRecDepth 8192 in
/-- Value 39 of a trip. -/
theorem al_39 (h : Holds V0 s j) : (broadcastInDim S8x4x1x128 ![0, 1, 3] bcast_S8x4x128_S8x4x1x128_0_1_3 (res_main_while0b_v67 V0) : (Proc.devRef .tc main_while0b_v78 : DevRef τ sig).ty.Contents (Elt F)) = Cert.ReferenceIdeal.Step.b39 j s := by
  unfold Cert.ReferenceIdeal.Step.b39
  rw [← al_22 h]
  try rfl
set_option maxRecDepth 8192 in
/-- Value 40 of a trip. -/
theorem al_40 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v67 V0)) : (Proc.devRef .tc main_while0b_v79 : DevRef τ sig).ty.Contents (Elt F)) = Cert.ReferenceIdeal.Step.b40 j s := by
  unfold Cert.ReferenceIdeal.Step.b40
  rw [← al_39 h]
  try rfl
set_option maxRecDepth 8192 in
/-- Value 41 of a trip. -/
theorem al_41 (h : Holds V0 s j) : (addf (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v69 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v69 V0)))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v67 V0))) : (Proc.devRef .tc main_while0b_v80 : DevRef τ sig).ty.Contents (Elt F)) = Cert.ReferenceIdeal.Step.b41 j s := by
  unfold Cert.ReferenceIdeal.Step.b41
  rw [← al_38 h, ← al_40 h]
  try rfl
set_option maxRecDepth 8192 in
/-- Value 42 of a trip. -/
theorem al_42 (h : Holds V0 s j) : (constant S_ .f32 0xFF800000#32 : (Proc.devRef .tc main_while0b_cst_11 : DevRef τ sig).ty.Contents (Elt F)) = Cert.ReferenceIdeal.Step.b42 j s := by
  unfold Cert.ReferenceIdeal.Step.b42
  rfl
set_option maxRecDepth 8192 in
/-- Value 43 of a trip. -/
theorem al_43 (h : Holds V0 s j) : (id (constant S_ .f32 0xFF800000#32) : (Proc.devRef .tc main_while0b_call12_v0 : DevRef τ sig).ty.Contents (Elt F)) = Cert.ReferenceIdeal.Step.b43 j s := by
  unfold Cert.ReferenceIdeal.Step.b43
  rw [← al_42 h]
  try rfl
set_option maxRecDepth 8192 in
/-- Value 44 of a trip. -/
theorem al_44 (h : Holds V0 s j) : (broadcastInDim S8x4x128x128 ![2, 3] bcast_S128x128_S8x4x128x128_2_3 (V0 (Proc.devRef .tc main_v48_5)) : (Proc.devRef .tc main_while0b_call12_v1 : DevRef τ sig).ty.Contents (Elt F)) = Cert.ReferenceIdeal.Step.b44 j s := by
  unfold Cert.ReferenceIdeal.Step.b44
  rw [h.k_5]
  try rfl
set_option maxRecDepth 8192 in
/-- Value 45 of a trip. -/
theorem al_45 (h : Holds V0 s j) : (broadcastInDim S8x4x128x128 ![] bcast_S_S8x4x128x128 (id (constant S_ .f32 0xFF800000#32)) : (Proc.devRef .tc main_while0b_call12_v2 : DevRef τ sig).ty.Contents (Elt F)) = Cert.ReferenceIdeal.Step.b45 j s := by
  unfold Cert.ReferenceIdeal.Step.b45
  rw [← al_43 h]
  try rfl
set_option maxRecDepth 8192 in
/-- Value 46 of a trip. -/
theorem al_46 (h : Holds V0 s j) : (res_main_while0b_v81 V0 : (Proc.devRef .tc main_while0b_v81 : DevRef τ sig).ty.Contents (Elt F)) = Cert.ReferenceIdeal.Step.b46 j s := by
  unfold res_main_while0b_v81 Cert.ReferenceIdeal.Step.b46
  rw [← al_44 h, ← al_41 h, ← al_45 h]
  try rfl
set_option maxRecDepth 8192 in
/-- Value 47 of a trip. -/
theorem al_47 (h : Holds V0 s j) : (constant S_ .f32 0xFF800000#32 : (Proc.devRef .tc main_while0b_cst_12 : DevRef τ sig).ty.Contents (Elt F)) = Cert.ReferenceIdeal.Step.b47 j s := by
  unfold Cert.ReferenceIdeal.Step.b47
  rfl
set_option maxRecDepth 8192 in
/-- Value 48 of a trip. -/
theorem al_48 (h : Holds V0 s j) : (Host.reduce FloatOps.maximumf (res_main_while0b_v81 V0) (constant S_ .f32 0xFF800000#32) reducesTo_S8x4x128x128_S8x4x128_d3 h_S_ : (Proc.devRef .tc main_while0b_v82 : DevRef τ sig).ty.Contents (Elt F)) = Cert.ReferenceIdeal.Step.b48 j s := by
  unfold Cert.ReferenceIdeal.Step.b48
  rw [← al_46 h, ← al_47 h]
  try rfl
set_option maxRecDepth 8192 in
/-- Value 49 of a trip. -/
theorem al_49 (h : Holds V0 s j) : (res_main_while0b_v83 V0 : (Proc.devRef .tc main_while0b_v83 : DevRef τ sig).ty.Contents (Elt F)) = Cert.ReferenceIdeal.Step.b49 j s := by
  unfold res_main_while0b_v83 Cert.ReferenceIdeal.Step.b49
  rw [← al_33 h, ← al_48 h]
  try rfl
set_option maxRecDepth 8192 in
/-- Value 50 of a trip. -/
theorem al_50 (h : Holds V0 s j) : (subf (res_main_while0b_v72 V0) (res_main_while0b_v83 V0) : (Proc.devRef .tc main_while0b_v84 : DevRef τ sig).ty.Contents (Elt F)) = Cert.ReferenceIdeal.Step.b50 j s := by
  unfold Cert.ReferenceIdeal.Step.b50
  rw [← al_33 h, ← al_49 h]
  try rfl
set_option maxRecDepth 8192 in
/-- Value 51 of a trip. -/
theorem al_51 (h : Holds V0 s j) : (res_main_while0b_v85 V0 : (Proc.devRef .tc main_while0b_v85 : DevRef τ sig).ty.Contents (Elt F)) = Cert.ReferenceIdeal.Step.b51 j s := by
  unfold res_main_while0b_v85 Cert.ReferenceIdeal.Step.b51
  rw [← al_50 h]
  try rfl
set_option maxRecDepth 8192 in
/-- Value 52 of a trip. -/
theorem al_52 (h : Holds V0 s j) : (Host.dotGeneral dot_S8x4x128x512_S8x4x128x512_S8x4x128x128_3_3_2_2_01_01 none (res_main_while0b_v64 V0) (res_main_while0b_v65 V0) : (Proc.devRef .tc main_while0b_v86 : DevRef τ sig).ty.Contents (Elt F)) = Cert.ReferenceIdeal.Step.b52 j s := by
  unfold Cert.ReferenceIdeal.Step.b52
  rw [← al_5 h, ← al_11 h]
  try rfl
set_option maxRecDepth 8192 in
/-- Value 53 of a trip. -/
theorem al_53 (h : Holds V0 s j) : (broadcastInDim S8x4x128x1 ![0, 1, 2] bcast_S8x4x128_S8x4x128x1_0_1_2 (res_main_while0b_v83 V0) : (Proc.devRef .tc main_while0b_v87 : DevRef τ sig).ty.Contents (Elt F)) = Cert.ReferenceIdeal.Step.b53 j s := by
  unfold Cert.ReferenceIdeal.Step.b53
  rw [← al_49 h]
  try rfl
set_option maxRecDepth 8192 in
/-- Value 54 of a trip. -/
theorem al_54 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v83 V0)) : (Proc.devRef .tc main_while0b_v88 : DevRef τ sig).ty.Contents (Elt F)) = Cert.ReferenceIdeal.Step.b54 j s := by
  unfold Cert.ReferenceIdeal.Step.b54
  rw [← al_53 h]
  try rfl
set_option maxRecDepth 8192 in
/-- Value 55 of a trip. -/
theorem al_55 (h : Holds V0 s j) : (subf (res_main_while0b_v81 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v83 V0))) : (Proc.devRef .tc main_while0b_v89 : DevRef τ sig).ty.Contents (Elt F)) = Cert.ReferenceIdeal.Step.b55 j s := by
  unfold Cert.ReferenceIdeal.Step.b55
  rw [← al_46 h, ← al_54 h]
  try rfl
set_option maxRecDepth 8192 in
/-- Value 56 of a trip. -/
theorem al_56 (h : Holds V0 s j) : (Host.exp (subf (res_main_while0b_v81 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v83 V0)))) : (Proc.devRef .tc main_while0b_v90 : DevRef τ sig).ty.Contents (Elt F)) = Cert.ReferenceIdeal.Step.b56 j s := by
  unfold Cert.ReferenceIdeal.Step.b56
  rw [← al_55 h]
  try rfl
set_option maxRecDepth 8192 in
/-- Value 57 of a trip. -/
theorem al_57 (h : Holds V0 s j) : (res_main_while0b_v91 V0 : (Proc.devRef .tc main_while0b_v91 : DevRef τ sig).ty.Contents (Elt F)) = Cert.ReferenceIdeal.Step.b57 j s := by
  unfold res_main_while0b_v91 Cert.ReferenceIdeal.Step.b57
  rw [← al_52 h, ← al_56 h]
  try rfl
set_option maxRecDepth 8192 in
/-- Value 58 of a trip. -/
theorem al_58 (h : Holds V0 s j) : (broadcastInDim S8x4x128x1 ![0, 1, 2] bcast_S8x4x128_S8x4x128x1_0_1_2 (res_main_while0b_v85 V0) : (Proc.devRef .tc main_while0b_v92 : DevRef τ sig).ty.Contents (Elt F)) = Cert.ReferenceIdeal.Step.b58 j s := by
  unfold Cert.ReferenceIdeal.Step.b58
  rw [← al_51 h]
  try rfl
set_option maxRecDepth 8192 in
/-- Value 59 of a trip. -/
theorem al_59 (h : Holds V0 s j) : (Host.dotGeneral dot_S8x4x128x512_S8x4x512x512_S8x4x128x512_3_3_2_2_01_01 none (res_main_while0b_v64 V0) (V0 (Proc.devRef .tc main_v48_7)) : (Proc.devRef .tc main_while0b_v93 : DevRef τ sig).ty.Contents (Elt F)) = Cert.ReferenceIdeal.Step.b59 j s := by
  unfold Cert.ReferenceIdeal.Step.b59
  rw [← al_5 h, h.f_7]
  try rfl
set_option maxRecDepth 8192 in
/-- Value 60 of a trip. -/
theorem al_60 (h : Holds V0 s j) : (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0)) : (Proc.devRef .tc main_while0b_v94 : DevRef τ sig).ty.Contents (Elt F)) = Cert.ReferenceIdeal.Step.b60 j s := by
  unfold Cert.ReferenceIdeal.Step.b60
  rw [← al_58 h]
  try rfl
set_option maxRecDepth 8192 in
/-- Value 61 of a trip. -/
theorem al_61 (h : Holds V0 s j) : (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0))) (Host.dotGeneral dot_S8x4x128x512_S8x4x512x512_S8x4x128x512_3_3_2_2_01_01 none (res_main_while0b_v64 V0) (V0 (Proc.devRef .tc main_v48_7))) : (Proc.devRef .tc main_while0b_v95 : DevRef τ sig).ty.Contents (Elt F)) = Cert.ReferenceIdeal.Step.b61 j s := by
  unfold Cert.ReferenceIdeal.Step.b61
  rw [← al_60 h, ← al_59 h]
  try rfl
set_option maxRecDepth 8192 in
/-- Value 62 of a trip. -/
theorem al_62 (h : Holds V0 s j) : (Host.dotGeneral dot_S8x4x128x128_S8x4x128x512_S8x4x128x512_3_2_2_3_01_01 none (res_main_while0b_v91 V0) (res_main_while0b_v66 V0) : (Proc.devRef .tc main_while0b_v96 : DevRef τ sig).ty.Contents (Elt F)) = Cert.ReferenceIdeal.Step.b62 j s := by
  unfold Cert.ReferenceIdeal.Step.b62
  rw [← al_57 h, ← al_17 h]
  try rfl
set_option maxRecDepth 8192 in
/-- Value 63 of a trip. -/
theorem al_63 (h : Holds V0 s j) : (addf (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0))) (Host.dotGeneral dot_S8x4x128x512_S8x4x512x512_S8x4x128x512_3_3_2_2_01_01 none (res_main_while0b_v64 V0) (V0 (Proc.devRef .tc main_v48_7)))) (Host.dotGeneral dot_S8x4x128x128_S8x4x128x512_S8x4x128x512_3_2_2_3_01_01 none (res_main_while0b_v91 V0) (res_main_while0b_v66 V0)) : (Proc.devRef .tc main_while0b_v97 : DevRef τ sig).ty.Contents (Elt F)) = Cert.ReferenceIdeal.Step.b63 j s := by
  unfold Cert.ReferenceIdeal.Step.b63
  rw [← al_61 h, ← al_62 h]
  try rfl
set_option maxRecDepth 8192 in
/-- Value 64 of a trip. -/
theorem al_64 (h : Holds V0 s j) : (Host.dotGeneral dot_S8x4x512_S8x4x128x512_S8x4x128_2_3_n_2_01_01 none (V0 (Proc.devRef .tc main_v48_8)) (res_main_while0b_v64 V0) : (Proc.devRef .tc main_while0b_v98 : DevRef τ sig).ty.Contents (Elt F)) = Cert.ReferenceIdeal.Step.b64 j s := by
  unfold Cert.ReferenceIdeal.Step.b64
  rw [← al_5 h, h.f_8]
  try rfl
set_option maxRecDepth 8192 in
/-- Value 65 of a trip. -/
theorem al_65 (h : Holds V0 s j) : (mulf (res_main_while0b_v85 V0) (Host.dotGeneral dot_S8x4x512_S8x4x128x512_S8x4x128_2_3_n_2_01_01 none (V0 (Proc.devRef .tc main_v48_8)) (res_main_while0b_v64 V0)) : (Proc.devRef .tc main_while0b_v99 : DevRef τ sig).ty.Contents (Elt F)) = Cert.ReferenceIdeal.Step.b65 j s := by
  unfold Cert.ReferenceIdeal.Step.b65
  rw [← al_51 h, ← al_64 h]
  try rfl
set_option maxRecDepth 8192 in
/-- Value 66 of a trip. -/
theorem al_66 (h : Holds V0 s j) : (constant S_ .f32 0x00000000#32 : (Proc.devRef .tc main_while0b_cst_13 : DevRef τ sig).ty.Contents (Elt F)) = Cert.ReferenceIdeal.Step.b66 j s := by
  unfold Cert.ReferenceIdeal.Step.b66
  rfl
set_option maxRecDepth 8192 in
/-- Value 67 of a trip. -/
theorem al_67 (h : Holds V0 s j) : (Host.reduceAdd (res_main_while0b_v91 V0) (constant S_ .f32 0x00000000#32) reducesTo_S8x4x128x128_S8x4x128_d3 h_S_ : (Proc.devRef .tc main_while0b_v100 : DevRef τ sig).ty.Contents (Elt F)) = Cert.ReferenceIdeal.Step.b67 j s := by
  unfold Cert.ReferenceIdeal.Step.b67
  rw [← al_57 h, ← al_66 h]
  try rfl
set_option maxRecDepth 8192 in
/-- Value 68 of a trip. -/
theorem al_68 (h : Holds V0 s j) : (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_) : (Proc.devRef .tc main_while0b_v101 : DevRef τ sig).ty.Contents (Elt F)) = Cert.ReferenceIdeal.Step.b68 j s := by
  unfold Cert.ReferenceIdeal.Step.b68
  rw [← al_65 h, ← al_67 h]
  try rfl
set_option maxRecDepth 8192 in
/-- Value 69 of a trip. -/
theorem al_69 (h : Holds V0 s j) : (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_)) : (Proc.devRef .tc main_while0b_v102 : DevRef τ sig).ty.Contents (Elt F)) = Cert.ReferenceIdeal.Step.b69 j s := by
  unfold Cert.ReferenceIdeal.Step.b69
  rw [← al_68 h]
  try rfl
set_option maxRecDepth 8192 in
/-- Value 70 of a trip. -/
theorem al_70 (h : Holds V0 s j) : (Host.negf (res_main_while0b_v83 V0) : (Proc.devRef .tc main_while0b_v103 : DevRef τ sig).ty.Contents (Elt F)) = Cert.ReferenceIdeal.Step.b70 j s := by
  unfold Cert.ReferenceIdeal.Step.b70
  rw [← al_49 h]
  try rfl
set_option maxRecDepth 8192 in
/-- Value 71 of a trip. -/
theorem al_71 (h : Holds V0 s j) : (Host.exp (Host.negf (res_main_while0b_v83 V0)) : (Proc.devRef .tc main_while0b_v104 : DevRef τ sig).ty.Contents (Elt F)) = Cert.ReferenceIdeal.Step.b71 j s := by
  unfold Cert.ReferenceIdeal.Step.b71
  rw [← al_70 h]
  try rfl
set_option maxRecDepth 8192 in
/-- Value 72 of a trip. -/
theorem al_72 (h : Holds V0 s j) : (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0))) : (Proc.devRef .tc main_while0b_v105 : DevRef τ sig).ty.Contents (Elt F)) = Cert.ReferenceIdeal.Step.b72 j s := by
  unfold Cert.ReferenceIdeal.Step.b72
  rw [← al_69 h, ← al_71 h]
  try rfl
set_option maxRecDepth 8192 in
/-- Value 73 of a trip. -/
theorem al_73 (h : Holds V0 s j) : (broadcastInDim S8x4x128x1 ![0, 1, 2] bcast_S8x4x128_S8x4x128x1_0_1_2 (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0)))) : (Proc.devRef .tc main_while0b_v106 : DevRef τ sig).ty.Contents (Elt F)) = Cert.ReferenceIdeal.Step.b73 j s := by
  unfold Cert.ReferenceIdeal.Step.b73
  rw [← al_72 h]
  try rfl
set_option maxRecDepth 8192 in
/-- Value 74 of a trip. -/
theorem al_74 (h : Holds V0 s j) : (broadcastInDim S8x4x128x512 ![0, 1, 2, 3] bcast_S8x4x128x1_S8x4x128x512_0_1_2_3 (broadcastInDim S8x4x128x1 ![0, 1, 2] bcast_S8x4x128_S8x4x128x1_0_1_2 (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0))))) : (Proc.devRef .tc main_while0b_v107 : DevRef τ sig).ty.Contents (Elt F)) = Cert.ReferenceIdeal.Step.b74 j s := by
  unfold Cert.ReferenceIdeal.Step.b74
  rw [← al_73 h]
  try rfl
set_option maxRecDepth 8192 in
/-- Value 75 of a trip. -/
theorem al_75 (h : Holds V0 s j) : (Host.divf (addf (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0))) (Host.dotGeneral dot_S8x4x128x512_S8x4x512x512_S8x4x128x512_3_3_2_2_01_01 none (res_main_while0b_v64 V0) (V0 (Proc.devRef .tc main_v48_7)))) (Host.dotGeneral dot_S8x4x128x128_S8x4x128x512_S8x4x128x512_3_2_2_3_01_01 none (res_main_while0b_v91 V0) (res_main_while0b_v66 V0))) (broadcastInDim S8x4x128x512 ![0, 1, 2, 3] bcast_S8x4x128x1_S8x4x128x512_0_1_2_3 (broadcastInDim S8x4x128x1 ![0, 1, 2] bcast_S8x4x128_S8x4x128x1_0_1_2 (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0)))))) : (Proc.devRef .tc main_while0b_v108 : DevRef τ sig).ty.Contents (Elt F)) = Cert.ReferenceIdeal.Step.b75 j s := by
  unfold Cert.ReferenceIdeal.Step.b75
  rw [← al_63 h, ← al_74 h]
  try rfl
set_option maxRecDepth 8192 in
/-- Value 76 of a trip. -/
theorem al_76 (h : Holds V0 s j) : (extractStridedSlice S8x4x1 ![0, 0, 127] (res_main_while0b_v69 V0) slices_S8x4x128_S8x4x1_0_0_127 : (Proc.devRef .tc main_while0b_v109 : DevRef τ sig).ty.Contents (Elt F)) = Cert.ReferenceIdeal.Step.b76 j s := by
  unfold Cert.ReferenceIdeal.Step.b76
  rw [← al_30 h]
  try rfl
set_option maxRecDepth 8192 in
/-- Value 77 of a trip. -/
theorem al_77 (h : Holds V0 s j) : (res_main_while0b_v110 V0 : (Proc.devRef .tc main_while0b_v110 : DevRef τ sig).ty.Contents (Elt F)) = Cert.ReferenceIdeal.Step.b77 j s := by
  unfold res_main_while0b_v110 Cert.ReferenceIdeal.Step.b77
  rw [← al_76 h]
  try rfl
set_option maxRecDepth 8192 in
/-- Value 78 of a trip. -/
theorem al_78 (h : Holds V0 s j) : (broadcastInDim S8x4x1 ![0, 1] bcast_S8x4_S8x4x1_0_1 (res_main_while0b_v110 V0) : (Proc.devRef .tc main_while0b_v111 : DevRef τ sig).ty.Contents (Elt F)) = Cert.ReferenceIdeal.Step.b78 j s := by
  unfold Cert.ReferenceIdeal.Step.b78
  rw [← al_77 h]
  try rfl
set_option maxRecDepth 8192 in
/-- Value 79 of a trip. -/
theorem al_79 (h : Holds V0 s j) : (broadcastInDim S8x4x128 ![0, 1, 2] bcast_S8x4x1_S8x4x128_0_1_2 (broadcastInDim S8x4x1 ![0, 1] bcast_S8x4_S8x4x1_0_1 (res_main_while0b_v110 V0)) : (Proc.devRef .tc main_while0b_v112 : DevRef τ sig).ty.Contents (Elt F)) = Cert.ReferenceIdeal.Step.b79 j s := by
  unfold Cert.ReferenceIdeal.Step.b79
  rw [← al_78 h]
  try rfl
set_option maxRecDepth 8192 in
/-- Value 80 of a trip. -/
theorem al_80 (h : Holds V0 s j) : (subf (broadcastInDim S8x4x128 ![0, 1, 2] bcast_S8x4x1_S8x4x128_0_1_2 (broadcastInDim S8x4x1 ![0, 1] bcast_S8x4_S8x4x1_0_1 (res_main_while0b_v110 V0))) (res_main_while0b_v69 V0) : (Proc.devRef .tc main_while0b_v113 : DevRef τ sig).ty.Contents (Elt F)) = Cert.ReferenceIdeal.Step.b80 j s := by
  unfold Cert.ReferenceIdeal.Step.b80
  rw [← al_79 h, ← al_30 h]
  try rfl
set_option maxRecDepth 8192 in
/-- Value 81 of a trip. -/
theorem al_81 (h : Holds V0 s j) : (res_main_while0b_v114 V0 : (Proc.devRef .tc main_while0b_v114 : DevRef τ sig).ty.Contents (Elt F)) = Cert.ReferenceIdeal.Step.b81 j s := by
  unfold res_main_while0b_v114 Cert.ReferenceIdeal.Step.b81
  rw [← al_80 h, ← al_22 h]
  try rfl
set_option maxRecDepth 8192 in
/-- Value 82 of a trip. -/
theorem al_82 (h : Holds V0 s j) : (addf (res_main_while0b_v110 V0) (V0 (Proc.devRef .tc main_v48_9)) : (Proc.devRef .tc main_while0b_v115 : DevRef τ sig).ty.Contents (Elt F)) = Cert.ReferenceIdeal.Step.b82 j s := by
  unfold Cert.ReferenceIdeal.Step.b82
  rw [← al_77 h, h.f_9]
  try rfl
set_option maxRecDepth 8192 in
/-- Value 83 of a trip. -/
theorem al_83 (h : Holds V0 s j) : (constant S_ .f32 0xFF800000#32 : (Proc.devRef .tc main_while0b_cst_14 : DevRef τ sig).ty.Contents (Elt F)) = Cert.ReferenceIdeal.Step.b83 j s := by
  unfold Cert.ReferenceIdeal.Step.b83
  rfl
set_option maxRecDepth 8192 in
/-- Value 84 of a trip. -/
theorem al_84 (h : Holds V0 s j) : (Host.reduce FloatOps.maximumf (res_main_while0b_v114 V0) (constant S_ .f32 0xFF800000#32) reducesTo_S8x4x128_S8x4_d2 h_S_ : (Proc.devRef .tc main_while0b_v116 : DevRef τ sig).ty.Contents (Elt F)) = Cert.ReferenceIdeal.Step.b84 j s := by
  unfold Cert.ReferenceIdeal.Step.b84
  rw [← al_81 h, ← al_83 h]
  try rfl
set_option maxRecDepth 8192 in
/-- Value 85 of a trip. -/
theorem al_85 (h : Holds V0 s j) : (res_main_while0b_v117 V0 : (Proc.devRef .tc main_while0b_v117 : DevRef τ sig).ty.Contents (Elt F)) = Cert.ReferenceIdeal.Step.b85 j s := by
  unfold res_main_while0b_v117 Cert.ReferenceIdeal.Step.b85
  rw [← al_82 h, ← al_84 h]
  try rfl
set_option maxRecDepth 8192 in
/-- Value 86 of a trip. -/
theorem al_86 (h : Holds V0 s j) : (addf (res_main_while0b_v110 V0) (V0 (Proc.devRef .tc main_v48_9)) : (Proc.devRef .tc main_while0b_v118 : DevRef τ sig).ty.Contents (Elt F)) = Cert.ReferenceIdeal.Step.b86 j s := by
  unfold Cert.ReferenceIdeal.Step.b86
  rw [← al_77 h, h.f_9]
  try rfl
set_option maxRecDepth 8192 in
/-- Value 87 of a trip. -/
theorem al_87 (h : Holds V0 s j) : (subf (addf (res_main_while0b_v110 V0) (V0 (Proc.devRef .tc main_v48_9))) (res_main_while0b_v117 V0) : (Proc.devRef .tc main_while0b_v119 : DevRef τ sig).ty.Contents (Elt F)) = Cert.ReferenceIdeal.Step.b87 j s := by
  unfold Cert.ReferenceIdeal.Step.b87
  rw [← al_86 h, ← al_85 h]
  try rfl
set_option maxRecDepth 8192 in
/-- Value 88 of a trip. -/
theorem al_88 (h : Holds V0 s j) : (res_main_while0b_v120 V0 : (Proc.devRef .tc main_while0b_v120 : DevRef τ sig).ty.Contents (Elt F)) = Cert.ReferenceIdeal.Step.b88 j s := by
  unfold res_main_while0b_v120 Cert.ReferenceIdeal.Step.b88
  rw [← al_87 h]
  try rfl
set_option maxRecDepth 8192 in
/-- Value 89 of a trip. -/
theorem al_89 (h : Holds V0 s j) : (broadcastInDim S8x4x1 ![0, 1] bcast_S8x4_S8x4x1_0_1 (res_main_while0b_v117 V0) : (Proc.devRef .tc main_while0b_v121 : DevRef τ sig).ty.Contents (Elt F)) = Cert.ReferenceIdeal.Step.b89 j s := by
  unfold Cert.ReferenceIdeal.Step.b89
  rw [← al_85 h]
  try rfl
set_option maxRecDepth 8192 in
/-- Value 90 of a trip. -/
theorem al_90 (h : Holds V0 s j) : (broadcastInDim S8x4x128 ![0, 1, 2] bcast_S8x4x1_S8x4x128_0_1_2 (broadcastInDim S8x4x1 ![0, 1] bcast_S8x4_S8x4x1_0_1 (res_main_while0b_v117 V0)) : (Proc.devRef .tc main_while0b_v122 : DevRef τ sig).ty.Contents (Elt F)) = Cert.ReferenceIdeal.Step.b90 j s := by
  unfold Cert.ReferenceIdeal.Step.b90
  rw [← al_89 h]
  try rfl
set_option maxRecDepth 8192 in
/-- Value 91 of a trip. -/
theorem al_91 (h : Holds V0 s j) : (subf (res_main_while0b_v114 V0) (broadcastInDim S8x4x128 ![0, 1, 2] bcast_S8x4x1_S8x4x128_0_1_2 (broadcastInDim S8x4x1 ![0, 1] bcast_S8x4_S8x4x1_0_1 (res_main_while0b_v117 V0))) : (Proc.devRef .tc main_while0b_v123 : DevRef τ sig).ty.Contents (Elt F)) = Cert.ReferenceIdeal.Step.b91 j s := by
  unfold Cert.ReferenceIdeal.Step.b91
  rw [← al_81 h, ← al_90 h]
  try rfl
set_option maxRecDepth 8192 in
/-- Value 92 of a trip. -/
theorem al_92 (h : Holds V0 s j) : (res_main_while0b_v124 V0 : (Proc.devRef .tc main_while0b_v124 : DevRef τ sig).ty.Contents (Elt F)) = Cert.ReferenceIdeal.Step.b92 j s := by
  unfold res_main_while0b_v124 Cert.ReferenceIdeal.Step.b92
  rw [← al_91 h]
  try rfl
set_option maxRecDepth 8192 in
/-- Value 93 of a trip. -/
theorem al_93 (h : Holds V0 s j) : (broadcastInDim S8x4x1x1 ![0, 1] bcast_S8x4_S8x4x1x1_0_1 (res_main_while0b_v120 V0) : (Proc.devRef .tc main_while0b_v125 : DevRef τ sig).ty.Contents (Elt F)) = Cert.ReferenceIdeal.Step.b93 j s := by
  unfold Cert.ReferenceIdeal.Step.b93
  rw [← al_88 h]
  try rfl
set_option maxRecDepth 8192 in
/-- Value 94 of a trip. -/
theorem al_94 (h : Holds V0 s j) : (broadcastInDim S8x4x512x512 ![0, 1, 2, 3] bcast_S8x4x1x1_S8x4x512x512_0_1_2_3 (broadcastInDim S8x4x1x1 ![0, 1] bcast_S8x4_S8x4x1x1_0_1 (res_main_while0b_v120 V0)) : (Proc.devRef .tc main_while0b_v126 : DevRef τ sig).ty.Contents (Elt F)) = Cert.ReferenceIdeal.Step.b94 j s := by
  unfold Cert.ReferenceIdeal.Step.b94
  rw [← al_93 h]
  try rfl
set_option maxRecDepth 8192 in
/-- Value 95 of a trip. -/
theorem al_95 (h : Holds V0 s j) : (mulf (broadcastInDim S8x4x512x512 ![0, 1, 2, 3] bcast_S8x4x1x1_S8x4x512x512_0_1_2_3 (broadcastInDim S8x4x1x1 ![0, 1] bcast_S8x4_S8x4x1x1_0_1 (res_main_while0b_v120 V0))) (V0 (Proc.devRef .tc main_v48_7)) : (Proc.devRef .tc main_while0b_v127 : DevRef τ sig).ty.Contents (Elt F)) = Cert.ReferenceIdeal.Step.b95 j s := by
  unfold Cert.ReferenceIdeal.Step.b95
  rw [← al_94 h, h.f_7]
  try rfl
set_option maxRecDepth 8192 in
/-- Value 96 of a trip. -/
theorem al_96 (h : Holds V0 s j) : (broadcastInDim S8x4x128x1 ![0, 1, 2] bcast_S8x4x128_S8x4x128x1_0_1_2 (res_main_while0b_v124 V0) : (Proc.devRef .tc main_while0b_v128 : DevRef τ sig).ty.Contents (Elt F)) = Cert.ReferenceIdeal.Step.b96 j s := by
  unfold Cert.ReferenceIdeal.Step.b96
  rw [← al_92 h]
  try rfl
set_option maxRecDepth 8192 in
/-- Value 97 of a trip. -/
theorem al_97 (h : Holds V0 s j) : (broadcastInDim S8x4x128x512 ![0, 1, 2, 3] bcast_S8x4x128x1_S8x4x128x512_0_1_2_3 (broadcastInDim S8x4x128x1 ![0, 1, 2] bcast_S8x4x128_S8x4x128x1_0_1_2 (res_main_while0b_v124 V0)) : (Proc.devRef .tc main_while0b_v129 : DevRef τ sig).ty.Contents (Elt F)) = Cert.ReferenceIdeal.Step.b97 j s := by
  unfold Cert.ReferenceIdeal.Step.b97
  rw [← al_96 h]
  try rfl
set_option maxRecDepth 8192 in
/-- Value 98 of a trip. -/
theorem al_98 (h : Holds V0 s j) : (mulf (res_main_while0b_v66 V0) (broadcastInDim S8x4x128x512 ![0, 1, 2, 3] bcast_S8x4x128x1_S8x4x128x512_0_1_2_3 (broadcastInDim S8x4x128x1 ![0, 1, 2] bcast_S8x4x128_S8x4x128x1_0_1_2 (res_main_while0b_v124 V0))) : (Proc.devRef .tc main_while0b_v130 : DevRef τ sig).ty.Contents (Elt F)) = Cert.ReferenceIdeal.Step.b98 j s := by
  unfold Cert.ReferenceIdeal.Step.b98
  rw [← al_17 h, ← al_97 h]
  try rfl
set_option maxRecDepth 8192 in
/-- Value 99 of a trip. -/
theorem al_99 (h : Holds V0 s j) : (Host.dotGeneral dot_S8x4x128x512_S8x4x128x512_S8x4x512x512_2_2_3_3_01_01 none (mulf (res_main_while0b_v66 V0) (broadcastInDim S8x4x128x512 ![0, 1, 2, 3] bcast_S8x4x128x1_S8x4x128x512_0_1_2_3 (broadcastInDim S8x4x128x1 ![0, 1, 2] bcast_S8x4x128_S8x4x128x1_0_1_2 (res_main_while0b_v124 V0)))) (res_main_while0b_v65 V0) : (Proc.devRef .tc main_while0b_v131 : DevRef τ sig).ty.Contents (Elt F)) = Cert.ReferenceIdeal.Step.b99 j s := by
  unfold Cert.ReferenceIdeal.Step.b99
  rw [← al_98 h, ← al_11 h]
  try rfl
set_option maxRecDepth 8192 in
/-- Value 100 of a trip. -/
theorem al_100 (h : Holds V0 s j) : (addf (mulf (broadcastInDim S8x4x512x512 ![0, 1, 2, 3] bcast_S8x4x1x1_S8x4x512x512_0_1_2_3 (broadcastInDim S8x4x1x1 ![0, 1] bcast_S8x4_S8x4x1x1_0_1 (res_main_while0b_v120 V0))) (V0 (Proc.devRef .tc main_v48_7))) (Host.dotGeneral dot_S8x4x128x512_S8x4x128x512_S8x4x512x512_2_2_3_3_01_01 none (mulf (res_main_while0b_v66 V0) (broadcastInDim S8x4x128x512 ![0, 1, 2, 3] bcast_S8x4x128x1_S8x4x128x512_0_1_2_3 (broadcastInDim S8x4x128x1 ![0, 1, 2] bcast_S8x4x128_S8x4x128x1_0_1_2 (res_main_while0b_v124 V0)))) (res_main_while0b_v65 V0)) : (Proc.devRef .tc main_while0b_v132 : DevRef τ sig).ty.Contents (Elt F)) = Cert.ReferenceIdeal.Step.b100 j s := by
  unfold Cert.ReferenceIdeal.Step.b100
  rw [← al_95 h, ← al_99 h]
  try rfl
set_option maxRecDepth 8192 in
/-- Value 101 of a trip. -/
theorem al_101 (h : Holds V0 s j) : (broadcastInDim S8x4x1 ![0, 1] bcast_S8x4_S8x4x1_0_1 (res_main_while0b_v120 V0) : (Proc.devRef .tc main_while0b_v133 : DevRef τ sig).ty.Contents (Elt F)) = Cert.ReferenceIdeal.Step.b101 j s := by
  unfold Cert.ReferenceIdeal.Step.b101
  rw [← al_88 h]
  try rfl
set_option maxRecDepth 8192 in
/-- Value 102 of a trip. -/
theorem al_102 (h : Holds V0 s j) : (broadcastInDim S8x4x512 ![0, 1, 2] bcast_S8x4x1_S8x4x512_0_1_2 (broadcastInDim S8x4x1 ![0, 1] bcast_S8x4_S8x4x1_0_1 (res_main_while0b_v120 V0)) : (Proc.devRef .tc main_while0b_v134 : DevRef τ sig).ty.Contents (Elt F)) = Cert.ReferenceIdeal.Step.b102 j s := by
  unfold Cert.ReferenceIdeal.Step.b102
  rw [← al_101 h]
  try rfl
set_option maxRecDepth 8192 in
/-- Value 103 of a trip. -/
theorem al_103 (h : Holds V0 s j) : (mulf (broadcastInDim S8x4x512 ![0, 1, 2] bcast_S8x4x1_S8x4x512_0_1_2 (broadcastInDim S8x4x1 ![0, 1] bcast_S8x4_S8x4x1_0_1 (res_main_while0b_v120 V0))) (V0 (Proc.devRef .tc main_v48_8)) : (Proc.devRef .tc main_while0b_v135 : DevRef τ sig).ty.Contents (Elt F)) = Cert.ReferenceIdeal.Step.b103 j s := by
  unfold Cert.ReferenceIdeal.Step.b103
  rw [← al_102 h, h.f_8]
  try rfl
set_option maxRecDepth 8192 in
/-- Value 104 of a trip. -/
theorem al_104 (h : Holds V0 s j) : (Host.dotGeneral dot_S8x4x128_S8x4x128x512_S8x4x512_2_2_n_3_01_01 none (res_main_while0b_v124 V0) (res_main_while0b_v65 V0) : (Proc.devRef .tc main_while0b_v136 : DevRef τ sig).ty.Contents (Elt F)) = Cert.ReferenceIdeal.Step.b104 j s := by
  unfold Cert.ReferenceIdeal.Step.b104
  rw [← al_92 h, ← al_11 h]
  try rfl
set_option maxRecDepth 8192 in
/-- Value 105 of a trip. -/
theorem al_105 (h : Holds V0 s j) : (addf (mulf (broadcastInDim S8x4x512 ![0, 1, 2] bcast_S8x4x1_S8x4x512_0_1_2 (broadcastInDim S8x4x1 ![0, 1] bcast_S8x4_S8x4x1_0_1 (res_main_while0b_v120 V0))) (V0 (Proc.devRef .tc main_v48_8))) (Host.dotGeneral dot_S8x4x128_S8x4x128x512_S8x4x512_2_2_n_3_01_01 none (res_main_while0b_v124 V0) (res_main_while0b_v65 V0)) : (Proc.devRef .tc main_while0b_v137 : DevRef τ sig).ty.Contents (Elt F)) = Cert.ReferenceIdeal.Step.b105 j s := by
  unfold Cert.ReferenceIdeal.Step.b105
  rw [← al_103 h, ← al_104 h]
  try rfl
set_option maxRecDepth 8192 in
/-- Value 106 of a trip. -/
theorem al_106 (h : Holds V0 s j) : (broadcastInDim S1x8x4x128x512 ![1, 2, 3, 4] bcast_S8x4x128x512_S1x8x4x128x512_1_2_3_4 (Host.divf (addf (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0))) (Host.dotGeneral dot_S8x4x128x512_S8x4x512x512_S8x4x128x512_3_3_2_2_01_01 none (res_main_while0b_v64 V0) (V0 (Proc.devRef .tc main_v48_7)))) (Host.dotGeneral dot_S8x4x128x128_S8x4x128x512_S8x4x128x512_3_2_2_3_01_01 none (res_main_while0b_v91 V0) (res_main_while0b_v66 V0))) (broadcastInDim S8x4x128x512 ![0, 1, 2, 3] bcast_S8x4x128x1_S8x4x128x512_0_1_2_3 (broadcastInDim S8x4x128x1 ![0, 1, 2] bcast_S8x4x128_S8x4x128x1_0_1_2 (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0))))))) : (Proc.devRef .tc main_while0b_call13_v0 : DevRef τ sig).ty.Contents (Elt F)) = Cert.ReferenceIdeal.Step.b106 j s := by
  unfold Cert.ReferenceIdeal.Step.b106
  rw [← al_75 h]
  try rfl
set_option maxRecDepth 8192 in
/-- Value 107 of a trip. -/
theorem al_107 (h : Holds V0 s j) : (constantI S_ 32 0#32 : (Proc.devRef .tc main_while0b_call13_c : DevRef τ sig).ty.Contents (Elt F)) = Cert.ReferenceIdeal.Step.b107 j s := by
  unfold Cert.ReferenceIdeal.Step.b107
  rfl
set_option maxRecDepth 8192 in
/-- Value 108 of a trip. -/
theorem al_108 (h : Holds V0 s j) : (constantI S_ 32 0#32 : (Proc.devRef .tc main_while0b_call13_c_0 : DevRef τ sig).ty.Contents (Elt F)) = Cert.ReferenceIdeal.Step.b108 j s := by
  unfold Cert.ReferenceIdeal.Step.b108
  rfl
set_option maxRecDepth 8192 in
/-- Value 109 of a trip. -/
theorem al_109 (h : Holds V0 s j) : (constantI S_ 32 0#32 : (Proc.devRef .tc main_while0b_call13_c_1 : DevRef τ sig).ty.Contents (Elt F)) = Cert.ReferenceIdeal.Step.b109 j s := by
  unfold Cert.ReferenceIdeal.Step.b109
  rfl
set_option maxRecDepth 8192 in
/-- Value 110 of a trip. -/
theorem al_110 (h : Holds V0 s j) : (constantI S_ 32 0#32 : (Proc.devRef .tc main_while0b_call13_c_2 : DevRef τ sig).ty.Contents (Elt F)) = Cert.ReferenceIdeal.Step.b110 j s := by
  unfold Cert.ReferenceIdeal.Step.b110
  rfl
set_option maxRecDepth 8192 in
/-- Value 111 of a trip. -/
theorem al_111 (h : Holds V0 s j) : (Host.dynamicUpdateSlice (V0 (Proc.devRef .tc main_v48_10)) (broadcastInDim S1x8x4x128x512 ![1, 2, 3, 4] bcast_S8x4x128x512_S1x8x4x128x512_1_2_3_4 (Host.divf (addf (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v85 V0))) (Host.dotGeneral dot_S8x4x128x512_S8x4x512x512_S8x4x128x512_3_3_2_2_01_01 none (res_main_while0b_v64 V0) (V0 (Proc.devRef .tc main_v48_7)))) (Host.dotGeneral dot_S8x4x128x128_S8x4x128x512_S8x4x128x512_3_2_2_3_01_01 none (res_main_while0b_v91 V0) (res_main_while0b_v66 V0))) (broadcastInDim S8x4x128x512 ![0, 1, 2, 3] bcast_S8x4x128x1_S8x4x128x512_0_1_2_3 (broadcastInDim S8x4x128x1 ![0, 1, 2] bcast_S8x4x128_S8x4x128x1_0_1_2 (maximumf (Host.absf (addf (mulf (res_main_while0b_v85 V0) (Host.dotGeneral dot_S8x4x512_S8x4x128x512_S8x4x128_2_3_n_2_01_01 none (V0 (Proc.devRef .tc main_v48_8)) (res_main_while0b_v64 V0))) (Host.reduceAdd (res_main_while0b_v91 V0) (constant S_ .f32 0x00000000#32) reducesTo_S8x4x128x128_S8x4x128_d3 h_S_))) (Host.exp (Host.negf (res_main_while0b_v83 V0)))))))) (fun k => (((![V0 (Proc.devRef .tc main_v48_6), constantI S_ 32 0#32, constantI S_ 32 0#32, constantI S_ 32 0#32, constantI S_ 32 0#32] : Fin 5 → (⟨S_, .i32⟩ : BufTy).Contents (Elt F))) k (Shape.Idx.first h_S_)).toInt) updateFits_S64x8x4x128x512_S1x8x4x128x512 : (Proc.devRef .tc main_while0b_v138 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

/-! One trip's step of the carried values is `step`, field by field; a counter steps to the next number. -/

/-- The matrices a trip leaves. -/
theorem step_7 (h : Holds V0 s j) : step_main_v48_7 V0 = (step j s).main_v48_7 := by
  unfold step_main_v48_7 Cert.ReferenceIdeal.Step.step
  show id (addf (mulf (broadcastInDim S8x4x512x512 ![0, 1, 2, 3] bcast_S8x4x1x1_S8x4x512x512_0_1_2_3 (broadcastInDim S8x4x1x1 ![0, 1] bcast_S8x4_S8x4x1x1_0_1 (res_main_while0b_v120 V0))) (V0 (Proc.devRef .tc main_v48_7))) (Host.dotGeneral dot_S8x4x128x512_S8x4x128x512_S8x4x512x512_2_2_3_3_01_01 none (mulf (res_main_while0b_v66 V0) (broadcastInDim S8x4x128x512 ![0, 1, 2, 3] bcast_S8x4x128x1_S8x4x128x512_0_1_2_3 (broadcastInDim S8x4x128x1 ![0, 1, 2] bcast_S8x4x128_S8x4x128x1_0_1_2 (res_main_while0b_v124 V0)))) (res_main_while0b_v65 V0))) = _
  rw [al_100 h]
  try rfl
/-- The normalisers a trip leaves. -/
theorem step_8 (h : Holds V0 s j) : step_main_v48_8 V0 = (step j s).main_v48_8 := by
  unfold step_main_v48_8 Cert.ReferenceIdeal.Step.step
  show id (addf (mulf (broadcastInDim S8x4x512 ![0, 1, 2] bcast_S8x4x1_S8x4x512_0_1_2 (broadcastInDim S8x4x1 ![0, 1] bcast_S8x4_S8x4x1_0_1 (res_main_while0b_v120 V0))) (V0 (Proc.devRef .tc main_v48_8))) (Host.dotGeneral dot_S8x4x128_S8x4x128x512_S8x4x512_2_2_n_3_01_01 none (res_main_while0b_v124 V0) (res_main_while0b_v65 V0))) = _
  rw [al_105 h]
  try rfl
/-- The stabilisers a trip leaves. -/
theorem step_9 (h : Holds V0 s j) : step_main_v48_9 V0 = (step j s).main_v48_9 := by
  unfold step_main_v48_9 Cert.ReferenceIdeal.Step.step
  show id (res_main_while0b_v117 V0) = _
  rw [al_85 h]
  try rfl
/-- The outputs a trip leaves. -/
theorem step_10 (h : Holds V0 s j) : step_main_v48_10 V0 = (step j s).main_v48_10 :=
  al_111 h
/-- The number a trip leaves is the next. -/
theorem step_6 (h : Holds V0 s j) : step_main_v48_6 V0 = constantI S_ 32 (BitVec.ofNat 32 (j + 1)) := by
  unfold step_main_v48_6
  rw [h.n_6]
  funext i
  show BitVec.ofNat 32 j + 1#32 = BitVec.ofNat 32 (j + 1)
  simp only [BitVec.ofNat_add]

set_option maxRecDepth 8192 in
/-- The outputs of the run, of the last state. -/
theorem out_main_v58_holds (h : Holds V0 s j) : out_main_v58 V0 = Cert.ReferenceIdeal.Step.R_main_v58 s := by
  unfold out_main_v58 Cert.ReferenceIdeal.Step.R_main_v58
  rw [h.f_10]
  try rfl

set_option maxRecDepth 8192 in
/-- The last matrices, of the last state. -/
theorem out_main_v60_holds (h : Holds V0 s j) : out_main_v60 V0 = Cert.ReferenceIdeal.Step.R_main_v60 s := by
  unfold out_main_v60 Cert.ReferenceIdeal.Step.R_main_v60
  rw [h.f_7]
  try rfl

set_option maxRecDepth 8192 in
/-- The last normalisers, of the last state. -/
theorem out_main_v61_holds (h : Holds V0 s j) : out_main_v61 V0 = Cert.ReferenceIdeal.Step.R_main_v61 s := by
  unfold out_main_v61 Cert.ReferenceIdeal.Step.R_main_v61
  rw [h.f_8]
  try rfl

set_option maxRecDepth 8192 in
/-- The last stabilisers, of the last state. -/
theorem out_main_v63_holds (h : Holds V0 s j) : out_main_v63 V0 = Cert.ReferenceIdeal.Step.R_main_v63 s := by
  unfold out_main_v63 Cert.ReferenceIdeal.Step.R_main_v63
  rw [h.f_9]
  try rfl

/-- One trip keeps the valuation holding: `step` of the state, the same set-up values, the next number. -/
theorem holds_step (h : Holds V0 s j) : Holds (STEP V0) (step j s) (j + 1) where
  f_7 := (STEP_main_v48_7 V0).trans (step_7 h)
  f_8 := (STEP_main_v48_8 V0).trans (step_8 h)
  f_9 := (STEP_main_v48_9 V0).trans (step_9 h)
  f_10 := (STEP_main_v48_10 V0).trans (step_10 h)
  n_6 := (STEP_main_v48_6 V0).trans (step_6 h)
  k_5 := (STEP_main_v48_5 V0).trans h.k_5
  f_0 := (STEP_main_v48_0 V0).trans h.f_0
  f_1 := (STEP_main_v48_1 V0).trans h.f_1
  f_2 := (STEP_main_v48_2 V0).trans h.f_2
  f_3 := (STEP_main_v48_3 V0).trans h.f_3
  f_4 := (STEP_main_v48_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results of `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v58) = Cert.ReferenceIdeal.Step.R_main_v58 (it c 64)
      ∧ r.2.mem ((c.tc : Thread nD τ).loc main_v60) = Cert.ReferenceIdeal.Step.R_main_v60 (it c 64)
      ∧ r.2.mem ((c.tc : Thread nD τ).loc main_v61) = Cert.ReferenceIdeal.Step.R_main_v61 (it c 64)
      ∧ r.2.mem ((c.tc : Thread nD τ).loc main_v63) = Cert.ReferenceIdeal.Step.R_main_v63 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 64
    ⟨(h c).1.trans (out_main_v58_holds hk), (h c).2.1.trans (out_main_v60_holds hk), (h c).2.2.1.trans (out_main_v61_holds hk), (h c).2.2.2.1.trans (out_main_v63_holds hk), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.Trips

end
-- ==== Proof.RefGlobal.lean ====
/- The reference's loop over the 64 chunks is the recurrence over them, and its four results are the recurrence's. -/
module

public import proofs.«01_k».proof.Proof.RefChunk
public import proofs.«01_k».proof.Proof.RefTrip
public import proofs.«01_k».proof.Proof.RefTrips

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Step Idealize.SL.Sem
open Cert

variable (A : Chunk.Args)

/-- The state after `n` trips. -/
def iter : ℕ → State Ideal
  | 0 => first A
  | n + 1 => step n (iter n)

/-- What the state holds after `t` trips: the inputs as they were, the memories of `t` chunks, the outputs of the first `t`. -/
structure Inv (t : ℕ) : Prop where
  q : (iter A t).main_v48_0 = (first A).main_v48_0
  k : (iter A t).main_v48_1 = (first A).main_v48_1
  v : (iter A t).main_v48_2 = (first A).main_v48_2
  ig : (iter A t).main_v48_3 = (first A).main_v48_3
  lf : (iter A t).main_v48_4 = (first A).main_v48_4
  C : ∀ (dir : Fin 2) (b h : Fin 4) (e a : Fin 512), (iter A t).main_v48_7 (ix4 (row dir b) h e a) = (Chunk.mem A dir b h t).C a e
  n : ∀ (dir : Fin 2) (b h : Fin 4) (a : Fin 512), (iter A t).main_v48_8 (ix3 (row dir b) h a) = (Chunk.mem A dir b h t).n a
  m : ∀ (dir : Fin 2) (b h : Fin 4), (iter A t).main_v48_9 (ix2 (row dir b) h) = (Chunk.mem A dir b h t).m
  out : ∀ (c : Fin 64), c.val < t → ∀ (dir : Fin 2) (b h : Fin 4) (i : Fin 128) (e : Fin 512),
    (iter A t).main_v48_10 (ix5 c (row dir b) h i e) = Chunk.h (Chunk.seq A dir b h c.val) (Chunk.mem A dir b h c.val) i e

/-- The chunk of a trip is the one of its number. -/
theorem seq_eq (dir : Fin 2) (b h : Fin 4) (c : Fin 64) : Chunk.chunkAt A dir b h c = Chunk.seq A dir b h c.val := by
  unfold Chunk.seq
  exact congrArg (Chunk.chunkAt A dir b h) (Fin.ext (Nat.mod_eq_of_lt c.isLt).symm)

variable {A} in
/-- A trip finds its chunk and the memories of the trips before. -/
theorem Inv.row {n : ℕ} (I : Inv A n) (hn : n < 64) (dir : Fin 2) (b h : Fin 4) :
    Row n (iter A n) (row dir b) h (Chunk.seq A dir b h n) (Chunk.mem A dir b h n) := by
  have hs := seq_eq A dir b h ⟨n, hn⟩
  rw [show (⟨n, hn⟩ : Fin 64).val = n from rfl] at hs
  refine ⟨fun i a => ?_, fun i a => ?_, fun i a => ?_, fun i => ?_, fun i => ?_, I.C dir b h, I.n dir b h, I.m dir b h⟩
  · refine (slice_read n hn (iter A n).main_v48_0 (Scan.row dir b) h i a).trans ?_
    rw [I.q, first_q, hs]
  · refine (slice_read n hn (iter A n).main_v48_1 (Scan.row dir b) h i a).trans ?_
    rw [I.k, first_k, hs]
  · refine (slice_read n hn (iter A n).main_v48_2 (Scan.row dir b) h i a).trans ?_
    rw [I.v, first_v, hs]
  · refine (sliceG_read n hn (iter A n).main_v48_3 (Scan.row dir b) h i).trans ?_
    rw [I.ig, first_ig, hs]
  · refine (sliceG_read n hn (iter A n).main_v48_4 (Scan.row dir b) h i).trans ?_
    rw [I.lf, first_lf, hs]

/-- The invariant after every trip. -/
theorem inv (n : ℕ) (hn : n ≤ 64) : Inv A n := by
  induction n with
  | zero =>
    exact ⟨rfl, rfl, rfl, rfl, rfl, first_C A, first_n A, first_m A, fun c hc => absurd hc (Nat.not_lt_zero _)⟩
  | succ n ih =>
    have I := ih (by omega)
    have hn' : n < 64 := by omega
    refine ⟨I.q, I.k, I.v, I.ig, I.lf, fun dir b h e a => ?_, fun dir b h a => ?_, fun dir b h => ?_, fun c hc dir b h i e => ?_⟩
    · exact b100_eq (I.row hn' dir b h) e a
    · exact b105_eq (I.row hn' dir b h) a
    · exact b85_eq (I.row hn' dir b h)
    · refine (b111_read n hn' (iter A n) c (row dir b) h i e).trans ?_
      by_cases hcn : c.val = n
      · rw [if_pos hcn, hcn]
        exact b75_eq (I.row hn' dir b h) i e
      · rw [if_neg hcn]
        exact I.out c (by omega) dir b h i e

/-- The outputs are the recurrence's. -/
theorem outH : R_main_v58 (iter A 64) = Chunk.resH A := by
  funext y
  idx_vars y
  obtain ⟨h, e, rfl⟩ : ∃ (h : Fin 4) (e : Fin 512), y3 = Chunk.feat h e :=
    ⟨⟨y3.val / 512, by omega⟩, ⟨y3.val % 512, by omega⟩, Fin.ext (by show y3.val = 512 * (y3.val / 512) + y3.val % 512; omega)⟩
  refine (out_read (iter A 64) y0 y1 y2 h e).trans ?_
  rw [(inv A 64 le_rfl).out _ (by show _ / 128 < 64; have := (Chunk.pos y0 y2).isLt; omega)]
  exact (Chunk.resH_apply A y0 y1 y2 h e).symm

/-- The last matrices are the recurrence's. -/
theorem outC : R_main_v60 (iter A 64) = Chunk.resC A := by
  funext y
  idx_vars y
  exact (C_read (iter A 64) y0 y1 y2 y3 y4).trans ((inv A 64 le_rfl).C y0 y1 y2 y4 y3)

/-- The last normalisers are the recurrence's. -/
theorem outN : R_main_v61 (iter A 64) = Chunk.resN A := by
  funext y
  idx_vars y
  exact (n_read (iter A 64) y0 y1 y2 y3 y4).trans ((inv A 64 le_rfl).n y0 y1 y2 y4)

/-- The last stabilisers are the recurrence's. -/
theorem outM : R_main_v63 (iter A 64) = Chunk.resM A := by
  funext y
  idx_vars y
  exact (m_read (iter A 64) y0 y1 y2 y3 y4).trans ((inv A 64 le_rfl).m y0 y1 y2)

/-! ## The run -/

variable (m : (ℓ : Loc nD τ sig) → Buf (Elt Ideal) ℓ) (ρ : Dev nD → PrngReg)

/-- The arguments as the reference finds them. -/
def argsOf (c : Dev nD) : Chunk.Args where
  q := m ((c.tc : Thread nD τ).loc main_arg0)
  k := m ((c.tc : Thread nD τ).loc main_arg1)
  v := m ((c.tc : Thread nD τ).loc main_arg2)
  g := m ((c.tc : Thread nD τ).loc main_arg3)
  C := m ((c.tc : Thread nD τ).loc main_arg4)
  n := m ((c.tc : Thread nD τ).loc main_arg5)
  m := m ((c.tc : Thread nD τ).loc main_arg6)

/-- Every run of the reference ends with the recurrence's four results and the arguments as they were. -/
theorem run : θ_run (defs (F := Ideal)) (onTc (τ := τ) (main (F := Ideal))) ⟨m, fun _ => 0, ρ⟩ fun r => ∀ c : Dev nD,
      r.2.mem ((c.tc : Thread nD τ).loc main_v58) = Chunk.resH (argsOf m c)
      ∧ r.2.mem ((c.tc : Thread nD τ).loc main_v60) = Chunk.resC (argsOf m c)
      ∧ r.2.mem ((c.tc : Thread nD τ).loc main_v61) = Chunk.resN (argsOf m c)
      ∧ r.2.mem ((c.tc : Thread nD τ).loc main_v63) = Chunk.resM (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (outH (argsOf m c)), (h c).2.1.trans (outC (argsOf m c)), (h c).2.2.1.trans (outN (argsOf m c)),
      (h c).2.2.2.1.trans (outM (argsOf m c)), (h c).2.2.2.2⟩)
    (Trips.run_iter m ρ (fun c => iter (argsOf m c)) (fun _ => rfl) fun _ _ => rfl)

end Cert.ReferenceIdeal.Scan
end
-- ==== Proof.lean ====
/- The five claims about each call: the two forms of the kernel and the reference end with their arguments unchanged and
   every semaphore at zero; the kernel's ideal form is the kernel's; and, over the extended reals, kernel and reference end
   with the same results, those written in `Chunk` for the scan and in the call's own module for the others. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.UpValue
public import proofs.«01_k».proof.Proof.DownValue
public import proofs.«01_k».proof.Proof.LastValue
public import proofs.«01_k».proof.Proof.HyenaInValue
public import proofs.«01_k».proof.Proof.MlstmInValue
public import proofs.«01_k».proof.Proof.HyenaOutValue
public import proofs.«01_k».proof.Proof.MlstmOutValue
public import proofs.«01_k».proof.Proof.ConvValue
public import proofs.«01_k».proof.Proof.HyenaConvValue
public import proofs.«01_k».proof.Proof.PrepValue
public import proofs.«01_k».proof.Proof.AdalnValue
public import proofs.«01_k».proof.Proof.RefGlobal
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments unchanged. -/
theorem kernel_frame : quiescent_Kernel (hKernel := Cert.Kernel.Gen.facts) := fun m g _ => Cert.Kernel.Scan.frame m g

/-- So does its ideal form. -/
theorem ideal_frame : quiescent_KernelIdeal (hKernelIdeal := Cert.KernelIdeal.Gen.facts) := fun m g _ => Cert.KernelIdeal.Scan.frame m g

/-- So does the reference, which has no semaphores. -/
theorem reference_frame : quiescent_ReferenceIdeal (hReferenceIdeal := Cert.ReferenceIdeal.Gen.facts) := fun m g _ =>
  (θ_run _ _ _).mono (fun r h => ⟨fun c => (h c).2.2.2.2, Idealize.ShloMosaic.sem_eq_zero_of_no_sems (by decide) r.2⟩)
    (Cert.ReferenceIdeal.Scan.run m g)

/-- Kernel and reference end with the same four results, those of the recurrence. -/
theorem values : algebraic_KernelIdeal_ReferenceIdeal (hKernelIdeal := Cert.KernelIdeal.Gen.facts)
    (hReferenceIdeal := Cert.ReferenceIdeal.Gen.facts) := fun m g m' g' _ hargs => by
  have hA : ∀ c : Dev Cert.KernelIdeal.nD, Cert.ReferenceIdeal.Scan.argsOf m' c = Cert.KernelIdeal.Scan.argsOf m c := fun c => by
    obtain ⟨h0, h1, h2, h3, h4, h5, h6⟩ := hargs c
    unfold Cert.ReferenceIdeal.Scan.argsOf Cert.KernelIdeal.Scan.argsOf
    congr 1
  refine ⟨fun c => Chunk.resH (Cert.KernelIdeal.Scan.argsOf m c), fun c => Chunk.resC (Cert.KernelIdeal.Scan.argsOf m c),
    fun c => Chunk.resN (Cert.KernelIdeal.Scan.argsOf m c), fun c => Chunk.resM (Cert.KernelIdeal.Scan.argsOf m c), ?_, ?_⟩
  · refine (θ_run _ _ _).mono (fun r h c => ?_) (Cert.KernelIdeal.Scan.run m g)
    exact ⟨((h.1 c).1 10).trans (Cert.KernelIdeal.Scan.final10 m c), ((h.1 c).1 11).trans (Cert.KernelIdeal.Scan.final11 m c),
      ((h.1 c).1 12).trans (Cert.KernelIdeal.Scan.final12 m c), ((h.1 c).1 13).trans (Cert.KernelIdeal.Scan.final13 m c),
      Cert.KernelIdeal.Scan.argsKept m h.1 c⟩
  · refine (θ_run _ _ _).mono (fun r h c => ?_) (Cert.ReferenceIdeal.Scan.run m' g')
    have := h c
    rw [hA c] at this
    exact this

/-! ## First product of the feed-forward layer -/

/-- The kernel ends with its arguments unchanged. -/
theorem up_kernel_frame : quiescent_UpKernel (hUpKernel := Cert.UpKernel.Gen.facts) := fun m g _ => Cert.UpKernel.Gen.frame m g

/-- So does its ideal form. -/
theorem up_ideal_frame : quiescent_UpKernelIdeal (hUpKernelIdeal := Cert.UpKernelIdeal.Gen.facts) := fun m g _ => Cert.UpKernelIdeal.Gen.frame m g

/-- So does the reference, which has no semaphores. -/
theorem up_reference_frame : quiescent_UpReferenceIdeal (hUpReferenceIdeal := Cert.UpReferenceIdeal.Gen.facts) := fun m g _ =>
  (θ_run _ _ _).mono (fun r h => ⟨fun c => (h c).2, Idealize.ShloMosaic.sem_eq_zero_of_no_sems (by decide) r.2⟩)
    (Cert.UpReferenceIdeal.Rows.run m g)

/-- Kernel and reference end with the same results. -/
theorem up_values : algebraic_UpKernelIdeal_UpReferenceIdeal (hUpKernelIdeal := Cert.UpKernelIdeal.Gen.facts)
    (hUpReferenceIdeal := Cert.UpReferenceIdeal.Gen.facts) := fun m g m' g' _ hargs => by
  have hA : ∀ c : Dev Cert.UpKernelIdeal.nD, Cert.UpReferenceIdeal.Rows.argsOf m' c = Cert.UpKernelIdeal.Rows.argsOf m c := fun c => by
    have h := hargs c
    unfold Cert.UpReferenceIdeal.Rows.argsOf Cert.UpKernelIdeal.Rows.argsOf
    congr 1
    all_goals simp only [h]
  refine ⟨fun c => Up.res (Cert.UpKernelIdeal.Rows.argsOf m c), ?_, ?_⟩
  · exact (θ_run _ _ _).mono (fun r h c => ⟨(h c).1.trans (Cert.UpKernelIdeal.Rows.final m c), (h c).2⟩) (Cert.UpKernelIdeal.Value.run_blocks m g)
  · refine (θ_run _ _ _).mono (fun r h c => ?_) (Cert.UpReferenceIdeal.Rows.run m' g')
    have := h c
    rw [hA c] at this
    exact this

/-! ## Last product of the feed-forward layer -/

/-- The kernel ends with its arguments unchanged. -/
theorem down_kernel_frame : quiescent_DownKernel (hDownKernel := Cert.DownKernel.Gen.facts) := fun m g _ => Cert.DownKernel.Gen.frame m g

/-- So does its ideal form. -/
theorem down_ideal_frame : quiescent_DownKernelIdeal (hDownKernelIdeal := Cert.DownKernelIdeal.Gen.facts) := fun m g _ => Cert.DownKernelIdeal.Gen.frame m g

/-- So does the reference, which has no semaphores. -/
theorem down_reference_frame : quiescent_DownReferenceIdeal (hDownReferenceIdeal := Cert.DownReferenceIdeal.Gen.facts) := fun m g _ =>
  (θ_run _ _ _).mono (fun r h => ⟨fun c => (h c).2, Idealize.ShloMosaic.sem_eq_zero_of_no_sems (by decide) r.2⟩)
    (Cert.DownReferenceIdeal.Rows.run m g)

/-- Kernel and reference end with the same results. -/
theorem down_values : algebraic_DownKernelIdeal_DownReferenceIdeal (hDownKernelIdeal := Cert.DownKernelIdeal.Gen.facts)
    (hDownReferenceIdeal := Cert.DownReferenceIdeal.Gen.facts) := fun m g m' g' _ hargs => by
  have hA : ∀ c : Dev Cert.DownKernelIdeal.nD, Cert.DownReferenceIdeal.Rows.argsOf m' c = Cert.DownKernelIdeal.Rows.argsOf m c := fun c => by
    have h := hargs c
    unfold Cert.DownReferenceIdeal.Rows.argsOf Cert.DownKernelIdeal.Rows.argsOf
    congr 1
    all_goals simp only [h]
  refine ⟨fun c => Down.res (Cert.DownKernelIdeal.Rows.argsOf m c), ?_, ?_⟩
  · exact (θ_run _ _ _).mono (fun r h c => ⟨(h c).1.trans (Cert.DownKernelIdeal.Rows.final m c), (h c).2⟩) (Cert.DownKernelIdeal.Value.run_blocks m g)
  · refine (θ_run _ _ _).mono (fun r h c => ?_) (Cert.DownReferenceIdeal.Rows.run m' g')
    have := h c
    rw [hA c] at this
    exact this

/-! ## Last product of the last layer, and the last normalisation -/

/-- The kernel ends with its arguments unchanged. -/
theorem last_kernel_frame : quiescent_LastKernel (hLastKernel := Cert.LastKernel.Gen.facts) := fun m g _ => Cert.LastKernel.Gen.frame m g

/-- So does its ideal form. -/
theorem last_ideal_frame : quiescent_LastKernelIdeal (hLastKernelIdeal := Cert.LastKernelIdeal.Gen.facts) := fun m g _ => Cert.LastKernelIdeal.Gen.frame m g

/-- So does the reference, which has no semaphores. -/
theorem last_reference_frame : quiescent_LastReferenceIdeal (hLastReferenceIdeal := Cert.LastReferenceIdeal.Gen.facts) := fun m g _ =>
  (θ_run _ _ _).mono (fun r h => ⟨fun c => (h c).2, Idealize.ShloMosaic.sem_eq_zero_of_no_sems (by decide) r.2⟩)
    (Cert.LastReferenceIdeal.Rows.run m g)

/-- Kernel and reference end with the same results. -/
theorem last_values : algebraic_LastKernelIdeal_LastReferenceIdeal (hLastKernelIdeal := Cert.LastKernelIdeal.Gen.facts)
    (hLastReferenceIdeal := Cert.LastReferenceIdeal.Gen.facts) := fun m g m' g' _ hargs => by
  have hA : ∀ c : Dev Cert.LastKernelIdeal.nD, Cert.LastReferenceIdeal.Rows.argsOf m' c = Cert.LastKernelIdeal.Rows.argsOf m c := fun c => by
    have h := hargs c
    unfold Cert.LastReferenceIdeal.Rows.argsOf Cert.LastKernelIdeal.Rows.argsOf
    congr 1
    all_goals simp only [h]
  refine ⟨fun c => Last.res (Cert.LastKernelIdeal.Rows.argsOf m c), ?_, ?_⟩
  · exact (θ_run _ _ _).mono (fun r h c => ⟨(h c).1.trans (Cert.LastKernelIdeal.Rows.final m c), (h c).2⟩) (Cert.LastKernelIdeal.Value.run_blocks m g)
  · refine (θ_run _ _ _).mono (fun r h c => ?_) (Cert.LastReferenceIdeal.Rows.run m' g')
    have := h c
    rw [hA c] at this
    exact this

/-! ## First product of the first mixer -/

/-- The kernel ends with its arguments unchanged. -/
theorem hyenaIn_kernel_frame : quiescent_HyenaInKernel (hHyenaInKernel := Cert.HyenaInKernel.Gen.facts) := fun m g _ => Cert.HyenaInKernel.Gen.frame m g

/-- So does its ideal form. -/
theorem hyenaIn_ideal_frame : quiescent_HyenaInKernelIdeal (hHyenaInKernelIdeal := Cert.HyenaInKernelIdeal.Gen.facts) := fun m g _ => Cert.HyenaInKernelIdeal.Gen.frame m g

/-- So does the reference, which has no semaphores. -/
theorem hyenaIn_reference_frame : quiescent_HyenaInReferenceIdeal (hHyenaInReferenceIdeal := Cert.HyenaInReferenceIdeal.Gen.facts) := fun m g _ =>
  (θ_run _ _ _).mono (fun r h => ⟨fun c => (h c).2, Idealize.ShloMosaic.sem_eq_zero_of_no_sems (by decide) r.2⟩)
    (Cert.HyenaInReferenceIdeal.Rows.run m g)

/-- Kernel and reference end with the same results. -/
theorem hyenaIn_values : algebraic_HyenaInKernelIdeal_HyenaInReferenceIdeal (hHyenaInKernelIdeal := Cert.HyenaInKernelIdeal.Gen.facts)
    (hHyenaInReferenceIdeal := Cert.HyenaInReferenceIdeal.Gen.facts) := fun m g m' g' _ hargs => by
  have hA : ∀ c : Dev Cert.HyenaInKernelIdeal.nD, Cert.HyenaInReferenceIdeal.Rows.argsOf m' c = Cert.HyenaInKernelIdeal.Rows.argsOf m c := fun c => by
    have h := hargs c
    unfold Cert.HyenaInReferenceIdeal.Rows.argsOf Cert.HyenaInKernelIdeal.Rows.argsOf
    congr 1
    all_goals simp only [h]
  refine ⟨fun c => HyenaIn.res (Cert.HyenaInKernelIdeal.Rows.argsOf m c), ?_, ?_⟩
  · exact (θ_run _ _ _).mono (fun r h c => ⟨(h c).1.trans (Cert.HyenaInKernelIdeal.Rows.final m c), (h c).2⟩) (Cert.HyenaInKernelIdeal.Value.run_blocks m g)
  · refine (θ_run _ _ _).mono (fun r h c => ?_) (Cert.HyenaInReferenceIdeal.Rows.run m' g')
    have := h c
    rw [hA c] at this
    exact this

/-! ## First product of the second mixer -/

/-- The kernel ends with its arguments unchanged. -/
theorem mlstmIn_kernel_frame : quiescent_MlstmInKernel (hMlstmInKernel := Cert.MlstmInKernel.Gen.facts) := fun m g _ => Cert.MlstmInKernel.Gen.frame m g

/-- So does its ideal form. -/
theorem mlstmIn_ideal_frame : quiescent_MlstmInKernelIdeal (hMlstmInKernelIdeal := Cert.MlstmInKernelIdeal.Gen.facts) := fun m g _ => Cert.MlstmInKernelIdeal.Gen.frame m g

/-- So does the reference, which has no semaphores. -/
theorem mlstmIn_reference_frame : quiescent_MlstmInReferenceIdeal (hMlstmInReferenceIdeal := Cert.MlstmInReferenceIdeal.Gen.facts) := fun m g _ =>
  (θ_run _ _ _).mono (fun r h => ⟨fun c => (h c).2, Idealize.ShloMosaic.sem_eq_zero_of_no_sems (by decide) r.2⟩)
    (Cert.MlstmInReferenceIdeal.Rows.run m g)

/-- Kernel and reference end with the same results. -/
theorem mlstmIn_values : algebraic_MlstmInKernelIdeal_MlstmInReferenceIdeal (hMlstmInKernelIdeal := Cert.MlstmInKernelIdeal.Gen.facts)
    (hMlstmInReferenceIdeal := Cert.MlstmInReferenceIdeal.Gen.facts) := fun m g m' g' _ hargs => by
  have hA : ∀ c : Dev Cert.MlstmInKernelIdeal.nD, Cert.MlstmInReferenceIdeal.Rows.argsOf m' c = Cert.MlstmInKernelIdeal.Rows.argsOf m c := fun c => by
    have h := hargs c
    unfold Cert.MlstmInReferenceIdeal.Rows.argsOf Cert.MlstmInKernelIdeal.Rows.argsOf
    congr 1
    all_goals simp only [h]
  refine ⟨fun c => MlstmIn.res (Cert.MlstmInKernelIdeal.Rows.argsOf m c), ?_, ?_⟩
  · exact (θ_run _ _ _).mono (fun r h c => ⟨(h c).1.trans (Cert.MlstmInKernelIdeal.Rows.final m c), (h c).2⟩) (Cert.MlstmInKernelIdeal.Value.run_blocks m g)
  · refine (θ_run _ _ _).mono (fun r h c => ?_) (Cert.MlstmInReferenceIdeal.Rows.run m' g')
    have := h c
    rw [hA c] at this
    exact this

/-! ## Last product of the first mixer -/

/-- The kernel ends with its arguments unchanged. -/
theorem hyenaOut_kernel_frame : quiescent_HyenaOutKernel (hHyenaOutKernel := Cert.HyenaOutKernel.Gen.facts) := fun m g _ => Cert.HyenaOutKernel.Gen.frame m g

/-- So does its ideal form. -/
theorem hyenaOut_ideal_frame : quiescent_HyenaOutKernelIdeal (hHyenaOutKernelIdeal := Cert.HyenaOutKernelIdeal.Gen.facts) := fun m g _ => Cert.HyenaOutKernelIdeal.Gen.frame m g

/-- So does the reference, which has no semaphores. -/
theorem hyenaOut_reference_frame : quiescent_HyenaOutReferenceIdeal (hHyenaOutReferenceIdeal := Cert.HyenaOutReferenceIdeal.Gen.facts) := fun m g _ =>
  (θ_run _ _ _).mono (fun r h => ⟨fun c => (h c).2, Idealize.ShloMosaic.sem_eq_zero_of_no_sems (by decide) r.2⟩)
    (Cert.HyenaOutReferenceIdeal.Rows.run m g)

/-- Kernel and reference end with the same results. -/
theorem hyenaOut_values : algebraic_HyenaOutKernelIdeal_HyenaOutReferenceIdeal (hHyenaOutKernelIdeal := Cert.HyenaOutKernelIdeal.Gen.facts)
    (hHyenaOutReferenceIdeal := Cert.HyenaOutReferenceIdeal.Gen.facts) := fun m g m' g' _ hargs => by
  have hA : ∀ c : Dev Cert.HyenaOutKernelIdeal.nD, Cert.HyenaOutReferenceIdeal.Rows.argsOf m' c = Cert.HyenaOutKernelIdeal.Rows.argsOf m c := fun c => by
    have h := hargs c
    unfold Cert.HyenaOutReferenceIdeal.Rows.argsOf Cert.HyenaOutKernelIdeal.Rows.argsOf
    congr 1
    all_goals simp only [h]
  refine ⟨fun c => HyenaOut.res (Cert.HyenaOutKernelIdeal.Rows.argsOf m c), ?_, ?_⟩
  · exact (θ_run _ _ _).mono (fun r h c => ⟨(h c).1.trans (Cert.HyenaOutKernelIdeal.Rows.final m c), (h c).2⟩) (Cert.HyenaOutKernelIdeal.Value.run_blocks m g)
  · refine (θ_run _ _ _).mono (fun r h c => ?_) (Cert.HyenaOutReferenceIdeal.Rows.run m' g')
    have := h c
    rw [hA c] at this
    exact this

/-! ## Last product of the second mixer -/

/-- The kernel ends with its arguments unchanged. -/
theorem mlstmOut_kernel_frame : quiescent_MlstmOutKernel (hMlstmOutKernel := Cert.MlstmOutKernel.Gen.facts) := fun m g _ => Cert.MlstmOutKernel.Gen.frame m g

/-- So does its ideal form. -/
theorem mlstmOut_ideal_frame : quiescent_MlstmOutKernelIdeal (hMlstmOutKernelIdeal := Cert.MlstmOutKernelIdeal.Gen.facts) := fun m g _ => Cert.MlstmOutKernelIdeal.Gen.frame m g

/-- So does the reference, which has no semaphores. -/
theorem mlstmOut_reference_frame : quiescent_MlstmOutReferenceIdeal (hMlstmOutReferenceIdeal := Cert.MlstmOutReferenceIdeal.Gen.facts) := fun m g _ =>
  (θ_run _ _ _).mono (fun r h => ⟨fun c => (h c).2, Idealize.ShloMosaic.sem_eq_zero_of_no_sems (by decide) r.2⟩)
    (Cert.MlstmOutReferenceIdeal.Rows.run m g)

/-- Kernel and reference end with the same results. -/
theorem mlstmOut_values : algebraic_MlstmOutKernelIdeal_MlstmOutReferenceIdeal (hMlstmOutKernelIdeal := Cert.MlstmOutKernelIdeal.Gen.facts)
    (hMlstmOutReferenceIdeal := Cert.MlstmOutReferenceIdeal.Gen.facts) := fun m g m' g' _ hargs => by
  have hA : ∀ c : Dev Cert.MlstmOutKernelIdeal.nD, Cert.MlstmOutReferenceIdeal.Rows.argsOf m' c = Cert.MlstmOutKernelIdeal.Rows.argsOf m c := fun c => by
    have h := hargs c
    unfold Cert.MlstmOutReferenceIdeal.Rows.argsOf Cert.MlstmOutKernelIdeal.Rows.argsOf
    congr 1
    all_goals simp only [h]
  refine ⟨fun c => MlstmOut.res (Cert.MlstmOutKernelIdeal.Rows.argsOf m c), ?_, ?_⟩
  · exact (θ_run _ _ _).mono (fun r h c => ⟨(h c).1.trans (Cert.MlstmOutKernelIdeal.Rows.final m c), (h c).2⟩) (Cert.MlstmOutKernelIdeal.Value.run_blocks m g)
  · refine (θ_run _ _ _).mono (fun r h c => ?_) (Cert.MlstmOutReferenceIdeal.Rows.run m' g')
    have := h c
    rw [hA c] at this
    exact this

/-! ## Convolution of the feed-forward layer and its gate -/

/-- The kernel ends with its arguments unchanged. -/
theorem conv_kernel_frame : quiescent_ConvKernel (hConvKernel := Cert.ConvKernel.Gen.facts) := fun m g _ => Cert.ConvKernel.Gen.frame m g

/-- So does its ideal form. -/
theorem conv_ideal_frame : quiescent_ConvKernelIdeal (hConvKernelIdeal := Cert.ConvKernelIdeal.Gen.facts) := fun m g _ => Cert.ConvKernelIdeal.Gen.frame m g

/-- So does the reference, which has no semaphores. -/
theorem conv_reference_frame : quiescent_ConvReferenceIdeal (hConvReferenceIdeal := Cert.ConvReferenceIdeal.Gen.facts) := fun m g _ =>
  (θ_run _ _ _).mono (fun r h => ⟨fun c => (h c).2, Idealize.ShloMosaic.sem_eq_zero_of_no_sems (by decide) r.2⟩)
    (Cert.ConvReferenceIdeal.Rows.run m g)

/-- Kernel and reference end with the same results. -/
theorem conv_values : algebraic_ConvKernelIdeal_ConvReferenceIdeal (hConvKernelIdeal := Cert.ConvKernelIdeal.Gen.facts)
    (hConvReferenceIdeal := Cert.ConvReferenceIdeal.Gen.facts) := fun m g m' g' _ hargs => by
  have hA : ∀ c : Dev Cert.ConvKernelIdeal.nD, Cert.ConvReferenceIdeal.Rows.argsOf m' c = Cert.ConvKernelIdeal.Rows.argsOf m c := fun c => by
    have h := hargs c
    unfold Cert.ConvReferenceIdeal.Rows.argsOf Cert.ConvKernelIdeal.Rows.argsOf
    congr 1
    all_goals simp only [h]
  refine ⟨fun c => Conv.res (Cert.ConvKernelIdeal.Rows.argsOf m c), ?_, ?_⟩
  · exact (θ_run _ _ _).mono (fun r h c => ⟨(h c).1.trans (Cert.ConvKernelIdeal.Rows.final m c), (h c).2⟩) (Cert.ConvKernelIdeal.Value.run_blocks m g)
  · refine (θ_run _ _ _).mono (fun r h c => ?_) (Cert.ConvReferenceIdeal.Rows.run m' g')
    have := h c
    rw [hA c] at this
    exact this

/-! ## The short convolution of the Hyena mixer -/

/-- The kernel ends with its arguments unchanged. -/
theorem hyenaConv_kernel_frame : quiescent_HyenaConvKernel (hHyenaConvKernel := Cert.HyenaConvKernel.Gen.facts) := fun m g _ => Cert.HyenaConvKernel.Gen.frame m g

/-- So does its ideal form. -/
theorem hyenaConv_ideal_frame : quiescent_HyenaConvKernelIdeal (hHyenaConvKernelIdeal := Cert.HyenaConvKernelIdeal.Gen.facts) := fun m g _ => Cert.HyenaConvKernelIdeal.Gen.frame m g

/-- So does the reference, which has no semaphores. -/
theorem hyenaConv_reference_frame : quiescent_HyenaConvReferenceIdeal (hHyenaConvReferenceIdeal := Cert.HyenaConvReferenceIdeal.Gen.facts) := fun m g _ =>
  (θ_run _ _ _).mono (fun r h => ⟨fun c => (h c).2.2, Idealize.ShloMosaic.sem_eq_zero_of_no_sems (by decide) r.2⟩)
    (Cert.HyenaConvReferenceIdeal.Rows.run m g)

/-- Kernel and reference end with the same results. -/
theorem hyenaConv_values : algebraic_HyenaConvKernelIdeal_HyenaConvReferenceIdeal (hHyenaConvKernelIdeal := Cert.HyenaConvKernelIdeal.Gen.facts)
    (hHyenaConvReferenceIdeal := Cert.HyenaConvReferenceIdeal.Gen.facts) := fun m g m' g' _ hargs => by
  have hA : ∀ c : Dev Cert.HyenaConvKernelIdeal.nD, Cert.HyenaConvReferenceIdeal.Rows.argsOf m' c = Cert.HyenaConvKernelIdeal.Rows.argsOf m c := fun c => by
    have h := hargs c
    unfold Cert.HyenaConvReferenceIdeal.Rows.argsOf Cert.HyenaConvKernelIdeal.Rows.argsOf
    congr 1
    all_goals simp only [h]
  refine ⟨fun c => HyenaConv.res0 (Cert.HyenaConvKernelIdeal.Rows.argsOf m c), fun c => HyenaConv.res1 (Cert.HyenaConvKernelIdeal.Rows.argsOf m c), ?_, ?_⟩
  · exact (θ_run _ _ _).mono (fun r h c => ⟨(h c).1.trans (Cert.HyenaConvKernelIdeal.Rows.final0 m c), (h c).2.1.trans (Cert.HyenaConvKernelIdeal.Rows.final1 m c), (h c).2.2⟩) (Cert.HyenaConvKernelIdeal.Value.run_blocks m g)
  · refine (θ_run _ _ _).mono (fun r h c => ?_) (Cert.HyenaConvReferenceIdeal.Rows.run m' g')
    have := h c
    rw [hA c] at this
    exact this

/-! ## The projections and gates of the mLSTM mixer -/

/-- The kernel ends with its arguments unchanged. -/
theorem prep_kernel_frame : quiescent_PrepKernel (hPrepKernel := Cert.PrepKernel.Gen.facts) := fun m g _ => Cert.PrepKernel.Gen.frame m g

/-- So does its ideal form. -/
theorem prep_ideal_frame : quiescent_PrepKernelIdeal (hPrepKernelIdeal := Cert.PrepKernelIdeal.Gen.facts) := fun m g _ => Cert.PrepKernelIdeal.Gen.frame m g

/-- So does the reference, which has no semaphores. -/
theorem prep_reference_frame : quiescent_PrepReferenceIdeal (hPrepReferenceIdeal := Cert.PrepReferenceIdeal.Gen.facts) := fun m g _ =>
  (θ_run _ _ _).mono (fun r h => ⟨fun c => (h c).2.2.2.2.2, Idealize.ShloMosaic.sem_eq_zero_of_no_sems (by decide) r.2⟩)
    (Cert.PrepReferenceIdeal.Rows.run m g)

/-- Kernel and reference end with the same results. -/
theorem prep_values : algebraic_PrepKernelIdeal_PrepReferenceIdeal (hPrepKernelIdeal := Cert.PrepKernelIdeal.Gen.facts)
    (hPrepReferenceIdeal := Cert.PrepReferenceIdeal.Gen.facts) := fun m g m' g' _ hargs => by
  have hA : ∀ c : Dev Cert.PrepKernelIdeal.nD, Cert.PrepReferenceIdeal.Rows.argsOf m' c = Cert.PrepKernelIdeal.Rows.argsOf m c := fun c => by
    have h := hargs c
    unfold Cert.PrepReferenceIdeal.Rows.argsOf Cert.PrepKernelIdeal.Rows.argsOf
    congr 1
    all_goals simp only [h]
  refine ⟨fun c => Prep.res0 (Cert.PrepKernelIdeal.Rows.argsOf m c), fun c => Prep.res1 (Cert.PrepKernelIdeal.Rows.argsOf m c), fun c => Prep.res2 (Cert.PrepKernelIdeal.Rows.argsOf m c), fun c => Prep.res3 (Cert.PrepKernelIdeal.Rows.argsOf m c), fun c => Prep.res4 (Cert.PrepKernelIdeal.Rows.argsOf m c), ?_, ?_⟩
  · exact (θ_run _ _ _).mono (fun r h c => ⟨(h c).1.trans (Cert.PrepKernelIdeal.Rows.final0 m c), (h c).2.1.trans (Cert.PrepKernelIdeal.Rows.final1 m c), (h c).2.2.1.trans (Cert.PrepKernelIdeal.Rows.final2 m c), (h c).2.2.2.1.trans (Cert.PrepKernelIdeal.Rows.final3 m c), (h c).2.2.2.2.1.trans (Cert.PrepKernelIdeal.Rows.final4 m c), (h c).2.2.2.2.2⟩) (Cert.PrepKernelIdeal.Value.run_blocks m g)
  · refine (θ_run _ _ _).mono (fun r h c => ?_) (Cert.PrepReferenceIdeal.Rows.run m' g')
    have := h c
    rw [hA c] at this
    exact this

/-! ## The modulation's product -/

/-- The kernel ends with its arguments unchanged. -/
theorem adaln_kernel_frame : quiescent_AdalnKernel (hAdalnKernel := Cert.AdalnKernel.Gen.facts) := fun m g _ => Cert.AdalnKernel.Gen.frame m g

/-- So does its ideal form. -/
theorem adaln_ideal_frame : quiescent_AdalnKernelIdeal (hAdalnKernelIdeal := Cert.AdalnKernelIdeal.Gen.facts) := fun m g _ => Cert.AdalnKernelIdeal.Gen.frame m g

/-- So does the reference, which has no semaphores. -/
theorem adaln_reference_frame : quiescent_AdalnReferenceIdeal (hAdalnReferenceIdeal := Cert.AdalnReferenceIdeal.Gen.facts) := fun m g _ =>
  (θ_run _ _ _).mono (fun r h => ⟨fun c => (h c).2, Idealize.ShloMosaic.sem_eq_zero_of_no_sems (by decide) r.2⟩)
    (Cert.AdalnReferenceIdeal.Rows.run m g)

/-- Kernel and reference end with the same results. -/
theorem adaln_values : algebraic_AdalnKernelIdeal_AdalnReferenceIdeal (hAdalnKernelIdeal := Cert.AdalnKernelIdeal.Gen.facts)
    (hAdalnReferenceIdeal := Cert.AdalnReferenceIdeal.Gen.facts) := fun m g m' g' _ hargs => by
  have hA : ∀ c : Dev Cert.AdalnKernelIdeal.nD, Cert.AdalnReferenceIdeal.Rows.argsOf m' c = Cert.AdalnKernelIdeal.Rows.argsOf m c := fun c => by
    have h := hargs c
    unfold Cert.AdalnReferenceIdeal.Rows.argsOf Cert.AdalnKernelIdeal.Rows.argsOf
    congr 1
    all_goals simp only [h]
  refine ⟨fun c => Adaln.res (Cert.AdalnKernelIdeal.Rows.argsOf m c), ?_, ?_⟩
  · exact (θ_run _ _ _).mono (fun r h c => ⟨(h c).1.trans (Cert.AdalnKernelIdeal.Rows.final m c), (h c).2⟩) (Cert.AdalnKernelIdeal.Value.run_blocks m g)
  · refine (θ_run _ _ _).mono (fun r h c => ?_) (Cert.AdalnReferenceIdeal.Rows.run m' g')
    have := h c
    rw [hA c] at this
    exact this

/-- All claims. -/
theorem claim : Cert.Claim := ⟨Cert.Kernel.Gen.facts, Cert.KernelIdeal.Gen.facts, Cert.ReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.LastKernel.Gen.facts, Cert.LastKernelIdeal.Gen.facts, Cert.LastReferenceIdeal.Gen.facts,
  Cert.HyenaInKernel.Gen.facts, Cert.HyenaInKernelIdeal.Gen.facts, Cert.HyenaInReferenceIdeal.Gen.facts,
  Cert.MlstmInKernel.Gen.facts, Cert.MlstmInKernelIdeal.Gen.facts, Cert.MlstmInReferenceIdeal.Gen.facts,
  Cert.HyenaOutKernel.Gen.facts, Cert.HyenaOutKernelIdeal.Gen.facts, Cert.HyenaOutReferenceIdeal.Gen.facts,
  Cert.MlstmOutKernel.Gen.facts, Cert.MlstmOutKernelIdeal.Gen.facts, Cert.MlstmOutReferenceIdeal.Gen.facts,
  Cert.ConvKernel.Gen.facts, Cert.ConvKernelIdeal.Gen.facts, Cert.ConvReferenceIdeal.Gen.facts,
  Cert.HyenaConvKernel.Gen.facts, Cert.HyenaConvKernelIdeal.Gen.facts, Cert.HyenaConvReferenceIdeal.Gen.facts,
  Cert.PrepKernel.Gen.facts, Cert.PrepKernelIdeal.Gen.facts, Cert.PrepReferenceIdeal.Gen.facts,
  Cert.AdalnKernel.Gen.facts, Cert.AdalnKernelIdeal.Gen.facts, Cert.AdalnReferenceIdeal.Gen.facts,
  kernel_frame, ideal_frame, reference_frame,
  up_kernel_frame, up_ideal_frame, up_reference_frame,
  down_kernel_frame, down_ideal_frame, down_reference_frame,
  last_kernel_frame, last_ideal_frame, last_reference_frame,
  hyenaIn_kernel_frame, hyenaIn_ideal_frame, hyenaIn_reference_frame,
  mlstmIn_kernel_frame, mlstmIn_ideal_frame, mlstmIn_reference_frame,
  hyenaOut_kernel_frame, hyenaOut_ideal_frame, hyenaOut_reference_frame,
  mlstmOut_kernel_frame, mlstmOut_ideal_frame, mlstmOut_reference_frame,
  conv_kernel_frame, conv_ideal_frame, conv_reference_frame,
  hyenaConv_kernel_frame, hyenaConv_ideal_frame, hyenaConv_reference_frame,
  prep_kernel_frame, prep_ideal_frame, prep_reference_frame,
  adaln_kernel_frame, adaln_ideal_frame, adaln_reference_frame,
  trivial, values,
  trivial, up_values,
  trivial, down_values,
  trivial, last_values,
  trivial, hyenaIn_values,
  trivial, mlstmIn_values,
  trivial, hyenaOut_values,
  trivial, mlstmOut_values,
  trivial, conv_values,
  trivial, hyenaConv_values,
  trivial, prep_values,
  trivial, adaln_values⟩

end Cert.Proof

end
